-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_attention [hPre_finite_attention : Cert.Pre_finite_attention.Facts] (m : (ℓ : Loc Cert.KernelIdeal.nD Cert.KernelIdeal.τ Cert.KernelIdeal.sig) → Buf (Elt Ideal) ℓ) : Prop :=
  ∀ c : Dev Cert.KernelIdeal.nD,
    (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_finite_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_attention [hPre_finite_attention : Cert.Pre_finite_attention.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_finite_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_attention [hKernelIdeal : Cert.KernelIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_attention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_attention [hReferenceIdeal : Cert.ReferenceIdeal.Facts] [hPre_finite_attention : Cert.Pre_finite_attention.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_attention m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_attention [hKernelIdeal : Cert.KernelIdeal.Facts] [hReferenceIdeal : Cert.ReferenceIdeal.Facts] [hPre_finite_attention : Cert.Pre_finite_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_attention m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_attention : Cert.Pre_finite_attention.Facts),
    quiescent_Kernel (hKernel := hKernel)
    ∧ quiescent_KernelIdeal (hKernelIdeal := hKernelIdeal)
    ∧ quiescent_KernelIdeal_pre_finite_attention (hKernelIdeal := hKernelIdeal) (hPre_finite_attention := hPre_finite_attention)
    ∧ quiescent_ReferenceIdeal (hReferenceIdeal := hReferenceIdeal)
    ∧ quiescent_ReferenceIdeal_pre_finite_attention (hReferenceIdeal := hReferenceIdeal) (hPre_finite_attention := hPre_finite_attention)
    ∧ preserves_Kernel_KernelIdeal
    ∧ algebraic_KernelIdeal_ReferenceIdeal_pre_finite_attention (hKernelIdeal := hKernelIdeal) (hReferenceIdeal := hReferenceIdeal) (hPre_finite_attention := hPre_finite_attention)
-- ==== Pre_finite_attention.lean ====
abbrev S4x4096x1024 : Shape := ⟨3, ![4, 4096, 1024]⟩
abbrev S4x4096x8x64 : Shape := ⟨4, ![4, 4096, 8, 64]⟩
abbrev S4x4096x2x64 : Shape := ⟨4, ![4, 4096, 2, 64]⟩
abbrev S4x4096x512 : Shape := ⟨3, ![4, 4096, 512]⟩
abbrev S1x4x4096x256 : Shape := ⟨4, ![1, 4, 4096, 256]⟩
abbrev S1x1024 : Shape := ⟨2, ![1, 1024]⟩
abbrev S1x1024x4608 : Shape := ⟨3, ![1, 1024, 4608]⟩
abbrev S1x8 : Shape := ⟨2, ![1, 8]⟩
abbrev S1x512 : Shape := ⟨2, ![1, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S_ : Shape := ⟨0, ![]⟩

class Facts : Prop where
  bcast_S_S4x4096x8x64 : S_.BroadcastsInDim S4x4096x8x64 (![] : Fin 0 → Fin S4x4096x8x64.rank)
  bcast_S_S4x4096x2x64 : S_.BroadcastsInDim S4x4096x2x64 (![] : Fin 0 → Fin S4x4096x2x64.rank)
  bcast_S_S1x8 : S_.BroadcastsInDim S1x8 (![] : Fin 0 → Fin S1x8.rank)

variable [Facts]

def fn {F : FTy → Type} [FloatOps F] (main_arg0 : FVec F S4x4096x1024 .f32) (main_arg1 : FVec F S4x4096x8x64 .f32) (main_arg2 : FVec F S4x4096x2x64 .f32) (main_arg3 : FVec F S4x4096x2x64 .f32) (main_arg4 : FVec F S4x4096x512 .f32) (main_arg5 : FVec F S4x4096x512 .f32) (main_arg6 : FVec F S4x4096x512 .f32) (main_arg7 : FVec F S4x4096x512 .f32) (main_arg8 : FVec F S1x4x4096x256 .f32) (main_arg9 : FVec F S1x1024 .f32) (main_arg10 : FVec F S1x1024x4608 .f32) (main_arg11 : FVec F S1x8 .f32) (main_arg12 : FVec F S1x512 .f32) (main_arg13 : FVec F S1x512 .f32) (main_arg14 : FVec F S1x512x1024 .f32) (main_arg15 : FVec F S1x512x1024 .f32) (main_arg16 : FVec F S1x1024x1024 .f32) (main_arg17 : FVec F S1x1024 .f32) (main_arg18 : FVec F S1x1024x4096 .f32) (main_arg19 : FVec F S1x4096x1024 .f32) (main_arg20 : FVec F S1x1024 .f32) (main_arg21 : FVec F S1x1024x1024 .f32) (main_arg22 : FVec F S1x256x1024 .f32) : IVec S4x4096x8x64 1 × IVec S4x4096x2x64 1 × IVec S1x8 1 :=
  let main_v0 : FVec F S4x4096x8x64 .f32 := Host.absf main_arg1
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x4096x2x64 .f32 := Host.absf main_arg2
  let main_cst_0 : FVec F S_ .f32 := constant S_ .f32 0x7F800000#32
  let main_v4 : FVec F S4x4096x2x64 .f32 := broadcastInDim S4x4096x2x64 ![] bcast_S_S4x4096x2x64 main_cst_0
  let main_v5 : IVec S4x4096x2x64 1 := cmpf .olt main_v3 main_v4
  let main_v6 : FVec F S1x8 .f32 := Host.absf main_arg11
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Kernel.lean ====
abbrev S4x4096x1024 : Shape := ⟨3, ![4, 4096, 1024]⟩
abbrev S4x4096x8x64 : Shape := ⟨4, ![4, 4096, 8, 64]⟩
abbrev S4x4096x2x64 : Shape := ⟨4, ![4, 4096, 2, 64]⟩
abbrev S4x4096x512 : Shape := ⟨3, ![4, 4096, 512]⟩
abbrev S1x4x4096x256 : Shape := ⟨4, ![1, 4, 4096, 256]⟩
abbrev S1x1024 : Shape := ⟨2, ![1, 1024]⟩
abbrev S1x1024x4608 : Shape := ⟨3, ![1, 1024, 4608]⟩
abbrev S1x8 : Shape := ⟨2, ![1, 8]⟩
abbrev S1x512 : Shape := ⟨2, ![1, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S4x4096x128 : Shape := ⟨3, ![4, 4096, 128]⟩
abbrev S4x4096x64 : Shape := ⟨3, ![4, 4096, 64]⟩
abbrev S4x4096x256 : Shape := ⟨3, ![4, 4096, 256]⟩
abbrev S1024x4608 : Shape := ⟨2, ![1024, 4608]⟩
abbrev S8 : Shape := ⟨1, ![8]⟩
abbrev S1024 : Shape := ⟨1, ![1024]⟩
abbrev S1024x2048 : Shape := ⟨2, ![1024, 2048]⟩
abbrev S512 : Shape := ⟨1, ![512]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S1x512x512 : Shape := ⟨3, ![1, 512, 512]⟩
abbrev S1x128x256 : Shape := ⟨3, ![1, 128, 256]⟩
abbrev S1x512x256 : Shape := ⟨3, ![1, 512, 256]⟩
abbrev S128x256 : Shape := ⟨2, ![128, 256]⟩
abbrev S512x256 : Shape := ⟨2, ![512, 256]⟩
abbrev S768x256 : Shape := ⟨2, ![768, 256]⟩
abbrev S256x128 : Shape := ⟨2, ![256, 128]⟩
abbrev S256x1 : Shape := ⟨2, ![256, 1]⟩
abbrev S1x128x128 : Shape := ⟨3, ![1, 128, 128]⟩
abbrev S1 : Shape := ⟨1, ![1]⟩
abbrev S384x128 : Shape := ⟨2, ![384, 128]⟩
abbrev S256x384 : Shape := ⟨2, ![256, 384]⟩
abbrev S512x1 : Shape := ⟨2, ![512, 1]⟩
abbrev S1024x512 : Shape := ⟨2, ![1024, 512]⟩
abbrev S512x512 : Shape := ⟨2, ![512, 512]⟩
abbrev S256 : Shape := ⟨1, ![256]⟩
abbrev S128x512 : Shape := ⟨2, ![128, 512]⟩
abbrev S512x128 : Shape := ⟨2, ![512, 128]⟩

abbrev nBuf : Space → Nat
  | .hbm => 111
  | .vmem => 42
  | .smem => 1
  | _ => 0

abbrev bufTy : (tb : Table) → Fin (tcTables nBuf tb) → BufTy
  | .hbm, ⟨0, _⟩ => ⟨S4x4096x1024, .f32⟩
  | .hbm, ⟨1, _⟩ => ⟨S4x4096x8x64, .f32⟩
  | .hbm, ⟨2, _⟩ => ⟨S4x4096x2x64, .f32⟩
  | .hbm, ⟨3, _⟩ => ⟨S4x4096x2x64, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S1x4x4096x256, .f32⟩
  | .hbm, ⟨9, _⟩ => ⟨S1x1024, .f32⟩
  | .hbm, ⟨10, _⟩ => ⟨S1x1024x4608, .f32⟩
  | .hbm, ⟨11, _⟩ => ⟨S1x8, .f32⟩
  | .hbm, ⟨12, _⟩ => ⟨S1x512, .f32⟩
  | .hbm, ⟨13, _⟩ => ⟨S1x512, .f32⟩
  | .hbm, ⟨14, _⟩ => ⟨S1x512x1024, .f32⟩
  | .hbm, ⟨15, _⟩ => ⟨S1x512x1024, .f32⟩
  | .hbm, ⟨16, _⟩ => ⟨S1x1024x1024, .f32⟩
  | .hbm, ⟨17, _⟩ => ⟨S1x1024, .f32⟩
  | .hbm, ⟨18, _⟩ => ⟨S1x1024x4096, .f32⟩
  | .hbm, ⟨19, _⟩ => ⟨S1x4096x1024, .f32⟩
  | .hbm, ⟨20, _⟩ => ⟨S1x1024, .f32⟩
  | .hbm, ⟨21, _⟩ => ⟨S1x1024x1024, .f32⟩
  | .hbm, ⟨22, _⟩ => ⟨S1x256x1024, .f32⟩
  | .hbm, ⟨23, _⟩ => ⟨S128, .i32⟩
  | .hbm, ⟨24, _⟩ => ⟨S128x1, .i32⟩
  | .hbm, ⟨25, _⟩ => ⟨S_, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i1⟩
  | .hbm, ⟨33, _⟩ => ⟨S128x1, .i32⟩
  | .hbm, ⟨34, _⟩ => ⟨S128x1, .i32⟩
  | .hbm, ⟨35, _⟩ => ⟨S_, .i32⟩
  | .hbm, ⟨36, _⟩ => ⟨S128x1, .i32⟩
  | .hbm, ⟨37, _⟩ => ⟨S128x1, .i1⟩
  | .hbm, ⟨38, _⟩ => ⟨S128x1, .i1⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x1, .i32⟩
  | .hbm, ⟨43, _⟩ => ⟨S1x128, .i32⟩
  | .hbm, ⟨44, _⟩ => ⟨S_, .i32⟩
  | .hbm, ⟨45, _⟩ => ⟨S_, .i32⟩
  | .hbm, ⟨46, _⟩ => ⟨S1x128, .i32⟩
  | .hbm, ⟨47, _⟩ => ⟨S1x128, .i32⟩
  | .hbm, ⟨48, _⟩ => ⟨S1x128, .i32⟩
  | .hbm, ⟨49, _⟩ => ⟨S_, .i32⟩
  | .hbm, ⟨50, _⟩ => ⟨S1x128, .i32⟩
  | .hbm, ⟨51, _⟩ => ⟨S1x128, .i1⟩
  | .hbm, ⟨52, _⟩ => ⟨S1x128, .i32⟩
  | .hbm, ⟨53, _⟩ => ⟨S1x128, .i32⟩
  | .hbm, ⟨54, _⟩ => ⟨S_, .i32⟩
  | .hbm, ⟨55, _⟩ => ⟨S1x128, .i32⟩
  | .hbm, ⟨56, _⟩ => ⟨S1x128, .i1⟩
  | .hbm, ⟨57, _⟩ => ⟨S1x128, .i1⟩
  | .hbm, ⟨58, _⟩ => ⟨S_, .i32⟩
  | .hbm, ⟨59, _⟩ => ⟨S1x128, .i32⟩
  | .hbm, ⟨60, _⟩ => ⟨S1x128, .i32⟩
  | .hbm, ⟨61, _⟩ => ⟨S1x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S128x128, .bf16⟩
  | .hbm, ⟨66, _⟩ => ⟨S4x4096x512, .f32⟩
  | .hbm, ⟨67, _⟩ => ⟨S_, .f32⟩
  | .hbm, ⟨68, _⟩ => ⟨S4x4096x512, .f32⟩
  | .hbm, ⟨69, _⟩ => ⟨S4x4096x512, .f32⟩
  | .hbm, ⟨70, _⟩ => ⟨S4x4096x512, .bf16⟩
  | .hbm, ⟨71, _⟩ => ⟨S4x4096x128, .f32⟩
  | .hbm, ⟨72, _⟩ => ⟨S4x4096x128, .f32⟩
  | .hbm, ⟨73, _⟩ => ⟨S4x4096x64, .f32⟩
  | .hbm, ⟨74, _⟩ => ⟨S4x4096x64, .f32⟩
  | .hbm, ⟨75, _⟩ => ⟨S4x4096x256, .f32⟩
  | .hbm, ⟨76, _⟩ => ⟨S4x4096x256, .bf16⟩
  | .hbm, ⟨77, _⟩ => ⟨S4x4096x64, .f32⟩
  | .hbm, ⟨78, _⟩ => ⟨S4x4096x64, .f32⟩
  | .hbm, ⟨79, _⟩ => ⟨S4x4096x256, .f32⟩
  | .hbm, ⟨80, _⟩ => ⟨S4x4096x256, .bf16⟩
  | .hbm, ⟨81, _⟩ => ⟨S1024x4608, .f32⟩
  | .hbm, ⟨82, _⟩ => ⟨S8, .f32⟩
  | .hbm, ⟨83, _⟩ => ⟨S1024, .f32⟩
  | .hbm, ⟨84, _⟩ => ⟨S1x1024, .f32⟩
  | .hbm, ⟨85, _⟩ => ⟨S1024x2048, .f32⟩
  | .hbm, ⟨86, _⟩ => ⟨S1024x2048, .bf16⟩
  | .hbm, ⟨87, _⟩ => ⟨S512, .f32⟩
  | .hbm, ⟨88, _⟩ => ⟨S1x512, .f32⟩
  | .hbm, ⟨89, _⟩ => ⟨S512, .f32⟩
  | .hbm, ⟨90, _⟩ => ⟨S1x512, .f32⟩
  | .hbm, ⟨91, _⟩ => ⟨S512x1024, .f32⟩
  | .hbm, ⟨92, _⟩ => ⟨S512x1024, .bf16⟩
  | .hbm, ⟨93, _⟩ => ⟨S512x1024, .f32⟩
  | .hbm, ⟨94, _⟩ => ⟨S512x1024, .bf16⟩
  | .hbm, ⟨95, _⟩ => ⟨S1024x1024, .f32⟩
  | .hbm, ⟨96, _⟩ => ⟨S1024x1024, .bf16⟩
  | .hbm, ⟨97, _⟩ => ⟨S4x4096x256, .f32⟩
  | .hbm, ⟨98, _⟩ => ⟨S1024, .f32⟩
  | .hbm, ⟨99, _⟩ => ⟨S1x1024, .f32⟩
  | .hbm, ⟨100, _⟩ => ⟨S1024x4096, .f32⟩
  | .hbm, ⟨101, _⟩ => ⟨S1024x4096, .bf16⟩
  | .hbm, ⟨102, _⟩ => ⟨S4096x1024, .f32⟩
  | .hbm, ⟨103, _⟩ => ⟨S4096x1024, .bf16⟩
  | .hbm, ⟨104, _⟩ => ⟨S1024, .f32⟩
  | .hbm, ⟨105, _⟩ => ⟨S1x1024, .f32⟩
  | .hbm, ⟨106, _⟩ => ⟨S1024x1024, .f32⟩
  | .hbm, ⟨107, _⟩ => ⟨S1024x1024, .bf16⟩
  | .hbm, ⟨108, _⟩ => ⟨S256x1024, .f32⟩
  | .hbm, ⟨109, _⟩ => ⟨S256x1024, .bf16⟩
  | .hbm, ⟨110, _⟩ => ⟨S4x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x512x1024, .f32⟩
  | .local _ .vmem, ⟨15, _⟩ => ⟨S1x512x1024, .f32⟩
  | .local _ .vmem, ⟨16, _⟩ => ⟨S1x1024, .f32⟩
  | .local _ .vmem, ⟨17, _⟩ => ⟨S1024x2048, .bf16⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512, .f32⟩
  | .local _ .vmem, ⟨27, _⟩ => ⟨S1x512, .f32⟩
  | .local _ .vmem, ⟨28, _⟩ => ⟨S128x128, .bf16⟩
  | .local _ .vmem, ⟨29, _⟩ => ⟨S512x1024, .bf16⟩
  | .local _ .vmem, ⟨30, _⟩ => ⟨S512x1024, .bf16⟩
  | .local _ .vmem, ⟨31, _⟩ => ⟨S1024x1024, .bf16⟩
  | .local _ .vmem, ⟨32, _⟩ => ⟨S1x512x256, .f32⟩
  | .local _ .vmem, ⟨33, _⟩ => ⟨S1x512x256, .f32⟩
  | .local _ .vmem, ⟨34, _⟩ => ⟨S1x1024, .f32⟩
  | .local _ .vmem, ⟨35, _⟩ => ⟨S1024x4096, .bf16⟩
  | .local _ .vmem, ⟨36, _⟩ => ⟨S4096x1024, .bf16⟩
  | .local _ .vmem, ⟨37, _⟩ => ⟨S1x1024, .f32⟩
  | .local _ .vmem, ⟨38, _⟩ => ⟨S1024x1024, .bf16⟩
  | .local _ .vmem, ⟨39, _⟩ => ⟨S256x1024, .bf16⟩
  | .local _ .vmem, ⟨40, _⟩ => ⟨S1x512x1024, .f32⟩
  | .local _ .vmem, ⟨41, _⟩ => ⟨S1x512x1024, .f32⟩
  | .local _ .smem, ⟨0, _⟩ => ⟨S8, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v2 : Ref sig .tc := ⟨.hbm, 42, rfl⟩
abbrev main_v3 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem21_1 : DmaSem sig := 34
abbrev cc0_sem22_0 : DmaSem sig := 35
abbrev cc0_sem23_0 : DmaSem sig := 36
abbrev cc0_sem24_0 : DmaSem sig := 37
abbrev cc0_sem25_0 : DmaSem sig := 38
abbrev cc0_sem26_0 : DmaSem sig := 39
abbrev cc0_sem27_0 : DmaSem sig := 40
abbrev cc0_sem28_0 : DmaSem sig := 41
abbrev cc0_sem28_1 : DmaSem sig := 42

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1024x4096 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S4096x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S1024x1024 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S256x1024 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 2 → Memref sig .tc .vmem S1x512x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x1024 : Shape := ⟨3, ![4, 4096, 1024]⟩
abbrev S4x4096x8x64 : Shape := ⟨4, ![4, 4096, 8, 64]⟩
abbrev S4x4096x2x64 : Shape := ⟨4, ![4, 4096, 2, 64]⟩
abbrev S4x4096x512 : Shape := ⟨3, ![4, 4096, 512]⟩
abbrev S1x4x4096x256 : Shape := ⟨4, ![1, 4, 4096, 256]⟩
abbrev S1x1024 : Shape := ⟨2, ![1, 1024]⟩
abbrev S1x1024x4608 : Shape := ⟨3, ![1, 1024, 4608]⟩
abbrev S1x8 : Shape := ⟨2, ![1, 8]⟩
abbrev S1x512 : Shape := ⟨2, ![1, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4608 : Shape := ⟨2, ![1024, 4608]⟩
abbrev S4x4096x4608 : Shape := ⟨3, ![4, 4096, 4608]⟩
abbrev S8 : Shape := ⟨1, ![8]⟩
abbrev S4x32x128x2x4x64 : Shape := ⟨6, ![4, 32, 128, 2, 4, 64]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S4x32x2x384x128x4 : Shape := ⟨6, ![4, 32, 2, 384, 128, 4]⟩
abbrev S4x32x2x4x128x384 : Shape := ⟨6, ![4, 32, 2, 4, 128, 384]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x128x1 : Shape := ⟨3, ![32, 128, 1]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S4x32x2x4x128x1 : Shape := ⟨6, ![4, 32, 2, 4, 128, 1]⟩
abbrev S4x32x2x4x128x385 : Shape := ⟨6, ![4, 32, 2, 4, 128, 385]⟩
abbrev S4x32x2x4x128 : Shape := ⟨5, ![4, 32, 2, 4, 128]⟩
abbrev S4x32x2x64x4x128 : Shape := ⟨6, ![4, 32, 2, 64, 4, 128]⟩
abbrev S4x4096x8 : Shape := ⟨3, ![4, 4096, 8]⟩
abbrev S4x4096x8x1 : Shape := ⟨4, ![4, 4096, 8, 1]⟩
abbrev S512 : Shape := ⟨1, ![512]⟩
abbrev S1x1x512 : Shape := ⟨3, ![1, 1, 512]⟩
abbrev S4x4096x2048 : Shape := ⟨3, ![4, 4096, 2048]⟩
abbrev S4x4096x2x1024 : Shape := ⟨4, ![4, 4096, 2, 1024]⟩
abbrev S4x4096x1x1024 : Shape := ⟨4, ![4, 4096, 1, 1024]⟩
abbrev S512x1024 : Shape := ⟨2, ![512, 1024]⟩
abbrev S1024x1024 : Shape := ⟨2, ![1024, 1024]⟩
abbrev S1024x4096 : Shape := ⟨2, ![1024, 4096]⟩
abbrev S4x4096x4096 : Shape := ⟨3, ![4, 4096, 4096]⟩
abbrev S4096x1024 : Shape := ⟨2, ![4096, 1024]⟩
abbrev S4x4096x256 : Shape := ⟨3, ![4, 4096, 256]⟩
abbrev S256x1024 : Shape := ⟨2, ![256, 1024]⟩

abbrev nBuf : Space → Nat
  | .hbm => 256
  | .vmem => 0
  | .smem => 0
  | _ => 0

abbrev hbmTy0_0 (i : Nat) : BufTy := match i % 128 with
  | 0 => ⟨S4x4096x1024, .f32⟩
  | 1 => ⟨S4x4096x8x64, .f32⟩
  | 2 => ⟨S4x4096x2x64, .f32⟩
  | 3 => ⟨S4x4096x2x64, .f32⟩
  | 4 => ⟨S4x4096x512, .f32⟩
  | 5 => ⟨S4x4096x512, .f32⟩
  | 6 => ⟨S4x4096x512, .f32⟩
  | 7 => ⟨S4x4096x512, .f32⟩
  | 8 => ⟨S1x4x4096x256, .f32⟩
  | 9 => ⟨S1x1024, .f32⟩
  | 10 => ⟨S1x1024x4608, .f32⟩
  | 11 => ⟨S1x8, .f32⟩
  | 12 => ⟨S1x512, .f32⟩
  | 13 => ⟨S1x512, .f32⟩
  | 14 => ⟨S1x512x1024, .f32⟩
  | 15 => ⟨S1x512x1024, .f32⟩
  | 16 => ⟨S1x1024x1024, .f32⟩
  | 17 => ⟨S1x1024, .f32⟩
  | 18 => ⟨S1x1024x4096, .f32⟩
  | 19 => ⟨S1x4096x1024, .f32⟩
  | 20 => ⟨S1x1024, .f32⟩
  | 21 => ⟨S1x1024x1024, .f32⟩
  | 22 => ⟨S1x256x1024, .f32⟩
  | 23 => ⟨S1024, .f32⟩
  | 24 => ⟨S4x4096x1024, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S_, .f32⟩
  | 32 => ⟨S4x4096x1, .f32⟩
  | 33 => ⟨S4x4096x1, .f32⟩
  | 34 => ⟨S4x4096x1, .f32⟩
  | 35 => ⟨S4x4096x1024, .f32⟩
  | 36 => ⟨S4x4096x1024, .f32⟩
  | 37 => ⟨S1x1x1024, .f32⟩
  | 38 => ⟨S4x4096x1024, .f32⟩
  | 39 => ⟨S4x4096x1024, .f32⟩
  | 40 => ⟨S1024x4608, .f32⟩
  | 41 => ⟨S4x4096x4608, .f32⟩
  | 42 => ⟨S8, .f32⟩
  | 43 => ⟨S4x32x128x2x4x64, .f32⟩
  | 44 => ⟨S_, .i32⟩
  | 45 => ⟨S_, .f32⟩
  | 46 => ⟨S4x4352x2x64, .f32⟩
  | 47 => ⟨S4x34x128x2x64, .f32⟩
  | 48 => ⟨S4x32x128x2x64, .f32⟩
  | 49 => ⟨S4x32x128x2x64, .f32⟩
  | 50 => ⟨S4x32x128x2x64, .f32⟩
  | 51 => ⟨S4x32x384x2x64, .f32⟩
  | 52 => ⟨S_, .i32⟩
  | 53 => ⟨S_, .f32⟩
  | 54 => ⟨S4x4352x2x64, .f32⟩
  | 55 => ⟨S4x34x128x2x64, .f32⟩
  | 56 => ⟨S4x32x128x2x64, .f32⟩
  | 57 => ⟨S4x32x128x2x64, .f32⟩
  | 58 => ⟨S4x32x128x2x64, .f32⟩
  | 59 => ⟨S4x32x384x2x64, .f32⟩
  | 60 => ⟨S4x32x2x384x128x4, .f32⟩
  | 61 => ⟨S4x32x2x4x128x384, .f32⟩
  | 62 => ⟨S_, .f32⟩
  | 63 => ⟨S4x32x2x4x128x384, .f32⟩
  | 64 => ⟨S4x32x2x4x128x384, .f32⟩
  | 65 => ⟨S32, .i32⟩
  | 66 => ⟨S32x1, .i32⟩
  | 67 => ⟨S_, .i32⟩
  | 68 => ⟨S32x1, .i32⟩
  | 69 => ⟨S32x1, .i32⟩
  | 70 => ⟨S128, .i32⟩
  | 71 => ⟨S1x128, .i32⟩
  | 72 => ⟨S32x128, .i32⟩
  | 73 => ⟨S32x128, .i32⟩
  | 74 => ⟨S32x128, .i32⟩
  | 75 => ⟨S32, .i32⟩
  | 76 => ⟨S32x1, .i32⟩
  | 77 => ⟨S_, .i32⟩
  | 78 => ⟨S32x1, .i32⟩
  | 79 => ⟨S32x1, .i32⟩
  | 80 => ⟨S_, .i32⟩
  | 81 => ⟨S32x1, .i32⟩
  | 82 => ⟨S32x1, .i32⟩
  | 83 => ⟨S384, .i32⟩
  | 84 => ⟨S1x384, .i32⟩
  | 85 => ⟨S32x384, .i32⟩
  | 86 => ⟨S32x384, .i32⟩
  | 87 => ⟨S32x384, .i32⟩
  | 88 => ⟨S32x128x1, .i32⟩
  | 89 => ⟨S32x1x384, .i32⟩
  | 90 => ⟨S32x128x384, .i32⟩
  | 91 => ⟨S32x128x384, .i32⟩
  | 92 => ⟨S32x128x384, .i32⟩
  | 93 => ⟨S32x128x384, .i32⟩
  | 94 => ⟨S_, .i32⟩
  | 95 => ⟨S32x128x384, .i32⟩
  | 96 => ⟨S32x128x384, .i1⟩
  | 97 => ⟨S32x1x384, .i32⟩
  | 98 => ⟨S_, .i32⟩
  | 99 => ⟨S32x1x384, .i32⟩
  | 100 => ⟨S32x1x384, .i1⟩
  | 101 => ⟨S32x128x384, .i1⟩
  | 102 => ⟨S32x128x384, .i1⟩
  | 103 => ⟨S32x1x384, .i32⟩
  | 104 => ⟨S_, .i32⟩
  | 105 => ⟨S32x1x384, .i32⟩
  | 106 => ⟨S32x1x384, .i1⟩
  | 107 => ⟨S32x128x384, .i1⟩
  | 108 => ⟨S32x128x384, .i1⟩
  | 109 => ⟨S1x32x1x1x128x384, .i1⟩
  | 110 => ⟨S_, .f32⟩
  | 111 => ⟨S_, .f32⟩
  | 112 => ⟨S4x32x2x4x128x384, .i1⟩
  | 113 => ⟨S4x32x2x4x128x384, .f32⟩
  | 114 => ⟨S4x32x2x4x128x384, .f32⟩
  | 115 => ⟨S2x4, .f32⟩
  | 116 => ⟨S1x1x2x4x1x1, .f32⟩
  | 117 => ⟨S4x32x2x4x128x1, .f32⟩
  | 118 => ⟨S4x32x2x4x128x385, .f32⟩
  | 119 => ⟨S_, .f32⟩
  | 120 => ⟨S4x32x2x4x128, .f32⟩
  | 121 => ⟨S_, .f32⟩
  | 122 => ⟨S4x32x2x4x128, .f32⟩
  | 123 => ⟨S4x32x2x4x128, .f32⟩
  | 124 => ⟨S4x32x2x4x128x1, .f32⟩
  | 125 => ⟨S4x32x2x4x128x385, .f32⟩
  | 126 => ⟨S4x32x2x4x128x385, .f32⟩
  | 127 => ⟨S4x32x2x4x128x385, .f32⟩
  | _ => ⟨S4x4096x1024, .f32⟩

abbrev hbmTy0_1 (i : Nat) : BufTy := match i % 128 with
  | 0 => ⟨S_, .f32⟩
  | 1 => ⟨S4x32x2x4x128, .f32⟩
  | 2 => ⟨S4x32x2x4x128x1, .f32⟩
  | 3 => ⟨S4x32x2x4x128x385, .f32⟩
  | 4 => ⟨S4x32x2x4x128x385, .f32⟩
  | 5 => ⟨S4x32x2x4x128x384, .f32⟩
  | 6 => ⟨S4x32x2x64x4x128, .f32⟩
  | 7 => ⟨S4x32x128x2x4x64, .f32⟩
  | 8 => ⟨S4x4096x512, .f32⟩
  | 9 => ⟨S4x4096x8x64, .f32⟩
  | 10 => ⟨S4x4096x8x64, .f32⟩
  | 11 => ⟨S4x4096x8x64, .f32⟩
  | 12 => ⟨S_, .f32⟩
  | 13 => ⟨S4x4096x8, .f32⟩
  | 14 => ⟨S4x4096x8x1, .f32⟩
  | 15 => ⟨S_, .f32⟩
  | 16 => ⟨S4x4096x8x1, .f32⟩
  | 17 => ⟨S4x4096x8x1, .f32⟩
  | 18 => ⟨S4x4096x8x64, .f32⟩
  | 19 => ⟨S4x4096x8x64, .f32⟩
  | 20 => ⟨S4x4096x8x64, .f32⟩
  | 21 => ⟨S_, .f32⟩
  | 22 => ⟨S4x4096x8, .f32⟩
  | 23 => ⟨S4x4096x8x1, .f32⟩
  | 24 => ⟨S_, .f32⟩
  | 25 => ⟨S4x4096x8x1, .f32⟩
  | 26 => ⟨S4x4096x8x1, .f32⟩
  | 27 => ⟨S4x4096x8x64, .f32⟩
  | 28 => ⟨S4x4096x8x64, .f32⟩
  | 29 => ⟨S_, .f32⟩
  | 30 => ⟨S4x4096x8x1, .f32⟩
  | 31 => ⟨S4x4096x8x1, .f32⟩
  | 32 => ⟨S4x4096x8x1, .f32⟩
  | 33 => ⟨S4x4096x8x64, .f32⟩
  | 34 => ⟨S4x4096x8x64, .f32⟩
  | 35 => ⟨S4x4096x512, .f32⟩
  | 36 => ⟨S512, .f32⟩
  | 37 => ⟨S1x1x512, .f32⟩
  | 38 => ⟨S4x4096x512, .f32⟩
  | 39 => ⟨S4x4096x512, .f32⟩
  | 40 => ⟨S512, .f32⟩
  | 41 => ⟨S1x1x512, .f32⟩
  | 42 => ⟨S4x4096x512, .f32⟩
  | 43 => ⟨S4x4096x512, .f32⟩
  | 44 => ⟨S4x4096x512, .f32⟩
  | 45 => ⟨S4x4096x512, .f32⟩
  | 46 => ⟨S4x4096x2048, .f32⟩
  | 47 => ⟨S4x4096x2x1024, .f32⟩
  | 48 => ⟨S4x4096x2x1024, .f32⟩
  | 49 => ⟨S4x4096x2x1024, .f32⟩
  | 50 => ⟨S_, .f32⟩
  | 51 => ⟨S4x4096x2x1024, .f32⟩
  | 52 => ⟨S4x4096x2x1024, .f32⟩
  | 53 => ⟨S_, .f32⟩
  | 54 => ⟨S4x4096x2x1024, .f32⟩
  | 55 => ⟨S4x4096x2x1024, .f32⟩
  | 56 => ⟨S4x4096x1x1024, .f32⟩
  | 57 => ⟨S4x4096x1024, .f32⟩
  | 58 => ⟨S512x1024, .f32⟩
  | 59 => ⟨S4x4096x1024, .f32⟩
  | 60 => ⟨S4x4096x1024, .f32⟩
  | 61 => ⟨S4x4096x1x1024, .f32⟩
  | 62 => ⟨S4x4096x1024, .f32⟩
  | 63 => ⟨S512x1024, .f32⟩
  | 64 => ⟨S4x4096x1024, .f32⟩
  | 65 => ⟨S4x4096x1024, .f32⟩
  | 66 => ⟨S4x4096x1024, .f32⟩
  | 67 => ⟨S1024x1024, .f32⟩
  | 68 => ⟨S4x4096x1024, .f32⟩
  | 69 => ⟨S4x4096x1024, .f32⟩
  | 70 => ⟨S1024, .f32⟩
  | 71 => ⟨S4x4096x1024, .f32⟩
  | 72 => ⟨S_, .f32⟩
  | 73 => ⟨S4x4096, .f32⟩
  | 74 => ⟨S4x4096x1, .f32⟩
  | 75 => ⟨S_, .f32⟩
  | 76 => ⟨S4x4096x1, .f32⟩
  | 77 => ⟨S4x4096x1, .f32⟩
  | 78 => ⟨S_, .f32⟩
  | 79 => ⟨S4x4096x1, .f32⟩
  | 80 => ⟨S4x4096x1, .f32⟩
  | 81 => ⟨S4x4096x1, .f32⟩
  | 82 => ⟨S4x4096x1024, .f32⟩
  | 83 => ⟨S4x4096x1024, .f32⟩
  | 84 => ⟨S1x1x1024, .f32⟩
  | 85 => ⟨S4x4096x1024, .f32⟩
  | 86 => ⟨S4x4096x1024, .f32⟩
  | 87 => ⟨S1024x4096, .f32⟩
  | 88 => ⟨S4x4096x4096, .f32⟩
  | 89 => ⟨S_, .f32⟩
  | 90 => ⟨S4x4096x4096, .f32⟩
  | 91 => ⟨S4x4096x4096, .f32⟩
  | 92 => ⟨S4x4096x4096, .f32⟩
  | 93 => ⟨S4096x1024, .f32⟩
  | 94 => ⟨S4x4096x1024, .f32⟩
  | 95 => ⟨S4x4096x1024, .f32⟩
  | 96 => ⟨S1024, .f32⟩
  | 97 => ⟨S4x4096x1024, .f32⟩
  | 98 => ⟨S_, .f32⟩
  | 99 => ⟨S4x4096, .f32⟩
  | 100 => ⟨S4x4096x1, .f32⟩
  | 101 => ⟨S_, .f32⟩
  | 102 => ⟨S4x4096x1, .f32⟩
  | 103 => ⟨S4x4096x1, .f32⟩
  | 104 => ⟨S_, .f32⟩
  | 105 => ⟨S4x4096x1, .f32⟩
  | 106 => ⟨S4x4096x1, .f32⟩
  | 107 => ⟨S4x4096x1, .f32⟩
  | 108 => ⟨S4x4096x1024, .f32⟩
  | 109 => ⟨S4x4096x1024, .f32⟩
  | 110 => ⟨S1x1x1024, .f32⟩
  | 111 => ⟨S4x4096x1024, .f32⟩
  | 112 => ⟨S4x4096x1024, .f32⟩
  | 113 => ⟨S4x4096x256, .f32⟩
  | 114 => ⟨S256x1024, .f32⟩
  | 115 => ⟨S4x4096x1024, .f32⟩
  | 116 => ⟨S1024x1024, .f32⟩
  | 117 => ⟨S4x4096x1024, .f32⟩
  | 118 => ⟨S4x4096x1024, .f32⟩
  | 119 => ⟨S4x4096x1024, .f32⟩
  | 120 => ⟨S_, .f32⟩
  | 121 => ⟨S4x4096x1024, .f32⟩
  | 122 => ⟨S4x4096x1024, .f32⟩
  | 123 => ⟨S_, .f32⟩
  | 124 => ⟨S4x4096x1024, .f32⟩
  | 125 => ⟨S4x4096x1024, .f32⟩
  | 126 => ⟨S4x4096x1024, .f32⟩
  | 127 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev main_v5 : Ref sig .tc := ⟨.hbm, 30, rfl⟩
abbrev main_cst_1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_c : Ref sig .tc := ⟨.hbm, 44, rfl⟩
abbrev main_call0_v0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_2 : Ref sig .tc := ⟨.hbm, 52, rfl⟩
abbrev main_call1_v0 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_3 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_4 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_c_5 : Ref sig .tc := ⟨.hbm, 77, rfl⟩
abbrev main_v45 : Ref sig .tc := ⟨.hbm, 78, rfl⟩
abbrev main_v46 : Ref sig .tc := ⟨.hbm, 79, rfl⟩
abbrev main_c_6 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_7 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_8 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_9 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_10 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_11 : Ref sig .tc := ⟨.hbm, 119, rfl⟩
abbrev main_v78 : Ref sig .tc := ⟨.hbm, 120, rfl⟩
abbrev main_cst_12 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_13 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_14 : Ref sig .tc := ⟨.hbm, 140, rfl⟩
abbrev main_v96 : Ref sig .tc := ⟨.hbm, 141, rfl⟩
abbrev main_v97 : Ref sig .tc := ⟨.hbm, 142, rfl⟩
abbrev main_cst_15 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_16 : Ref sig .tc := ⟨.hbm, 149, rfl⟩
abbrev main_v103 : Ref sig .tc := ⟨.hbm, 150, rfl⟩
abbrev main_v104 : Ref sig .tc := ⟨.hbm, 151, rfl⟩
abbrev main_cst_17 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_18 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_cst_19 : Ref sig .tc := ⟨.hbm, 178, rfl⟩
abbrev main_v129 : Ref sig .tc := ⟨.hbm, 179, rfl⟩
abbrev main_v130 : Ref sig .tc := ⟨.hbm, 180, rfl⟩
abbrev main_cst_20 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_21 : Ref sig .tc := ⟨.hbm, 200, rfl⟩
abbrev main_v149 : Ref sig .tc := ⟨.hbm, 201, rfl⟩
abbrev main_v150 : Ref sig .tc := ⟨.hbm, 202, rfl⟩
abbrev main_cst_22 : Ref sig .tc := ⟨.hbm, 203, rfl⟩
abbrev main_v151 : Ref sig .tc := ⟨.hbm, 204, rfl⟩
abbrev main_v152 : Ref sig .tc := ⟨.hbm, 205, rfl⟩
abbrev main_cst_23 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_call3_cst : Ref sig .tc := ⟨.hbm, 217, rfl⟩
abbrev main_call3_v0 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_cst_24 : Ref sig .tc := ⟨.hbm, 226, rfl⟩
abbrev main_v170 : Ref sig .tc := ⟨.hbm, 227, rfl⟩
abbrev main_v171 : Ref sig .tc := ⟨.hbm, 228, rfl⟩
abbrev main_cst_25 : Ref sig .tc := ⟨.hbm, 229, rfl⟩
abbrev main_v172 : Ref sig .tc := ⟨.hbm, 230, rfl⟩
abbrev main_v173 : Ref sig .tc := ⟨.hbm, 231, rfl⟩
abbrev main_cst_26 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_cst_27 : Ref sig .tc := ⟨.hbm, 248, rfl⟩
abbrev main_v189 : Ref sig .tc := ⟨.hbm, 249, rfl⟩
abbrev main_v190 : Ref sig .tc := ⟨.hbm, 250, rfl⟩
abbrev main_cst_28 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩

abbrev nD : Nat := 1
abbrev τ : Topo := Topo.v7x

variable {F : FTy → Type} [FloatOps F]
-- ==== Proof.IdealRun.lean ====
module

public import proofs.«01_k».proof.Proof.Gen.KernelIdeal.Skeleton
public import proofs.«01_k».proof.Proof.Gen.KernelIdeal.Frame

@[expose] public section

set_option maxRecDepth 16384
set_option maxHeartbeats 2000000

noncomputable section

namespace Cert.KernelIdeal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 28, through which its contents are stated (`View.read_writes_of_cover`: the
    choice does not matter). -/
abbrev VO0_28 : View sig .tc .vmem S1x512x1024 .f32 := (Memref.whole cc0_stg28_0 : Memref sig .tc .vmem S1x512x1024 .f32).view
/-- Each window's current staging memref at point `t`, spelled as the pipeline passes it (`bodyAt0`), and its wholeness. -/
abbrev ms0_0 (t : Fin cfg0.N) : Memref sig .tc .smem S8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x128 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S512x1024 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S512x1024 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x1024 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x512x256 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1024 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1024x4096 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S4096x1024 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x1024 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S1024x1024 .bf16 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S256x1024 .bf16 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S1x512x1024 .f32 := win0_28.stage (cfg0.slots t 28)
abbrev hs0_28 (t : Fin cfg0.N) : (ms0_28 t).IsWhole := hstage0_28 ((cfg0.slots t 28).cast nbuf0_28)
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def midRun (c : Dev nD) (i : grid0.Coords) (arg2 : Memref sig .tc .smem S8 .f32) (harg2 : arg2.IsWhole) (arg3 : Memref sig .tc .vmem S1x512x512 .bf16) (harg3 : arg3.IsWhole) (arg4 : Memref sig .tc .vmem S1x128x256 .bf16) (harg4 : arg4.IsWhole) (arg5 : Memref sig .tc .vmem S1x512x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x512x256 .bf16) (harg8 : arg8.IsWhole) (arg9 : Memref sig .tc .vmem S1x128x256 .bf16) (harg9 : arg9.IsWhole) (arg10 : Memref sig .tc .vmem S1x512x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x128 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x512x256 .f32) (harg23 : arg23.IsWhole) (arg24 : Memref sig .tc .vmem S1x1024 .f32) (harg24 : arg24.IsWhole) (arg25 : Memref sig .tc .vmem S1024x4096 .bf16) (harg25 : arg25.IsWhole) (arg26 : Memref sig .tc .vmem S4096x1024 .bf16) (harg26 : arg26.IsWhole) (arg27 : Memref sig .tc .vmem S1x1024 .f32) (harg27 : arg27.IsWhole) (arg28 : Memref sig .tc .vmem S1024x1024 .bf16) (harg28 : arg28.IsWhole) (arg29 : Memref sig .tc .vmem S256x1024 .bf16) (harg29 : arg29.IsWhole) (arg30 : Memref sig .tc .vmem S1x512x1024 .f32) (harg30 : arg30.IsWhole)
    (x0 : Vec F S8 .f32) (x1 : Vec F S1x512x512 .bf16) (x2 : Vec F S1x128x256 .bf16) (x3 : Vec F S1x512x256 .bf16) (x4 : Vec F S1x128x256 .bf16) (x5 : Vec F S1x128x256 .bf16) (x6 : Vec F S1x512x256 .bf16) (x7 : Vec F S1x128x256 .bf16) (x8 : Vec F S1x512x1024 .f32) (x9 : Vec F S1x1024 .f32) (x10 : Vec F S1024x2048 .bf16) (x11 : Vec F S1x512x512 .f32) (x12 : Vec F S1x512x512 .f32) (x13 : Vec F S1x512x512 .f32) (x14 : Vec F S1x512x512 .f32) (x15 : Vec F S1x512 .f32) (x16 : Vec F S1x512 .f32) (x17 : Vec F S128x128 .bf16) (x18 : Vec F S512x1024 .bf16) (x19 : Vec F S512x1024 .bf16) (x20 : Vec F S1024x1024 .bf16) (x21 : Vec F S1x512x256 .f32) (x22 : Vec F S1x1024 .f32) (x23 : Vec F S1024x4096 .bf16) (x24 : Vec F S4096x1024 .bf16) (x25 : Vec F S1x1024 .f32) (x26 : Vec F S1024x1024 .bf16) (x27 : Vec F S256x1024 .bf16) :
    { L28 : List (View.Piece (Elt F) S1x512x1024 .f32) //
      ∀ (E : Set ℕ) (K : PUnit → sProp 𝕄),
        iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (∃ f, arg30.view.loc (c : Thread nD τ) ↦[arg30.view.set]{fullShare} f)
            ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} harg9.unread x7) ∗ (arg10.view.loc (c : Thread nD τ) ↦[arg10.view.set]{fullShare} harg10.unread x8) ∗ (arg11.view.loc (c : Thread nD τ) ↦[arg11.view.set]{fullShare} harg11.unread x9) ∗ (arg12.view.loc (c : Thread nD τ) ↦[arg12.view.set]{fullShare} harg12.unread x10) ∗ (arg13.view.loc (c : Thread nD τ) ↦[arg13.view.set]{fullShare} harg13.unread x11) ∗ (arg14.view.loc (c : Thread nD τ) ↦[arg14.view.set]{fullShare} harg14.unread x12) ∗ (arg15.view.loc (c : Thread nD τ) ↦[arg15.view.set]{fullShare} harg15.unread x13) ∗ (arg16.view.loc (c : Thread nD τ) ↦[arg16.view.set]{fullShare} harg16.unread x14) ∗ (arg17.view.loc (c : Thread nD τ) ↦[arg17.view.set]{fullShare} harg17.unread x15) ∗ (arg18.view.loc (c : Thread nD τ) ↦[arg18.view.set]{fullShare} harg18.unread x16) ∗ (arg19.view.loc (c : Thread nD τ) ↦[arg19.view.set]{fullShare} harg19.unread x17) ∗ (arg20.view.loc (c : Thread nD τ) ↦[arg20.view.set]{fullShare} harg20.unread x18) ∗ (arg21.view.loc (c : Thread nD τ) ↦[arg21.view.set]{fullShare} harg21.unread x19) ∗ (arg22.view.loc (c : Thread nD τ) ↦[arg22.view.set]{fullShare} harg22.unread x20) ∗ (arg23.view.loc (c : Thread nD τ) ↦[arg23.view.set]{fullShare} harg23.unread x21) ∗ (arg24.view.loc (c : Thread nD τ) ↦[arg24.view.set]{fullShare} harg24.unread x22) ∗ (arg25.view.loc (c : Thread nD τ) ↦[arg25.view.set]{fullShare} harg25.unread x23) ∗ (arg26.view.loc (c : Thread nD τ) ↦[arg26.view.set]{fullShare} harg26.unread x24) ∗ (arg27.view.loc (c : Thread nD τ) ↦[arg27.view.set]{fullShare} harg27.unread x25) ∗ (arg28.view.loc (c : Thread nD τ) ↦[arg28.view.set]{fullShare} harg28.unread x26) ∗ (arg29.view.loc (c : Thread nD τ) ↦[arg29.view.set]{fullShare} harg29.unread x27) ∗ (∃ f, arg30.view.loc (c : Thread nD τ) ↦[arg30.view.set]{fullShare} arg30.view.writes (Elt F) f L28)) -∗ K ⟨⟩))
          ⊢ wp frame (wpE (defs₀ (F := F)) Variants.none c none) E (cc0_mid i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, fun E K => ?run⟩
  case run =>
    iintro ⟨H0, H1, H2, H3, H4, H5, H6, H7, H8, H9, H10, H11, H12, H13, H14, H15, H16, H17, H18, H19, H20, H21, H22, H23, H24, H25, H26, H27, ⟨%f28, H28⟩, Hk⟩
    simp only [cc0_mid_eq_skeleton]; unfold cc0_mid_skel
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    sl_exec
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    iexists _; iexact H28

end Cert.KernelIdeal.Mid

end
-- ==== Proof.IdealFrame.lean ====
/-
  The launch of the kernel's program: what each grid point leaves in the output's window, the run, and the frame claim.
-/
module

public import proofs.«01_k».proof.Proof.IdealRun
public import Idealize.ShloMosaic.Lib.LaneScatter.Own
public import Idealize.ShloMosaic.Lib.Claim

@[expose] public section

-- membership in a rectangle of production extents (`View.cover_of_tiled`): the elaborator's structural look
-- recurses once per coordinate of the long axes
set_option maxRecDepth 16384

noncomputable section

namespace Cert.KernelIdeal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.LaneScatter

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 28 tile its block (1 store of `S1x512x1024`, checked by the kernel's evaluation: Lib/Ring.lean `Piece.tiledL`, linear in the pieces, through a loop's `@[irreducible]` trip theorem too), so they cover it. -/
theorem cover0_28 (c : Dev nD) (i : grid0.Coords) (arg2 : Memref sig .tc .smem S8 .f32) (harg2 : arg2.IsWhole) (arg3 : Memref sig .tc .vmem S1x512x512 .bf16) (harg3 : arg3.IsWhole) (arg4 : Memref sig .tc .vmem S1x128x256 .bf16) (harg4 : arg4.IsWhole) (arg5 : Memref sig .tc .vmem S1x512x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x512x256 .bf16) (harg8 : arg8.IsWhole) (arg9 : Memref sig .tc .vmem S1x128x256 .bf16) (harg9 : arg9.IsWhole) (arg10 : Memref sig .tc .vmem S1x512x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x128 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x512x256 .f32) (harg23 : arg23.IsWhole) (arg24 : Memref sig .tc .vmem S1x1024 .f32) (harg24 : arg24.IsWhole) (arg25 : Memref sig .tc .vmem S1024x4096 .bf16) (harg25 : arg25.IsWhole) (arg26 : Memref sig .tc .vmem S4096x1024 .bf16) (harg26 : arg26.IsWhole) (arg27 : Memref sig .tc .vmem S1x1024 .f32) (harg27 : arg27.IsWhole) (arg28 : Memref sig .tc .vmem S1024x1024 .bf16) (harg28 : arg28.IsWhole) (arg29 : Memref sig .tc .vmem S256x1024 .bf16) (harg29 : arg29.IsWhole) (arg30 : Memref sig .tc .vmem S1x512x1024 .f32) (harg30 : arg30.IsWhole)
    (x0 : Vec F S8 .f32) (x1 : Vec F S1x512x512 .bf16) (x2 : Vec F S1x128x256 .bf16) (x3 : Vec F S1x512x256 .bf16) (x4 : Vec F S1x128x256 .bf16) (x5 : Vec F S1x128x256 .bf16) (x6 : Vec F S1x512x256 .bf16) (x7 : Vec F S1x128x256 .bf16) (x8 : Vec F S1x512x1024 .f32) (x9 : Vec F S1x1024 .f32) (x10 : Vec F S1024x2048 .bf16) (x11 : Vec F S1x512x512 .f32) (x12 : Vec F S1x512x512 .f32) (x13 : Vec F S1x512x512 .f32) (x14 : Vec F S1x512x512 .f32) (x15 : Vec F S1x512 .f32) (x16 : Vec F S1x512 .f32) (x17 : Vec F S128x128 .bf16) (x18 : Vec F S512x1024 .bf16) (x19 : Vec F S512x1024 .bf16) (x20 : Vec F S1024x1024 .bf16) (x21 : Vec F S1x512x256 .f32) (x22 : Vec F S1x1024 .f32) (x23 : Vec F S1024x4096 .bf16) (x24 : Vec F S4096x1024 .bf16) (x25 : Vec F S1x1024 .f32) (x26 : Vec F S1024x1024 .bf16) (x27 : Vec F S256x1024 .bf16) (y : S1x512x1024.Idx) :
    ∃ pc ∈ (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1, y ∈ pc.1.set :=
  View.cover_of_tiledL (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1 S1x512x1024.size (by sl_kernel_rfl) y

/-- What the run leaves in output 28's staging buffer: its pieces read back over junk. -/
def out0_28 (c : Dev nD) (i : grid0.Coords) (arg2 : Memref sig .tc .smem S8 .f32) (harg2 : arg2.IsWhole) (arg3 : Memref sig .tc .vmem S1x512x512 .bf16) (harg3 : arg3.IsWhole) (arg4 : Memref sig .tc .vmem S1x128x256 .bf16) (harg4 : arg4.IsWhole) (arg5 : Memref sig .tc .vmem S1x512x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x512x256 .bf16) (harg8 : arg8.IsWhole) (arg9 : Memref sig .tc .vmem S1x128x256 .bf16) (harg9 : arg9.IsWhole) (arg10 : Memref sig .tc .vmem S1x512x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x128 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x512x256 .f32) (harg23 : arg23.IsWhole) (arg24 : Memref sig .tc .vmem S1x1024 .f32) (harg24 : arg24.IsWhole) (arg25 : Memref sig .tc .vmem S1024x4096 .bf16) (harg25 : arg25.IsWhole) (arg26 : Memref sig .tc .vmem S4096x1024 .bf16) (harg26 : arg26.IsWhole) (arg27 : Memref sig .tc .vmem S1x1024 .f32) (harg27 : arg27.IsWhole) (arg28 : Memref sig .tc .vmem S1024x1024 .bf16) (harg28 : arg28.IsWhole) (arg29 : Memref sig .tc .vmem S256x1024 .bf16) (harg29 : arg29.IsWhole) (arg30 : Memref sig .tc .vmem S1x512x1024 .f32) (harg30 : arg30.IsWhole)
    (x0 : Vec F S8 .f32) (x1 : Vec F S1x512x512 .bf16) (x2 : Vec F S1x128x256 .bf16) (x3 : Vec F S1x512x256 .bf16) (x4 : Vec F S1x128x256 .bf16) (x5 : Vec F S1x128x256 .bf16) (x6 : Vec F S1x512x256 .bf16) (x7 : Vec F S1x128x256 .bf16) (x8 : Vec F S1x512x1024 .f32) (x9 : Vec F S1x1024 .f32) (x10 : Vec F S1024x2048 .bf16) (x11 : Vec F S1x512x512 .f32) (x12 : Vec F S1x512x512 .f32) (x13 : Vec F S1x512x512 .f32) (x14 : Vec F S1x512x512 .f32) (x15 : Vec F S1x512 .f32) (x16 : Vec F S1x512 .f32) (x17 : Vec F S128x128 .bf16) (x18 : Vec F S512x1024 .bf16) (x19 : Vec F S512x1024 .bf16) (x20 : Vec F S1024x1024 .bf16) (x21 : Vec F S1x512x256 .f32) (x22 : Vec F S1x1024 .f32) (x23 : Vec F S1024x4096 .bf16) (x24 : Vec F S4096x1024 .bf16) (x25 : Vec F S1x1024 .f32) (x26 : Vec F S1024x1024 .bf16) (x27 : Vec F S256x1024 .bf16) : Vec F S1x512x1024 .f32 :=
  VO0_28.read (Elt F) (VO0_28.writes (Elt F) VO0_28.junk (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1)

/-! ## What the outputs hold after each point -/

/-- What the outputs' staging buffers hold after the body at point `t`: the run's contents at
    the point's memrefs and input blocks. -/
def outsAt0 (c : Dev nD) (t : Fin cfg0.N) : Vec F S1x512x1024 .f32 :=
  out0_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => (outsAt0 m c t)
    | ⟨_ + 29, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 2000000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  unfold outsAt0
  unfold out0_28
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  ihave H0 := (owns_raw _ _ (hs0_0 t) _) $$ H0
  ihave H1 := (owns_raw _ _ (hs0_1 t) _) $$ H1
  ihave H2 := (owns_raw _ _ (hs0_2 t) _) $$ H2
  ihave H3 := (owns_raw _ _ (hs0_3 t) _) $$ H3
  ihave H4 := (owns_raw _ _ (hs0_4 t) _) $$ H4
  ihave H5 := (owns_raw _ _ (hs0_5 t) _) $$ H5
  ihave H6 := (owns_raw _ _ (hs0_6 t) _) $$ H6
  ihave H7 := (owns_raw _ _ (hs0_7 t) _) $$ H7
  ihave H8 := (owns_raw _ _ (hs0_8 t) _) $$ H8
  ihave H9 := (owns_raw _ _ (hs0_9 t) _) $$ H9
  ihave H10 := (owns_raw _ _ (hs0_10 t) _) $$ H10
  ihave H11 := (owns_raw _ _ (hs0_11 t) _) $$ H11
  ihave H12 := (owns_raw _ _ (hs0_12 t) _) $$ H12
  ihave H13 := (owns_raw _ _ (hs0_13 t) _) $$ H13
  ihave H14 := (owns_raw _ _ (hs0_14 t) _) $$ H14
  ihave H15 := (owns_raw _ _ (hs0_15 t) _) $$ H15
  ihave H16 := (owns_raw _ _ (hs0_16 t) _) $$ H16
  ihave H17 := (owns_raw _ _ (hs0_17 t) _) $$ H17
  ihave H18 := (owns_raw _ _ (hs0_18 t) _) $$ H18
  ihave H19 := (owns_raw _ _ (hs0_19 t) _) $$ H19
  ihave H20 := (owns_raw _ _ (hs0_20 t) _) $$ H20
  ihave H21 := (owns_raw _ _ (hs0_21 t) _) $$ H21
  ihave H22 := (owns_raw _ _ (hs0_22 t) _) $$ H22
  ihave H23 := (owns_raw _ _ (hs0_23 t) _) $$ H23
  ihave H24 := (owns_raw _ _ (hs0_24 t) _) $$ H24
  ihave H25 := (owns_raw _ _ (hs0_25 t) _) $$ H25
  ihave H26 := (owns_raw _ _ (hs0_26 t) _) $$ H26
  ihave H27 := (owns_raw _ _ (hs0_27 t) _) $$ H27
  iapply ((midRun c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · unfold owns; icases H28 with ⟨%f28, %hf28, H28⟩; iexists _; iexact H28
  iintro ⟨H0, H1, H2, H3, H4, H5, H6, H7, H8, H9, H10, H11, H12, H13, H14, H15, H16, H17, H18, H19, H20, H21, H22, H23, H24, H25, H26, H27, ⟨%e28, H28⟩⟩
  isplitl [HΦ]; · iexact HΦ
  isplitl [Ho]; · iexact Ho
  isplitl [H0]; · iapply (raw_owns _ _ ((hs0_0 t).read_unread _)); iexact H0
  isplitl [H1]; · iapply (raw_owns _ _ ((hs0_1 t).read_unread _)); iexact H1
  isplitl [H2]; · iapply (raw_owns _ _ ((hs0_2 t).read_unread _)); iexact H2
  isplitl [H3]; · iapply (raw_owns _ _ ((hs0_3 t).read_unread _)); iexact H3
  isplitl [H4]; · iapply (raw_owns _ _ ((hs0_4 t).read_unread _)); iexact H4
  isplitl [H5]; · iapply (raw_owns _ _ ((hs0_5 t).read_unread _)); iexact H5
  isplitl [H6]; · iapply (raw_owns _ _ ((hs0_6 t).read_unread _)); iexact H6
  isplitl [H7]; · iapply (raw_owns _ _ ((hs0_7 t).read_unread _)); iexact H7
  isplitl [H8]; · iapply (raw_owns _ _ ((hs0_8 t).read_unread _)); iexact H8
  isplitl [H9]; · iapply (raw_owns _ _ ((hs0_9 t).read_unread _)); iexact H9
  isplitl [H10]; · iapply (raw_owns _ _ ((hs0_10 t).read_unread _)); iexact H10
  isplitl [H11]; · iapply (raw_owns _ _ ((hs0_11 t).read_unread _)); iexact H11
  isplitl [H12]; · iapply (raw_owns _ _ ((hs0_12 t).read_unread _)); iexact H12
  isplitl [H13]; · iapply (raw_owns _ _ ((hs0_13 t).read_unread _)); iexact H13
  isplitl [H14]; · iapply (raw_owns _ _ ((hs0_14 t).read_unread _)); iexact H14
  isplitl [H15]; · iapply (raw_owns _ _ ((hs0_15 t).read_unread _)); iexact H15
  isplitl [H16]; · iapply (raw_owns _ _ ((hs0_16 t).read_unread _)); iexact H16
  isplitl [H17]; · iapply (raw_owns _ _ ((hs0_17 t).read_unread _)); iexact H17
  isplitl [H18]; · iapply (raw_owns _ _ ((hs0_18 t).read_unread _)); iexact H18
  isplitl [H19]; · iapply (raw_owns _ _ ((hs0_19 t).read_unread _)); iexact H19
  isplitl [H20]; · iapply (raw_owns _ _ ((hs0_20 t).read_unread _)); iexact H20
  isplitl [H21]; · iapply (raw_owns _ _ ((hs0_21 t).read_unread _)); iexact H21
  isplitl [H22]; · iapply (raw_owns _ _ ((hs0_22 t).read_unread _)); iexact H22
  isplitl [H23]; · iapply (raw_owns _ _ ((hs0_23 t).read_unread _)); iexact H23
  isplitl [H24]; · iapply (raw_owns _ _ ((hs0_24 t).read_unread _)); iexact H24
  isplitl [H25]; · iapply (raw_owns _ _ ((hs0_25 t).read_unread _)); iexact H25
  isplitl [H26]; · iapply (raw_owns _ _ ((hs0_26 t).read_unread _)); iexact H26
  isplitl [H27]; · iapply (raw_owns _ _ ((hs0_27 t).read_unread _)); iexact H27
  unfold owns; iexists _; isplitr
  swap; · iexact H28
  ipureintro; exact View.read_writes_of_cover _ _ _ _ _ (cover0_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  θ_run_and (unchanged m ρ) ((θ_run defs _ _).mono (fun _ h => h.2) (run_main_quiescent m ρ))

end Cert.KernelIdeal.Mid

end
-- ==== Proof.Math.lean ====
/-
  Facts about the extended reals that the value claim needs: the softmax whose normalisation is a factor of the sum or
  of each term, the logistic function by the hyperbolic tangent, and the group norm whose mean is taken of a number
  and of its rounding remainder.
-/
module

public import Idealize.ShloMosaic.PureOps.Ideal.Laws
public import Mathlib.Tactic.FieldSimp
public import Mathlib.Tactic.Ring
public import Mathlib.Tactic.Positivity

@[expose] public section

noncomputable section

namespace Cert.Mid

open Idealize.ShloMosaic
open scoped BigOperators

/-- A sum times a nonnegative real is the sum of the products. -/
theorem sum_mul_coe {ι : Type*} (s : Finset ι) (f : ι → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih, mul_comm, mul_comm (f a), mul_comm (∑ k ∈ s, f k)]
    exact EReal.left_distrib_of_nonneg_of_ne_top (by exact_mod_cast hc) (EReal.coe_ne_top c) _ _

/-- A sum of reals is the real sum. -/
theorem sum_coe {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A sum with an infinite term that is the lower one is the lower infinity. -/
theorem sum_eq_bot {ι : Type*} (s : Finset ι) (f : ι → EReal) {i : ι} (hi : i ∈ s) (h : f i = ⊥) : ∑ k ∈ s, f k = ⊥ := by
  classical
  rw [← Finset.insert_erase hi, Finset.sum_insert (Finset.notMem_erase i s), h, EReal.bot_add]

/-- A sum with no term the lower infinity is not the lower infinity. -/
theorem sum_ne_bot {ι : Type*} (s : Finset ι) (f : ι → EReal) (h : ∀ i ∈ s, f i ≠ ⊥) : ∑ k ∈ s, f k ≠ ⊥ := by
  classical
  induction s using Finset.induction_on with
  | empty => simp
  | insert a s ha ih =>
    rw [Finset.sum_insert ha]
    intro hb
    rcases EReal.add_eq_bot_iff.mp hb with h1 | h1
    · exact h a (Finset.mem_insert_self a s) h1
    · exact ih (fun i hi => h i (Finset.mem_insert_of_mem hi)) h1

/-- A sum with a term the upper infinity and none the lower one is the upper infinity. -/
theorem sum_eq_top {ι : Type*} (s : Finset ι) (f : ι → EReal) {i : ι} (hi : i ∈ s) (h : f i = ⊤) (hb : ∀ j ∈ s, f j ≠ ⊥) :
    ∑ k ∈ s, f k = ⊤ := by
  classical
  rw [← Finset.insert_erase hi, Finset.sum_insert (Finset.notMem_erase i s), h]
  exact EReal.top_add_of_ne_bot (sum_ne_bot _ _ fun j hj => hb j (Finset.mem_of_mem_erase hj))

/-! ## The softmax with a sink -/

/-- A score: a real number, or the lower infinity where the window masks it. -/
def Score (x : EReal) : Prop := x = ⊥ ∨ ∃ r : ℝ, x = (r : EReal)

theorem Score.coe (r : ℝ) : Score (r : EReal) := Or.inr ⟨r, rfl⟩

theorem Score.exp_sub {x : EReal} (h : Score x) (m : ℝ) : ∃ r : ℝ, 0 ≤ r ∧ Ideal.exp (x - (m : EReal)) = (r : EReal) := by
  rcases h with rfl | ⟨r, rfl⟩
  · exact ⟨0, le_refl _, by rw [EReal.bot_sub]; rfl⟩
  · exact ⟨Real.exp (r - m), (Real.exp_pos _).le, by rw [← EReal.coe_sub]; rfl⟩

theorem exp_bot_sub (m : ℝ) : Ideal.exp (⊥ - (m : EReal)) = 0 := by rw [EReal.bot_sub]; rfl

theorem max_score {x y : EReal} (hx : Score x) (hy : Score y) : Score (max x y) := by
  rcases max_choice x y with h | h <;> rw [h] <;> assumption

/-- The largest of scores, from the lower infinity, is a score. -/
theorem fold_score {ι : Type*} (s : Finset ι) (f : ι → EReal) (hf : ∀ k, Score (f k)) : Score (s.fold max ⊥ f) := by
  classical
  induction s using Finset.induction_on with
  | empty => exact Or.inl (by simp)
  | insert a s ha ih => rw [Finset.fold_insert ha]; exact max_score (hf a) ih

/-- The larger of a score and a real is a real. -/
theorem max_coe {x : EReal} (hx : Score x) (r : ℝ) : ∃ m : ℝ, max x (r : EReal) = (m : EReal) := by
  rcases hx with rfl | ⟨q, rfl⟩
  · exact ⟨r, by simp⟩
  · exact ⟨max q r, (EReal.coe_strictMono.monotone.map_max).symm⟩

/-- The softmax's numerators and the sum they are divided by, with the sink's term beside the window's. -/
theorem softmax_sink {ι : Type*} [Fintype ι] (sc : ι → EReal) (hsc : ∀ k, Score (sc k)) (sk m : ℝ) (v w : ι → EReal)
    (hv : ∀ k, sc k ≠ ⊥ → v k = w k) :
    Ideal.div (∑ k, Ideal.exp (sc k - (m : EReal)) * v k) ((∑ k, Ideal.exp (sc k - (m : EReal))) + Ideal.exp ((sk : EReal) - (m : EReal)))
      = ∑ k, Ideal.div (Ideal.exp (sc k - (m : EReal)))
          ((∑ k, Ideal.exp (sc k - (m : EReal))) + Ideal.exp ((sk : EReal) - (m : EReal))) * w k := by
  choose e he hee using fun k => (hsc k).exp_sub m
  have hs : Ideal.exp ((sk : EReal) - (m : EReal)) = ((Real.exp (sk - m) : ℝ) : EReal) := by rw [← EReal.coe_sub]; rfl
  have hd : (∑ k, Ideal.exp (sc k - (m : EReal))) + Ideal.exp ((sk : EReal) - (m : EReal))
      = (((∑ k, e k) + Real.exp (sk - m) : ℝ) : EReal) := by
    rw [hs, Finset.sum_congr rfl fun k _ => hee k, sum_coe, EReal.coe_add]
  have hpos : 0 < (∑ k, e k) + Real.exp (sk - m) :=
    add_pos_of_nonneg_of_pos (Finset.sum_nonneg fun k _ => he k) (Real.exp_pos _)
  rw [hd, Ideal.div_coe hpos.ne', sum_mul_coe _ _ (by positivity)]
  refine Finset.sum_congr rfl fun k _ => ?_
  rw [Ideal.div_coe hpos.ne']
  by_cases hb : sc k = ⊥
  · rw [hb, exp_bot_sub]; simp
  · rw [hv k hb, mul_assoc, mul_assoc, mul_comm (w k)]

/-! ## The logistic function -/

/-- Half of the hyperbolic tangent of half, and a half, is the logistic function. -/
theorem half_tanh (x : EReal) :
    ((1 / 2 : ℝ) : EReal) * Ideal.tanh (((1 / 2 : ℝ) : EReal) * x) + ((1 / 2 : ℝ) : EReal) = Ideal.logistic x := by
  have hp : (0 : ℝ) < 1 / 2 := by norm_num
  induction x using EReal.rec with
  | bot =>
    rw [EReal.coe_mul_bot_of_pos hp]
    show ((1 / 2 : ℝ) : EReal) * (-1) + ((1 / 2 : ℝ) : EReal) = Ideal.div 1 (1 + Ideal.exp (-⊥))
    rw [EReal.neg_bot]
    show _ = Ideal.div 1 (1 + ⊤)
    rw [show (1 : EReal) + ⊤ = ⊤ from rfl, Ideal.div, if_neg (by simp), EReal.inv_top, mul_zero,
      show (-1 : EReal) = ((-1 : ℝ) : EReal) by rw [EReal.coe_neg]; rfl, ← EReal.coe_mul, ← EReal.coe_add]
    norm_num
  | top =>
    rw [EReal.coe_mul_top_of_pos hp]
    show ((1 / 2 : ℝ) : EReal) * 1 + ((1 / 2 : ℝ) : EReal) = Ideal.div 1 (1 + Ideal.exp (-⊤))
    rw [EReal.neg_top]
    show _ = Ideal.div 1 (1 + 0)
    rw [add_zero, show (1 : EReal) = ((1 : ℝ) : EReal) from rfl, Ideal.div_coe one_ne_zero, ← EReal.coe_mul, ← EReal.coe_add,
      ← EReal.coe_mul]
    norm_num
  | coe r =>
    rw [← EReal.coe_mul]
    show ((1 / 2 : ℝ) : EReal) * ((Real.tanh (1 / 2 * r) : ℝ) : EReal) + ((1 / 2 : ℝ) : EReal) = Ideal.div 1 (1 + Ideal.exp (-(r : EReal)))
    rw [← EReal.coe_neg]
    show _ = Ideal.div 1 (1 + ((Real.exp (-r) : ℝ) : EReal))
    rw [show (1 : EReal) = ((1 : ℝ) : EReal) from rfl, ← EReal.coe_add,
      Ideal.div_coe (by positivity), ← EReal.coe_mul, ← EReal.coe_mul, ← EReal.coe_add]
    congr 1
    have h1 : Real.exp (-r) = Real.exp (-(1 / 2 * r)) * Real.exp (-(1 / 2 * r)) := by rw [← Real.exp_add]; congr 1; ring
    have h2 : Real.exp (-(1 / 2 * r)) = (Real.exp (1 / 2 * r))⁻¹ := Real.exp_neg _
    rw [Real.tanh_eq_sinh_div_cosh, Real.sinh_eq, Real.cosh_eq, h1, h2]
    have hpos := Real.exp_pos (1 / 2 * r)
    field_simp
    ring

/-! ## The group norm -/

theorem rsqrt_top : Ideal.rsqrt ⊤ = 0 := rfl

/-- One element of a normalised head, from its mean: the deviation by the root of the mean square of the deviations. -/
def normed {ι : Type*} [Fintype ι] (c : EReal) (eps : EReal) (y : ι → EReal) (m : EReal) (i : ι) : EReal :=
  (y i - m) * Ideal.rsqrt ((∑ k, (y k - m) * (y k - m)) * c + eps)

theorem sub_infinite {x m : EReal} (hm : m = ⊤ ∨ m = ⊥) : (x - m) = ⊤ ∨ (x - m) = ⊥ := by
  rcases hm with rfl | rfl
  · right; exact EReal.sub_top x
  · induction x using EReal.rec with
    | bot => right; rfl
    | top => left; rfl
    | coe r => left; exact EReal.coe_sub_bot r

/-- Under an infinite mean every element is zero: the deviations are infinite, so is their square's mean, and the
    root of its inverse is zero. -/
theorem normed_infinite {ι : Type*} [Fintype ι] {c : ℝ} (hc : 0 < c) {eps : ℝ} (y : ι → EReal) {m : EReal}
    (hm : m = ⊤ ∨ m = ⊥) (i : ι) : normed (c : EReal) (eps : EReal) y m i = 0 := by
  have hsq : ∀ k, (y k - m) * (y k - m) = ⊤ := fun k => by
    rcases sub_infinite (x := y k) hm with h | h <;> rw [h] <;> rfl
  have hs : ∑ k, (y k - m) * (y k - m) = ⊤ := sum_eq_top _ _ (Finset.mem_univ i) (hsq i) fun j _ => by rw [hsq j]; simp
  rw [normed, hs, EReal.top_mul_coe_of_pos hc, EReal.top_add_of_ne_bot (EReal.coe_ne_bot eps), rsqrt_top, mul_zero]

/-- The mean of the numbers and of their remainders (zero for a real, the lower infinity for an infinite one) normalises
    as the mean of the numbers does. -/
theorem normed_split {ι : Type*} [Fintype ι] {c : ℝ} (hc : 0 < c) {eps : ℝ} (y : ι → EReal) (i : ι) :
    normed (c : EReal) (eps : EReal) y ((∑ k, y k + ∑ k, (y k - y k)) * (c : EReal)) i
      = normed (c : EReal) (eps : EReal) y ((∑ k, y k) * (c : EReal)) i := by
  by_cases hf : ∀ k, ∃ r : ℝ, y k = (r : EReal)
  · have h0 : ∑ k, (y k - y k) = 0 := Finset.sum_eq_zero fun k _ => by
      obtain ⟨r, hr⟩ := hf k; rw [hr, ← EReal.coe_sub, sub_self, EReal.coe_zero]
    rw [h0, add_zero]
  · have hinf : ∃ j, y j = ⊤ ∨ y j = ⊥ := by
      by_contra hn
      refine hf fun k => ?_
      have hk : ¬ (y k = ⊤ ∨ y k = ⊥) := fun h => hn ⟨k, h⟩
      exact ⟨(y k).toReal, (EReal.coe_toReal (fun h => hk (.inl h)) (fun h => hk (.inr h))).symm⟩
    obtain ⟨j, hj⟩ := hinf
    have hb : ∑ k, (y k - y k) = ⊥ := sum_eq_bot _ _ (Finset.mem_univ j) (by rcases hj with h | h <;> rw [h] <;> rfl)
    have h1 : (∑ k, y k + ∑ k, (y k - y k)) * (c : EReal) = ⊥ := by
      rw [hb, EReal.add_bot, EReal.bot_mul_coe_of_pos hc]
    have h2 : (∑ k, y k) * (c : EReal) = ⊤ ∨ (∑ k, y k) * (c : EReal) = ⊥ := by
      by_cases hbb : ∃ l, y l = ⊥
      · obtain ⟨l, hl⟩ := hbb
        right; rw [sum_eq_bot _ _ (Finset.mem_univ l) hl, EReal.bot_mul_coe_of_pos hc]
      · have hj' : y j = ⊤ := hj.resolve_right fun h => hbb ⟨j, h⟩
        left; rw [sum_eq_top _ _ (Finset.mem_univ j) hj' fun l _ h => hbb ⟨l, h⟩, EReal.top_mul_coe_of_pos hc]
    rw [normed_infinite hc y (.inr h1), normed_infinite hc y h2]

/-! ## The constants -/

theorem bits_half : Ideal.ofBits .f32 0x3F000000#32 = ((1 / 2 : ℝ) : EReal) := by
  simp [Ideal.ofBits, Ideal.ieee]; rw [← EReal.coe_mul]; norm_num
theorem bits_64 : Ideal.ofBits .f32 0x42800000#32 = ((64 : ℝ) : EReal) := by
  simp [Ideal.ofBits, Ideal.ieee]; rw [← EReal.coe_mul]; norm_num
theorem bits_inv64 : Ideal.ofBits .f32 0x3C800000#32 = ((1 / 64 : ℝ) : EReal) := by
  simp [Ideal.ofBits, Ideal.ieee]; rw [← EReal.coe_mul]; norm_num
theorem bits_eighth : Ideal.ofBits .f32 0x3E000000#32 = ((1 / 8 : ℝ) : EReal) := by
  simp [Ideal.ofBits, Ideal.ieee]; rw [← EReal.coe_mul]; norm_num
theorem bits_neg_inf : Ideal.ofBits .f32 0xFF800000#32 = ⊥ := by
  simp [Ideal.ofBits, Ideal.ieee]
theorem bits_pos_inf : Ideal.ofBits .f32 0x7F800000#32 = ⊤ := by
  simp [Ideal.ofBits, Ideal.ieee]
/-- The group norm's small constant is a real. -/
theorem bits_gn_eps : ∃ r : ℝ, Ideal.ofBits .f32 0x3A27C5AC#32 = (r : EReal) := by
  simp only [Ideal.ofBits, Ideal.ieee]
  norm_num
  exact ⟨_, rfl⟩

end Cert.Mid

end
-- ==== Proof.Row.lean ====
/-
  One token's row of the layer after the projections, as sums of extended reals: the windowed attention of one head,
  the root mean square norm, the gates, the three products of the merge, the feed-forward network and the per-layer
  embedding. Both the kernel's blocks and the reference's result are these functions of rows of their arguments.
-/
module

public import proofs.«01_k».proof.Proof.Math

@[expose] public section

noncomputable section

namespace Cert.Mid

open Idealize.ShloMosaic
open scoped BigOperators

/-- The root mean square norm of a row, at a column. -/
def rms (x g : Fin 1024 → EReal) (c : Fin 1024) : EReal :=
  x c * Ideal.rsqrt (Ideal.div (∑ k, x k * x k) (Ideal.ofBits .f32 0x44800000#32) + Ideal.ofBits .f32 0x358637BD#32) * g c

/-- A row times a matrix, at a column. -/
def vm {n : Nat} {m : Nat} (x : Fin n → EReal) (w : Fin n → Fin m → EReal) (c : Fin m) : EReal := ∑ k, x k * w k c

/-- The gated sum of the two branches, at a column. -/
def merged (h : Fin 1024 → EReal) (wg : Fin 1024 → Fin 2048 → EReal) (attn rw : Fin 512 → EReal)
    (wua wur : Fin 512 → Fin 1024 → EReal) (c : Fin 1024) : EReal :=
  Ideal.logistic (vm h wg ⟨c.val, by omega⟩) * vm attn wua c + Ideal.logistic (vm h wg ⟨1024 + c.val, by omega⟩) * vm rw wur c

/-- The square of the positive part. -/
def relu2 (x : EReal) : EReal := max x 0 * max x 0

/-- The row after the merge. -/
def mergeRow (x gain : Fin 1024 → EReal) (wg : Fin 1024 → Fin 2048 → EReal) (attn rw : Fin 512 → EReal)
    (wua wur : Fin 512 → Fin 1024 → EReal) (wout : Fin 1024 → Fin 1024 → EReal) (c : Fin 1024) : EReal :=
  x c + vm (merged (rms x gain) wg attn rw wua wur) wout c

/-- The row after the feed-forward network. -/
def ffnRow (x gf : Fin 1024 → EReal) (w1 : Fin 1024 → Fin 4096 → EReal) (w2 : Fin 4096 → Fin 1024 → EReal) (c : Fin 1024) : EReal :=
  x c + vm (fun k => relu2 (vm (rms x gf) w1 k)) w2 c

/-- The row after the per-layer embedding. -/
def pleRow (x gp : Fin 1024 → EReal) (p : Fin 256 → EReal) (wpg : Fin 1024 → Fin 1024 → EReal) (wple : Fin 256 → Fin 1024 → EReal)
    (c : Fin 1024) : EReal :=
  x c + vm p wple c * Ideal.logistic (vm (rms x gp) wpg c)

/-! ## Attention -/

/-- A masked score. -/
def score {n : Nat} (q : Fin 64 → EReal) (k : Fin n → Fin 64 → EReal) (ok : Fin n → Prop) [DecidablePred ok] (j : Fin n) : EReal :=
  if ok j then ∑ d, q d * k j d else ⊥

/-- One head's attention for one query: the weighted values over the sum of the weights and the sink's weight. -/
def att {n : Nat} (sc : Fin n → EReal) (v : Fin n → EReal) (sk : EReal) : EReal :=
  Ideal.div (∑ j, Ideal.exp (sc j - max (Finset.univ.fold max ⊥ sc) sk) * v j)
    ((∑ j, Ideal.exp (sc j - max (Finset.univ.fold max ⊥ sc) sk)) + Ideal.exp (sk - max (Finset.univ.fold max ⊥ sc) sk))

/-- A score of finite queries and keys is a score. -/
theorem score_score {n : Nat} (q : Fin 64 → EReal) (k : Fin n → Fin 64 → EReal) (ok : Fin n → Prop) [DecidablePred ok]
    (hq : ∀ d, ∃ r : ℝ, q d = (r : EReal)) (hk : ∀ j d, ∃ r : ℝ, k j d = (r : EReal)) (j : Fin n) : Score (score q k ok j) := by
  unfold score
  split
  · choose a ha using hq
    choose b hb using hk
    exact Or.inr ⟨∑ d, a d * b j d, by
      rw [← sum_coe]; exact Finset.sum_congr rfl fun d _ => by rw [ha, hb, EReal.coe_mul]⟩
  · exact Or.inl rfl

/-- The attention of real scores, the normalisation inside the sum, the values free where the score is masked. -/
theorem att_eq {n : Nat} (sc v w : Fin n → EReal) (sk : ℝ) (hsc : ∀ j, Score (sc j)) (hv : ∀ j, sc j ≠ ⊥ → v j = w j) :
    att sc v (sk : EReal) = ∑ j, Ideal.div (Ideal.exp (sc j - max (Finset.univ.fold max ⊥ sc) (sk : EReal)))
      ((∑ j, Ideal.exp (sc j - max (Finset.univ.fold max ⊥ sc) (sk : EReal)))
        + Ideal.exp ((sk : EReal) - max (Finset.univ.fold max ⊥ sc) (sk : EReal))) * w j := by
  obtain ⟨m, hm⟩ := max_coe (fold_score Finset.univ sc hsc) sk
  unfold att
  rw [hm]
  exact softmax_sink sc hsc sk m v w hv

/-- Values that are all zero weigh zero. -/
theorem att_zero {n : Nat} (sc : Fin n → EReal) (sk : ℝ) (hsc : ∀ j, Score (sc j)) : att sc (fun _ => 0) (sk : EReal) = 0 := by
  rw [att_eq sc (fun _ => 0) (fun _ => 0) sk hsc fun _ _ => rfl]
  simp

end Cert.Mid

end
-- ==== Proof.Units.lean ====
/-
  The kernel's body in pieces, and what each piece holds at an index. A piece is a stretch of the printed operations
  over whole blocks; its reading is a function of rows (Row.lean).
-/
module

public import proofs.«01_k».proof.Proof.Gen.KernelIdeal
public import proofs.«01_k».proof.Proof.Row
public import Idealize.ShloMosaic.Lib.Pointwise

@[expose] public section

set_option maxHeartbeats 1000000

noncomputable section

namespace Cert.Mid

open Idealize.ShloMosaic Cert.KernelIdeal
open Cert.KernelIdeal.Facts₀ Cert.KernelIdeal.Facts
open scoped BigOperators

/-! ## Norms, products and gates -/

/-- The root mean square norm of a block's rows. -/
def rmsU (x : FVec Ideal S512x1024 .f32) (g : FVec Ideal S1x1024 .f32) : FVec Ideal S512x1024 .f32 :=
  mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)) (broadcastTo S512x1024 g broadcasts_S1x1024_S512x1024)

theorem rmsU_apply (x : FVec Ideal S512x1024 .f32) (g : FVec Ideal S1x1024 .f32) (r : Fin 512) (c : Fin 1024) :
    rmsU x g (ix2 r c) = rms (fun k => x (ix2 r k)) (fun k => g (ix2 0 k)) c := by
  pointwise [rmsU, rms]

/-- The gate of a block of products. -/
def sigU {s : Shape} (z : FVec Ideal s .f32) : FVec Ideal s .f32 :=
  addf (mulf (broadcast s (Scalar.ofBits .f32 0x3F000000#32)) (tanh (mulf (broadcast s (Scalar.ofBits .f32 0x3F000000#32)) z)))
    (broadcast s (Scalar.ofBits .f32 0x3F000000#32))

theorem sigU_apply {s : Shape} (z : FVec Ideal s .f32) (j : s.Idx) : sigU z j = Ideal.logistic (z j) := by
  rw [← half_tanh, ← bits_half]
  rfl

/-- Rows of 1024 times a slab of 512 columns. -/
def mmA (h : FVec Ideal S512x1024 .bf16) (w : FVec Ideal S1024x512 .bf16) : FVec Ideal S512x512 .f32 :=
  matmul dot_S512x1024_S1024x512_S512x512_1_0_0_1_n_n none h w (constant S512x512 .f32 0x00000000#32)

theorem mmA_apply (h : FVec Ideal S512x1024 .bf16) (w : FVec Ideal S1024x512 .bf16) (r c : Fin 512) :
    mmA h w (ix2 r c) = vm (fun k => h (ix2 r k)) (fun k j => w (ix2 k j)) c := by
  pointwise [mmA, vm]

/-- Rows of 512 times a matrix of 1024 columns. -/
def mmB (h : FVec Ideal S512x512 .bf16) (w : FVec Ideal S512x1024 .bf16) : FVec Ideal S512x1024 .f32 :=
  matmul dot_S512x512_S512x1024_S512x1024_1_0_0_1_n_n none h w (constant S512x1024 .f32 0x00000000#32)

theorem mmB_apply (h : FVec Ideal S512x512 .bf16) (w : FVec Ideal S512x1024 .bf16) (r : Fin 512) (c : Fin 1024) :
    mmB h w (ix2 r c) = vm (fun k => h (ix2 r k)) (fun k j => w (ix2 k j)) c := by
  pointwise [mmB, vm]

/-- Rows of 1024 times a square matrix. -/
def mmC (h : FVec Ideal S512x1024 .bf16) (w : FVec Ideal S1024x1024 .bf16) : FVec Ideal S512x1024 .f32 :=
  matmul dot_S512x1024_S1024x1024_S512x1024_1_0_0_1_n_n none h w (constant S512x1024 .f32 0x00000000#32)

theorem mmC_apply (h : FVec Ideal S512x1024 .bf16) (w : FVec Ideal S1024x1024 .bf16) (r : Fin 512) (c : Fin 1024) :
    mmC h w (ix2 r c) = vm (fun k => h (ix2 r k)) (fun k j => w (ix2 k j)) c := by
  pointwise [mmC, vm]

/-- Rows of 256 times the embedding's matrix. -/
def mmD (h : FVec Ideal S512x256 .bf16) (w : FVec Ideal S256x1024 .bf16) : FVec Ideal S512x1024 .f32 :=
  matmul dot_S512x256_S256x1024_S512x1024_1_0_0_1_n_n none h w (constant S512x1024 .f32 0x00000000#32)

theorem mmD_apply (h : FVec Ideal S512x256 .bf16) (w : FVec Ideal S256x1024 .bf16) (r : Fin 512) (c : Fin 1024) :
    mmD h w (ix2 r c) = vm (fun k => h (ix2 r k)) (fun k j => w (ix2 k j)) c := by
  pointwise [mmD, vm]

/-- Two halves of 512 columns side by side. -/
def catU (a b : FVec Ideal S512x512 .f32) : FVec Ideal S512x1024 .f32 :=
  concatenate S512x1024 1 [⟨S512x512, a⟩, ⟨S512x512, b⟩] concatenates_S512x512_S512x512_S512x1024_d1

theorem catU_apply (a b : FVec Ideal S512x512 .f32) (r : Fin 512) (c : Fin 1024) :
    catU a b (ix2 r c) = if h : c.val < 512 then a (ix2 r ⟨c.val, h⟩) else b (ix2 r ⟨c.val - 512, by omega⟩) := by
  pointwise [catU]

/-- One slab of the feed-forward network. -/
def slabU (h : FVec Ideal S512x1024 .bf16) (w1 w2 : FVec Ideal S1024x1024 .bf16) : FVec Ideal S512x1024 .f32 :=
  mmC (mulf (φ := .f32) (maximumf (φ := .f32) (mmC h w1) (broadcast S512x1024 (Scalar.ofBits .f32 0x00000000#32)))
    (maximumf (φ := .f32) (mmC h w1) (broadcast S512x1024 (Scalar.ofBits .f32 0x00000000#32)))) w2

theorem slabU_apply (h : FVec Ideal S512x1024 .bf16) (w1 w2 : FVec Ideal S1024x1024 .bf16) (r : Fin 512) (c : Fin 1024) :
    slabU h w1 w2 (ix2 r c) = vm (fun k => relu2 (vm (fun j => h (ix2 r j)) (fun j l => w1 (ix2 j l)) k)) (fun k j => w2 (ix2 k j)) c := by
  rw [slabU, mmC_apply]
  unfold vm
  refine Finset.sum_congr rfl fun k _ => ?_
  congr 1
  pointwise [relu2, mmC_apply, vm]

/-! ## The group norm -/

/-- The sums over the two heads of a register of lanes, spread over their lanes. -/
def gnSumU (y : FVec Ideal S512x128 .f32) (bd : FVec Ideal S128x128 .bf16) : FVec Ideal S512x128 .f32 :=
  matmul dot_S512x128_S128x128_S512x128_1_0_0_1_n_n none (φ₁ := .bf16) y bd (constant S512x128 .f32 0x00000000#32)

theorem gnSumU_apply (y : FVec Ideal S512x128 .f32) (bd : FVec Ideal S128x128 .bf16) (r : Fin 512) (c : Fin 128) :
    gnSumU y bd (ix2 r c) = ∑ k : Fin 128, y (ix2 r k) * bd (ix2 k c) := by
  pointwise [gnSumU]

/-- Four registers of lanes side by side. -/
def cat4U (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

/-- A register of lanes of a block. -/
def sl0 (y : FVec Ideal S512x512 .f32) : FVec Ideal S512x128 .f32 := extractStridedSlice S512x128 ![0, 0] y slices_S512x512_o0_0_S512x128
def sl1 (y : FVec Ideal S512x512 .f32) : FVec Ideal S512x128 .f32 := extractStridedSlice S512x128 ![0, 128] y slices_S512x512_o0_128_S512x128
def sl2 (y : FVec Ideal S512x512 .f32) : FVec Ideal S512x128 .f32 := extractStridedSlice S512x128 ![0, 256] y slices_S512x512_o0_256_S512x128
def sl3 (y : FVec Ideal S512x512 .f32) : FVec Ideal S512x128 .f32 := extractStridedSlice S512x128 ![0, 384] y slices_S512x512_o0_384_S512x128

/-- The head sums of a block. -/
def hsumU (y : FVec Ideal S512x512 .f32) (bd : FVec Ideal S128x128 .bf16) : FVec Ideal S512x512 .f32 :=
  cat4U (gnSumU (sl0 y) bd) (gnSumU (sl1 y) bd) (gnSumU (sl2 y) bd) (gnSumU (sl3 y) bd)

/-- The head sums of a block taken of the numbers and of their remainders. -/
def hsum2U (y : FVec Ideal S512x512 .f32) (bd : FVec Ideal S128x128 .bf16) : FVec Ideal S512x512 .f32 :=
  cat4U (addf (gnSumU (sl0 y) bd) (gnSumU (subf (sl0 y) (sl0 y)) bd)) (addf (gnSumU (sl1 y) bd) (gnSumU (subf (sl1 y) (sl1 y)) bd))
    (addf (gnSumU (sl2 y) bd) (gnSumU (subf (sl2 y) (sl2 y)) bd)) (addf (gnSumU (sl3 y) bd) (gnSumU (subf (sl3 y) (sl3 y)) bd))

theorem cat4U_apply (a b c d : FVec Ideal S512x128 .f32) (r j : Fin 512) (G : Fin 512 → EReal)
    (h0 : ∀ l : Fin 128, a (ix2 r l) = G ⟨l.val, by omega⟩) (h1 : ∀ l : Fin 128, b (ix2 r l) = G ⟨128 + l.val, by omega⟩)
    (h2 : ∀ l : Fin 128, c (ix2 r l) = G ⟨256 + l.val, by omega⟩) (h3 : ∀ l : Fin 128, d (ix2 r l) = G ⟨384 + l.val, by omega⟩) :
    cat4U a b c d (ix2 r j) = G j := by
  pointwise [cat4U]
  have hj := j.isLt
  by_cases q1 : j.val < 128
  · refine (dif_pos q1).trans ((h0 _).trans ?_); rfl
  refine (dif_neg q1).trans ?_
  by_cases q2 : j.val - 128 < 128
  · refine (dif_pos q2).trans ((h1 _).trans (congrArg G (Fin.ext ?_))); show 128 + (j.val - 128) = j.val; omega
  refine (dif_neg q2).trans ?_
  by_cases q3 : j.val - 128 - 128 < 128
  · refine (dif_pos q3).trans ((h2 _).trans (congrArg G (Fin.ext ?_))); show 256 + (j.val - 128 - 128) = j.val; omega
  refine (dif_neg q3).trans ((h3 _).trans (congrArg G (Fin.ext ?_))); show 384 + (j.val - 128 - 128 - 128) = j.val; omega

/-- The lanes of one head: 64 of a row of 512. -/
def lane (c : Fin 512) (d : Fin 64) : Fin 512 := ⟨c.val / 64 * 64 + d.val, by omega⟩

/-- The zero and one matrix that adds up a head's lanes. -/
def IsBd (bd : FVec Ideal S128x128 .bf16) : Prop :=
  ∀ k l : Fin 128, bd (ix2 k l) = if k.val / 64 = l.val / 64 then 1 else 0

theorem sum_bd (bd : FVec Ideal S128x128 .bf16) (hbd : IsBd bd) (f : Fin 128 → EReal) (l : Fin 128) :
    ∑ k : Fin 128, f k * bd (ix2 k l) = ∑ d : Fin 64, f ⟨l.val / 64 * 64 + d.val, by omega⟩ := by
  have hl := l.isLt
  rw [Fin.sum_univ_two_halves 64 64 rfl]
  by_cases h : l.val < 64
  · have e2 : ∑ k : Fin 64, f ⟨64 + k.val, by omega⟩ * bd (ix2 ⟨64 + k.val, by omega⟩ l) = 0 :=
      Finset.sum_eq_zero fun k _ => by
        rw [hbd, if_neg (by show ¬ (64 + k.val) / 64 = l.val / 64; omega), mul_zero]
    refine (congrArg₂ (· + ·) rfl e2).trans ?_
    rw [add_zero]
    refine Finset.sum_congr rfl fun k _ => ?_
    rw [hbd, if_pos (by show k.val / 64 = l.val / 64; omega), mul_one]
    congr 1; apply Fin.ext; show k.val = l.val / 64 * 64 + k.val; omega
  · have e2 : ∑ k : Fin 64, f ⟨k.val, by omega⟩ * bd (ix2 ⟨k.val, by omega⟩ l) = 0 :=
      Finset.sum_eq_zero fun k _ => by
        rw [hbd, if_neg (by show ¬ k.val / 64 = l.val / 64; omega), mul_zero]
    refine (congrArg₂ (· + ·) e2 rfl).trans ?_
    rw [zero_add]
    refine Finset.sum_congr rfl fun k _ => ?_
    rw [hbd, if_pos (by show (64 + k.val) / 64 = l.val / 64; omega), mul_one]
    congr 1; apply Fin.ext; show 64 + k.val = l.val / 64 * 64 + k.val; omega

theorem sl_apply (y : FVec Ideal S512x512 .f32) (r : Fin 512) (l : Fin 128) :
    sl0 y (ix2 r l) = y (ix2 r ⟨l.val, by omega⟩) ∧ sl1 y (ix2 r l) = y (ix2 r ⟨128 + l.val, by omega⟩)
      ∧ sl2 y (ix2 r l) = y (ix2 r ⟨256 + l.val, by omega⟩) ∧ sl3 y (ix2 r l) = y (ix2 r ⟨384 + l.val, by omega⟩) := by
  refine ⟨?_, ?_, ?_, ?_⟩ <;> pointwise [sl0, sl1, sl2, sl3]

theorem hsumU_apply (y : FVec Ideal S512x512 .f32) (bd : FVec Ideal S128x128 .bf16) (hbd : IsBd bd) (r j : Fin 512) :
    hsumU y bd (ix2 r j) = ∑ d : Fin 64, y (ix2 r (lane j d)) := by
  refine cat4U_apply _ _ _ _ r j (fun j => ∑ d : Fin 64, y (ix2 r (lane j d))) ?_ ?_ ?_ ?_ <;> intro l <;>
    rw [gnSumU_apply, sum_bd bd hbd] <;> refine Finset.sum_congr rfl fun d _ => ?_
  · rw [(sl_apply y r _).1]; congr 2
  · rw [(sl_apply y r _).2.1]; congr 2; apply Fin.ext; show 128 + (l.val / 64 * 64 + d.val) = (128 + l.val) / 64 * 64 + d.val; omega
  · rw [(sl_apply y r _).2.2.1]; congr 2; apply Fin.ext; show 256 + (l.val / 64 * 64 + d.val) = (256 + l.val) / 64 * 64 + d.val; omega
  · rw [(sl_apply y r _).2.2.2]; congr 2; apply Fin.ext; show 384 + (l.val / 64 * 64 + d.val) = (384 + l.val) / 64 * 64 + d.val; omega

theorem hsum2U_apply (y : FVec Ideal S512x512 .f32) (bd : FVec Ideal S128x128 .bf16) (hbd : IsBd bd) (r j : Fin 512) :
    hsum2U y bd (ix2 r j) = ∑ d : Fin 64, y (ix2 r (lane j d)) + ∑ d : Fin 64, (y (ix2 r (lane j d)) - y (ix2 r (lane j d))) := by
  refine cat4U_apply _ _ _ _ r j (fun j => ∑ d : Fin 64, y (ix2 r (lane j d)) + ∑ d : Fin 64, (y (ix2 r (lane j d)) - y (ix2 r (lane j d))))
    ?_ ?_ ?_ ?_ <;> intro l <;>
    refine (congrArg₂ (· + ·) ((gnSumU_apply _ bd r l).trans (sum_bd bd hbd _ l)) ((gnSumU_apply _ bd r l).trans (sum_bd bd hbd _ l))).trans ?_ <;>
    refine congrArg₂ (· + ·) (Finset.sum_congr rfl fun d _ => ?_) (Finset.sum_congr rfl fun d _ => ?_)
  · rw [(sl_apply y r _).1]; congr 2
  · show sl0 y _ - sl0 y _ = _
    rw [(sl_apply y r _).1]; congr 3
  · rw [(sl_apply y r _).2.1]; congr 2; apply Fin.ext; show 128 + (l.val / 64 * 64 + d.val) = (128 + l.val) / 64 * 64 + d.val; omega
  · show sl1 y _ - sl1 y _ = _
    have e : (⟨128 + (⟨l.val / 64 * 64 + d.val, by omega⟩ : Fin 128).val, by show 128 + (l.val / 64 * 64 + d.val) < 512; omega⟩ : Fin 512)
        = lane ⟨128 + l.val, by omega⟩ d := Fin.ext (by show 128 + (l.val / 64 * 64 + d.val) = (128 + l.val) / 64 * 64 + d.val; omega)
    rw [(sl_apply y r _).2.1, e]
  · rw [(sl_apply y r _).2.2.1]; congr 2; apply Fin.ext; show 256 + (l.val / 64 * 64 + d.val) = (256 + l.val) / 64 * 64 + d.val; omega
  · show sl2 y _ - sl2 y _ = _
    have e : (⟨256 + (⟨l.val / 64 * 64 + d.val, by omega⟩ : Fin 128).val, by show 256 + (l.val / 64 * 64 + d.val) < 512; omega⟩ : Fin 512)
        = lane ⟨256 + l.val, by omega⟩ d := Fin.ext (by show 256 + (l.val / 64 * 64 + d.val) = (256 + l.val) / 64 * 64 + d.val; omega)
    rw [(sl_apply y r _).2.2.1, e]
  · rw [(sl_apply y r _).2.2.2]; congr 2; apply Fin.ext; show 384 + (l.val / 64 * 64 + d.val) = (384 + l.val) / 64 * 64 + d.val; omega
  · show sl3 y _ - sl3 y _ = _
    have e : (⟨384 + (⟨l.val / 64 * 64 + d.val, by omega⟩ : Fin 128).val, by show 384 + (l.val / 64 * 64 + d.val) < 512; omega⟩ : Fin 512)
        = lane ⟨384 + l.val, by omega⟩ d := Fin.ext (by show 384 + (l.val / 64 * 64 + d.val) = (384 + l.val) / 64 * 64 + d.val; omega)
    rw [(sl_apply y r _).2.2.2, e]

/-- The deviations from the head means. -/
def ycU (y : FVec Ideal S512x512 .f32) (bd : FVec Ideal S128x128 .bf16) : FVec Ideal S512x512 .f32 :=
  subf y (mulf (hsum2U y bd) (broadcast S512x512 (Scalar.ofBits .f32 0x3C800000#32)))

/-- The recurrence's branch: the group norm with its gain and shift, the bonus and the gate. -/
def rwU (y : FVec Ideal S512x512 .f32) (bd : FVec Ideal S128x128 .bf16) (lw lb : FVec Ideal S1x512 .f32)
    (bonus g : FVec Ideal S512x512 .f32) : FVec Ideal S512x512 .f32 :=
  mulf (addf (addf (mulf (mulf (ycU y bd) (rsqrt (addf (mulf (hsumU (mulf (ycU y bd) (ycU y bd)) bd)
    (broadcast S512x512 (Scalar.ofBits .f32 0x3C800000#32))) (broadcast S512x512 (Scalar.ofBits .f32 0x3A27C5AC#32)))))
    (broadcastTo S512x512 lw broadcasts_S1x512_S512x512)) (broadcastTo S512x512 lb broadcasts_S1x512_S512x512)) bonus) g

/-- One element of the recurrence's branch. -/
def rwRow (y lw lb bonus g : Fin 512 → EReal) (c : Fin 512) : EReal :=
  (normed ((1 / 64 : ℝ) : EReal) (Ideal.ofBits .f32 0x3A27C5AC#32) (fun d => y (lane c d)) ((∑ d, y (lane c d)) * ((1 / 64 : ℝ) : EReal))
    ⟨c.val % 64, by omega⟩ * lw c + lb c + bonus c) * g c

theorem ycU_apply (y : FVec Ideal S512x512 .f32) (bd : FVec Ideal S128x128 .bf16) (hbd : IsBd bd) (r c : Fin 512) :
    ycU y bd (ix2 r c) = y (ix2 r c) - (∑ d : Fin 64, y (ix2 r (lane c d))
      + ∑ d : Fin 64, (y (ix2 r (lane c d)) - y (ix2 r (lane c d)))) * ((1 / 64 : ℝ) : EReal) := by
  rw [← bits_inv64, ← hsum2U_apply y bd hbd]
  rfl

theorem lane_lane (c : Fin 512) (d e : Fin 64) : lane (lane c d) e = lane c e :=
  Fin.ext (by show (c.val / 64 * 64 + d.val) / 64 * 64 + e.val = c.val / 64 * 64 + e.val; omega)

theorem lane_self (c : Fin 512) : lane c ⟨c.val % 64, by omega⟩ = c :=
  Fin.ext (by show c.val / 64 * 64 + c.val % 64 = c.val; omega)

theorem rwU_apply (y : FVec Ideal S512x512 .f32) (bd : FVec Ideal S128x128 .bf16) (hbd : IsBd bd) (lw lb : FVec Ideal S1x512 .f32)
    (bonus g : FVec Ideal S512x512 .f32) (r c : Fin 512) :
    rwU y bd lw lb bonus g (ix2 r c) = rwRow (fun k => y (ix2 r k)) (fun k => lw (ix2 0 k)) (fun k => lb (ix2 0 k))
      (fun k => bonus (ix2 r k)) (fun k => g (ix2 r k)) c := by
  obtain ⟨eps, heps⟩ := bits_gn_eps
  have hc : (0 : ℝ) < 1 / 64 := by norm_num
  have key := normed_split hc (eps := eps) (fun d => y (ix2 r (lane c d))) ⟨c.val % 64, by omega⟩
  unfold rwRow
  rw [heps, ← key, ← heps]
  pointwise [rwU]
  rw [hsumU_apply _ bd hbd, ycU_apply y bd hbd, bits_inv64]
  have e : ∑ d : Fin 64, mulf (ycU y bd) (ycU y bd) (ix2 r (lane c d)) = ∑ d : Fin 64,
      (y (ix2 r (lane c d)) - (∑ d : Fin 64, y (ix2 r (lane c d)) + ∑ d : Fin 64, (y (ix2 r (lane c d)) - y (ix2 r (lane c d)))) * ((1 / 64 : ℝ) : EReal))
      * (y (ix2 r (lane c d)) - (∑ d : Fin 64, y (ix2 r (lane c d)) + ∑ d : Fin 64, (y (ix2 r (lane c d)) - y (ix2 r (lane c d)))) * ((1 / 64 : ℝ) : EReal)) :=
    Finset.sum_congr rfl fun d _ => by
      show ycU y bd _ * ycU y bd _ = _
      rw [ycU_apply y bd hbd]
      simp only [lane_lane]
  rw [e]
  simp only [normed, lane_self]

end Cert.Mid

end
-- ==== Proof.Attn.lean ====
/-
  The kernel's windowed attention in pieces over whole blocks, and what each piece holds at an index.
-/
module

public import proofs.«01_k».proof.Proof.Units

@[expose] public section

set_option maxHeartbeats 1000000

noncomputable section

namespace Cert.Mid

open Idealize.ShloMosaic Cert.KernelIdeal
open Cert.KernelIdeal.Facts₀ Cert.KernelIdeal.Facts
open scoped BigOperators

/-- Lanes to keep, for every row of the queries. -/
def keepQ (k : IVec S1x128 1) : IVec S256x128 1 :=
  broadcastTo S256x128 (shapeCast S1x128 k shapeCasts_S1x128_S1x128) broadcasts_S1x128_S256x128

/-- The masked scores of 256 query rows against a window of 384 keys. -/
def scoreU (keep : IVec S256x128 1) (pairs : FVec Ideal S256x128 .bf16) (ks : FVec Ideal S384x128 .bf16)
    (mp mn : IVec S256x128 1) : FVec Ideal S256x384 .f32 :=
  concatenate S256x384 1
    [⟨S256x128, select mp (extractStridedSlice S256x128 ![0, 0] (matmul dot_S256x128_S384x128_S256x384_1_1_0_0_n_n none
        (select keep pairs (broadcast S256x128 (Scalar.ofBits .bf16 0x0000#16))) ks (constant (F := Ideal) S256x384 .f32 0x00000000#32))
        slices_S256x384_o0_0_S256x128) (broadcast S256x128 (Named.named (F := Ideal) κ "mask" 0xF149F2CA#32))⟩,
     ⟨S256x128, extractStridedSlice S256x128 ![0, 128] (matmul dot_S256x128_S384x128_S256x384_1_1_0_0_n_n none
        (select keep pairs (broadcast S256x128 (Scalar.ofBits .bf16 0x0000#16))) ks (constant (F := Ideal) S256x384 .f32 0x00000000#32))
        slices_S256x384_o0_128_S256x128⟩,
     ⟨S256x128, select mn (extractStridedSlice S256x128 ![0, 256] (matmul dot_S256x128_S384x128_S256x384_1_1_0_0_n_n none
        (select keep pairs (broadcast S256x128 (Scalar.ofBits .bf16 0x0000#16))) ks (constant (F := Ideal) S256x384 .f32 0x00000000#32))
        slices_S256x384_o0_256_S256x128) (broadcast S256x128 (Named.named (F := Ideal) κ "mask" 0xF149F2CA#32))⟩]
    concatenates_S256x128_S256x128_S256x128_S256x384_d1

/-- The products of a row's kept lanes with a key. -/
def dotRow (keep : Fin 128 → BitVec 1) (q k : Fin 128 → EReal) : EReal :=
  ∑ l, Scalar.select (keep l) (q l) 0 * k l

theorem scoreU_apply (keep : IVec S256x128 1) (pairs : FVec Ideal S256x128 .bf16) (ks : FVec Ideal S384x128 .bf16)
    (mp mn : IVec S256x128 1) (r : Fin 256) (j : Fin 384) :
    scoreU keep pairs ks mp mn (ix2 r j)
      = if h : j.val < 128 then Scalar.select (mp (ix2 r ⟨j.val, h⟩))
          (dotRow (fun l => keep (ix2 r l)) (fun l => pairs (ix2 r l)) (fun l => ks (ix2 j l))) ⊥
        else if h2 : j.val - 128 < 128 then dotRow (fun l => keep (ix2 r l)) (fun l => pairs (ix2 r l)) (fun l => ks (ix2 j l))
        else Scalar.select (mn (ix2 r ⟨j.val - 128 - 128, by omega⟩))
          (dotRow (fun l => keep (ix2 r l)) (fun l => pairs (ix2 r l)) (fun l => ks (ix2 j l))) ⊥ := by
  have hm : Named.named (F := Ideal) (φ := .f32) κ "mask" 0xF149F2CA#32 = (⊥ : EReal) := rfl
  have hj := j.isLt
  unfold scoreU
  rw [hm]
  pointwise [dotRow]
  by_cases q1 : j.val < 128
  · refine (dif_pos q1).trans ((dif_pos q1).trans ?_).symm; rfl
  refine (dif_neg q1).trans ((dif_neg q1).trans ?_).symm
  by_cases q2 : j.val - 128 < 128
  · refine (dif_pos q2).trans ((dif_pos q2).trans ?_).symm
    have e : (⟨128 + (j.val - 128), by omega⟩ : Fin 384) = j := Fin.ext (by show 128 + (j.val - 128) = j.val; omega)
    simp only [e]
  refine (dif_neg q2).trans ((dif_neg q2).trans ?_).symm
  have e : (⟨256 + (j.val - 128 - 128), by omega⟩ : Fin 384) = j := Fin.ext (by show 256 + (j.val - 128 - 128) = j.val; omega)
  simp only [e]

/-- A row's largest score and the sink's. -/
def maxU (sc : FVec Ideal S256x384 .f32) (sk : FVec Ideal S256x1 .f32) : FVec Ideal S256x1 .f32 :=
  maximumf (shapeCast S256x1 (multiReduction .maximumf [1] S256 sc 0xFF800000#32 reduces_S256x384_S256 (.inl rfl) rfl) shapeCasts_S256_S256x1) sk

/-- The weights before their normalisation. -/
def expU (sc : FVec Ideal S256x384 .f32) (sk : FVec Ideal S256x1 .f32) : FVec Ideal S256x384 .f32 :=
  exp (subf sc (broadcastTo S256x384 (maxU sc sk) broadcasts_S256x1_S256x384))

/-- The sum of the weights and the sink's. -/
def denU (sc : FVec Ideal S256x384 .f32) (sk : FVec Ideal S256x1 .f32) : FVec Ideal S256x1 .f32 :=
  addf (shapeCast S256x1 (multiReduction .add [1] S256 (expU sc sk) 0x00000000#32 reduces_S256x384_S256 (.inl rfl) rfl) shapeCasts_S256_S256x1)
    (exp (subf sk (maxU sc sk)))

/-- The weighted values over the sum of the weights. -/
def recU (sc : FVec Ideal S256x384 .f32) (sk : FVec Ideal S256x1 .f32) (v : FVec Ideal S384x128 .bf16) : FVec Ideal S256x128 .f32 :=
  divf (matmul dot_S256x384_S384x128_S256x128_1_0_0_1_n_n none (φ₁ := .bf16) (expU sc sk) v (constant S256x128 .f32 0x00000000#32))
    (broadcastTo S256x128 (denU sc sk) broadcasts_S256x1_S256x128)

theorem maxRed_apply (sc : FVec Ideal S256x384 .f32) (r : Fin 256) :
    multiReduction (φ := .f32) .maximumf [1] S256 sc 0xFF800000#32 reduces_S256x384_S256 (.inl rfl) rfl (ix1 r)
      = Finset.univ.fold max ⊥ (fun j : Fin 384 => sc (ix2 r j)) := by
  refine (Ideal.multiReduction_maximumf_single _ _ _ _ _ _).trans ?_
  show Finset.fold max (Ideal.ofBits .f32 0xFF800000#32) _ _ = _
  rw [bits_neg_inf]
  refine congrArg (fun f => Finset.fold max ⊥ f Finset.univ) (funext fun j => congrArg sc ?_)
  funext a; apply Fin.ext
  match a with
  | ⟨0, _⟩ => rfl
  | ⟨1, _⟩ => rfl

theorem maxU_apply (sc : FVec Ideal S256x384 .f32) (sk : FVec Ideal S256x1 .f32) (r : Fin 256) (z : Fin 1) :
    maxU sc sk (ix2 r z) = max (Finset.univ.fold max ⊥ (fun j : Fin 384 => sc (ix2 r j))) (sk (ix2 r 0)) := by
  have hz : z = 0 := Subsingleton.elim _ _
  subst hz
  rw [← maxRed_apply]
  pointwise [maxU]

theorem expU_apply (sc : FVec Ideal S256x384 .f32) (sk : FVec Ideal S256x1 .f32) (r : Fin 256) (j : Fin 384) :
    expU sc sk (ix2 r j) = Ideal.exp (sc (ix2 r j) - max (Finset.univ.fold max ⊥ (fun j : Fin 384 => sc (ix2 r j))) (sk (ix2 r 0))) := by
  rw [← maxU_apply sc sk r 0]
  pointwise [expU]

theorem denU_apply (sc : FVec Ideal S256x384 .f32) (sk : FVec Ideal S256x1 .f32) (r : Fin 256) (z : Fin 1) :
    denU sc sk (ix2 r z) = (∑ j : Fin 384, Ideal.exp (sc (ix2 r j) - max (Finset.univ.fold max ⊥ (fun j : Fin 384 => sc (ix2 r j))) (sk (ix2 r 0))))
      + Ideal.exp (sk (ix2 r 0) - max (Finset.univ.fold max ⊥ (fun j : Fin 384 => sc (ix2 r j))) (sk (ix2 r 0))) := by
  have hz : z = 0 := Subsingleton.elim _ _
  subst hz
  simp only [← expU_apply]
  rw [← maxU_apply sc sk r 0]
  pointwise [denU]

theorem recU_apply (sc : FVec Ideal S256x384 .f32) (sk : FVec Ideal S256x1 .f32) (v : FVec Ideal S384x128 .bf16) (r : Fin 256) (l : Fin 128) :
    recU sc sk v (ix2 r l) = att (fun j => sc (ix2 r j)) (fun j => v (ix2 j l)) (sk (ix2 r 0)) := by
  unfold att
  rw [← denU_apply sc sk r 0]
  simp only [← expU_apply]
  pointwise [recU]

/-- The values' kept lanes. -/
def valU (k : IVec S1x128 1) (v : FVec Ideal S384x128 .bf16) : FVec Ideal S384x128 .bf16 :=
  select (broadcastTo S384x128 (shapeCast S1x128 k shapeCasts_S1x128_S1x128) broadcasts_S1x128_S384x128) v
    (broadcast S384x128 (Scalar.ofBits .bf16 0x0000#16))

theorem bits_zero_bf16 : Ideal.ofBits .bf16 0x0000#16 = 0 := by simp [Ideal.ofBits, Ideal.ieee]

theorem valU_apply (k : IVec S1x128 1) (v : FVec Ideal S384x128 .bf16) (j : Fin 384) (l : Fin 128) :
    valU k v (ix2 j l) = Scalar.select (k (ix2 0 l)) (v (ix2 j l)) 0 := by
  pointwise [valU]

theorem keepQ_apply (k : IVec S1x128 1) (r : Fin 256) (l : Fin 128) : keepQ k (ix2 r l) = k (ix2 0 l) := by
  pointwise [keepQ]

/-- Both sides of a pair of heads. -/
def bothU (a b : FVec Ideal S256x128 .f32) : FVec Ideal S256x128 .f32 :=
  addf (addf (broadcast S256x128 (Scalar.ofBits .f32 0x00000000#32)) a) b

theorem bothU_apply (a b : FVec Ideal S256x128 .f32) (r : Fin 256) (l : Fin 128) :
    bothU a b (ix2 r l) = a (ix2 r l) + b (ix2 r l) := by
  pointwise [bothU]

/-- The four pairs of heads side by side. -/
def outU (a b : FVec Ideal S256x128 .f32) : FVec Ideal S128x512 .f32 :=
  concatenate S128x512 1 [⟨S128x128, extractStridedSlice S128x128 ![0, 0] a slices_S256x128_o0_0_S128x128⟩,
    ⟨S128x128, extractStridedSlice S128x128 ![128, 0] a slices_S256x128_o128_0_S128x128⟩,
    ⟨S128x128, extractStridedSlice S128x128 ![0, 0] b slices_S256x128_o0_0_S128x128⟩,
    ⟨S128x128, extractStridedSlice S128x128 ![128, 0] b slices_S256x128_o128_0_S128x128⟩]
    concatenates_S128x128_S128x128_S128x128_S128x128_S128x512_d1

theorem outU_apply (a b : FVec Ideal S256x128 .f32) (i : Fin 128) (c : Fin 512) (G : Fin 512 → EReal)
    (h0 : ∀ l : Fin 128, a (ix2 ⟨i.val, by omega⟩ l) = G ⟨l.val, by omega⟩)
    (h1 : ∀ l : Fin 128, a (ix2 ⟨128 + i.val, by omega⟩ l) = G ⟨128 + l.val, by omega⟩)
    (h2 : ∀ l : Fin 128, b (ix2 ⟨i.val, by omega⟩ l) = G ⟨256 + l.val, by omega⟩)
    (h3 : ∀ l : Fin 128, b (ix2 ⟨128 + i.val, by omega⟩ l) = G ⟨384 + l.val, by omega⟩) :
    outU a b (ix2 i c) = G c := by
  pointwise [outU]
  have hj := c.isLt
  by_cases q1 : c.val < 128
  · refine (dif_pos q1).trans ((h0 _).trans ?_); rfl
  refine (dif_neg q1).trans ?_
  by_cases q2 : c.val - 128 < 128
  · refine (dif_pos q2).trans ((h1 _).trans (congrArg G (Fin.ext ?_))); show 128 + (c.val - 128) = c.val; omega
  refine (dif_neg q2).trans ?_
  by_cases q3 : c.val - 128 - 128 < 128
  · refine (dif_pos q3).trans ((h2 _).trans (congrArg G (Fin.ext ?_))); show 256 + (c.val - 128 - 128) = c.val; omega
  refine (dif_neg q3).trans ((h3 _).trans (congrArg G (Fin.ext ?_))); show 384 + (c.val - 128 - 128 - 128) = c.val; omega

/-- Two blocks of queries, one below the other. -/
def pairU (a b : FVec Ideal S128x128 .bf16) : FVec Ideal S256x128 .bf16 :=
  concatenate S256x128 0 [⟨S128x128, a⟩, ⟨S128x128, b⟩] concatenates_S128x128_S128x128_S256x128_d0

theorem pairU_apply (a b : FVec Ideal S128x128 .bf16) (r : Fin 256) (l : Fin 128) :
    pairU a b (ix2 r l) = if h : r.val < 128 then a (ix2 ⟨r.val, h⟩ l) else b (ix2 ⟨r.val - 128, by omega⟩ l) := by
  pointwise [pairU]

end Cert.Mid

end
-- ==== Proof.Body.lean ====
/-
  The kernel's body as named values: what the body computes from the blocks it loads, one definition per value.
-/
module

public import proofs.«01_k».proof.Proof.Attn
public import proofs.«01_k».proof.Proof.IdealRun

@[expose] public section

set_option maxRecDepth 16384
set_option maxHeartbeats 2000000

noncomputable section

namespace Cert.Mid

open Idealize.ShloMosaic Cert.KernelIdeal Cert.KernelIdeal.Gen

open scoped BigOperators

/-- The blocks a point of the grid loads. -/
structure Ld where
  kp : Vec Ideal S1x128x256 .bf16
  kc : Vec Ideal S1x512x256 .bf16
  kn : Vec Ideal S1x128x256 .bf16
  vp : Vec Ideal S1x128x256 .bf16
  vc : Vec Ideal S1x512x256 .bf16
  vn : Vec Ideal S1x128x256 .bf16
  bd : Vec Ideal S128x128 .bf16
  x : Vec Ideal S1x512x1024 .f32
  q00 : Vec Ideal S1x128x128 .bf16
  q01 : Vec Ideal S1x128x128 .bf16
  s0 : Elt Ideal .f32
  s2 : Elt Ideal .f32
  s1 : Elt Ideal .f32
  s3 : Elt Ideal .f32
  q02 : Vec Ideal S1x128x128 .bf16
  q03 : Vec Ideal S1x128x128 .bf16
  s4 : Elt Ideal .f32
  s6 : Elt Ideal .f32
  s5 : Elt Ideal .f32
  s7 : Elt Ideal .f32
  q10 : Vec Ideal S1x128x128 .bf16
  q11 : Vec Ideal S1x128x128 .bf16
  q12 : Vec Ideal S1x128x128 .bf16
  q13 : Vec Ideal S1x128x128 .bf16
  gain : Vec Ideal S1x1024 .f32
  wg0 : Vec Ideal S1024x512 .bf16
  wg1 : Vec Ideal S1024x512 .bf16
  q20 : Vec Ideal S1x128x128 .bf16
  q21 : Vec Ideal S1x128x128 .bf16
  q22 : Vec Ideal S1x128x128 .bf16
  q23 : Vec Ideal S1x128x128 .bf16
  wg2 : Vec Ideal S1024x512 .bf16
  q30 : Vec Ideal S1x128x128 .bf16
  q31 : Vec Ideal S1x128x128 .bf16
  q32 : Vec Ideal S1x128x128 .bf16
  q33 : Vec Ideal S1x128x128 .bf16
  wg3 : Vec Ideal S1024x512 .bf16
  y0 : Vec Ideal S1x512x512 .f32
  y1 : Vec Ideal S1x512x512 .f32
  lnw : Vec Ideal S1x512 .f32
  lnb : Vec Ideal S1x512 .f32
  bonus : Vec Ideal S1x512x512 .f32
  g : Vec Ideal S1x512x512 .f32
  wua : Vec Ideal S512x1024 .bf16
  wur : Vec Ideal S512x1024 .bf16
  wo0 : Vec Ideal S1024x512 .bf16
  wo1 : Vec Ideal S1024x512 .bf16
  gf : Vec Ideal S1x1024 .f32
  w10 : Vec Ideal S1024x1024 .bf16
  w20 : Vec Ideal S1024x1024 .bf16
  w11 : Vec Ideal S1024x1024 .bf16
  w21 : Vec Ideal S1024x1024 .bf16
  w12 : Vec Ideal S1024x1024 .bf16
  w22 : Vec Ideal S1024x1024 .bf16
  w13 : Vec Ideal S1024x1024 .bf16
  w23 : Vec Ideal S1024x1024 .bf16
  gp : Vec Ideal S1x1024 .f32
  p : Vec Ideal S1x512x256 .f32
  wple : Vec Ideal S256x1024 .bf16
  wpg : Vec Ideal S1024x1024 .bf16

/-- Value 6 of the body. -/
def c6 (n : BitVec 32) (L : Ld) : FVec Ideal S768x256 .bf16 := k0_pay2 L.kp L.kc L.kn
/-- Value 13 of the body. -/
def c13 (n : BitVec 32) (L : Ld) : FVec Ideal S768x256 .bf16 := k0_pay3 L.vp L.vc L.vn
/-- Value 30 of the body. -/
def c30 (n : BitVec 32) (L : Ld) : IVec S256x128 32 := k0_pay4
/-- Value 34 of the body. -/
def c34 (n : BitVec 32) (L : Ld) : IVec S256x1 1 := k0_pay5 (iota .tc S256x1 32 [0] iota_S256x1_d0_w32) 128#32
/-- Value 37 of the body. -/
def c37 (n : BitVec 32) (L : Ld) : IVec S1x128 1 := k0_pay6
/-- Value 39 of the body. -/
def c39 (n : BitVec 32) (L : Ld) : FVec Ideal S128x128 .bf16 := k0_pay7 L.bd
/-- Value 41 of the body. -/
def c41 (n : BitVec 32) (L : Ld) : FVec Ideal S512x1024 .f32 := k0_pay8 L.x
/-- Value 45 of the body. -/
def c45 (n : BitVec 32) (L : Ld) : IVec S256x128 1 := k0_pay9 n (c30 n L) (iota .tc S256x128 32 [1] iota_S256x128_d1_w32)
/-- Value 48 of the body. -/
def c48 (n : BitVec 32) (L : Ld) : IVec S256x128 1 := k0_pay10 (c30 n L) (iota .tc S256x128 32 [1] iota_S256x128_d1_w32)
/-- Value 53 of the body. -/
def c53 (n : BitVec 32) (L : Ld) : FVec Ideal S256x128 .bf16 := k0_pay11 L.q00 L.q01
/-- Value 58 of the body. -/
def c58 (n : BitVec 32) (L : Ld) : FVec Ideal S256x1 .f32 := k0_pay12 (iota .tc S256x1 32 [0] iota_S256x1_d0_w32) 128#32 L.s0 L.s2
/-- Value 72 of the body. -/
def c72 (n : BitVec 32) (L : Ld) : FVec Ideal S256x384 .f32 := k0_pay13 n (c6 n L) (c30 n L) (iota .tc S256x128 32 [1] iota_S256x128_d1_w32) L.q00 L.q01
/-- Value 77 of the body. -/
def c77 (n : BitVec 32) (L : Ld) : FVec Ideal S384x128 .bf16 := k0_pay14 (c13 n L) (c37 n L)
/-- Value 83 of the body. -/
def c83 (n : BitVec 32) (L : Ld) : FVec Ideal S256x1 .f32 := k0_pay16 (c34 n L) L.s1 L.s3
/-- Value 97 of the body. -/
def c97 (n : BitVec 32) (L : Ld) : FVec Ideal S256x384 .f32 := k0_pay17 (c6 n L) (c37 n L) (c45 n L) (c48 n L) (c53 n L)
/-- Value 102 of the body. -/
def c102 (n : BitVec 32) (L : Ld) : FVec Ideal S384x128 .bf16 := k0_pay18 (c13 n L) (c37 n L)
/-- Value 107 of the body. -/
def c107 (n : BitVec 32) (L : Ld) : FVec Ideal S256x128 .bf16 := k0_pay19 L.q02 L.q03
/-- Value 112 of the body. -/
def c112 (n : BitVec 32) (L : Ld) : FVec Ideal S256x1 .f32 := k0_pay20 (c34 n L) L.s4 L.s6
/-- Value 114 of the body. -/
def c114 (n : BitVec 32) (L : Ld) : IVec S256x128 1 := k0_pay21 (c37 n L)
/-- Value 126 of the body. -/
def c126 (n : BitVec 32) (L : Ld) : FVec Ideal S256x384 .f32 := k0_pay22 (c6 n L) (c45 n L) (c48 n L) (c107 n L) (Scalar.ofBits (F := Ideal) .bf16 0x0000#16) (c114 n L)
/-- Value 131 of the body. -/
def c131 (n : BitVec 32) (L : Ld) : FVec Ideal S384x128 .bf16 := k0_pay23 (c13 n L) (c37 n L)
/-- Value 137 of the body. -/
def c137 (n : BitVec 32) (L : Ld) : FVec Ideal S256x1 .f32 := k0_pay25 (c34 n L) L.s5 L.s7
/-- Value 151 of the body. -/
def c151 (n : BitVec 32) (L : Ld) : FVec Ideal S256x384 .f32 := k0_pay26 (c6 n L) (c37 n L) (c45 n L) (c48 n L) (c107 n L)
/-- Value 156 of the body. -/
def c156 (n : BitVec 32) (L : Ld) : FVec Ideal S384x128 .bf16 := k0_pay27 (c13 n L) (c37 n L)
/-- Value 159 of the body. -/
def c159 (n : BitVec 32) (L : Ld) : IVec S256x128 1 := k0_pay28 (c30 n L) (iota .tc S256x128 32 [1] iota_S256x128_d1_w32)
/-- Value 160 of the body. -/
def c160 (n : BitVec 32) (L : Ld) : IVec S256x128 1 := k0_pay29 (c30 n L) (iota .tc S256x128 32 [1] iota_S256x128_d1_w32)
/-- Value 162 of the body. -/
def c162 (n : BitVec 32) (L : Ld) : IVec S256x128 1 := k0_pay30 (c160 n L) 1#1
/-- Value 172 of the body. -/
def c172 (n : BitVec 32) (L : Ld) : FVec Ideal S256x1 .f32 := k0_pay32 (c34 n L) L.s0 L.s2
/-- Value 186 of the body. -/
def c186 (n : BitVec 32) (L : Ld) : FVec Ideal S256x384 .f32 := k0_pay33 (c6 n L) (c37 n L) (c159 n L) (c160 n L) 1#1 L.q10 L.q11
/-- Value 191 of the body. -/
def c191 (n : BitVec 32) (L : Ld) : FVec Ideal S384x128 .bf16 := k0_pay34 (c13 n L) (c37 n L)
/-- Value 192 of the body. -/
def c192 (n : BitVec 32) (L : Ld) : IVec S1x128 1 := k0_pay35 (c37 n L)
/-- Value 197 of the body. -/
def c197 (n : BitVec 32) (L : Ld) : FVec Ideal S256x1 .f32 := k0_pay36 (c34 n L) L.s1 L.s3
/-- Value 201 of the body. -/
def c201 (n : BitVec 32) (L : Ld) : FVec Ideal S256x128 .bf16 := k0_pay37 (c37 n L) L.q10 L.q11
/-- Value 202 of the body. -/
def c202 (n : BitVec 32) (L : Ld) : FVec Ideal S384x128 .bf16 := k0_pay38 (c6 n L)
/-- Value 211 of the body. -/
def c211 (n : BitVec 32) (L : Ld) : FVec Ideal S256x384 .f32 := k0_pay39 (c159 n L) (c162 n L) (c201 n L) (c202 n L) (constant (F := Ideal) S256x384 .f32 0x00000000#32)
/-- Value 216 of the body. -/
def c216 (n : BitVec 32) (L : Ld) : FVec Ideal S384x128 .bf16 := k0_pay40 (c13 n L) (c192 n L)
/-- Value 221 of the body. -/
def c221 (n : BitVec 32) (L : Ld) : FVec Ideal S256x128 .bf16 := k0_pay41 L.q12 L.q13
/-- Value 226 of the body. -/
def c226 (n : BitVec 32) (L : Ld) : FVec Ideal S256x1 .f32 := k0_pay42 (c34 n L) L.s4 L.s6
/-- Value 240 of the body. -/
def c240 (n : BitVec 32) (L : Ld) : FVec Ideal S256x384 .f32 := k0_pay43 (c6 n L) (c37 n L) (c159 n L) (c162 n L) L.q12 L.q13
/-- Value 245 of the body. -/
def c245 (n : BitVec 32) (L : Ld) : FVec Ideal S384x128 .bf16 := k0_pay44 (c13 n L) (c37 n L)
/-- Value 251 of the body. -/
def c251 (n : BitVec 32) (L : Ld) : FVec Ideal S256x1 .f32 := k0_pay46 (c34 n L) L.s5 L.s7
/-- Value 265 of the body. -/
def c265 (n : BitVec 32) (L : Ld) : FVec Ideal S256x384 .f32 := k0_pay47 (c6 n L) (c37 n L) (c159 n L) (c162 n L) (c221 n L) (constantI S1x128 1 1#1)
/-- Value 270 of the body. -/
def c270 (n : BitVec 32) (L : Ld) : FVec Ideal S384x128 .bf16 := k0_pay48 (c13 n L) (c37 n L) (constantI S1x128 1 1#1)
/-- Value 285 of the body. -/
def c285 (n : BitVec 32) (L : Ld) : FVec Ideal S512x1024 .bf16 := k0_pay49 (c41 n L) L.gain
/-- Value 288 of the body. -/
def c288 (n : BitVec 32) (L : Ld) : FVec Ideal S512x512 .f32 := k0_pay50 (c41 n L) L.gain L.wg0
/-- Value 289 of the body. -/
def c289 (n : BitVec 32) (L : Ld) : FVec Ideal S256 .f32 := k0_pay51 (c72 n L)
/-- Value 299 of the body. -/
def c299 (n : BitVec 32) (L : Ld) : FVec Ideal S256x1 .f32 := k0_pay54 (c58 n L) (c72 n L) (c289 n L)
/-- Value 300 of the body. -/
def c300 (n : BitVec 32) (L : Ld) : FVec Ideal S256x384 .bf16 := k0_pay55 (c58 n L) (c72 n L) (c289 n L)
/-- Value 311 of the body. -/
def c311 (n : BitVec 32) (L : Ld) : FVec Ideal S256x1 .f32 := k0_pay58 (c83 n L) (c97 n L)
/-- Value 312 of the body. -/
def c312 (n : BitVec 32) (L : Ld) : FVec Ideal S256x384 .bf16 := k0_pay59 (c83 n L) (c97 n L)
/-- Value 323 of the body. -/
def c323 (n : BitVec 32) (L : Ld) : FVec Ideal S256x1 .f32 := k0_pay62 (c112 n L) (c126 n L)
/-- Value 324 of the body. -/
def c324 (n : BitVec 32) (L : Ld) : FVec Ideal S256x384 .bf16 := k0_pay63 (c112 n L) (c126 n L)
/-- Value 335 of the body. -/
def c335 (n : BitVec 32) (L : Ld) : FVec Ideal S256x1 .f32 := k0_pay66 (c137 n L) (c151 n L)
/-- Value 336 of the body. -/
def c336 (n : BitVec 32) (L : Ld) : FVec Ideal S256x384 .bf16 := k0_pay67 (c137 n L) (c151 n L)
/-- Value 339 of the body. -/
def c339 (n : BitVec 32) (L : Ld) : FVec Ideal S512x512 .f32 := k0_pay68 (c285 n L) L.wg1
/-- Value 350 of the body. -/
def c350 (n : BitVec 32) (L : Ld) : FVec Ideal S256x1 .f32 := k0_pay71 (c172 n L) (c186 n L)
/-- Value 351 of the body. -/
def c351 (n : BitVec 32) (L : Ld) : FVec Ideal S256x384 .bf16 := k0_pay72 (c172 n L) (c186 n L)
/-- Value 362 of the body. -/
def c362 (n : BitVec 32) (L : Ld) : FVec Ideal S256x1 .f32 := k0_pay75 (c197 n L) (c211 n L)
/-- Value 363 of the body. -/
def c363 (n : BitVec 32) (L : Ld) : FVec Ideal S256x384 .bf16 := k0_pay76 (c197 n L) (c211 n L)
/-- Value 374 of the body. -/
def c374 (n : BitVec 32) (L : Ld) : FVec Ideal S256x1 .f32 := k0_pay79 (c226 n L) (c240 n L)
/-- Value 375 of the body. -/
def c375 (n : BitVec 32) (L : Ld) : FVec Ideal S256x384 .bf16 := k0_pay80 (c226 n L) (c240 n L)
/-- Value 386 of the body. -/
def c386 (n : BitVec 32) (L : Ld) : FVec Ideal S256x1 .f32 := k0_pay83 (c251 n L) (c265 n L)
/-- Value 387 of the body. -/
def c387 (n : BitVec 32) (L : Ld) : FVec Ideal S256x384 .bf16 := k0_pay84 (c251 n L) (c265 n L)
/-- Value 390 of the body. -/
def c390 (n : BitVec 32) (L : Ld) : FVec Ideal S256x128 .f32 := k0_pay85 (c77 n L) (c299 n L) (c300 n L)
/-- Value 411 of the body. -/
def c411 (n : BitVec 32) (L : Ld) : FVec Ideal S128x512 .bf16 := k0_pay86 (c102 n L) (c131 n L) (c156 n L) (c311 n L) (c312 n L) (c323 n L) (c324 n L) (c335 n L) (c336 n L) (c390 n L)
/-- Value 414 of the body. -/
def c414 (n : BitVec 32) (L : Ld) : IVec S256x128 1 := k0_pay87 (c30 n L) (iota .tc S256x128 32 [1] iota_S256x128_d1_w32)
/-- Value 417 of the body. -/
def c417 (n : BitVec 32) (L : Ld) : IVec S256x128 1 := k0_pay88 (c30 n L) (iota .tc S256x128 32 [1] iota_S256x128_d1_w32)
/-- Value 422 of the body. -/
def c422 (n : BitVec 32) (L : Ld) : FVec Ideal S256x128 .bf16 := k0_pay89 L.q20 L.q21
/-- Value 427 of the body. -/
def c427 (n : BitVec 32) (L : Ld) : FVec Ideal S256x1 .f32 := k0_pay90 (c34 n L) L.s0 L.s2
/-- Value 433 of the body. -/
def c433 (n : BitVec 32) (L : Ld) : FVec Ideal S256x384 .f32 := k0_pay91 (c6 n L) (c37 n L) L.q20 L.q21
/-- Value 441 of the body. -/
def c441 (n : BitVec 32) (L : Ld) : FVec Ideal S256x384 .f32 := k0_pay92 (c414 n L) (c417 n L) (c433 n L)
/-- Value 446 of the body. -/
def c446 (n : BitVec 32) (L : Ld) : FVec Ideal S384x128 .bf16 := k0_pay93 (c13 n L) (c37 n L)
/-- Value 452 of the body. -/
def c452 (n : BitVec 32) (L : Ld) : FVec Ideal S256x1 .f32 := k0_pay95 (c34 n L) L.s1 L.s3
/-- Value 466 of the body. -/
def c466 (n : BitVec 32) (L : Ld) : FVec Ideal S256x384 .f32 := k0_pay96 (c6 n L) (c37 n L) (c414 n L) (c417 n L) (c422 n L)
/-- Value 471 of the body. -/
def c471 (n : BitVec 32) (L : Ld) : FVec Ideal S384x128 .bf16 := k0_pay97 (c13 n L) (c37 n L)
/-- Value 476 of the body. -/
def c476 (n : BitVec 32) (L : Ld) : FVec Ideal S256x128 .bf16 := k0_pay98 L.q22 L.q23
/-- Value 481 of the body. -/
def c481 (n : BitVec 32) (L : Ld) : FVec Ideal S256x1 .f32 := k0_pay99 (c34 n L) L.s4 L.s6
/-- Value 495 of the body. -/
def c495 (n : BitVec 32) (L : Ld) : FVec Ideal S256x384 .f32 := k0_pay100 (c6 n L) (c37 n L) (c414 n L) (c417 n L) (c476 n L)
/-- Value 500 of the body. -/
def c500 (n : BitVec 32) (L : Ld) : FVec Ideal S384x128 .bf16 := k0_pay101 (c13 n L) (c37 n L)
/-- Value 501 of the body. -/
def c501 (n : BitVec 32) (L : Ld) : IVec S1x128 1 := k0_pay102 (c37 n L)
/-- Value 506 of the body. -/
def c506 (n : BitVec 32) (L : Ld) : FVec Ideal S256x1 .f32 := k0_pay103 (c34 n L) L.s5 L.s7
/-- Value 520 of the body. -/
def c520 (n : BitVec 32) (L : Ld) : FVec Ideal S256x384 .f32 := k0_pay104 (c6 n L) (c37 n L) (c414 n L) (c417 n L) (c476 n L)
/-- Value 521 of the body. -/
def c521 (n : BitVec 32) (L : Ld) : FVec Ideal S384x128 .bf16 := k0_pay105 (c13 n L)
/-- Value 525 of the body. -/
def c525 (n : BitVec 32) (L : Ld) : FVec Ideal S384x128 .bf16 := k0_pay106 (c501 n L) (c521 n L) (Scalar.ofBits (F := Ideal) .bf16 0x0000#16)
/-- Value 532 of the body. -/
def c532 (n : BitVec 32) (L : Ld) : FVec Ideal S512x512 .f32 := k0_pay107 (c288 n L)
/-- Value 535 of the body. -/
def c535 (n : BitVec 32) (L : Ld) : FVec Ideal S512x512 .f32 := k0_pay108 (c285 n L) L.wg2
/-- Value 559 of the body. -/
def c559 (n : BitVec 32) (L : Ld) : FVec Ideal S128x512 .bf16 := k0_pay109 (c191 n L) (c216 n L) (c245 n L) (c270 n L) (c350 n L) (c351 n L) (c362 n L) (c363 n L) (c374 n L) (c375 n L) (c386 n L) (c387 n L)
/-- Value 562 of the body. -/
def c562 (n : BitVec 32) (L : Ld) : IVec S256x128 1 := k0_pay110 (c30 n L) (iota .tc S256x128 32 [1] iota_S256x128_d1_w32)
/-- Value 566 of the body. -/
def c566 (n : BitVec 32) (L : Ld) : IVec S256x128 1 := k0_pay111 n (c30 n L) (iota .tc S256x128 32 [1] iota_S256x128_d1_w32)
/-- Value 576 of the body. -/
def c576 (n : BitVec 32) (L : Ld) : FVec Ideal S256x1 .f32 := k0_pay113 (c34 n L) L.s0 L.s2
/-- Value 590 of the body. -/
def c590 (n : BitVec 32) (L : Ld) : FVec Ideal S256x384 .f32 := k0_pay114 (c6 n L) (c37 n L) (c562 n L) (c566 n L) L.q30 L.q31
/-- Value 595 of the body. -/
def c595 (n : BitVec 32) (L : Ld) : FVec Ideal S384x128 .bf16 := k0_pay115 (c13 n L) (c37 n L)
/-- Value 596 of the body. -/
def c596 (n : BitVec 32) (L : Ld) : IVec S1x128 1 := k0_pay116 (c37 n L)
/-- Value 601 of the body. -/
def c601 (n : BitVec 32) (L : Ld) : FVec Ideal S256x1 .f32 := k0_pay117 (c34 n L) L.s1 L.s3
/-- Value 607 of the body. -/
def c607 (n : BitVec 32) (L : Ld) : FVec Ideal S256x384 .f32 := k0_pay118 (c6 n L) (c37 n L) L.q30 L.q31
/-- Value 608 of the body. -/
def c608 (n : BitVec 32) (L : Ld) : FVec Ideal S256x128 .f32 := k0_pay119 (c6 n L) (c37 n L) L.q30 L.q31
/-- Value 615 of the body. -/
def c615 (n : BitVec 32) (L : Ld) : FVec Ideal S256x384 .f32 := k0_pay120 (c562 n L) (c566 n L) (c607 n L) (c608 n L) (Named.named (F := Ideal) (φ := .f32) κ "mask" 0xF149F2CA#32)
/-- Value 620 of the body. -/
def c620 (n : BitVec 32) (L : Ld) : FVec Ideal S384x128 .bf16 := k0_pay121 (c13 n L) (c596 n L)
/-- Value 625 of the body. -/
def c625 (n : BitVec 32) (L : Ld) : FVec Ideal S256x128 .bf16 := k0_pay122 L.q32 L.q33
/-- Value 630 of the body. -/
def c630 (n : BitVec 32) (L : Ld) : FVec Ideal S256x1 .f32 := k0_pay123 (c34 n L) L.s4 L.s6
/-- Value 644 of the body. -/
def c644 (n : BitVec 32) (L : Ld) : FVec Ideal S256x384 .f32 := k0_pay124 (c6 n L) (c37 n L) (c562 n L) (c566 n L) L.q32 L.q33
/-- Value 649 of the body. -/
def c649 (n : BitVec 32) (L : Ld) : FVec Ideal S384x128 .bf16 := k0_pay125 (c13 n L) (c37 n L)
/-- Value 650 of the body. -/
def c650 (n : BitVec 32) (L : Ld) : IVec S1x128 1 := k0_pay126 (c37 n L)
/-- Value 655 of the body. -/
def c655 (n : BitVec 32) (L : Ld) : FVec Ideal S256x1 .f32 := k0_pay127 (c34 n L) L.s5 L.s7
/-- Value 669 of the body. -/
def c669 (n : BitVec 32) (L : Ld) : FVec Ideal S256x384 .f32 := k0_pay128 (c6 n L) (c562 n L) (c566 n L) (c625 n L) (c650 n L)
/-- Value 674 of the body. -/
def c674 (n : BitVec 32) (L : Ld) : FVec Ideal S384x128 .bf16 := k0_pay129 (c13 n L) (c650 n L)
/-- Value 685 of the body. -/
def c685 (n : BitVec 32) (L : Ld) : FVec Ideal S256x1 .f32 := k0_pay132 (c427 n L) (c441 n L)
/-- Value 686 of the body. -/
def c686 (n : BitVec 32) (L : Ld) : FVec Ideal S256x384 .bf16 := k0_pay133 (c427 n L) (c441 n L)
/-- Value 697 of the body. -/
def c697 (n : BitVec 32) (L : Ld) : FVec Ideal S256x1 .f32 := k0_pay136 (c452 n L) (c466 n L)
/-- Value 698 of the body. -/
def c698 (n : BitVec 32) (L : Ld) : FVec Ideal S256x384 .bf16 := k0_pay137 (c452 n L) (c466 n L)
/-- Value 700 of the body. -/
def c700 (n : BitVec 32) (L : Ld) : FVec Ideal S256x1 .f32 := k0_pay138 (c495 n L)
/-- Value 709 of the body. -/
def c709 (n : BitVec 32) (L : Ld) : FVec Ideal S256x1 .f32 := k0_pay141 (c481 n L) (c495 n L) (c700 n L)
/-- Value 710 of the body. -/
def c710 (n : BitVec 32) (L : Ld) : FVec Ideal S256x384 .bf16 := k0_pay142 (c481 n L) (c495 n L) (c700 n L)
/-- Value 721 of the body. -/
def c721 (n : BitVec 32) (L : Ld) : FVec Ideal S256x1 .f32 := k0_pay145 (c506 n L) (c520 n L)
/-- Value 722 of the body. -/
def c722 (n : BitVec 32) (L : Ld) : FVec Ideal S256x384 .bf16 := k0_pay146 (c506 n L) (c520 n L)
/-- Value 725 of the body. -/
def c725 (n : BitVec 32) (L : Ld) : FVec Ideal S512x512 .f32 := k0_pay147 (c285 n L) L.wg3
/-- Value 732 of the body. -/
def c732 (n : BitVec 32) (L : Ld) : FVec Ideal S512x512 .f32 := k0_pay148 (c339 n L)
/-- Value 743 of the body. -/
def c743 (n : BitVec 32) (L : Ld) : FVec Ideal S256x1 .f32 := k0_pay151 (c576 n L) (c590 n L)
/-- Value 744 of the body. -/
def c744 (n : BitVec 32) (L : Ld) : FVec Ideal S256x384 .bf16 := k0_pay152 (c576 n L) (c590 n L)
/-- Value 747 of the body. -/
def c747 (n : BitVec 32) (L : Ld) : FVec Ideal S256x1 .f32 := k0_pay153 (c601 n L) (c615 n L)
/-- Value 748 of the body. -/
def c748 (n : BitVec 32) (L : Ld) : FVec Ideal S256x384 .f32 := k0_pay154 (c601 n L) (c615 n L)
/-- Value 755 of the body. -/
def c755 (n : BitVec 32) (L : Ld) : FVec Ideal S256x1 .f32 := k0_pay156 (c601 n L) (c615 n L) (c747 n L) (c748 n L)
/-- Value 756 of the body. -/
def c756 (n : BitVec 32) (L : Ld) : FVec Ideal S256x384 .bf16 := k0_pay157 (c615 n L) (c748 n L)
/-- Value 767 of the body. -/
def c767 (n : BitVec 32) (L : Ld) : FVec Ideal S256x1 .f32 := k0_pay160 (c630 n L) (c644 n L)
/-- Value 768 of the body. -/
def c768 (n : BitVec 32) (L : Ld) : FVec Ideal S256x384 .bf16 := k0_pay161 (c630 n L) (c644 n L)
/-- Value 779 of the body. -/
def c779 (n : BitVec 32) (L : Ld) : FVec Ideal S256x1 .f32 := k0_pay164 (c655 n L) (c669 n L)
/-- Value 780 of the body. -/
def c780 (n : BitVec 32) (L : Ld) : FVec Ideal S256x384 .bf16 := k0_pay165 (c655 n L) (c669 n L)
/-- Value 790 of the body. -/
def c790 (n : BitVec 32) (L : Ld) : FVec Ideal S128x128 .f32 := k0_pay167 (c446 n L) (c471 n L) (c685 n L) (c686 n L) (c697 n L) (c698 n L)
/-- Value 791 of the body. -/
def c791 (n : BitVec 32) (L : Ld) : FVec Ideal S128x128 .f32 := k0_pay168 (c446 n L) (c471 n L) (c685 n L) (c686 n L) (c697 n L) (c698 n L)
/-- Value 796 of the body. -/
def c796 (n : BitVec 32) (L : Ld) : FVec Ideal S256x128 .f32 := k0_pay169 (c500 n L) (c709 n L) (c710 n L)
/-- Value 797 of the body. -/
def c797 (n : BitVec 32) (L : Ld) : FVec Ideal S256x128 .f32 := k0_pay170 (c525 n L) (c722 n L)
/-- Value 804 of the body. -/
def c804 (n : BitVec 32) (L : Ld) : FVec Ideal S128x512 .bf16 := k0_pay171 (c721 n L) (c790 n L) (c791 n L) (c796 n L) (c797 n L)
/-- Value 809 of the body. -/
def c809 (n : BitVec 32) (L : Ld) : FVec Ideal S512x512 .f32 := k0_pay172 L.y0 L.y1
/-- Value 842 of the body. -/
def c842 (n : BitVec 32) (L : Ld) : FVec Ideal S512x512 .f32 := k0_pay173 (c39 n L) L.y0 L.y1
/-- Value 845 of the body. -/
def c845 (n : BitVec 32) (L : Ld) : FVec Ideal S512x512 .f32 := k0_pay174 (c809 n L) (c842 n L) (Scalar.ofBits (F := Ideal) .f32 0x3C800000#32)
/-- Value 861 of the body. -/
def c861 (n : BitVec 32) (L : Ld) : FVec Ideal S512x512 .f32 := k0_pay175 (c39 n L) (c809 n L) (c842 n L) (Scalar.ofBits (F := Ideal) .f32 0x3C800000#32)
/-- Value 868 of the body. -/
def c868 (n : BitVec 32) (L : Ld) : FVec Ideal S512x512 .f32 := k0_pay176 (c535 n L)
/-- Value 878 of the body. -/
def c878 (n : BitVec 32) (L : Ld) : FVec Ideal S128x128 .f32 := k0_pay178 (c595 n L) (c620 n L) (c743 n L) (c744 n L) (c755 n L) (c756 n L)
/-- Value 879 of the body. -/
def c879 (n : BitVec 32) (L : Ld) : FVec Ideal S128x128 .f32 := k0_pay179 (c595 n L) (c620 n L) (c743 n L) (c744 n L) (c755 n L) (c756 n L)
/-- Value 888 of the body. -/
def c888 (n : BitVec 32) (L : Ld) : FVec Ideal S256x128 .f32 := k0_pay180 (c649 n L) (c674 n L) (c767 n L) (c768 n L) (c779 n L) (c780 n L)
/-- Value 925 of the body. -/
def c925 (n : BitVec 32) (L : Ld) : FVec Ideal S512x1024 .f32 := k0_pay181 (c845 n L) (c861 n L) L.lnw L.lnb L.bonus L.g L.wur
/-- Value 927 of the body. -/
def c927 (n : BitVec 32) (L : Ld) : FVec Ideal S512x1024 .f32 := k0_pay182 (c411 n L) (c532 n L) (c559 n L) (c732 n L) (c804 n L) (c878 n L) (c879 n L) (c888 n L) L.wua
/-- Value 928 of the body. -/
def c928 (n : BitVec 32) (L : Ld) : FVec Ideal S512x1024 .f32 := k0_pay183 (c725 n L) (c868 n L)
/-- Value 957 of the body. -/
def c957 (n : BitVec 32) (L : Ld) : FVec Ideal S512x1024 .bf16 := k0_pay185 (c41 n L) (c925 n L) (c927 n L) (c928 n L) L.wo0 L.wo1 L.gf
/-- Value 968 of the body. -/
def c968 (n : BitVec 32) (L : Ld) : FVec Ideal S512x1024 .f32 := k0_pay186 (c41 n L) (c925 n L) (c927 n L) (c928 n L) L.wo0 L.wo1 L.gf L.w10 L.w20
/-- Value 1001 of the body. -/
def c1001 (n : BitVec 32) (L : Ld) : FVec Ideal S512x1024 .f32 := k0_pay187 (c957 n L) (c968 n L) L.w11 L.w21 L.w12 L.w22 L.w13 L.w23
/-- Value 1003 of the body. -/
def c1003 (n : BitVec 32) (L : Ld) : FVec Ideal S1x1024 .f32 := k0_pay188 L.gp
/-- Value 1006 of the body. -/
def c1006 (n : BitVec 32) (L : Ld) : FVec Ideal S512x1 .f32 := k0_pay189 (c957 n L) (c968 n L) L.w11 L.w21 L.w12 L.w22 L.w13 L.w23
/-- Value 1022 of the body. -/
def c1022 (n : BitVec 32) (L : Ld) : FVec Ideal S512x1024 .f32 := k0_pay190 L.p L.wple
/-- Value 1030 of the body. -/
def c1030 (n : BitVec 32) (L : Ld) : FVec Ideal S512x1024 .f32 := k0_pay191 (c1001 n L) (c1003 n L) (c1006 n L) L.wpg
/-- Value stored of the body. -/
def cOUT (n : BitVec 32) (L : Ld) : FVec Ideal S1x512x1024 .f32 := k0_pay1 (c1001 n L) (c1022 n L) (c1030 n L)

/-- The blocks out of the windows' contents. -/
def ldOf (x0 : Vec Ideal S8 .f32) (x1 : Vec Ideal S1x512x512 .bf16) (x2 : Vec Ideal S1x128x256 .bf16) (x3 : Vec Ideal S1x512x256 .bf16) (x4 : Vec Ideal S1x128x256 .bf16) (x5 : Vec Ideal S1x128x256 .bf16) (x6 : Vec Ideal S1x512x256 .bf16) (x7 : Vec Ideal S1x128x256 .bf16) (x8 : Vec Ideal S1x512x1024 .f32) (x9 : Vec Ideal S1x1024 .f32) (x10 : Vec Ideal S1024x2048 .bf16) (x11 : Vec Ideal S1x512x512 .f32) (x12 : Vec Ideal S1x512x512 .f32) (x13 : Vec Ideal S1x512x512 .f32) (x14 : Vec Ideal S1x512x512 .f32) (x15 : Vec Ideal S1x512 .f32) (x16 : Vec Ideal S1x512 .f32) (x17 : Vec Ideal S128x128 .bf16) (x18 : Vec Ideal S512x1024 .bf16) (x19 : Vec Ideal S512x1024 .bf16) (x20 : Vec Ideal S1024x1024 .bf16) (x21 : Vec Ideal S1x512x256 .f32) (x22 : Vec Ideal S1x1024 .f32) (x23 : Vec Ideal S1024x4096 .bf16) (x24 : Vec Ideal S4096x1024 .bf16) (x25 : Vec Ideal S1x1024 .f32) (x26 : Vec Ideal S1024x1024 .bf16) (x27 : Vec Ideal S256x1024 .bf16) : Ld :=
  { kp := fun j => x2 ((Rect.unit (s := S1x128x256) ![0, 0, 0] S1x128x256.size inb_S1x128x256_S1x128x256_0_0_0).toLoadRect.idx j),
    kc := fun j => x3 ((Rect.unit (s := S1x512x256) ![0, 0, 0] S1x512x256.size inb_S1x512x256_S1x512x256_0_0_0).toLoadRect.idx j),
    kn := fun j => x4 ((Rect.unit (s := S1x128x256) ![0, 0, 0] S1x128x256.size inb_S1x128x256_S1x128x256_0_0_0).toLoadRect.idx j),
    vp := fun j => x5 ((Rect.unit (s := S1x128x256) ![0, 0, 0] S1x128x256.size inb_S1x128x256_S1x128x256_0_0_0).toLoadRect.idx j),
    vc := fun j => x6 ((Rect.unit (s := S1x512x256) ![0, 0, 0] S1x512x256.size inb_S1x512x256_S1x512x256_0_0_0).toLoadRect.idx j),
    vn := fun j => x7 ((Rect.unit (s := S1x128x256) ![0, 0, 0] S1x128x256.size inb_S1x128x256_S1x128x256_0_0_0).toLoadRect.idx j),
    bd := fun j => x17 ((Rect.unit (s := S128x128) ![0, 0] S128x128.size inb_S128x128_S128x128_0_0).toLoadRect.idx j),
    x := fun j => x8 ((Rect.unit (s := S1x512x1024) ![0, 0, 0] S1x512x1024.size inb_S1x512x1024_S1x512x1024_0_0_0).toLoadRect.idx j),
    q00 := fun j => x1 ((Rect.unit (s := S1x512x512) ![0, 0, 0] S1x128x128.size inb_S1x512x512_S1x128x128_0_0_0).toLoadRect.idx j),
    q01 := fun j => x1 ((Rect.unit (s := S1x512x512) ![0, 0, 128] S1x128x128.size inb_S1x512x512_S1x128x128_0_0_128).toLoadRect.idx j),
    s0 := x0 ((Rect.unit (s := S8) ![0] S1.size inb_S8_S1_0).toLoadRect.idx (Shape.Idx.first (by decide))),
    s2 := x0 ((Rect.unit (s := S8) ![2] S1.size inb_S8_S1_2).toLoadRect.idx (Shape.Idx.first (by decide))),
    s1 := x0 ((Rect.unit (s := S8) ![1] S1.size inb_S8_S1_1).toLoadRect.idx (Shape.Idx.first (by decide))),
    s3 := x0 ((Rect.unit (s := S8) ![3] S1.size inb_S8_S1_3).toLoadRect.idx (Shape.Idx.first (by decide))),
    q02 := fun j => x1 ((Rect.unit (s := S1x512x512) ![0, 0, 256] S1x128x128.size inb_S1x512x512_S1x128x128_0_0_256).toLoadRect.idx j),
    q03 := fun j => x1 ((Rect.unit (s := S1x512x512) ![0, 0, 384] S1x128x128.size inb_S1x512x512_S1x128x128_0_0_384).toLoadRect.idx j),
    s4 := x0 ((Rect.unit (s := S8) ![4] S1.size inb_S8_S1_4).toLoadRect.idx (Shape.Idx.first (by decide))),
    s6 := x0 ((Rect.unit (s := S8) ![6] S1.size inb_S8_S1_6).toLoadRect.idx (Shape.Idx.first (by decide))),
    s5 := x0 ((Rect.unit (s := S8) ![5] S1.size inb_S8_S1_5).toLoadRect.idx (Shape.Idx.first (by decide))),
    s7 := x0 ((Rect.unit (s := S8) ![7] S1.size inb_S8_S1_7).toLoadRect.idx (Shape.Idx.first (by decide))),
    q10 := fun j => x1 ((Rect.unit (s := S1x512x512) ![0, 128, 0] S1x128x128.size inb_S1x512x512_S1x128x128_0_128_0).toLoadRect.idx j),
    q11 := fun j => x1 ((Rect.unit (s := S1x512x512) ![0, 128, 128] S1x128x128.size inb_S1x512x512_S1x128x128_0_128_128).toLoadRect.idx j),
    q12 := fun j => x1 ((Rect.unit (s := S1x512x512) ![0, 128, 256] S1x128x128.size inb_S1x512x512_S1x128x128_0_128_256).toLoadRect.idx j),
    q13 := fun j => x1 ((Rect.unit (s := S1x512x512) ![0, 128, 384] S1x128x128.size inb_S1x512x512_S1x128x128_0_128_384).toLoadRect.idx j),
    gain := fun j => x9 ((Rect.unit (s := S1x1024) ![0, 0] S1x1024.size inb_S1x1024_S1x1024_0_0).toLoadRect.idx j),
    wg0 := fun j => x10 ((Rect.unit (s := S1024x2048) ![0, 0] S1024x512.size inb_S1024x2048_S1024x512_0_0).toLoadRect.idx j),
    wg1 := fun j => x10 ((Rect.unit (s := S1024x2048) ![0, 512] S1024x512.size inb_S1024x2048_S1024x512_0_512).toLoadRect.idx j),
    q20 := fun j => x1 ((Rect.unit (s := S1x512x512) ![0, 256, 0] S1x128x128.size inb_S1x512x512_S1x128x128_0_256_0).toLoadRect.idx j),
    q21 := fun j => x1 ((Rect.unit (s := S1x512x512) ![0, 256, 128] S1x128x128.size inb_S1x512x512_S1x128x128_0_256_128).toLoadRect.idx j),
    q22 := fun j => x1 ((Rect.unit (s := S1x512x512) ![0, 256, 256] S1x128x128.size inb_S1x512x512_S1x128x128_0_256_256).toLoadRect.idx j),
    q23 := fun j => x1 ((Rect.unit (s := S1x512x512) ![0, 256, 384] S1x128x128.size inb_S1x512x512_S1x128x128_0_256_384).toLoadRect.idx j),
    wg2 := fun j => x10 ((Rect.unit (s := S1024x2048) ![0, 1024] S1024x512.size inb_S1024x2048_S1024x512_0_1024).toLoadRect.idx j),
    q30 := fun j => x1 ((Rect.unit (s := S1x512x512) ![0, 384, 0] S1x128x128.size inb_S1x512x512_S1x128x128_0_384_0).toLoadRect.idx j),
    q31 := fun j => x1 ((Rect.unit (s := S1x512x512) ![0, 384, 128] S1x128x128.size inb_S1x512x512_S1x128x128_0_384_128).toLoadRect.idx j),
    q32 := fun j => x1 ((Rect.unit (s := S1x512x512) ![0, 384, 256] S1x128x128.size inb_S1x512x512_S1x128x128_0_384_256).toLoadRect.idx j),
    q33 := fun j => x1 ((Rect.unit (s := S1x512x512) ![0, 384, 384] S1x128x128.size inb_S1x512x512_S1x128x128_0_384_384).toLoadRect.idx j),
    wg3 := fun j => x10 ((Rect.unit (s := S1024x2048) ![0, 1536] S1024x512.size inb_S1024x2048_S1024x512_0_1536).toLoadRect.idx j),
    y0 := fun j => x11 ((Rect.unit (s := S1x512x512) ![0, 0, 0] S1x512x512.size inb_S1x512x512_S1x512x512_0_0_0).toLoadRect.idx j),
    y1 := fun j => x12 ((Rect.unit (s := S1x512x512) ![0, 0, 0] S1x512x512.size inb_S1x512x512_S1x512x512_0_0_0).toLoadRect.idx j),
    lnw := fun j => x15 ((Rect.unit (s := S1x512) ![0, 0] S1x512.size inb_S1x512_S1x512_0_0).toLoadRect.idx j),
    lnb := fun j => x16 ((Rect.unit (s := S1x512) ![0, 0] S1x512.size inb_S1x512_S1x512_0_0).toLoadRect.idx j),
    bonus := fun j => x13 ((Rect.unit (s := S1x512x512) ![0, 0, 0] S1x512x512.size inb_S1x512x512_S1x512x512_0_0_0).toLoadRect.idx j),
    g := fun j => x14 ((Rect.unit (s := S1x512x512) ![0, 0, 0] S1x512x512.size inb_S1x512x512_S1x512x512_0_0_0).toLoadRect.idx j),
    wua := fun j => x18 ((Rect.unit (s := S512x1024) ![0, 0] S512x1024.size inb_S512x1024_S512x1024_0_0).toLoadRect.idx j),
    wur := fun j => x19 ((Rect.unit (s := S512x1024) ![0, 0] S512x1024.size inb_S512x1024_S512x1024_0_0).toLoadRect.idx j),
    wo0 := fun j => x20 ((Rect.unit (s := S1024x1024) ![0, 0] S1024x512.size inb_S1024x1024_S1024x512_0_0).toLoadRect.idx j),
    wo1 := fun j => x20 ((Rect.unit (s := S1024x1024) ![0, 512] S1024x512.size inb_S1024x1024_S1024x512_0_512).toLoadRect.idx j),
    gf := fun j => x22 ((Rect.unit (s := S1x1024) ![0, 0] S1x1024.size inb_S1x1024_S1x1024_0_0).toLoadRect.idx j),
    w10 := fun j => x23 ((Rect.unit (s := S1024x4096) ![0, 0] S1024x1024.size inb_S1024x4096_S1024x1024_0_0).toLoadRect.idx j),
    w20 := fun j => x24 ((Rect.unit (s := S4096x1024) ![0, 0] S1024x1024.size inb_S4096x1024_S1024x1024_0_0).toLoadRect.idx j),
    w11 := fun j => x23 ((Rect.unit (s := S1024x4096) ![0, 1024] S1024x1024.size inb_S1024x4096_S1024x1024_0_1024).toLoadRect.idx j),
    w21 := fun j => x24 ((Rect.unit (s := S4096x1024) ![1024, 0] S1024x1024.size inb_S4096x1024_S1024x1024_1024_0).toLoadRect.idx j),
    w12 := fun j => x23 ((Rect.unit (s := S1024x4096) ![0, 2048] S1024x1024.size inb_S1024x4096_S1024x1024_0_2048).toLoadRect.idx j),
    w22 := fun j => x24 ((Rect.unit (s := S4096x1024) ![2048, 0] S1024x1024.size inb_S4096x1024_S1024x1024_2048_0).toLoadRect.idx j),
    w13 := fun j => x23 ((Rect.unit (s := S1024x4096) ![0, 3072] S1024x1024.size inb_S1024x4096_S1024x1024_0_3072).toLoadRect.idx j),
    w23 := fun j => x24 ((Rect.unit (s := S4096x1024) ![3072, 0] S1024x1024.size inb_S4096x1024_S1024x1024_3072_0).toLoadRect.idx j),
    gp := fun j => x25 ((Rect.unit (s := S1x1024) ![0, 0] S1x1024.size inb_S1x1024_S1x1024_0_0).toLoadRect.idx j),
    p := fun j => x21 ((Rect.unit (s := S1x512x256) ![0, 0, 0] S1x512x256.size inb_S1x512x256_S1x512x256_0_0_0).toLoadRect.idx j),
    wple := fun j => x27 ((Rect.unit (s := S256x1024) ![0, 0] S256x1024.size inb_S256x1024_S256x1024_0_0).toLoadRect.idx j),
    wpg := fun j => x26 ((Rect.unit (s := S1024x1024) ![0, 0] S1024x1024.size inb_S1024x1024_S1024x1024_0_0).toLoadRect.idx j) }

/-- The blocks the run loads. -/
def ldRun (arg2 : Memref sig .tc .smem S8 .f32) (harg2 : arg2.IsWhole) (arg3 : Memref sig .tc .vmem S1x512x512 .bf16) (harg3 : arg3.IsWhole) (arg4 : Memref sig .tc .vmem S1x128x256 .bf16) (harg4 : arg4.IsWhole) (arg5 : Memref sig .tc .vmem S1x512x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x512x256 .bf16) (harg8 : arg8.IsWhole) (arg9 : Memref sig .tc .vmem S1x128x256 .bf16) (harg9 : arg9.IsWhole) (arg10 : Memref sig .tc .vmem S1x512x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x128 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x512x256 .f32) (harg23 : arg23.IsWhole) (arg24 : Memref sig .tc .vmem S1x1024 .f32) (harg24 : arg24.IsWhole) (arg25 : Memref sig .tc .vmem S1024x4096 .bf16) (harg25 : arg25.IsWhole) (arg26 : Memref sig .tc .vmem S4096x1024 .bf16) (harg26 : arg26.IsWhole) (arg27 : Memref sig .tc .vmem S1x1024 .f32) (harg27 : arg27.IsWhole) (arg28 : Memref sig .tc .vmem S1024x1024 .bf16) (harg28 : arg28.IsWhole) (arg29 : Memref sig .tc .vmem S256x1024 .bf16) (harg29 : arg29.IsWhole) (arg30 : Memref sig .tc .vmem S1x512x1024 .f32) (harg30 : arg30.IsWhole) (x0 : Vec Ideal S8 .f32) (x1 : Vec Ideal S1x512x512 .bf16) (x2 : Vec Ideal S1x128x256 .bf16) (x3 : Vec Ideal S1x512x256 .bf16) (x4 : Vec Ideal S1x128x256 .bf16) (x5 : Vec Ideal S1x128x256 .bf16) (x6 : Vec Ideal S1x512x256 .bf16) (x7 : Vec Ideal S1x128x256 .bf16) (x8 : Vec Ideal S1x512x1024 .f32) (x9 : Vec Ideal S1x1024 .f32) (x10 : Vec Ideal S1024x2048 .bf16) (x11 : Vec Ideal S1x512x512 .f32) (x12 : Vec Ideal S1x512x512 .f32) (x13 : Vec Ideal S1x512x512 .f32) (x14 : Vec Ideal S1x512x512 .f32) (x15 : Vec Ideal S1x512 .f32) (x16 : Vec Ideal S1x512 .f32) (x17 : Vec Ideal S128x128 .bf16) (x18 : Vec Ideal S512x1024 .bf16) (x19 : Vec Ideal S512x1024 .bf16) (x20 : Vec Ideal S1024x1024 .bf16) (x21 : Vec Ideal S1x512x256 .f32) (x22 : Vec Ideal S1x1024 .f32) (x23 : Vec Ideal S1024x4096 .bf16) (x24 : Vec Ideal S4096x1024 .bf16) (x25 : Vec Ideal S1x1024 .f32) (x26 : Vec Ideal S1024x1024 .bf16) (x27 : Vec Ideal S256x1024 .bf16) : Ld :=
  { kp := View.readAt (Elt Ideal) arg4.view (Rect.unit (s := S1x128x256) ![0, 0, 0] S1x128x256.size inb_S1x128x256_S1x128x256_0_0_0).toLoadRect (harg4.unread x2),
    kc := View.readAt (Elt Ideal) arg5.view (Rect.unit (s := S1x512x256) ![0, 0, 0] S1x512x256.size inb_S1x512x256_S1x512x256_0_0_0).toLoadRect (harg5.unread x3),
    kn := View.readAt (Elt Ideal) arg6.view (Rect.unit (s := S1x128x256) ![0, 0, 0] S1x128x256.size inb_S1x128x256_S1x128x256_0_0_0).toLoadRect (harg6.unread x4),
    vp := View.readAt (Elt Ideal) arg7.view (Rect.unit (s := S1x128x256) ![0, 0, 0] S1x128x256.size inb_S1x128x256_S1x128x256_0_0_0).toLoadRect (harg7.unread x5),
    vc := View.readAt (Elt Ideal) arg8.view (Rect.unit (s := S1x512x256) ![0, 0, 0] S1x512x256.size inb_S1x512x256_S1x512x256_0_0_0).toLoadRect (harg8.unread x6),
    vn := View.readAt (Elt Ideal) arg9.view (Rect.unit (s := S1x128x256) ![0, 0, 0] S1x128x256.size inb_S1x128x256_S1x128x256_0_0_0).toLoadRect (harg9.unread x7),
    bd := View.readAt (Elt Ideal) arg19.view (Rect.unit (s := S128x128) ![0, 0] S128x128.size inb_S128x128_S128x128_0_0).toLoadRect (harg19.unread x17),
    x := View.readAt (Elt Ideal) arg10.view (Rect.unit (s := S1x512x1024) ![0, 0, 0] S1x512x1024.size inb_S1x512x1024_S1x512x1024_0_0_0).toLoadRect (harg10.unread x8),
    q00 := View.readAt (Elt Ideal) arg3.view (Rect.unit (s := S1x512x512) ![0, 0, 0] S1x128x128.size inb_S1x512x512_S1x128x128_0_0_0).toLoadRect (harg3.unread x1),
    q01 := View.readAt (Elt Ideal) arg3.view (Rect.unit (s := S1x512x512) ![0, 0, 128] S1x128x128.size inb_S1x512x512_S1x128x128_0_0_128).toLoadRect (harg3.unread x1),
    s0 := View.readAt (Elt Ideal) arg2.view (Rect.unit (s := S8) ![0] S1.size inb_S8_S1_0).toLoadRect (harg2.unread x0) (Shape.Idx.first (by decide)),
    s2 := View.readAt (Elt Ideal) arg2.view (Rect.unit (s := S8) ![2] S1.size inb_S8_S1_2).toLoadRect (harg2.unread x0) (Shape.Idx.first (by decide)),
    s1 := View.readAt (Elt Ideal) arg2.view (Rect.unit (s := S8) ![1] S1.size inb_S8_S1_1).toLoadRect (harg2.unread x0) (Shape.Idx.first (by decide)),
    s3 := View.readAt (Elt Ideal) arg2.view (Rect.unit (s := S8) ![3] S1.size inb_S8_S1_3).toLoadRect (harg2.unread x0) (Shape.Idx.first (by decide)),
    q02 := View.readAt (Elt Ideal) arg3.view (Rect.unit (s := S1x512x512) ![0, 0, 256] S1x128x128.size inb_S1x512x512_S1x128x128_0_0_256).toLoadRect (harg3.unread x1),
    q03 := View.readAt (Elt Ideal) arg3.view (Rect.unit (s := S1x512x512) ![0, 0, 384] S1x128x128.size inb_S1x512x512_S1x128x128_0_0_384).toLoadRect (harg3.unread x1),
    s4 := View.readAt (Elt Ideal) arg2.view (Rect.unit (s := S8) ![4] S1.size inb_S8_S1_4).toLoadRect (harg2.unread x0) (Shape.Idx.first (by decide)),
    s6 := View.readAt (Elt Ideal) arg2.view (Rect.unit (s := S8) ![6] S1.size inb_S8_S1_6).toLoadRect (harg2.unread x0) (Shape.Idx.first (by decide)),
    s5 := View.readAt (Elt Ideal) arg2.view (Rect.unit (s := S8) ![5] S1.size inb_S8_S1_5).toLoadRect (harg2.unread x0) (Shape.Idx.first (by decide)),
    s7 := View.readAt (Elt Ideal) arg2.view (Rect.unit (s := S8) ![7] S1.size inb_S8_S1_7).toLoadRect (harg2.unread x0) (Shape.Idx.first (by decide)),
    q10 := View.readAt (Elt Ideal) arg3.view (Rect.unit (s := S1x512x512) ![0, 128, 0] S1x128x128.size inb_S1x512x512_S1x128x128_0_128_0).toLoadRect (harg3.unread x1),
    q11 := View.readAt (Elt Ideal) arg3.view (Rect.unit (s := S1x512x512) ![0, 128, 128] S1x128x128.size inb_S1x512x512_S1x128x128_0_128_128).toLoadRect (harg3.unread x1),
    q12 := View.readAt (Elt Ideal) arg3.view (Rect.unit (s := S1x512x512) ![0, 128, 256] S1x128x128.size inb_S1x512x512_S1x128x128_0_128_256).toLoadRect (harg3.unread x1),
    q13 := View.readAt (Elt Ideal) arg3.view (Rect.unit (s := S1x512x512) ![0, 128, 384] S1x128x128.size inb_S1x512x512_S1x128x128_0_128_384).toLoadRect (harg3.unread x1),
    gain := View.readAt (Elt Ideal) arg11.view (Rect.unit (s := S1x1024) ![0, 0] S1x1024.size inb_S1x1024_S1x1024_0_0).toLoadRect (harg11.unread x9),
    wg0 := View.readAt (Elt Ideal) arg12.view (Rect.unit (s := S1024x2048) ![0, 0] S1024x512.size inb_S1024x2048_S1024x512_0_0).toLoadRect (harg12.unread x10),
    wg1 := View.readAt (Elt Ideal) arg12.view (Rect.unit (s := S1024x2048) ![0, 512] S1024x512.size inb_S1024x2048_S1024x512_0_512).toLoadRect (harg12.unread x10),
    q20 := View.readAt (Elt Ideal) arg3.view (Rect.unit (s := S1x512x512) ![0, 256, 0] S1x128x128.size inb_S1x512x512_S1x128x128_0_256_0).toLoadRect (harg3.unread x1),
    q21 := View.readAt (Elt Ideal) arg3.view (Rect.unit (s := S1x512x512) ![0, 256, 128] S1x128x128.size inb_S1x512x512_S1x128x128_0_256_128).toLoadRect (harg3.unread x1),
    q22 := View.readAt (Elt Ideal) arg3.view (Rect.unit (s := S1x512x512) ![0, 256, 256] S1x128x128.size inb_S1x512x512_S1x128x128_0_256_256).toLoadRect (harg3.unread x1),
    q23 := View.readAt (Elt Ideal) arg3.view (Rect.unit (s := S1x512x512) ![0, 256, 384] S1x128x128.size inb_S1x512x512_S1x128x128_0_256_384).toLoadRect (harg3.unread x1),
    wg2 := View.readAt (Elt Ideal) arg12.view (Rect.unit (s := S1024x2048) ![0, 1024] S1024x512.size inb_S1024x2048_S1024x512_0_1024).toLoadRect (harg12.unread x10),
    q30 := View.readAt (Elt Ideal) arg3.view (Rect.unit (s := S1x512x512) ![0, 384, 0] S1x128x128.size inb_S1x512x512_S1x128x128_0_384_0).toLoadRect (harg3.unread x1),
    q31 := View.readAt (Elt Ideal) arg3.view (Rect.unit (s := S1x512x512) ![0, 384, 128] S1x128x128.size inb_S1x512x512_S1x128x128_0_384_128).toLoadRect (harg3.unread x1),
    q32 := View.readAt (Elt Ideal) arg3.view (Rect.unit (s := S1x512x512) ![0, 384, 256] S1x128x128.size inb_S1x512x512_S1x128x128_0_384_256).toLoadRect (harg3.unread x1),
    q33 := View.readAt (Elt Ideal) arg3.view (Rect.unit (s := S1x512x512) ![0, 384, 384] S1x128x128.size inb_S1x512x512_S1x128x128_0_384_384).toLoadRect (harg3.unread x1),
    wg3 := View.readAt (Elt Ideal) arg12.view (Rect.unit (s := S1024x2048) ![0, 1536] S1024x512.size inb_S1024x2048_S1024x512_0_1536).toLoadRect (harg12.unread x10),
    y0 := View.readAt (Elt Ideal) arg13.view (Rect.unit (s := S1x512x512) ![0, 0, 0] S1x512x512.size inb_S1x512x512_S1x512x512_0_0_0).toLoadRect (harg13.unread x11),
    y1 := View.readAt (Elt Ideal) arg14.view (Rect.unit (s := S1x512x512) ![0, 0, 0] S1x512x512.size inb_S1x512x512_S1x512x512_0_0_0).toLoadRect (harg14.unread x12),
    lnw := View.readAt (Elt Ideal) arg17.view (Rect.unit (s := S1x512) ![0, 0] S1x512.size inb_S1x512_S1x512_0_0).toLoadRect (harg17.unread x15),
    lnb := View.readAt (Elt Ideal) arg18.view (Rect.unit (s := S1x512) ![0, 0] S1x512.size inb_S1x512_S1x512_0_0).toLoadRect (harg18.unread x16),
    bonus := View.readAt (Elt Ideal) arg15.view (Rect.unit (s := S1x512x512) ![0, 0, 0] S1x512x512.size inb_S1x512x512_S1x512x512_0_0_0).toLoadRect (harg15.unread x13),
    g := View.readAt (Elt Ideal) arg16.view (Rect.unit (s := S1x512x512) ![0, 0, 0] S1x512x512.size inb_S1x512x512_S1x512x512_0_0_0).toLoadRect (harg16.unread x14),
    wua := View.readAt (Elt Ideal) arg20.view (Rect.unit (s := S512x1024) ![0, 0] S512x1024.size inb_S512x1024_S512x1024_0_0).toLoadRect (harg20.unread x18),
    wur := View.readAt (Elt Ideal) arg21.view (Rect.unit (s := S512x1024) ![0, 0] S512x1024.size inb_S512x1024_S512x1024_0_0).toLoadRect (harg21.unread x19),
    wo0 := View.readAt (Elt Ideal) arg22.view (Rect.unit (s := S1024x1024) ![0, 0] S1024x512.size inb_S1024x1024_S1024x512_0_0).toLoadRect (harg22.unread x20),
    wo1 := View.readAt (Elt Ideal) arg22.view (Rect.unit (s := S1024x1024) ![0, 512] S1024x512.size inb_S1024x1024_S1024x512_0_512).toLoadRect (harg22.unread x20),
    gf := View.readAt (Elt Ideal) arg24.view (Rect.unit (s := S1x1024) ![0, 0] S1x1024.size inb_S1x1024_S1x1024_0_0).toLoadRect (harg24.unread x22),
    w10 := View.readAt (Elt Ideal) arg25.view (Rect.unit (s := S1024x4096) ![0, 0] S1024x1024.size inb_S1024x4096_S1024x1024_0_0).toLoadRect (harg25.unread x23),
    w20 := View.readAt (Elt Ideal) arg26.view (Rect.unit (s := S4096x1024) ![0, 0] S1024x1024.size inb_S4096x1024_S1024x1024_0_0).toLoadRect (harg26.unread x24),
    w11 := View.readAt (Elt Ideal) arg25.view (Rect.unit (s := S1024x4096) ![0, 1024] S1024x1024.size inb_S1024x4096_S1024x1024_0_1024).toLoadRect (harg25.unread x23),
    w21 := View.readAt (Elt Ideal) arg26.view (Rect.unit (s := S4096x1024) ![1024, 0] S1024x1024.size inb_S4096x1024_S1024x1024_1024_0).toLoadRect (harg26.unread x24),
    w12 := View.readAt (Elt Ideal) arg25.view (Rect.unit (s := S1024x4096) ![0, 2048] S1024x1024.size inb_S1024x4096_S1024x1024_0_2048).toLoadRect (harg25.unread x23),
    w22 := View.readAt (Elt Ideal) arg26.view (Rect.unit (s := S4096x1024) ![2048, 0] S1024x1024.size inb_S4096x1024_S1024x1024_2048_0).toLoadRect (harg26.unread x24),
    w13 := View.readAt (Elt Ideal) arg25.view (Rect.unit (s := S1024x4096) ![0, 3072] S1024x1024.size inb_S1024x4096_S1024x1024_0_3072).toLoadRect (harg25.unread x23),
    w23 := View.readAt (Elt Ideal) arg26.view (Rect.unit (s := S4096x1024) ![3072, 0] S1024x1024.size inb_S4096x1024_S1024x1024_3072_0).toLoadRect (harg26.unread x24),
    gp := View.readAt (Elt Ideal) arg27.view (Rect.unit (s := S1x1024) ![0, 0] S1x1024.size inb_S1x1024_S1x1024_0_0).toLoadRect (harg27.unread x25),
    p := View.readAt (Elt Ideal) arg23.view (Rect.unit (s := S1x512x256) ![0, 0, 0] S1x512x256.size inb_S1x512x256_S1x512x256_0_0_0).toLoadRect (harg23.unread x21),
    wple := View.readAt (Elt Ideal) arg29.view (Rect.unit (s := S256x1024) ![0, 0] S256x1024.size inb_S256x1024_S256x1024_0_0).toLoadRect (harg29.unread x27),
    wpg := View.readAt (Elt Ideal) arg28.view (Rect.unit (s := S1024x1024) ![0, 0] S1024x1024.size inb_S1024x1024_S1024x1024_0_0).toLoadRect (harg28.unread x26) }

end Cert.Mid

end
-- ==== Proof.BodyUnits.lean ====
/-
  The body's named values in the pieces of the attention, the normalisations, the gates and the products.
-/
module

public import proofs.«01_k».proof.Proof.Body

@[expose] public section

set_option maxRecDepth 16384
set_option maxHeartbeats 2000000

noncomputable section

namespace Cert.Mid

open Idealize.ShloMosaic Cert.KernelIdeal Cert.KernelIdeal.Gen

variable (n : BitVec 32) (L : Ld)

/-- The first and the second half of a register's lanes. -/
def keepL : IVec S1x128 1 := k0_pay6
def keepR : IVec S1x128 1 := xori k0_pay6 (constantI S1x128 1 1#1)

/-- A block of queries without its leading axis. -/
def sq (q : FVec Ideal S1x128x128 .bf16) : FVec Ideal S128x128 .bf16 := shapeCast S128x128 q shapeCasts_S1x128x128_S128x128

/-- The sinks of the two heads of a side. -/
def sinkU (first : IVec S256x1 1) (a b : EReal) : FVec Ideal S256x1 .f32 :=
  select first (broadcast S256x1 a) (broadcast S256x1 b)

/-- The three blocks of keys or values around a block of rows. -/
def kvU (p : FVec Ideal S1x128x256 .bf16) (c : FVec Ideal S1x512x256 .bf16) (x : FVec Ideal S1x128x256 .bf16) : FVec Ideal S768x256 .bf16 :=
  concatenate S768x256 0 [⟨S128x256, shapeCast S128x256 p shapeCasts_S1x128x256_S128x256⟩, ⟨S512x256, shapeCast S512x256 c shapeCasts_S1x512x256_S512x256⟩,
    ⟨S128x256, shapeCast S128x256 x shapeCasts_S1x128x256_S128x256⟩] concatenates_S128x256_S512x256_S128x256_S768x256_d0

theorem c6_eq : c6 n L = kvU L.kp L.kc L.kn := rfl
theorem c13_eq : c13 n L = kvU L.vp L.vc L.vn := rfl

/-- The rows of a window and a register of its lanes. -/
def win00 (v : FVec Ideal S768x256 .bf16) : FVec Ideal S384x128 .bf16 := extractStridedSlice S384x128 ![0, 0] v slices_S768x256_o0_0_S384x128
def win01 (v : FVec Ideal S768x256 .bf16) : FVec Ideal S384x128 .bf16 := extractStridedSlice S384x128 ![0, 128] v slices_S768x256_o0_128_S384x128
def win10 (v : FVec Ideal S768x256 .bf16) : FVec Ideal S384x128 .bf16 := extractStridedSlice S384x128 ![128, 0] v slices_S768x256_o128_0_S384x128
def win11 (v : FVec Ideal S768x256 .bf16) : FVec Ideal S384x128 .bf16 := extractStridedSlice S384x128 ![128, 128] v slices_S768x256_o128_128_S384x128
def win20 (v : FVec Ideal S768x256 .bf16) : FVec Ideal S384x128 .bf16 := extractStridedSlice S384x128 ![256, 0] v slices_S768x256_o256_0_S384x128
def win21 (v : FVec Ideal S768x256 .bf16) : FVec Ideal S384x128 .bf16 := extractStridedSlice S384x128 ![256, 128] v slices_S768x256_o256_128_S384x128
def win30 (v : FVec Ideal S768x256 .bf16) : FVec Ideal S384x128 .bf16 := extractStridedSlice S384x128 ![384, 0] v slices_S768x256_o384_0_S384x128
def win31 (v : FVec Ideal S768x256 .bf16) : FVec Ideal S384x128 .bf16 := extractStridedSlice S384x128 ![384, 128] v slices_S768x256_o384_128_S384x128

theorem score000 : c72 n L = scoreU (keepQ keepL) (pairU (sq L.q00) (sq L.q01)) (win00 (c6 n L)) (c45 n L) (c48 n L) := rfl
theorem val000 : c77 n L = valU keepL (win00 (c13 n L)) := rfl
theorem sink000 : c58 n L = sinkU (c34 n L) L.s0 L.s2 := rfl
theorem score001 : c97 n L = scoreU (keepQ keepR) (pairU (sq L.q00) (sq L.q01)) (win01 (c6 n L)) (c45 n L) (c48 n L) := rfl
theorem val001 : c102 n L = valU keepR (win01 (c13 n L)) := rfl
theorem sink001 : c83 n L = sinkU (c34 n L) L.s1 L.s3 := rfl
theorem score010 : c126 n L = scoreU (keepQ keepL) (pairU (sq L.q02) (sq L.q03)) (win01 (c6 n L)) (c45 n L) (c48 n L) := rfl
theorem val010 : c131 n L = valU keepL (win01 (c13 n L)) := rfl
theorem sink010 : c112 n L = sinkU (c34 n L) L.s4 L.s6 := rfl
theorem score011 : c151 n L = scoreU (keepQ keepR) (pairU (sq L.q02) (sq L.q03)) (win00 (c6 n L)) (c45 n L) (c48 n L) := rfl
theorem val011 : c156 n L = valU keepR (win00 (c13 n L)) := rfl
theorem sink011 : c137 n L = sinkU (c34 n L) L.s5 L.s7 := rfl

/-- The attention of block 0 of the point's rows. -/
def attn0 : FVec Ideal S128x512 .f32 :=
  outU (bothU
    (recU (scoreU (keepQ keepL) (pairU (sq L.q00) (sq L.q01)) (win00 (c6 n L)) (c45 n L) (c48 n L)) (sinkU (c34 n L) L.s0 L.s2) (valU keepL (win00 (c13 n L))))
    (recU (scoreU (keepQ keepR) (pairU (sq L.q00) (sq L.q01)) (win01 (c6 n L)) (c45 n L) (c48 n L)) (sinkU (c34 n L) L.s1 L.s3) (valU keepR (win01 (c13 n L)))))
    (bothU
    (recU (scoreU (keepQ keepL) (pairU (sq L.q02) (sq L.q03)) (win01 (c6 n L)) (c45 n L) (c48 n L)) (sinkU (c34 n L) L.s4 L.s6) (valU keepL (win01 (c13 n L))))
    (recU (scoreU (keepQ keepR) (pairU (sq L.q02) (sq L.q03)) (win00 (c6 n L)) (c45 n L) (c48 n L)) (sinkU (c34 n L) L.s5 L.s7) (valU keepR (win00 (c13 n L)))))

theorem score100 : c186 n L = scoreU (keepQ keepL) (pairU (sq L.q10) (sq L.q11)) (win10 (c6 n L)) (c159 n L) (c162 n L) := rfl
theorem val100 : c191 n L = valU keepL (win10 (c13 n L)) := rfl
theorem sink100 : c172 n L = sinkU (c34 n L) L.s0 L.s2 := rfl
theorem score101 : c211 n L = scoreU (keepQ keepR) (pairU (sq L.q10) (sq L.q11)) (win11 (c6 n L)) (c159 n L) (c162 n L) := rfl
theorem val101 : c216 n L = valU keepR (win11 (c13 n L)) := rfl
theorem sink101 : c197 n L = sinkU (c34 n L) L.s1 L.s3 := rfl
theorem score110 : c240 n L = scoreU (keepQ keepL) (pairU (sq L.q12) (sq L.q13)) (win11 (c6 n L)) (c159 n L) (c162 n L) := rfl
theorem val110 : c245 n L = valU keepL (win11 (c13 n L)) := rfl
theorem sink110 : c226 n L = sinkU (c34 n L) L.s4 L.s6 := rfl
theorem score111 : c265 n L = scoreU (keepQ keepR) (pairU (sq L.q12) (sq L.q13)) (win10 (c6 n L)) (c159 n L) (c162 n L) := rfl
theorem val111 : c270 n L = valU keepR (win10 (c13 n L)) := rfl
theorem sink111 : c251 n L = sinkU (c34 n L) L.s5 L.s7 := rfl

/-- The attention of block 1 of the point's rows. -/
def attn1 : FVec Ideal S128x512 .f32 :=
  outU (bothU
    (recU (scoreU (keepQ keepL) (pairU (sq L.q10) (sq L.q11)) (win10 (c6 n L)) (c159 n L) (c162 n L)) (sinkU (c34 n L) L.s0 L.s2) (valU keepL (win10 (c13 n L))))
    (recU (scoreU (keepQ keepR) (pairU (sq L.q10) (sq L.q11)) (win11 (c6 n L)) (c159 n L) (c162 n L)) (sinkU (c34 n L) L.s1 L.s3) (valU keepR (win11 (c13 n L)))))
    (bothU
    (recU (scoreU (keepQ keepL) (pairU (sq L.q12) (sq L.q13)) (win11 (c6 n L)) (c159 n L) (c162 n L)) (sinkU (c34 n L) L.s4 L.s6) (valU keepL (win11 (c13 n L))))
    (recU (scoreU (keepQ keepR) (pairU (sq L.q12) (sq L.q13)) (win10 (c6 n L)) (c159 n L) (c162 n L)) (sinkU (c34 n L) L.s5 L.s7) (valU keepR (win10 (c13 n L)))))

theorem score200 : c441 n L = scoreU (keepQ keepL) (pairU (sq L.q20) (sq L.q21)) (win20 (c6 n L)) (c414 n L) (c417 n L) := rfl
theorem val200 : c446 n L = valU keepL (win20 (c13 n L)) := rfl
theorem sink200 : c427 n L = sinkU (c34 n L) L.s0 L.s2 := rfl
theorem score201 : c466 n L = scoreU (keepQ keepR) (pairU (sq L.q20) (sq L.q21)) (win21 (c6 n L)) (c414 n L) (c417 n L) := rfl
theorem val201 : c471 n L = valU keepR (win21 (c13 n L)) := rfl
theorem sink201 : c452 n L = sinkU (c34 n L) L.s1 L.s3 := rfl
theorem score210 : c495 n L = scoreU (keepQ keepL) (pairU (sq L.q22) (sq L.q23)) (win21 (c6 n L)) (c414 n L) (c417 n L) := rfl
theorem val210 : c500 n L = valU keepL (win21 (c13 n L)) := rfl
theorem sink210 : c481 n L = sinkU (c34 n L) L.s4 L.s6 := rfl
theorem score211 : c520 n L = scoreU (keepQ keepR) (pairU (sq L.q22) (sq L.q23)) (win20 (c6 n L)) (c414 n L) (c417 n L) := rfl
theorem sink211 : c506 n L = sinkU (c34 n L) L.s5 L.s7 := rfl

/-- The attention of block 2 of the point's rows. -/
def attn2 : FVec Ideal S128x512 .f32 :=
  outU (bothU
    (recU (scoreU (keepQ keepL) (pairU (sq L.q20) (sq L.q21)) (win20 (c6 n L)) (c414 n L) (c417 n L)) (sinkU (c34 n L) L.s0 L.s2) (valU keepL (win20 (c13 n L))))
    (recU (scoreU (keepQ keepR) (pairU (sq L.q20) (sq L.q21)) (win21 (c6 n L)) (c414 n L) (c417 n L)) (sinkU (c34 n L) L.s1 L.s3) (valU keepR (win21 (c13 n L)))))
    (bothU
    (recU (scoreU (keepQ keepL) (pairU (sq L.q22) (sq L.q23)) (win21 (c6 n L)) (c414 n L) (c417 n L)) (sinkU (c34 n L) L.s4 L.s6) (valU keepL (win21 (c13 n L))))
    (recU (scoreU (keepQ keepR) (pairU (sq L.q22) (sq L.q23)) (win20 (c6 n L)) (c414 n L) (c417 n L)) (sinkU (c34 n L) L.s5 L.s7) (valU keepR (win20 (c13 n L)))))

theorem score300 : c590 n L = scoreU (keepQ keepL) (pairU (sq L.q30) (sq L.q31)) (win30 (c6 n L)) (c562 n L) (c566 n L) := rfl
theorem val300 : c595 n L = valU keepL (win30 (c13 n L)) := rfl
theorem sink300 : c576 n L = sinkU (c34 n L) L.s0 L.s2 := rfl
theorem score301 : c615 n L = scoreU (keepQ keepR) (pairU (sq L.q30) (sq L.q31)) (win31 (c6 n L)) (c562 n L) (c566 n L) := rfl
theorem val301 : c620 n L = valU keepR (win31 (c13 n L)) := rfl
theorem sink301 : c601 n L = sinkU (c34 n L) L.s1 L.s3 := rfl
theorem score310 : c644 n L = scoreU (keepQ keepL) (pairU (sq L.q32) (sq L.q33)) (win31 (c6 n L)) (c562 n L) (c566 n L) := rfl
theorem val310 : c649 n L = valU keepL (win31 (c13 n L)) := rfl
theorem sink310 : c630 n L = sinkU (c34 n L) L.s4 L.s6 := rfl
theorem score311 : c669 n L = scoreU (keepQ keepR) (pairU (sq L.q32) (sq L.q33)) (win30 (c6 n L)) (c562 n L) (c566 n L) := rfl
theorem val311 : c674 n L = valU keepR (win30 (c13 n L)) := rfl
theorem sink311 : c655 n L = sinkU (c34 n L) L.s5 L.s7 := rfl

/-- The attention of block 3 of the point's rows. -/
def attn3 : FVec Ideal S128x512 .f32 :=
  outU (bothU
    (recU (scoreU (keepQ keepL) (pairU (sq L.q30) (sq L.q31)) (win30 (c6 n L)) (c562 n L) (c566 n L)) (sinkU (c34 n L) L.s0 L.s2) (valU keepL (win30 (c13 n L))))
    (recU (scoreU (keepQ keepR) (pairU (sq L.q30) (sq L.q31)) (win31 (c6 n L)) (c562 n L) (c566 n L)) (sinkU (c34 n L) L.s1 L.s3) (valU keepR (win31 (c13 n L)))))
    (bothU
    (recU (scoreU (keepQ keepL) (pairU (sq L.q32) (sq L.q33)) (win31 (c6 n L)) (c562 n L) (c566 n L)) (sinkU (c34 n L) L.s4 L.s6) (valU keepL (win31 (c13 n L))))
    (recU (scoreU (keepQ keepR) (pairU (sq L.q32) (sq L.q33)) (win30 (c6 n L)) (c562 n L) (c566 n L)) (sinkU (c34 n L) L.s5 L.s7) (valU keepR (win30 (c13 n L)))))

theorem attn0_eq : c411 n L = attn0 n L := rfl
theorem attn1_eq : c559 n L = attn1 n L := rfl
theorem attn2_eq : c804 n L = attn2 n L := rfl

/-- The blocks of attention one below the other. -/
def stackU (a b c d : FVec Ideal S128x512 .f32) : FVec Ideal S512x512 .f32 :=
  concatenate S512x512 0 [⟨S128x512, a⟩, ⟨S128x512, b⟩, ⟨S128x512, c⟩, ⟨S128x512, d⟩] concatenates_S128x512_S128x512_S128x512_S128x512_S512x512_d0

/-- The two branches' gates of a block and the products they weigh. -/
def hU : FVec Ideal S512x1024 .f32 := rmsU (shapeCast S512x1024 L.x shapeCasts_S1x512x1024_S512x1024) (shapeCast S1x1024 L.gain shapeCasts_S1x1024_S1x1024)

theorem h_eq : c285 n L = hU L := rfl

def wgU (w : FVec Ideal S1024x512 .bf16) : FVec Ideal S1024x512 .bf16 := shapeCast S1024x512 w shapeCasts_S1024x512_S1024x512
def upU (w : FVec Ideal S512x1024 .bf16) : FVec Ideal S512x1024 .bf16 := shapeCast S512x1024 w shapeCasts_S512x1024_S512x1024
def sqU (w : FVec Ideal S1024x1024 .bf16) : FVec Ideal S1024x1024 .bf16 := shapeCast S1024x1024 w shapeCasts_S1024x1024_S1024x1024
def rowU (w : FVec Ideal S1x1024 .f32) : FVec Ideal S1x1024 .f32 := shapeCast S1x1024 w shapeCasts_S1x1024_S1x1024
def rwkvU (w : FVec Ideal S1x512x512 .f32) : FVec Ideal S512x512 .f32 := shapeCast S512x512 w shapeCasts_S1x512x512_S512x512
def lnU (w : FVec Ideal S1x512 .f32) : FVec Ideal S1x512 .f32 := shapeCast S1x512 w shapeCasts_S1x512_S1x512
def bdU (w : FVec Ideal S128x128 .bf16) : FVec Ideal S128x128 .bf16 := shapeCast S128x128 w shapeCasts_S128x128_S128x128

theorem g0_eq : c532 n L = sigU (mmA (hU L) (wgU L.wg0)) := rfl
theorem g1_eq : c732 n L = sigU (mmA (hU L) (wgU L.wg1)) := rfl
theorem g23_eq : c928 n L = catU (sigU (mmA (hU L) (wgU L.wg2))) (sigU (mmA (hU L) (wgU L.wg3))) := rfl

theorem attnMul_eq : c927 n L = mulf (catU (c532 n L) (c732 n L)) (mmB (stackU (c411 n L) (c559 n L) (c804 n L) (attn3 n L)) (upU L.wua)) := rfl

/-- The two directions' sum. -/
def ysU : FVec Ideal S512x512 .f32 := addf (rwkvU L.y0) (rwkvU L.y1)

theorem y_eq : c809 n L = ysU L := rfl
theorem bd_eq : c39 n L = bdU L.bd := rfl
theorem yc_eq : c845 n L = ycU (ysU L) (bdU L.bd) := rfl
theorem rw_eq : c925 n L = mmB (rwU (ysU L) (bdU L.bd) (lnU L.lnw) (lnU L.lnb) (rwkvU L.bonus) (rwkvU L.g)) (upU L.wur) := rfl

/-- The merged branches. -/
def mgU : FVec Ideal S512x1024 .f32 := addf (c927 n L) (mulf (c928 n L) (c925 n L))

/-- The rows after the merge. -/
def x1U : FVec Ideal S512x1024 .f32 :=
  catU (addf (extractStridedSlice S512x512 ![0, 0] (c41 n L) slices_S512x1024_o0_0_S512x512) (mmA (mgU n L) (wgU L.wo0)))
    (addf (extractStridedSlice S512x512 ![0, 512] (c41 n L) slices_S512x1024_o0_512_S512x512) (mmA (mgU n L) (wgU L.wo1)))

theorem h2_eq : c957 n L = rmsU (x1U n L) (rowU L.gf) := rfl
theorem f0_eq : c968 n L = addf (x1U n L) (slabU (c957 n L) (sqU L.w10) (sqU L.w20)) := rfl
theorem x2_eq : c1001 n L = addf (addf (addf (c968 n L) (slabU (c957 n L) (sqU L.w11) (sqU L.w21))) (slabU (c957 n L) (sqU L.w12) (sqU L.w22)))
    (slabU (c957 n L) (sqU L.w13) (sqU L.w23)) := rfl

/-- The stored block. -/
theorem out_eq : cOUT n L = shapeCast S1x512x1024 (addf (c1001 n L)
    (mulf (mmD (shapeCast S512x256 L.p shapeCasts_S1x512x256_S512x256) (shapeCast S256x1024 L.wple shapeCasts_S256x1024_S256x1024))
      (sigU (mmC (rmsU (c1001 n L) (rowU L.gp)) (sqU L.wpg))))) shapeCasts_S512x1024_S1x512x1024 := rfl

end Cert.Mid

end
-- ==== Proof.BodyMask.lean ====
/-
  The body's masks at an index.
-/
module

public import proofs.«01_k».proof.Proof.BodyUnits

@[expose] public section

set_option maxRecDepth 16384
set_option maxHeartbeats 1000000

noncomputable section

namespace Cert.Mid

open Idealize.ShloMosaic Cert.KernelIdeal Cert.KernelIdeal.Gen

/-- The remainder by 128 of a row's number, as the body computes it. -/
def remRow (x : BitVec 32) : BitVec 32 :=
  Scalar.select (IntOp.andi (IntOp.xori (IntOp.cmpi .slt (IntOp.remsi .vector x (Scalar.select (IntOp.cmpi .eq (128#32 : BitVec 32) 0#32) 1#32 128#32)) 0#32)
      (IntOp.cmpi .slt (Scalar.select (IntOp.cmpi .eq (128#32 : BitVec 32) 0#32) 1#32 128#32 : BitVec 32) 0#32))
      (IntOp.cmpi .ne (IntOp.remsi .vector x (Scalar.select (IntOp.cmpi .eq (128#32 : BitVec 32) 0#32) 1#32 128#32)) 0#32))
    (IntOp.addi (IntOp.remsi .vector x (Scalar.select (IntOp.cmpi .eq (128#32 : BitVec 32) 0#32) 1#32 128#32)) (Scalar.select (IntOp.cmpi .eq (128#32 : BitVec 32) 0#32) 1#32 128#32))
    (IntOp.remsi .vector x (Scalar.select (IntOp.cmpi .eq (128#32 : BitVec 32) 0#32) 1#32 128#32))

theorem remRow_eq : ∀ r : Fin 256, remRow (BitVec.ofNat 32 r.val) = BitVec.ofNat 32 (r.val % 128) := by
  decide +kernel

theorem c30_apply (n : BitVec 32) (L : Ld) (r : Fin 256) (j : Fin 128) : c30 n L (ix2 r j) = BitVec.ofNat 32 (r.val % 128) := by
  have e : c30 n L (ix2 r j) = remRow (iota .tc S256x128 32 [0] iota_S256x128_d0_w32 (ix2 r j)) := rfl
  have e2 : iota .tc S256x128 32 [0] iota_S256x128_d0_w32 (ix2 r j) = BitVec.ofNat 32 r.val :=
    congrArg (BitVec.ofNat 32) (by show 0 * 256 + r.val = r.val; omega)
  rw [e, e2, remRow_eq]

theorem iotaC (r : Fin 256) (j : Fin 128) : iota .tc S256x128 32 [1] iota_S256x128_d1_w32 (ix2 r j) = BitVec.ofNat 32 j.val :=
  congrArg (BitVec.ofNat 32) (by show 0 * 128 + j.val = j.val; omega)
theorem iotaR (r : Fin 256) (z : Fin 1) : iota .tc S256x1 32 [0] iota_S256x1_d0_w32 (ix2 r z) = BitVec.ofNat 32 r.val :=
  congrArg (BitVec.ofNat 32) (by show 0 * 256 + r.val = r.val; omega)
theorem iotaL (z : Fin 1) (j : Fin 128) : iota .tc S1x128 32 [1] iota_S1x128_d1_w32 (ix2 z j) = BitVec.ofNat 32 j.val :=
  congrArg (BitVec.ofNat 32) (by show 0 * 128 + j.val = j.val; omega)

theorem sle_small (a b : Nat) (ha : a < 2 ^ 31) (hb : b < 2 ^ 31) : (BitVec.ofNat 32 a).sle (BitVec.ofNat 32 b) = decide (a ≤ b) := by
  rw [BitVec.sle_eq_decide, BitVec.toInt_eq_toNat_of_lt (by simp [BitVec.toNat_ofNat]; omega), BitVec.toInt_eq_toNat_of_lt (by simp [BitVec.toNat_ofNat]; omega)]
  simp only [BitVec.toNat_ofNat]
  rw [Nat.mod_eq_of_lt (by omega), Nat.mod_eq_of_lt (by omega)]
  simp

theorem slt_small (a b : Nat) (ha : a < 2 ^ 31) (hb : b < 2 ^ 31) : (BitVec.ofNat 32 a).slt (BitVec.ofNat 32 b) = decide (a < b) := by
  rw [BitVec.slt_eq_decide, BitVec.toInt_eq_toNat_of_lt (by simp [BitVec.toNat_ofNat]; omega), BitVec.toInt_eq_toNat_of_lt (by simp [BitVec.toNat_ofNat]; omega)]
  simp only [BitVec.toNat_ofNat]
  rw [Nat.mod_eq_of_lt (by omega), Nat.mod_eq_of_lt (by omega)]
  simp

theorem select_ofBool {α : Type} (p : Prop) [Decidable p] (a b : α) : Scalar.select (BitVec.ofBool (decide p)) a b = if p then a else b := by
  by_cases h : p <;> simp [Scalar.select, h]

variable (n : BitVec 32) (L : Ld) (r : Fin 256) (j : Fin 128)

theorem ge_apply : (cmpi .sge (iota .tc S256x128 32 [1] iota_S256x128_d1_w32) (c30 n L)) (ix2 r j) = BitVec.ofBool (decide (r.val % 128 ≤ j.val)) := by
  show BitVec.ofBool ((c30 n L (ix2 r j)).sle (iota .tc S256x128 32 [1] iota_S256x128_d1_w32 (ix2 r j))) = _
  rw [c30_apply, iotaC, sle_small _ _ (by omega) (by omega)]

theorem le_apply : (cmpi .sle (iota .tc S256x128 32 [1] iota_S256x128_d1_w32) (c30 n L)) (ix2 r j) = BitVec.ofBool (decide (j.val ≤ r.val % 128)) := by
  show BitVec.ofBool ((iota .tc S256x128 32 [1] iota_S256x128_d1_w32 (ix2 r j)).sle (c30 n L (ix2 r j))) = _
  rw [c30_apply, iotaC, sle_small _ _ (by omega) (by omega)]

theorem and_ofBool (p q : Bool) : IntOp.andi (BitVec.ofBool p) (BitVec.ofBool q) = BitVec.ofBool (p && q) := by
  cases p <;> cases q <;> rfl

theorem c159_apply : c159 n L (ix2 r j) = BitVec.ofBool (decide (r.val % 128 ≤ j.val)) := by
  show IntOp.andi ((cmpi .sge (iota .tc S256x128 32 [1] iota_S256x128_d1_w32) (c30 n L)) (ix2 r j)) (BitVec.ofBool true) = _
  rw [ge_apply, and_ofBool, Bool.and_true]
theorem c414_apply : c414 n L (ix2 r j) = BitVec.ofBool (decide (r.val % 128 ≤ j.val)) := c159_apply n L r j
theorem c562_apply : c562 n L (ix2 r j) = BitVec.ofBool (decide (r.val % 128 ≤ j.val)) := c159_apply n L r j
theorem c48_apply : c48 n L (ix2 r j) = BitVec.ofBool (decide (j.val ≤ r.val % 128)) := by
  show IntOp.andi ((cmpi .sle (iota .tc S256x128 32 [1] iota_S256x128_d1_w32) (c30 n L)) (ix2 r j)) (BitVec.ofBool true) = _
  rw [le_apply, and_ofBool, Bool.and_true]
theorem c162_apply : c162 n L (ix2 r j) = BitVec.ofBool (decide (j.val ≤ r.val % 128)) := c48_apply n L r j
theorem c417_apply : c417 n L (ix2 r j) = BitVec.ofBool (decide (j.val ≤ r.val % 128)) := c48_apply n L r j
theorem c45_apply (m : Fin 8) : c45 (BitVec.ofNat 32 m.val) L (ix2 r j) = BitVec.ofBool (decide (r.val % 128 ≤ j.val ∧ 0 < m.val)) := by
  show IntOp.andi ((cmpi .sge (iota .tc S256x128 32 [1] iota_S256x128_d1_w32) (c30 (BitVec.ofNat 32 m.val) L)) (ix2 r j)) (BitVec.ofBool ((BitVec.ofNat 32 0).slt (BitVec.ofNat 32 m.val))) = _
  rw [ge_apply, slt_small _ _ (by omega) (by omega), and_ofBool, Bool.decide_and]
theorem c566_apply (m : Fin 8) : c566 (BitVec.ofNat 32 m.val) L (ix2 r j) = BitVec.ofBool (decide (j.val ≤ r.val % 128 ∧ m.val < 7)) := by
  show IntOp.andi ((cmpi .sle (iota .tc S256x128 32 [1] iota_S256x128_d1_w32) (c30 (BitVec.ofNat 32 m.val) L)) (ix2 r j)) (BitVec.ofBool ((BitVec.ofNat 32 m.val).slt (BitVec.ofNat 32 7))) = _
  rw [le_apply, slt_small _ _ (by omega) (by omega), and_ofBool, Bool.decide_and]

theorem c34_apply (z : Fin 1) : c34 n L (ix2 r z) = BitVec.ofBool (decide (r.val < 128)) := by
  show BitVec.ofBool ((iota .tc S256x1 32 [0] iota_S256x1_d0_w32 (ix2 r z)).slt (BitVec.ofNat 32 128)) = _
  rw [iotaR, slt_small _ _ (by omega) (by omega)]

theorem keepL_apply (z : Fin 1) : keepL (ix2 z j) = BitVec.ofBool (decide (j.val < 64)) := by
  show BitVec.ofBool ((iota .tc S1x128 32 [1] iota_S1x128_d1_w32 (ix2 z j)).slt (BitVec.ofNat 32 64)) = _
  rw [iotaL, slt_small _ _ (by omega) (by omega)]

theorem keepR_apply (z : Fin 1) : keepR (ix2 z j) = BitVec.ofBool (decide (64 ≤ j.val)) := by
  show IntOp.xori (keepL (ix2 z j)) (BitVec.ofBool true) = _
  rw [keepL_apply]
  by_cases h : j.val < 64
  · rw [decide_eq_true h, decide_eq_false (by omega)]; rfl
  · rw [decide_eq_false h, decide_eq_true (by omega)]; rfl

theorem sinkU_apply (a b : EReal) (z : Fin 1) : sinkU (c34 n L) a b (ix2 r z) = if r.val < 128 then a else b := by
  show Scalar.select (c34 n L (ix2 r z)) a b = _
  rw [c34_apply, select_ofBool]

end Cert.Mid

end
-- ==== Proof.BodyAttn.lean ====
/-
  The body's attention at a row and a column.
-/
module

public import proofs.«01_k».proof.Proof.BodyMask

@[expose] public section

set_option maxRecDepth 16384
set_option maxHeartbeats 1000000

noncomputable section

namespace Cert.Mid

open Idealize.ShloMosaic Cert.KernelIdeal Cert.KernelIdeal.Gen
open scoped BigOperators

theorem sum_lanes (f : Fin 128 → EReal) : ∑ l, f l = ∑ d : Fin 64, f ⟨d.val, by omega⟩ + ∑ d : Fin 64, f ⟨64 + d.val, by omega⟩ := by
  have e : ∑ l, f l = ∑ l : Fin (64 + 64), f l := rfl
  rw [e, Fin.sum_univ_add]
  rfl

theorem dotRow_L (q k : Fin 128 → EReal) : dotRow (fun l => BitVec.ofBool (decide (l.val < 64))) q k
    = ∑ d : Fin 64, q ⟨d.val, by omega⟩ * k ⟨d.val, by omega⟩ := by
  unfold dotRow
  rw [sum_lanes]
  have e1 : ∀ d : Fin 64, Scalar.select (BitVec.ofBool (decide (d.val < 64))) (q ⟨d.val, by omega⟩) 0 = q ⟨d.val, by omega⟩ := fun d => by
    rw [select_ofBool, if_pos d.isLt]
  have e2 : ∀ d : Fin 64, Scalar.select (BitVec.ofBool (decide (64 + d.val < 64))) (q ⟨64 + d.val, by omega⟩) 0 = 0 := fun d => by
    rw [select_ofBool, if_neg (by omega)]
  simp only [e1, e2, zero_mul, Finset.sum_const_zero, add_zero]

theorem dotRow_R (q k : Fin 128 → EReal) : dotRow (fun l => BitVec.ofBool (decide (64 ≤ l.val))) q k
    = ∑ d : Fin 64, q ⟨64 + d.val, by omega⟩ * k ⟨64 + d.val, by omega⟩ := by
  unfold dotRow
  rw [sum_lanes]
  have e1 : ∀ d : Fin 64, Scalar.select (BitVec.ofBool (decide (64 ≤ d.val))) (q ⟨d.val, by omega⟩) 0 = 0 := fun d => by
    rw [select_ofBool, if_neg (by omega)]
  have e2 : ∀ d : Fin 64, Scalar.select (BitVec.ofBool (decide (64 ≤ 64 + d.val))) (q ⟨64 + d.val, by omega⟩) 0 = q ⟨64 + d.val, by omega⟩ := fun d => by
    rw [select_ofBool, if_pos (by omega)]
  simp only [e1, e2, zero_mul, Finset.sum_const_zero, zero_add]

section side
variable (pairs : FVec Ideal S256x128 .bf16) (ks : FVec Ideal S384x128 .bf16) (mp mn : IVec S256x128 1) (r : Fin 256)
  (ok : Fin 384 → Prop) [DecidablePred ok]
  (hp : ∀ j : Fin 128, mp (ix2 r j) = BitVec.ofBool (decide (ok ⟨j.val, by omega⟩)))
  (hm : ∀ j : Fin 384, 128 ≤ j.val → j.val < 256 → ok j)
  (hn : ∀ j : Fin 128, mn (ix2 r j) = BitVec.ofBool (decide (ok ⟨256 + j.val, by omega⟩)))
include hp hm hn

theorem score_of_mask (keep : IVec S1x128 1) (D : Fin 384 → EReal) (j : Fin 384)
    (hD : dotRow (fun l => keepQ keep (ix2 r l)) (fun l => pairs (ix2 r l)) (fun l => ks (ix2 j l)) = D j) :
    scoreU (keepQ keep) pairs ks mp mn (ix2 r j) = if ok j then D j else ⊥ := by
  rw [scoreU_apply, hD]
  have hj := j.isLt
  by_cases q1 : j.val < 128
  · rw [dif_pos q1, hp, select_ofBool]
  by_cases q2 : j.val - 128 < 128
  · rw [dif_neg q1, dif_pos q2, if_pos (hm j (by omega) (by omega))]
  · rw [dif_neg q1, dif_neg q2, hn, select_ofBool]
    have e : (⟨256 + (j.val - 128 - 128), by omega⟩ : Fin 384) = j := Fin.ext (by show 256 + (j.val - 128 - 128) = j.val; omega)
    rw [e]

theorem scoreL (j : Fin 384) : scoreU (keepQ keepL) pairs ks mp mn (ix2 r j)
    = score (fun d => pairs (ix2 r ⟨d.val, by omega⟩)) (fun j d => ks (ix2 j ⟨d.val, by omega⟩)) ok j := by
  unfold score
  refine score_of_mask pairs ks mp mn r ok hp hm hn keepL (fun j => ∑ d : Fin 64, pairs (ix2 r ⟨d.val, by omega⟩) * ks (ix2 j ⟨d.val, by omega⟩)) j ?_
  simp only [keepQ_apply, keepL_apply]
  exact dotRow_L _ _

theorem scoreR (j : Fin 384) : scoreU (keepQ keepR) pairs ks mp mn (ix2 r j)
    = score (fun d => pairs (ix2 r ⟨64 + d.val, by omega⟩)) (fun j d => ks (ix2 j ⟨64 + d.val, by omega⟩)) ok j := by
  unfold score
  refine score_of_mask pairs ks mp mn r ok hp hm hn keepR (fun j => ∑ d : Fin 64, pairs (ix2 r ⟨64 + d.val, by omega⟩) * ks (ix2 j ⟨64 + d.val, by omega⟩)) j ?_
  simp only [keepQ_apply, keepR_apply]
  exact dotRow_R _ _

/-- Both sides at a lane: the lane's own side, the other side's values being zero. -/
theorem both_apply (ks' v v' : FVec Ideal S384x128 .bf16) (sk sk' : FVec Ideal S256x1 .f32)
    (rq : ∀ l, ∃ x : ℝ, pairs (ix2 r l) = (x : EReal)) (rk : ∀ j l, ∃ x : ℝ, ks (ix2 j l) = (x : EReal))
    (rk' : ∀ j l, ∃ x : ℝ, ks' (ix2 j l) = (x : EReal)) (rs : ∃ x : ℝ, sk (ix2 r 0) = (x : EReal)) (rs' : ∃ x : ℝ, sk' (ix2 r 0) = (x : EReal))
    (l : Fin 128) :
    bothU (recU (scoreU (keepQ keepL) pairs ks mp mn) sk (valU keepL v)) (recU (scoreU (keepQ keepR) pairs ks' mp mn) sk' (valU keepR v')) (ix2 r l)
      = if l.val < 64 then att (score (fun d => pairs (ix2 r ⟨d.val, by omega⟩)) (fun j d => ks (ix2 j ⟨d.val, by omega⟩)) ok) (fun j => v (ix2 j l)) (sk (ix2 r 0))
        else att (score (fun d => pairs (ix2 r ⟨64 + d.val, by omega⟩)) (fun j d => ks' (ix2 j ⟨64 + d.val, by omega⟩)) ok) (fun j => v' (ix2 j l)) (sk' (ix2 r 0)) := by
  rw [bothU_apply, recU_apply, recU_apply]
  rw [funext fun j => scoreL pairs ks mp mn r ok hp hm hn j, funext fun j => scoreR pairs ks' mp mn r ok hp hm hn j]
  obtain ⟨s, hs⟩ := rs
  obtain ⟨s', hs'⟩ := rs'
  rw [hs, hs']
  by_cases h : l.val < 64
  · rw [if_pos h]
    have e : (fun j => valU keepR v' (ix2 j l)) = fun _ => 0 := funext fun j => by
      rw [valU_apply, keepR_apply, select_ofBool, if_neg (by omega)]
    have e' : (fun j => valU keepL v (ix2 j l)) = fun j => v (ix2 j l) := funext fun j => by
      rw [valU_apply, keepL_apply, select_ofBool, if_pos h]
    rw [e, e', att_zero _ s' (fun j => score_score _ _ _ (fun d => rq _) (fun j d => rk' j _) j), add_zero]
  · rw [if_neg h]
    have e : (fun j => valU keepL v (ix2 j l)) = fun _ => 0 := funext fun j => by
      rw [valU_apply, keepL_apply, select_ofBool, if_neg h]
    have e' : (fun j => valU keepR v' (ix2 j l)) = fun j => v' (ix2 j l) := funext fun j => by
      rw [valU_apply, keepR_apply, select_ofBool, if_pos (by omega)]
    rw [e, e', att_zero _ s (fun j => score_score _ _ _ (fun d => rq _) (fun j d => rk j _) j), zero_add]

end side

/-- A block of 128 rows of attention. -/
def blockU (q0 q1 q2 q3 : FVec Ideal S128x128 .bf16) (k0 k1 v0 v1 : FVec Ideal S384x128 .bf16) (mp mn : IVec S256x128 1) (first : IVec S256x1 1)
    (s0 s1 s2 s3 s4 s5 s6 s7 : EReal) : FVec Ideal S128x512 .f32 :=
  outU (bothU
    (recU (scoreU (keepQ keepL) (pairU q0 q1) k0 mp mn) (sinkU first s0 s2) (valU keepL v0))
    (recU (scoreU (keepQ keepR) (pairU q0 q1) k1 mp mn) (sinkU first s1 s3) (valU keepR v1)))
    (bothU
    (recU (scoreU (keepQ keepL) (pairU q2 q3) k1 mp mn) (sinkU first s4 s6) (valU keepL v1))
    (recU (scoreU (keepQ keepR) (pairU q2 q3) k0 mp mn) (sinkU first s5 s7) (valU keepR v0)))

theorem lt_j (j : Fin 128) : j.val < 384 := by omega
theorem lt_j2 (j : Fin 128) : 256 + j.val < 384 := by omega
theorem lt_l0 (l : Fin 128) : l.val < 512 := by omega
theorem lt_l1 (l : Fin 128) : 128 + l.val < 512 := by omega
theorem lt_l2 (l : Fin 128) : 256 + l.val < 512 := by omega
theorem lt_l3 (l : Fin 128) : 384 + l.val < 512 := by omega
theorem lt_h (l : Fin 128) : l.val / 64 < 2 := by omega
theorem lt_o (l : Fin 128) : 1 - l.val / 64 < 2 := by omega
theorem lt_m (l : Fin 128) : l.val % 64 < 64 := by omega
theorem lt_h8 (c : Fin 512) : c.val / 64 < 8 := by omega
theorem lt_m8 (c : Fin 512) : c.val % 64 < 64 := by omega
theorem lt_g (h : Fin 8) : h.val / 4 < 2 := by omega
theorem lt_q (h : Fin 8) (e : Fin 64) : 64 * h.val + e.val < 512 := by omega

/-- One head's attention at one of its columns. -/
def attHead (Q : Fin 512 → EReal) (K V : Fin 384 → Fin 2 → Fin 64 → EReal) (SK : Fin 8 → EReal) (ok : Fin 384 → Prop) [DecidablePred ok]
    (h : Fin 8) (d : Fin 64) : EReal :=
  att (score (fun e => Q ⟨64 * h.val + e.val, lt_q h e⟩) (fun j e => K j ⟨h.val / 4, lt_g h⟩ e) ok) (fun j => V j ⟨h.val / 4, lt_g h⟩ d) (SK h)

/-- The attention's row at a column. -/
def attRow (Q : Fin 512 → EReal) (K V : Fin 384 → Fin 2 → Fin 64 → EReal) (SK : Fin 8 → EReal) (ok : Fin 384 → Prop) [DecidablePred ok]
    (c : Fin 512) : EReal := attHead Q K V SK ok ⟨c.val / 64, lt_h8 c⟩ ⟨c.val % 64, lt_m8 c⟩

theorem blockU_apply (q0 q1 q2 q3 : FVec Ideal S128x128 .bf16) (k0 k1 v0 v1 : FVec Ideal S384x128 .bf16) (mp mn : IVec S256x128 1)
    (n : BitVec 32) (L : Ld) (i : Fin 128) (c : Fin 512)
    (Q : Fin 512 → EReal) (K V : Fin 384 → Fin 2 → Fin 64 → EReal) (SK : Fin 8 → EReal) (ok : Fin 384 → Prop) [DecidablePred ok]
    (hp : ∀ (r : Fin 256) (j : Fin 128), r.val % 128 = i.val → mp (ix2 r j) = BitVec.ofBool (decide (ok ⟨j.val, lt_j j⟩)))
    (hm : ∀ j : Fin 384, 128 ≤ j.val → j.val < 256 → ok j)
    (hn : ∀ (r : Fin 256) (j : Fin 128), r.val % 128 = i.val → mn (ix2 r j) = BitVec.ofBool (decide (ok ⟨256 + j.val, lt_j2 j⟩)))
    (hq0 : ∀ l : Fin 128, q0 (ix2 i l) = Q ⟨l.val, lt_l0 l⟩) (hq1 : ∀ l : Fin 128, q1 (ix2 i l) = Q ⟨128 + l.val, lt_l1 l⟩)
    (hq2 : ∀ l : Fin 128, q2 (ix2 i l) = Q ⟨256 + l.val, lt_l2 l⟩) (hq3 : ∀ l : Fin 128, q3 (ix2 i l) = Q ⟨384 + l.val, lt_l3 l⟩)
    (hk0 : ∀ j (l : Fin 128), k0 (ix2 j l) = K j ⟨l.val / 64, lt_h l⟩ ⟨l.val % 64, lt_m l⟩)
    (hk1 : ∀ j (l : Fin 128), k1 (ix2 j l) = K j ⟨1 - l.val / 64, lt_o l⟩ ⟨l.val % 64, lt_m l⟩)
    (hv0 : ∀ j (l : Fin 128), v0 (ix2 j l) = V j ⟨l.val / 64, lt_h l⟩ ⟨l.val % 64, lt_m l⟩)
    (hv1 : ∀ j (l : Fin 128), v1 (ix2 j l) = V j ⟨1 - l.val / 64, lt_o l⟩ ⟨l.val % 64, lt_m l⟩)
    (rq : ∀ c, ∃ x : ℝ, Q c = (x : EReal)) (rk : ∀ j g d, ∃ x : ℝ, K j g d = (x : EReal)) (rs : ∀ h, ∃ x : ℝ, SK h = (x : EReal)) :
    blockU q0 q1 q2 q3 k0 k1 v0 v1 mp mn (c34 n L) (SK 0) (SK 1) (SK 2) (SK 3) (SK 4) (SK 5) (SK 6) (SK 7) (ix2 i c) = attRow Q K V SK ok c := by
  have rk0 : ∀ j l, ∃ x : ℝ, k0 (ix2 j l) = (x : EReal) := fun j l => by rw [hk0]; exact rk _ _ _
  have rk1 : ∀ j l, ∃ x : ℝ, k1 (ix2 j l) = (x : EReal) := fun j l => by rw [hk1]; exact rk _ _ _
  have half : ∀ (a b : FVec Ideal S128x128 .bf16) (kL kR vL vR : FVec Ideal S384x128 .bf16) (sa sb sc sd : Fin 8) (r : Fin 256) (w : Fin 4) (g : Fin 2)
      (l : Fin 128) (hr : r.val % 128 = i.val) (hw : w.val / 2 = g.val)
      (hab : ∀ l : Fin 128, pairU a b (ix2 r l) = Q ⟨128 * w.val + l.val, by omega⟩)
      (hsL : (if r.val < 128 then SK sa else SK sb) = SK ⟨2 * w.val, by omega⟩) (hsR : (if r.val < 128 then SK sc else SK sd) = SK ⟨2 * w.val + 1, by omega⟩)
      (hkL : ∀ j (d : Fin 64), kL (ix2 j ⟨d.val, by omega⟩) = K j g d) (hkR : ∀ j (d : Fin 64), kR (ix2 j ⟨64 + d.val, by omega⟩) = K j g d)
      (hvL : ∀ j (d : Fin 64), vL (ix2 j ⟨d.val, by omega⟩) = V j g d) (hvR : ∀ j (d : Fin 64), vR (ix2 j ⟨64 + d.val, by omega⟩) = V j g d)
      (rL : ∀ j l, ∃ x : ℝ, kL (ix2 j l) = (x : EReal)) (rR : ∀ j l, ∃ x : ℝ, kR (ix2 j l) = (x : EReal)),
      bothU (recU (scoreU (keepQ keepL) (pairU a b) kL mp mn) (sinkU (c34 n L) (SK sa) (SK sb)) (valU keepL vL))
        (recU (scoreU (keepQ keepR) (pairU a b) kR mp mn) (sinkU (c34 n L) (SK sc) (SK sd)) (valU keepR vR)) (ix2 r l)
        = attRow Q K V SK ok ⟨128 * w.val + l.val, by omega⟩ := by
    intro a b kL kR vL vR sa sb sc sd r w g l hr hw hab hsL hsR hkL hkR hvL hvR rL rR
    rw [both_apply (pairU a b) kL mp mn r ok (fun j => hp r j hr) hm (fun j => hn r j hr) kR vL vR _ _ (fun l => by rw [hab]; exact rq _) rL rR
      (by rw [sinkU_apply, hsL]; exact rs _) (by rw [sinkU_apply, hsR]; exact rs _) l]
    unfold attRow attHead
    rw [sinkU_apply, sinkU_apply, hsL, hsR]
    simp only [hab, hkL, hkR]
    have hg : (⟨(128 * w.val + l.val) / 64 / 4, by omega⟩ : Fin 2) = g := Fin.ext (by show (128 * w.val + l.val) / 64 / 4 = g.val; omega)
    rw [hg]
    by_cases h : l.val < 64
    · rw [if_pos h]
      have e1 : (⟨(128 * w.val + l.val) / 64, by omega⟩ : Fin 8) = ⟨2 * w.val, by omega⟩ := Fin.ext (by show (128 * w.val + l.val) / 64 = 2 * w.val; omega)
      have e2 : ∀ d : Fin 64, (⟨64 * ((128 * w.val + l.val) / 64) + d.val, by omega⟩ : Fin 512) = ⟨128 * w.val + d.val, by omega⟩ := fun d => Fin.ext (by show 64 * ((128 * w.val + l.val) / 64) + d.val = 128 * w.val + d.val; omega)
      have e3 : ∀ j, vL (ix2 j l) = V j g ⟨(128 * w.val + l.val) % 64, by omega⟩ := fun j => by
        rw [← hvL j]
        exact congrArg (fun z => vL (ix2 j z)) (Fin.ext (by show l.val = (128 * w.val + l.val) % 64; omega))
      simp only [e1, e2, e3]
    · rw [if_neg h]
      have e1 : (⟨(128 * w.val + l.val) / 64, by omega⟩ : Fin 8) = ⟨2 * w.val + 1, by omega⟩ := Fin.ext (by show (128 * w.val + l.val) / 64 = 2 * w.val + 1; omega)
      have e2 : ∀ d : Fin 64, (⟨64 * ((128 * w.val + l.val) / 64) + d.val, by omega⟩ : Fin 512) = ⟨128 * w.val + (64 + d.val), by omega⟩ := fun d => Fin.ext (by show 64 * ((128 * w.val + l.val) / 64) + d.val = 128 * w.val + (64 + d.val); omega)
      have e3 : ∀ j, vR (ix2 j l) = V j g ⟨(128 * w.val + l.val) % 64, by omega⟩ := fun j => by
        rw [← hvR j]
        exact congrArg (fun z => vR (ix2 j z)) (Fin.ext (by show l.val = 64 + (128 * w.val + l.val) % 64; omega))
      simp only [e1, e2, e3]
  have fz : ∀ (F : Fin 384 → Fin 2 → Fin 64 → EReal) (j : Fin 384) (a b : Fin 2) (x y : Fin 64), a.val = b.val → x.val = y.val → F j a x = F j b y := fun F j a b x y h1 h2 => by
    rw [Fin.ext h1, Fin.ext h2]
  have lo0 : ∀ (w : FVec Ideal S384x128 .bf16) (F : Fin 384 → Fin 2 → Fin 64 → EReal) (hw : ∀ j (l : Fin 128), w (ix2 j l) = F j ⟨l.val / 64, by omega⟩ ⟨l.val % 64, by omega⟩)
      (j : Fin 384) (d : Fin 64), w (ix2 j ⟨d.val, by omega⟩) = F j 0 d ∧ w (ix2 j ⟨64 + d.val, by omega⟩) = F j 1 d := fun w F hw j d => by
    refine ⟨(hw j _).trans (fz F j _ _ _ _ ?_ ?_), (hw j _).trans (fz F j _ _ _ _ ?_ ?_)⟩
    · show d.val / 64 = 0; omega
    · show d.val % 64 = d.val; omega
    · show (64 + d.val) / 64 = 1; omega
    · show (64 + d.val) % 64 = d.val; omega
  have lo1 : ∀ (w : FVec Ideal S384x128 .bf16) (F : Fin 384 → Fin 2 → Fin 64 → EReal) (hw : ∀ j (l : Fin 128), w (ix2 j l) = F j ⟨1 - l.val / 64, by omega⟩ ⟨l.val % 64, by omega⟩)
      (j : Fin 384) (d : Fin 64), w (ix2 j ⟨d.val, by omega⟩) = F j 1 d ∧ w (ix2 j ⟨64 + d.val, by omega⟩) = F j 0 d := fun w F hw j d => by
    refine ⟨(hw j _).trans (fz F j _ _ _ _ ?_ ?_), (hw j _).trans (fz F j _ _ _ _ ?_ ?_)⟩
    · show 1 - d.val / 64 = 1; omega
    · show d.val % 64 = d.val; omega
    · show 1 - (64 + d.val) / 64 = 0; omega
    · show (64 + d.val) % 64 = d.val; omega
  have pr : ∀ (a b : FVec Ideal S128x128 .bf16) (l : Fin 128), pairU a b (ix2 ⟨i.val, by omega⟩ l) = a (ix2 i l) ∧ pairU a b (ix2 ⟨128 + i.val, by omega⟩ l) = b (ix2 i l) := fun a b l => by
    constructor
    · rw [pairU_apply]; exact dif_pos i.isLt
    · rw [pairU_apply]
      refine (dif_neg (by show ¬ 128 + i.val < 128; omega)).trans ?_
      exact congrArg (fun z => b (ix2 z l)) (Fin.ext (by show 128 + i.val - 128 = i.val; omega))
  have qx : ∀ (x y : Fin 512), x.val = y.val → Q x = Q y := fun x y h => by rw [Fin.ext h]
  unfold blockU
  refine outU_apply _ _ i c (attRow Q K V SK ok) (fun l => ?_) (fun l => ?_) (fun l => ?_) (fun l => ?_)
  · refine (half q0 q1 k0 k1 v0 v1 0 2 1 3 ⟨i.val, by omega⟩ 0 0 l (by show i.val % 128 = i.val; omega) rfl (fun l => ((pr q0 q1 l).1.trans (hq0 l)).trans (qx _ _ (by show l.val = 128 * 0 + l.val; omega)))
      (if_pos i.isLt) (if_pos i.isLt) (fun j d => (lo0 k0 K hk0 j d).1) (fun j d => (lo1 k1 K hk1 j d).2) (fun j d => (lo0 v0 V hv0 j d).1) (fun j d => (lo1 v1 V hv1 j d).2) rk0 rk1).trans ?_
    exact congrArg _ (Fin.ext (by show 128 * 0 + l.val = l.val; omega))
  · refine (half q0 q1 k0 k1 v0 v1 0 2 1 3 ⟨128 + i.val, by omega⟩ 1 0 l (by show (128 + i.val) % 128 = i.val; omega) rfl (fun l => ((pr q0 q1 l).2.trans (hq1 l)).trans (qx _ _ (by show 128 + l.val = 128 * 1 + l.val; omega)))
      (if_neg (by show ¬ 128 + i.val < 128; omega)) (if_neg (by show ¬ 128 + i.val < 128; omega)) (fun j d => (lo0 k0 K hk0 j d).1) (fun j d => (lo1 k1 K hk1 j d).2) (fun j d => (lo0 v0 V hv0 j d).1) (fun j d => (lo1 v1 V hv1 j d).2) rk0 rk1).trans ?_
    exact congrArg _ (Fin.ext (by show 128 * 1 + l.val = 128 + l.val; omega))
  · refine (half q2 q3 k1 k0 v1 v0 4 6 5 7 ⟨i.val, by omega⟩ 2 1 l (by show i.val % 128 = i.val; omega) rfl (fun l => ((pr q2 q3 l).1.trans (hq2 l)).trans (qx _ _ (by show 256 + l.val = 128 * 2 + l.val; omega)))
      (if_pos i.isLt) (if_pos i.isLt) (fun j d => (lo1 k1 K hk1 j d).1) (fun j d => (lo0 k0 K hk0 j d).2) (fun j d => (lo1 v1 V hv1 j d).1) (fun j d => (lo0 v0 V hv0 j d).2) rk1 rk0).trans ?_
    exact congrArg _ (Fin.ext (by show 128 * 2 + l.val = 256 + l.val; omega))
  · refine (half q2 q3 k1 k0 v1 v0 4 6 5 7 ⟨128 + i.val, by omega⟩ 3 1 l (by show (128 + i.val) % 128 = i.val; omega) rfl (fun l => ((pr q2 q3 l).2.trans (hq3 l)).trans (qx _ _ (by show 384 + l.val = 128 * 3 + l.val; omega)))
      (if_neg (by show ¬ 128 + i.val < 128; omega)) (if_neg (by show ¬ 128 + i.val < 128; omega)) (fun j d => (lo1 k1 K hk1 j d).1) (fun j d => (lo0 k0 K hk0 j d).2) (fun j d => (lo1 v1 V hv1 j d).1) (fun j d => (lo0 v0 V hv0 j d).2) rk1 rk0).trans ?_
    exact congrArg _ (Fin.ext (by show 128 * 3 + l.val = 384 + l.val; omega))

end Cert.Mid

end
-- ==== Proof.KHost.lean ====
/-
  The arrays that the host program hands to the kernel, at an index.
-/
module

public import proofs.«01_k».proof.Proof.Gen.KernelIdeal.Frame
public import proofs.«01_k».proof.Proof.BodyAttn
public import Idealize.ShloMosaic.Lib.StableHlo.ReadAt

@[expose] public section

set_option maxRecDepth 16384
set_option maxHeartbeats 1000000

noncomputable section

namespace Cert.Mid

open Idealize.ShloMosaic Cert.KernelIdeal Cert.KernelIdeal.Gen Idealize.ShloMosaic.TcCoe Idealize.SL.Sem
open scoped BigOperators

variable (m : (ℓ : Loc nD τ sig) → Buf (Elt Ideal) ℓ) (c : Dev nD)

/-- The arguments of a device, as tensors of extended reals. -/
abbrev KA0 : FVec Ideal S4x4096x1024 .f32 := m ((c : Thread nD τ).loc main_arg0)
abbrev KA1 : FVec Ideal S4x4096x8x64 .f32 := m ((c : Thread nD τ).loc main_arg1)
abbrev KA2 : FVec Ideal S4x4096x2x64 .f32 := m ((c : Thread nD τ).loc main_arg2)
abbrev KA3 : FVec Ideal S4x4096x2x64 .f32 := m ((c : Thread nD τ).loc main_arg3)
abbrev KA4 : FVec Ideal S4x4096x512 .f32 := m ((c : Thread nD τ).loc main_arg4)
abbrev KA5 : FVec Ideal S4x4096x512 .f32 := m ((c : Thread nD τ).loc main_arg5)
abbrev KA6 : FVec Ideal S4x4096x512 .f32 := m ((c : Thread nD τ).loc main_arg6)
abbrev KA7 : FVec Ideal S4x4096x512 .f32 := m ((c : Thread nD τ).loc main_arg7)
abbrev KA8 : FVec Ideal S1x4x4096x256 .f32 := m ((c : Thread nD τ).loc main_arg8)
abbrev KA9 : FVec Ideal S1x1024 .f32 := m ((c : Thread nD τ).loc main_arg9)
abbrev KA10 : FVec Ideal S1x1024x4608 .f32 := m ((c : Thread nD τ).loc main_arg10)
abbrev KA11 : FVec Ideal S1x8 .f32 := m ((c : Thread nD τ).loc main_arg11)
abbrev KA12 : FVec Ideal S1x512 .f32 := m ((c : Thread nD τ).loc main_arg12)
abbrev KA13 : FVec Ideal S1x512 .f32 := m ((c : Thread nD τ).loc main_arg13)
abbrev KA14 : FVec Ideal S1x512x1024 .f32 := m ((c : Thread nD τ).loc main_arg14)
abbrev KA15 : FVec Ideal S1x512x1024 .f32 := m ((c : Thread nD τ).loc main_arg15)
abbrev KA16 : FVec Ideal S1x1024x1024 .f32 := m ((c : Thread nD τ).loc main_arg16)
abbrev KA17 : FVec Ideal S1x1024 .f32 := m ((c : Thread nD τ).loc main_arg17)
abbrev KA18 : FVec Ideal S1x1024x4096 .f32 := m ((c : Thread nD τ).loc main_arg18)
abbrev KA19 : FVec Ideal S1x4096x1024 .f32 := m ((c : Thread nD τ).loc main_arg19)
abbrev KA20 : FVec Ideal S1x1024 .f32 := m ((c : Thread nD τ).loc main_arg20)
abbrev KA21 : FVec Ideal S1x1024x1024 .f32 := m ((c : Thread nD τ).loc main_arg21)
abbrev KA22 : FVec Ideal S1x256x1024 .f32 := m ((c : Thread nD τ).loc main_arg22)

/-- The arrays of the kernel that the host program computes. -/
abbrev HV8 : FVec Ideal S128x128 .bf16 := V m c main_v8
abbrev HV12 : FVec Ideal S4x4096x512 .bf16 := V m c main_v12
abbrev HV18 : FVec Ideal S4x4096x256 .bf16 := V m c main_v18
abbrev HV22 : FVec Ideal S4x4096x256 .bf16 := V m c main_v22
abbrev HV24 : FVec Ideal S8 .f32 := V m c main_v24
abbrev HV26 : FVec Ideal S1x1024 .f32 := V m c main_v26
abbrev HV28 : FVec Ideal S1024x2048 .bf16 := V m c main_v28
abbrev HV30 : FVec Ideal S1x512 .f32 := V m c main_v30
abbrev HV32 : FVec Ideal S1x512 .f32 := V m c main_v32
abbrev HV34 : FVec Ideal S512x1024 .bf16 := V m c main_v34
abbrev HV36 : FVec Ideal S512x1024 .bf16 := V m c main_v36
abbrev HV38 : FVec Ideal S1024x1024 .bf16 := V m c main_v38
abbrev HV39 : FVec Ideal S4x4096x256 .f32 := V m c main_v39
abbrev HV41 : FVec Ideal S1x1024 .f32 := V m c main_v41
abbrev HV43 : FVec Ideal S1024x4096 .bf16 := V m c main_v43
abbrev HV45 : FVec Ideal S4096x1024 .bf16 := V m c main_v45
abbrev HV47 : FVec Ideal S1x1024 .f32 := V m c main_v47
abbrev HV49 : FVec Ideal S1024x1024 .bf16 := V m c main_v49
abbrev HV51 : FVec Ideal S256x1024 .bf16 := V m c main_v51

theorem V12 (b : Fin 4) (t : Fin 4096) (j : Fin 512) : HV12 m c (ix3 b t j) = KA1 m c (ix4 b t ⟨j.val / 64, by omega⟩ ⟨j.val % 64, by omega⟩) * Ideal.ofBits .f32 0x3E000000#32 := by
  unfold HV12 V
  after_reads_at
theorem V18a (b : Fin 4) (t : Fin 4096) (l : Fin 128) : HV18 m c (ix3 b t ⟨l.val, by omega⟩) = KA2 m c (ix4 b t ⟨l.val / 64, by omega⟩ ⟨l.val % 64, by omega⟩) := by
  unfold HV18 V
  after_reads_at
  after_reads_at
theorem V18b (b : Fin 4) (t : Fin 4096) (l : Fin 128) : HV18 m c (ix3 b t ⟨128 + l.val, by omega⟩) = KA2 m c (ix4 b t ⟨1 - l.val / 64, by omega⟩ ⟨l.val % 64, by omega⟩) := by
  unfold HV18 V
  after_reads_at
  by_cases q : l.val < 64
  · refine (dif_pos q).trans ?_
    after_reads_at
    refine congrArg₂ (fun x y => KA2 m c (ix4 b t x y)) (Fin.ext ?_) (Fin.ext ?_) <;> dsimp only <;> omega
  · refine (dif_neg q).trans ?_
    after_reads_at
    refine congrArg₂ (fun x y => KA2 m c (ix4 b t x y)) (Fin.ext ?_) (Fin.ext ?_) <;> dsimp only <;> omega
theorem V22a (b : Fin 4) (t : Fin 4096) (l : Fin 128) : HV22 m c (ix3 b t ⟨l.val, by omega⟩) = KA3 m c (ix4 b t ⟨l.val / 64, by omega⟩ ⟨l.val % 64, by omega⟩) := by
  unfold HV22 V
  after_reads_at
  after_reads_at
theorem V22b (b : Fin 4) (t : Fin 4096) (l : Fin 128) : HV22 m c (ix3 b t ⟨128 + l.val, by omega⟩) = KA3 m c (ix4 b t ⟨1 - l.val / 64, by omega⟩ ⟨l.val % 64, by omega⟩) := by
  unfold HV22 V
  after_reads_at
  by_cases q : l.val < 64
  · refine (dif_pos q).trans ?_
    after_reads_at
    refine congrArg₂ (fun x y => KA3 m c (ix4 b t x y)) (Fin.ext ?_) (Fin.ext ?_) <;> dsimp only <;> omega
  · refine (dif_neg q).trans ?_
    after_reads_at
    refine congrArg₂ (fun x y => KA3 m c (ix4 b t x y)) (Fin.ext ?_) (Fin.ext ?_) <;> dsimp only <;> omega
theorem V24 (j : Fin 8) : HV24 m c (ix1 j) = KA11 m c (ix2 0 j) := by
  unfold HV24 V
  after_reads_at
theorem V26 (j : Fin 1024) : HV26 m c (ix2 0 j) = KA9 m c (ix2 0 j) := by
  unfold HV26 V
  after_reads_at
theorem V41 (j : Fin 1024) : HV41 m c (ix2 0 j) = KA17 m c (ix2 0 j) := by
  unfold HV41 V
  after_reads_at
theorem V47 (j : Fin 1024) : HV47 m c (ix2 0 j) = KA20 m c (ix2 0 j) := by
  unfold HV47 V
  after_reads_at
theorem V30 (j : Fin 512) : HV30 m c (ix2 0 j) = KA12 m c (ix2 0 j) := by
  unfold HV30 V
  after_reads_at
theorem V32 (j : Fin 512) : HV32 m c (ix2 0 j) = KA13 m c (ix2 0 j) := by
  unfold HV32 V
  after_reads_at
theorem V28 (k : Fin 1024) (j : Fin 2048) : HV28 m c (ix2 k j) = KA10 m c (ix3 0 k ⟨2560 + j.val, by omega⟩) := by
  unfold HV28 V
  after_reads_at
theorem V34 (k : Fin 512) (j : Fin 1024) : HV34 m c (ix2 k j) = KA14 m c (ix3 0 k j) := by
  unfold HV34 V
  after_reads_at
theorem V36 (k : Fin 512) (j : Fin 1024) : HV36 m c (ix2 k j) = KA15 m c (ix3 0 k j) := by
  unfold HV36 V
  after_reads_at
theorem V38 (k : Fin 1024) (j : Fin 1024) : HV38 m c (ix2 k j) = KA16 m c (ix3 0 k j) := by
  unfold HV38 V
  after_reads_at
theorem V43 (k : Fin 1024) (j : Fin 4096) : HV43 m c (ix2 k j) = KA18 m c (ix3 0 k j) := by
  unfold HV43 V
  after_reads_at
theorem V45 (k : Fin 4096) (j : Fin 1024) : HV45 m c (ix2 k j) = KA19 m c (ix3 0 k j) := by
  unfold HV45 V
  after_reads_at
theorem V49 (k : Fin 1024) (j : Fin 1024) : HV49 m c (ix2 k j) = KA21 m c (ix3 0 k j) := by
  unfold HV49 V
  after_reads_at
theorem V51 (k : Fin 256) (j : Fin 1024) : HV51 m c (ix2 k j) = KA22 m c (ix3 0 k j) := by
  unfold HV51 V
  after_reads_at
theorem V39 (b : Fin 4) (t : Fin 4096) (j : Fin 256) : HV39 m c (ix3 b t j) = KA8 m c (ix4 0 b t j) := by
  unfold HV39 V
  after_reads_at

/-- The quotient by 64 of a lane's number, as the host program computes it. -/
def quoLane (x : BitVec 32) : BitVec 32 :=
  Scalar.select
    (IntOp.andi
      (IntOp.cmpi .ne (if x = 0 then 0 else if x.msb = true then -1 else 1 : BitVec 32)
        (if (64#32 : BitVec 32) = 0 then 0 else if BitVec.msb (64#32 : BitVec 32) = true then -1 else 1))
      (IntOp.cmpi .ne (IntOp.remsi .host x 64#32) 0#32))
    (IntOp.subi (IntOp.divsi .host x 64#32) 1#32)
    (IntOp.divsi .host x 64#32)

theorem quoLane_eq : ∀ i : Fin 128, quoLane (BitVec.ofNat 32 i.val) = BitVec.ofNat 32 (i.val / 64) := by
  decide +kernel

theorem V8_isBd : IsBd (HV8 m c) := fun i j => by
  have e : HV8 m c (ix2 i j) = FloatOps.uitofp (F := Ideal) FTy.bf16 (IntOp.cmpi .eq (quoLane (BitVec.ofNat 32 i.val)) (quoLane (BitVec.ofNat 32 j.val))) := by
    unfold HV8 V
    after_reads_at
    rfl
  rw [e, quoLane_eq, quoLane_eq]
  have hi := i.isLt
  have hj := j.isLt
  rcases (by omega : i.val / 64 = 0 ∨ i.val / 64 = 1) with h | h <;> rcases (by omega : j.val / 64 = 0 ∨ j.val / 64 = 1) with h' | h' <;> rw [h, h']
  · show ((((1#1 : BitVec 1).toNat : ℝ)) : EReal) = _
    simp
  · show ((((0#1 : BitVec 1).toNat : ℝ)) : EReal) = _
    simp
  · show ((((0#1 : BitVec 1).toNat : ℝ)) : EReal) = _
    simp
  · show ((((1#1 : BitVec 1).toNat : ℝ)) : EReal) = _
    simp

end Cert.Mid

end
-- ==== Proof.BodyRun.lean ====
/-
  The run's one stored piece is the body's stored value.
-/
module

public import proofs.«01_k».proof.Proof.Body

@[expose] public section

set_option maxRecDepth 16384
set_option maxHeartbeats 2000000

noncomputable section

namespace Cert.Mid

open Idealize.ShloMosaic Cert.KernelIdeal Cert.KernelIdeal.Gen Cert.KernelIdeal.Mid

/-- The run leaves one piece, the stored value of the loaded blocks `L`. -/
theorem run_piece  (c : Dev nD) (i : grid0.Coords) (arg2 : Memref sig .tc .smem S8 .f32) (harg2 : arg2.IsWhole) (arg3 : Memref sig .tc .vmem S1x512x512 .bf16) (harg3 : arg3.IsWhole) (arg4 : Memref sig .tc .vmem S1x128x256 .bf16) (harg4 : arg4.IsWhole) (arg5 : Memref sig .tc .vmem S1x512x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x512x256 .bf16) (harg8 : arg8.IsWhole) (arg9 : Memref sig .tc .vmem S1x128x256 .bf16) (harg9 : arg9.IsWhole) (arg10 : Memref sig .tc .vmem S1x512x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x128 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x512x256 .f32) (harg23 : arg23.IsWhole) (arg24 : Memref sig .tc .vmem S1x1024 .f32) (harg24 : arg24.IsWhole) (arg25 : Memref sig .tc .vmem S1024x4096 .bf16) (harg25 : arg25.IsWhole) (arg26 : Memref sig .tc .vmem S4096x1024 .bf16) (harg26 : arg26.IsWhole) (arg27 : Memref sig .tc .vmem S1x1024 .f32) (harg27 : arg27.IsWhole) (arg28 : Memref sig .tc .vmem S1024x1024 .bf16) (harg28 : arg28.IsWhole) (arg29 : Memref sig .tc .vmem S256x1024 .bf16) (harg29 : arg29.IsWhole) (arg30 : Memref sig .tc .vmem S1x512x1024 .f32) (harg30 : arg30.IsWhole)
    (x0 : Vec Ideal S8 .f32) (x1 : Vec Ideal S1x512x512 .bf16) (x2 : Vec Ideal S1x128x256 .bf16) (x3 : Vec Ideal S1x512x256 .bf16) (x4 : Vec Ideal S1x128x256 .bf16) (x5 : Vec Ideal S1x128x256 .bf16) (x6 : Vec Ideal S1x512x256 .bf16) (x7 : Vec Ideal S1x128x256 .bf16) (x8 : Vec Ideal S1x512x1024 .f32) (x9 : Vec Ideal S1x1024 .f32) (x10 : Vec Ideal S1024x2048 .bf16) (x11 : Vec Ideal S1x512x512 .f32) (x12 : Vec Ideal S1x512x512 .f32) (x13 : Vec Ideal S1x512x512 .f32) (x14 : Vec Ideal S1x512x512 .f32) (x15 : Vec Ideal S1x512 .f32) (x16 : Vec Ideal S1x512 .f32) (x17 : Vec Ideal S128x128 .bf16) (x18 : Vec Ideal S512x1024 .bf16) (x19 : Vec Ideal S512x1024 .bf16) (x20 : Vec Ideal S1024x1024 .bf16) (x21 : Vec Ideal S1x512x256 .f32) (x22 : Vec Ideal S1x1024 .f32) (x23 : Vec Ideal S1024x4096 .bf16) (x24 : Vec Ideal S4096x1024 .bf16) (x25 : Vec Ideal S1x1024 .f32) (x26 : Vec Ideal S1024x1024 .bf16) (x27 : Vec Ideal S256x1024 .bf16)
    (L : Ld) (n : BitVec 32) (hn : BitVec.ofNat 32 (i 1).val = n)
    (l_kp : View.readAt (Elt Ideal) arg4.view (Rect.unit (s := S1x128x256) ![0, 0, 0] S1x128x256.size inb_S1x128x256_S1x128x256_0_0_0).toLoadRect (harg4.unread x2) = L.kp)
    (l_kc : View.readAt (Elt Ideal) arg5.view (Rect.unit (s := S1x512x256) ![0, 0, 0] S1x512x256.size inb_S1x512x256_S1x512x256_0_0_0).toLoadRect (harg5.unread x3) = L.kc)
    (l_kn : View.readAt (Elt Ideal) arg6.view (Rect.unit (s := S1x128x256) ![0, 0, 0] S1x128x256.size inb_S1x128x256_S1x128x256_0_0_0).toLoadRect (harg6.unread x4) = L.kn)
    (l_vp : View.readAt (Elt Ideal) arg7.view (Rect.unit (s := S1x128x256) ![0, 0, 0] S1x128x256.size inb_S1x128x256_S1x128x256_0_0_0).toLoadRect (harg7.unread x5) = L.vp)
    (l_vc : View.readAt (Elt Ideal) arg8.view (Rect.unit (s := S1x512x256) ![0, 0, 0] S1x512x256.size inb_S1x512x256_S1x512x256_0_0_0).toLoadRect (harg8.unread x6) = L.vc)
    (l_vn : View.readAt (Elt Ideal) arg9.view (Rect.unit (s := S1x128x256) ![0, 0, 0] S1x128x256.size inb_S1x128x256_S1x128x256_0_0_0).toLoadRect (harg9.unread x7) = L.vn)
    (l_bd : View.readAt (Elt Ideal) arg19.view (Rect.unit (s := S128x128) ![0, 0] S128x128.size inb_S128x128_S128x128_0_0).toLoadRect (harg19.unread x17) = L.bd)
    (l_x : View.readAt (Elt Ideal) arg10.view (Rect.unit (s := S1x512x1024) ![0, 0, 0] S1x512x1024.size inb_S1x512x1024_S1x512x1024_0_0_0).toLoadRect (harg10.unread x8) = L.x)
    (l_q00 : View.readAt (Elt Ideal) arg3.view (Rect.unit (s := S1x512x512) ![0, 0, 0] S1x128x128.size inb_S1x512x512_S1x128x128_0_0_0).toLoadRect (harg3.unread x1) = L.q00)
    (l_q01 : View.readAt (Elt Ideal) arg3.view (Rect.unit (s := S1x512x512) ![0, 0, 128] S1x128x128.size inb_S1x512x512_S1x128x128_0_0_128).toLoadRect (harg3.unread x1) = L.q01)
    (l_s0 : View.readAt (Elt Ideal) arg2.view (Rect.unit (s := S8) ![0] S1.size inb_S8_S1_0).toLoadRect (harg2.unread x0) (Shape.Idx.first (by decide)) = L.s0)
    (l_s2 : View.readAt (Elt Ideal) arg2.view (Rect.unit (s := S8) ![2] S1.size inb_S8_S1_2).toLoadRect (harg2.unread x0) (Shape.Idx.first (by decide)) = L.s2)
    (l_s1 : View.readAt (Elt Ideal) arg2.view (Rect.unit (s := S8) ![1] S1.size inb_S8_S1_1).toLoadRect (harg2.unread x0) (Shape.Idx.first (by decide)) = L.s1)
    (l_s3 : View.readAt (Elt Ideal) arg2.view (Rect.unit (s := S8) ![3] S1.size inb_S8_S1_3).toLoadRect (harg2.unread x0) (Shape.Idx.first (by decide)) = L.s3)
    (l_q02 : View.readAt (Elt Ideal) arg3.view (Rect.unit (s := S1x512x512) ![0, 0, 256] S1x128x128.size inb_S1x512x512_S1x128x128_0_0_256).toLoadRect (harg3.unread x1) = L.q02)
    (l_q03 : View.readAt (Elt Ideal) arg3.view (Rect.unit (s := S1x512x512) ![0, 0, 384] S1x128x128.size inb_S1x512x512_S1x128x128_0_0_384).toLoadRect (harg3.unread x1) = L.q03)
    (l_s4 : View.readAt (Elt Ideal) arg2.view (Rect.unit (s := S8) ![4] S1.size inb_S8_S1_4).toLoadRect (harg2.unread x0) (Shape.Idx.first (by decide)) = L.s4)
    (l_s6 : View.readAt (Elt Ideal) arg2.view (Rect.unit (s := S8) ![6] S1.size inb_S8_S1_6).toLoadRect (harg2.unread x0) (Shape.Idx.first (by decide)) = L.s6)
    (l_s5 : View.readAt (Elt Ideal) arg2.view (Rect.unit (s := S8) ![5] S1.size inb_S8_S1_5).toLoadRect (harg2.unread x0) (Shape.Idx.first (by decide)) = L.s5)
    (l_s7 : View.readAt (Elt Ideal) arg2.view (Rect.unit (s := S8) ![7] S1.size inb_S8_S1_7).toLoadRect (harg2.unread x0) (Shape.Idx.first (by decide)) = L.s7)
    (l_q10 : View.readAt (Elt Ideal) arg3.view (Rect.unit (s := S1x512x512) ![0, 128, 0] S1x128x128.size inb_S1x512x512_S1x128x128_0_128_0).toLoadRect (harg3.unread x1) = L.q10)
    (l_q11 : View.readAt (Elt Ideal) arg3.view (Rect.unit (s := S1x512x512) ![0, 128, 128] S1x128x128.size inb_S1x512x512_S1x128x128_0_128_128).toLoadRect (harg3.unread x1) = L.q11)
    (l_q12 : View.readAt (Elt Ideal) arg3.view (Rect.unit (s := S1x512x512) ![0, 128, 256] S1x128x128.size inb_S1x512x512_S1x128x128_0_128_256).toLoadRect (harg3.unread x1) = L.q12)
    (l_q13 : View.readAt (Elt Ideal) arg3.view (Rect.unit (s := S1x512x512) ![0, 128, 384] S1x128x128.size inb_S1x512x512_S1x128x128_0_128_384).toLoadRect (harg3.unread x1) = L.q13)
    (l_gain : View.readAt (Elt Ideal) arg11.view (Rect.unit (s := S1x1024) ![0, 0] S1x1024.size inb_S1x1024_S1x1024_0_0).toLoadRect (harg11.unread x9) = L.gain)
    (l_wg0 : View.readAt (Elt Ideal) arg12.view (Rect.unit (s := S1024x2048) ![0, 0] S1024x512.size inb_S1024x2048_S1024x512_0_0).toLoadRect (harg12.unread x10) = L.wg0)
    (l_wg1 : View.readAt (Elt Ideal) arg12.view (Rect.unit (s := S1024x2048) ![0, 512] S1024x512.size inb_S1024x2048_S1024x512_0_512).toLoadRect (harg12.unread x10) = L.wg1)
    (l_q20 : View.readAt (Elt Ideal) arg3.view (Rect.unit (s := S1x512x512) ![0, 256, 0] S1x128x128.size inb_S1x512x512_S1x128x128_0_256_0).toLoadRect (harg3.unread x1) = L.q20)
    (l_q21 : View.readAt (Elt Ideal) arg3.view (Rect.unit (s := S1x512x512) ![0, 256, 128] S1x128x128.size inb_S1x512x512_S1x128x128_0_256_128).toLoadRect (harg3.unread x1) = L.q21)
    (l_q22 : View.readAt (Elt Ideal) arg3.view (Rect.unit (s := S1x512x512) ![0, 256, 256] S1x128x128.size inb_S1x512x512_S1x128x128_0_256_256).toLoadRect (harg3.unread x1) = L.q22)
    (l_q23 : View.readAt (Elt Ideal) arg3.view (Rect.unit (s := S1x512x512) ![0, 256, 384] S1x128x128.size inb_S1x512x512_S1x128x128_0_256_384).toLoadRect (harg3.unread x1) = L.q23)
    (l_wg2 : View.readAt (Elt Ideal) arg12.view (Rect.unit (s := S1024x2048) ![0, 1024] S1024x512.size inb_S1024x2048_S1024x512_0_1024).toLoadRect (harg12.unread x10) = L.wg2)
    (l_q30 : View.readAt (Elt Ideal) arg3.view (Rect.unit (s := S1x512x512) ![0, 384, 0] S1x128x128.size inb_S1x512x512_S1x128x128_0_384_0).toLoadRect (harg3.unread x1) = L.q30)
    (l_q31 : View.readAt (Elt Ideal) arg3.view (Rect.unit (s := S1x512x512) ![0, 384, 128] S1x128x128.size inb_S1x512x512_S1x128x128_0_384_128).toLoadRect (harg3.unread x1) = L.q31)
    (l_q32 : View.readAt (Elt Ideal) arg3.view (Rect.unit (s := S1x512x512) ![0, 384, 256] S1x128x128.size inb_S1x512x512_S1x128x128_0_384_256).toLoadRect (harg3.unread x1) = L.q32)
    (l_q33 : View.readAt (Elt Ideal) arg3.view (Rect.unit (s := S1x512x512) ![0, 384, 384] S1x128x128.size inb_S1x512x512_S1x128x128_0_384_384).toLoadRect (harg3.unread x1) = L.q33)
    (l_wg3 : View.readAt (Elt Ideal) arg12.view (Rect.unit (s := S1024x2048) ![0, 1536] S1024x512.size inb_S1024x2048_S1024x512_0_1536).toLoadRect (harg12.unread x10) = L.wg3)
    (l_y0 : View.readAt (Elt Ideal) arg13.view (Rect.unit (s := S1x512x512) ![0, 0, 0] S1x512x512.size inb_S1x512x512_S1x512x512_0_0_0).toLoadRect (harg13.unread x11) = L.y0)
    (l_y1 : View.readAt (Elt Ideal) arg14.view (Rect.unit (s := S1x512x512) ![0, 0, 0] S1x512x512.size inb_S1x512x512_S1x512x512_0_0_0).toLoadRect (harg14.unread x12) = L.y1)
    (l_lnw : View.readAt (Elt Ideal) arg17.view (Rect.unit (s := S1x512) ![0, 0] S1x512.size inb_S1x512_S1x512_0_0).toLoadRect (harg17.unread x15) = L.lnw)
    (l_lnb : View.readAt (Elt Ideal) arg18.view (Rect.unit (s := S1x512) ![0, 0] S1x512.size inb_S1x512_S1x512_0_0).toLoadRect (harg18.unread x16) = L.lnb)
    (l_bonus : View.readAt (Elt Ideal) arg15.view (Rect.unit (s := S1x512x512) ![0, 0, 0] S1x512x512.size inb_S1x512x512_S1x512x512_0_0_0).toLoadRect (harg15.unread x13) = L.bonus)
    (l_g : View.readAt (Elt Ideal) arg16.view (Rect.unit (s := S1x512x512) ![0, 0, 0] S1x512x512.size inb_S1x512x512_S1x512x512_0_0_0).toLoadRect (harg16.unread x14) = L.g)
    (l_wua : View.readAt (Elt Ideal) arg20.view (Rect.unit (s := S512x1024) ![0, 0] S512x1024.size inb_S512x1024_S512x1024_0_0).toLoadRect (harg20.unread x18) = L.wua)
    (l_wur : View.readAt (Elt Ideal) arg21.view (Rect.unit (s := S512x1024) ![0, 0] S512x1024.size inb_S512x1024_S512x1024_0_0).toLoadRect (harg21.unread x19) = L.wur)
    (l_wo0 : View.readAt (Elt Ideal) arg22.view (Rect.unit (s := S1024x1024) ![0, 0] S1024x512.size inb_S1024x1024_S1024x512_0_0).toLoadRect (harg22.unread x20) = L.wo0)
    (l_wo1 : View.readAt (Elt Ideal) arg22.view (Rect.unit (s := S1024x1024) ![0, 512] S1024x512.size inb_S1024x1024_S1024x512_0_512).toLoadRect (harg22.unread x20) = L.wo1)
    (l_gf : View.readAt (Elt Ideal) arg24.view (Rect.unit (s := S1x1024) ![0, 0] S1x1024.size inb_S1x1024_S1x1024_0_0).toLoadRect (harg24.unread x22) = L.gf)
    (l_w10 : View.readAt (Elt Ideal) arg25.view (Rect.unit (s := S1024x4096) ![0, 0] S1024x1024.size inb_S1024x4096_S1024x1024_0_0).toLoadRect (harg25.unread x23) = L.w10)
    (l_w20 : View.readAt (Elt Ideal) arg26.view (Rect.unit (s := S4096x1024) ![0, 0] S1024x1024.size inb_S4096x1024_S1024x1024_0_0).toLoadRect (harg26.unread x24) = L.w20)
    (l_w11 : View.readAt (Elt Ideal) arg25.view (Rect.unit (s := S1024x4096) ![0, 1024] S1024x1024.size inb_S1024x4096_S1024x1024_0_1024).toLoadRect (harg25.unread x23) = L.w11)
    (l_w21 : View.readAt (Elt Ideal) arg26.view (Rect.unit (s := S4096x1024) ![1024, 0] S1024x1024.size inb_S4096x1024_S1024x1024_1024_0).toLoadRect (harg26.unread x24) = L.w21)
    (l_w12 : View.readAt (Elt Ideal) arg25.view (Rect.unit (s := S1024x4096) ![0, 2048] S1024x1024.size inb_S1024x4096_S1024x1024_0_2048).toLoadRect (harg25.unread x23) = L.w12)
    (l_w22 : View.readAt (Elt Ideal) arg26.view (Rect.unit (s := S4096x1024) ![2048, 0] S1024x1024.size inb_S4096x1024_S1024x1024_2048_0).toLoadRect (harg26.unread x24) = L.w22)
    (l_w13 : View.readAt (Elt Ideal) arg25.view (Rect.unit (s := S1024x4096) ![0, 3072] S1024x1024.size inb_S1024x4096_S1024x1024_0_3072).toLoadRect (harg25.unread x23) = L.w13)
    (l_w23 : View.readAt (Elt Ideal) arg26.view (Rect.unit (s := S4096x1024) ![3072, 0] S1024x1024.size inb_S4096x1024_S1024x1024_3072_0).toLoadRect (harg26.unread x24) = L.w23)
    (l_gp : View.readAt (Elt Ideal) arg27.view (Rect.unit (s := S1x1024) ![0, 0] S1x1024.size inb_S1x1024_S1x1024_0_0).toLoadRect (harg27.unread x25) = L.gp)
    (l_p : View.readAt (Elt Ideal) arg23.view (Rect.unit (s := S1x512x256) ![0, 0, 0] S1x512x256.size inb_S1x512x256_S1x512x256_0_0_0).toLoadRect (harg23.unread x21) = L.p)
    (l_wple : View.readAt (Elt Ideal) arg29.view (Rect.unit (s := S256x1024) ![0, 0] S256x1024.size inb_S256x1024_S256x1024_0_0).toLoadRect (harg29.unread x27) = L.wple)
    (l_wpg : View.readAt (Elt Ideal) arg28.view (Rect.unit (s := S1024x1024) ![0, 0] S1024x1024.size inb_S1024x1024_S1024x1024_0_0).toLoadRect (harg28.unread x26) = L.wpg)
    : (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1 = [⟨Rect.unit (s := S1x512x1024) ![0, 0, 0] S1x512x1024.size inb_S1x512x1024_S1x512x1024_0_0_0, cOUT n L⟩] := by
  subst hn
  have e_r_4 : midRun.sl.r_4 (F := Ideal) arg10 harg10 x8 = c41 (BitVec.ofNat 32 (i 1).val) L := by
    delta midRun.sl.r_4
    try simp only [l_x]
    rfl
  have e_r_43 : midRun.sl.r_43 (F := Ideal) arg10 harg10 arg11 harg11 arg12 harg12 x8 x9 x10 = c288 (BitVec.ofNat 32 (i 1).val) L := by
    delta midRun.sl.r_43
    try simp only [e_r_4, l_gain, l_wg0, l_wg1, l_wg2, l_wg3]
    rfl
  have e_v532 : midRun.sl.v532 (F := Ideal) arg10 harg10 arg11 harg11 arg12 harg12 x8 x9 x10 = c532 (BitVec.ofNat 32 (i 1).val) L := by
    delta midRun.sl.v532 midRun.sl.v526 midRun.sl.v530 midRun.sl.v528 midRun.sl.v527 midRun.sl.cst_178
    try simp only [e_r_43]
    rfl
  have e_r_42 : midRun.sl.r_42 (F := Ideal) arg10 harg10 arg11 harg11 x8 x9 = c285 (BitVec.ofNat 32 (i 1).val) L := by
    delta midRun.sl.r_42
    try simp only [e_r_4, l_gain]
    rfl
  have e_v339 : midRun.sl.v339 (F := Ideal) arg10 harg10 arg11 harg11 arg12 harg12 x8 x9 x10 = c339 (BitVec.ofNat 32 (i 1).val) L := by
    delta midRun.sl.v339 midRun.sl.cst_119 midRun.sl.v338
    try simp only [e_r_42, l_wg0, l_wg1, l_wg2, l_wg3]
    rfl
  have e_v732 : midRun.sl.v732 (F := Ideal) arg10 harg10 arg11 harg11 arg12 harg12 x8 x9 x10 = c732 (BitVec.ofNat 32 (i 1).val) L := by
    delta midRun.sl.v732 midRun.sl.v526 midRun.sl.v730 midRun.sl.v728 midRun.sl.v727 midRun.sl.cst_178
    try simp only [e_v339]
    rfl
  have e_r_2 : midRun.sl.r_2 = c34 (BitVec.ofNat 32 (i 1).val) L := by
    delta midRun.sl.r_2 midRun.sl.v32
    rfl
  have e_r_23 : midRun.sl.r_23 (F := Ideal) arg2 harg2 x0 = c137 (BitVec.ofNat 32 (i 1).val) L := by
    delta midRun.sl.r_23 midRun.sl.r_19 midRun.sl.r_20
    try simp only [e_r_2, l_s0, l_s1, l_s2, l_s3, l_s4, l_s5, l_s6, l_s7]
    rfl
  have e_r_17 : midRun.sl.r_17 (F := Ideal) arg3 harg3 x1 = c107 (BitVec.ofNat 32 (i 1).val) L := by
    delta midRun.sl.r_17
    try simp only [l_q00, l_q01, l_q02, l_q03, l_q10, l_q11, l_q12, l_q13, l_q20, l_q21, l_q22, l_q23, l_q30, l_q31, l_q32, l_q33]
    rfl
  have e_v30 : midRun.sl.v30 = c30 (BitVec.ofNat 32 (i 1).val) L := by
    delta midRun.sl.v30 midRun.sl.v14 midRun.sl.v17 midRun.sl.v20 midRun.sl.v26 midRun.sl.v29 midRun.sl.v22 midRun.sl.v24 midRun.sl.v19
    rfl
  have e_r_5 : midRun.sl.r_5 i = c45 (BitVec.ofNat 32 (i 1).val) L := by
    delta midRun.sl.r_5 midRun.sl.v31
    try simp only [e_v30]
    rfl
  have e_v6 : midRun.sl.v6 (F := Ideal) arg4 harg4 arg5 harg5 arg6 harg6 x2 x3 x4 = c6 (BitVec.ofNat 32 (i 1).val) L := by
    refine Eq.trans (b := k0_pay2 (View.readAt (Elt Ideal) arg4.view (Rect.unit (s := S1x128x256) ![0, 0, 0] S1x128x256.size inb_S1x128x256_S1x128x256_0_0_0).toLoadRect (harg4.unread x2)) (View.readAt (Elt Ideal) arg5.view (Rect.unit (s := S1x512x256) ![0, 0, 0] S1x512x256.size inb_S1x512x256_S1x512x256_0_0_0).toLoadRect (harg5.unread x3)) (View.readAt (Elt Ideal) arg6.view (Rect.unit (s := S1x128x256) ![0, 0, 0] S1x128x256.size inb_S1x128x256_S1x128x256_0_0_0).toLoadRect (harg6.unread x4))) rfl ?_
    rw [l_kp, l_kc, l_kn]
    rfl
  have e_r_24 : midRun.sl.r_24 (F := Ideal) i arg3 harg3 arg4 harg4 arg5 harg5 arg6 harg6 x1 x2 x3 x4 = c151 (BitVec.ofNat 32 (i 1).val) L := by
    delta midRun.sl.r_24 midRun.sl.v31
    try simp only [e_r_17, e_r_5, e_v30, e_v6]
    rfl
  have e_v335 : midRun.sl.v335 (F := Ideal) i arg2 harg2 arg3 harg3 arg4 harg4 arg5 harg5 arg6 harg6 x0 x1 x2 x3 x4 = c335 (BitVec.ofNat 32 (i 1).val) L := by
    delta midRun.sl.v335 midRun.sl.v332 midRun.sl.v334 midRun.sl.v333 midRun.sl.v327 midRun.sl.v326 midRun.sl.v325 midRun.sl.v331 midRun.sl.v330 midRun.sl.v329 midRun.sl.v328
    try simp only [e_r_23, e_r_24]
    rfl
  have e_v13 : midRun.sl.v13 (F := Ideal) arg7 harg7 arg8 harg8 arg9 harg9 x5 x6 x7 = c13 (BitVec.ofNat 32 (i 1).val) L := by
    refine Eq.trans (b := k0_pay3 (View.readAt (Elt Ideal) arg7.view (Rect.unit (s := S1x128x256) ![0, 0, 0] S1x128x256.size inb_S1x128x256_S1x128x256_0_0_0).toLoadRect (harg7.unread x5)) (View.readAt (Elt Ideal) arg8.view (Rect.unit (s := S1x512x256) ![0, 0, 0] S1x512x256.size inb_S1x512x256_S1x512x256_0_0_0).toLoadRect (harg8.unread x6)) (View.readAt (Elt Ideal) arg9.view (Rect.unit (s := S1x128x256) ![0, 0, 0] S1x128x256.size inb_S1x128x256_S1x128x256_0_0_0).toLoadRect (harg9.unread x7))) rfl ?_
    rw [l_vp, l_vc, l_vn]
    rfl
  have e_r_25 : midRun.sl.r_25 (F := Ideal) arg7 harg7 arg8 harg8 arg9 harg9 x5 x6 x7 = c156 (BitVec.ofNat 32 (i 1).val) L := by
    delta midRun.sl.r_25
    try simp only [e_v13]
    rfl
  have e_v336 : midRun.sl.v336 (F := Ideal) i arg2 harg2 arg3 harg3 arg4 harg4 arg5 harg5 arg6 harg6 x0 x1 x2 x3 x4 = c336 (BitVec.ofNat 32 (i 1).val) L := by
    delta midRun.sl.v336 midRun.sl.v330 midRun.sl.v329 midRun.sl.v328 midRun.sl.v327 midRun.sl.v326 midRun.sl.v325
    try simp only [e_r_24, e_r_23]
    rfl
  have e_r_18 : midRun.sl.r_18 (F := Ideal) arg2 harg2 x0 = c112 (BitVec.ofNat 32 (i 1).val) L := by
    delta midRun.sl.r_18 midRun.sl.r_11 midRun.sl.r_12
    try simp only [e_r_2, l_s0, l_s1, l_s2, l_s3, l_s4, l_s5, l_s6, l_s7]
    rfl
  have e_r_21 : midRun.sl.r_21 (F := Ideal) i arg3 harg3 arg4 harg4 arg5 harg5 arg6 harg6 x1 x2 x3 x4 = c126 (BitVec.ofNat 32 (i 1).val) L := by
    delta midRun.sl.r_21 midRun.sl.cst_47 midRun.sl.v31
    try simp only [e_r_17, e_r_5, e_v30, e_v6]
    rfl
  have e_v323 : midRun.sl.v323 (F := Ideal) i arg2 harg2 arg3 harg3 arg4 harg4 arg5 harg5 arg6 harg6 x0 x1 x2 x3 x4 = c323 (BitVec.ofNat 32 (i 1).val) L := by
    delta midRun.sl.v323 midRun.sl.v320 midRun.sl.v322 midRun.sl.v321 midRun.sl.v315 midRun.sl.v314 midRun.sl.v313 midRun.sl.v319 midRun.sl.v318 midRun.sl.v317 midRun.sl.v316
    try simp only [e_r_18, e_r_21]
    rfl
  have e_r_22 : midRun.sl.r_22 (F := Ideal) arg7 harg7 arg8 harg8 arg9 harg9 x5 x6 x7 = c131 (BitVec.ofNat 32 (i 1).val) L := by
    delta midRun.sl.r_22
    try simp only [e_v13]
    rfl
  have e_v324 : midRun.sl.v324 (F := Ideal) i arg2 harg2 arg3 harg3 arg4 harg4 arg5 harg5 arg6 harg6 x0 x1 x2 x3 x4 = c324 (BitVec.ofNat 32 (i 1).val) L := by
    delta midRun.sl.v324 midRun.sl.v318 midRun.sl.v317 midRun.sl.v316 midRun.sl.v315 midRun.sl.v314 midRun.sl.v313
    try simp only [e_r_21, e_r_18]
    rfl
  have e_r_14 : midRun.sl.r_14 (F := Ideal) arg2 harg2 x0 = c83 (BitVec.ofNat 32 (i 1).val) L := by
    delta midRun.sl.r_14 midRun.sl.r_10 midRun.sl.r_9
    try simp only [e_r_2, l_s0, l_s1, l_s2, l_s3, l_s4, l_s5, l_s6, l_s7]
    rfl
  have e_r_6 : midRun.sl.r_6 (F := Ideal) arg3 harg3 x1 = c53 (BitVec.ofNat 32 (i 1).val) L := by
    delta midRun.sl.r_6
    try simp only [l_q00, l_q01, l_q02, l_q03, l_q10, l_q11, l_q12, l_q13, l_q20, l_q21, l_q22, l_q23, l_q30, l_q31, l_q32, l_q33]
    rfl
  have e_r_15 : midRun.sl.r_15 (F := Ideal) i arg3 harg3 arg4 harg4 arg5 harg5 arg6 harg6 x1 x2 x3 x4 = c97 (BitVec.ofNat 32 (i 1).val) L := by
    delta midRun.sl.r_15 midRun.sl.v31
    try simp only [e_r_5, e_r_6, e_v30, e_v6]
    rfl
  have e_v311 : midRun.sl.v311 (F := Ideal) i arg2 harg2 arg3 harg3 arg4 harg4 arg5 harg5 arg6 harg6 x0 x1 x2 x3 x4 = c311 (BitVec.ofNat 32 (i 1).val) L := by
    delta midRun.sl.v311 midRun.sl.v308 midRun.sl.v310 midRun.sl.v309 midRun.sl.v303 midRun.sl.v302 midRun.sl.v301 midRun.sl.v307 midRun.sl.v306 midRun.sl.v305 midRun.sl.v304
    try simp only [e_r_14, e_r_15]
    rfl
  have e_r_16 : midRun.sl.r_16 (F := Ideal) arg7 harg7 arg8 harg8 arg9 harg9 x5 x6 x7 = c102 (BitVec.ofNat 32 (i 1).val) L := by
    delta midRun.sl.r_16
    try simp only [e_v13]
    rfl
  have e_v312 : midRun.sl.v312 (F := Ideal) i arg2 harg2 arg3 harg3 arg4 harg4 arg5 harg5 arg6 harg6 x0 x1 x2 x3 x4 = c312 (BitVec.ofNat 32 (i 1).val) L := by
    delta midRun.sl.v312 midRun.sl.v306 midRun.sl.v305 midRun.sl.v304 midRun.sl.v303 midRun.sl.v302 midRun.sl.v301
    try simp only [e_r_15, e_r_14]
    rfl
  have e_r_7 : midRun.sl.r_7 (F := Ideal) arg2 harg2 x0 = c58 (BitVec.ofNat 32 (i 1).val) L := by
    delta midRun.sl.r_7 midRun.sl.r midRun.sl.r_1 midRun.sl.v32
    try simp only [l_s0, l_s1, l_s2, l_s3, l_s4, l_s5, l_s6, l_s7]
    rfl
  have e_r_8 : midRun.sl.r_8 (F := Ideal) i arg3 harg3 arg4 harg4 arg5 harg5 arg6 harg6 x1 x2 x3 x4 = c72 (BitVec.ofNat 32 (i 1).val) L := by
    delta midRun.sl.r_8 midRun.sl.v31
    try simp only [e_v30, e_v6, l_q00, l_q01, l_q02, l_q03, l_q10, l_q11, l_q12, l_q13, l_q20, l_q21, l_q22, l_q23, l_q30, l_q31, l_q32, l_q33]
    rfl
  have e_r_44 : midRun.sl.r_44 (F := Ideal) i arg3 harg3 arg4 harg4 arg5 harg5 arg6 harg6 x1 x2 x3 x4 = c289 (BitVec.ofNat 32 (i 1).val) L := by
    delta midRun.sl.r_44
    try simp only [e_r_8]
    rfl
  have e_v299 : midRun.sl.v299 (F := Ideal) i arg2 harg2 arg3 harg3 arg4 harg4 arg5 harg5 arg6 harg6 x0 x1 x2 x3 x4 = c299 (BitVec.ofNat 32 (i 1).val) L := by
    delta midRun.sl.v299 midRun.sl.v296 midRun.sl.v298 midRun.sl.v297 midRun.sl.v291 midRun.sl.v290 midRun.sl.v295 midRun.sl.v294 midRun.sl.v293 midRun.sl.v292
    try simp only [e_r_7, e_r_44, e_r_8]
    rfl
  have e_r_13 : midRun.sl.r_13 (F := Ideal) arg7 harg7 arg8 harg8 arg9 harg9 x5 x6 x7 = c77 (BitVec.ofNat 32 (i 1).val) L := by
    delta midRun.sl.r_13
    try simp only [e_v13]
    rfl
  have e_v300 : midRun.sl.v300 (F := Ideal) i arg2 harg2 arg3 harg3 arg4 harg4 arg5 harg5 arg6 harg6 x0 x1 x2 x3 x4 = c300 (BitVec.ofNat 32 (i 1).val) L := by
    delta midRun.sl.v300 midRun.sl.v294 midRun.sl.v293 midRun.sl.v292 midRun.sl.v291 midRun.sl.v290
    try simp only [e_r_8, e_r_7, e_r_44]
    rfl
  have e_v390 : midRun.sl.v390 (F := Ideal) i arg2 harg2 arg3 harg3 arg4 harg4 arg5 harg5 arg6 harg6 arg7 harg7 arg8 harg8 arg9 harg9 x0 x1 x2 x3 x4 x5 x6 x7 = c390 (BitVec.ofNat 32 (i 1).val) L := by
    delta midRun.sl.v390 midRun.sl.v388 midRun.sl.v389 midRun.sl.cst_128
    try simp only [e_v299, e_r_13, e_v300]
    rfl
  have e_v411 : midRun.sl.v411 (F := Ideal) i arg2 harg2 arg3 harg3 arg4 harg4 arg5 harg5 arg6 harg6 arg7 harg7 arg8 harg8 arg9 harg9 x0 x1 x2 x3 x4 x5 x6 x7 = c411 (BitVec.ofNat 32 (i 1).val) L := by
    delta midRun.sl.v411 midRun.sl.v410 midRun.sl.v397 midRun.sl.v398 midRun.sl.v408 midRun.sl.v409 midRun.sl.v407 midRun.sl.v403 midRun.sl.v406 midRun.sl.v404 midRun.sl.v405 midRun.sl.cst_128 midRun.sl.v391 midRun.sl.v401 midRun.sl.v399 midRun.sl.v400 midRun.sl.cst_129 midRun.sl.v396 midRun.sl.v392 midRun.sl.v395 midRun.sl.v393 midRun.sl.v394
    try simp only [e_v335, e_r_25, e_v336, e_v323, e_r_22, e_v324, e_v311, e_r_16, e_v312, e_v390]
    try rw [e_v335]
    try rw [e_r_25]
    try rw [e_v336]
    try rw [e_v323]
    try rw [e_r_22]
    try rw [e_v324]
    try rw [e_v311]
    try rw [e_r_16]
    try rw [e_v312]
    try rw [e_v390]
    rfl
  have e_r_39 : midRun.sl.r_39 (F := Ideal) arg2 harg2 x0 = c251 (BitVec.ofNat 32 (i 1).val) L := by
    delta midRun.sl.r_39 midRun.sl.r_19 midRun.sl.r_20
    try simp only [e_r_2, l_s0, l_s1, l_s2, l_s3, l_s4, l_s5, l_s6, l_s7]
    rfl
  have e_r_26 : midRun.sl.r_26 = c162 (BitVec.ofNat 32 (i 1).val) L := by
    delta midRun.sl.r_26 midRun.sl.v31
    try simp only [e_v30]
    rfl
  have e_r_35 : midRun.sl.r_35 (F := Ideal) arg3 harg3 x1 = c221 (BitVec.ofNat 32 (i 1).val) L := by
    delta midRun.sl.r_35
    try simp only [l_q00, l_q01, l_q02, l_q03, l_q10, l_q11, l_q12, l_q13, l_q20, l_q21, l_q22, l_q23, l_q30, l_q31, l_q32, l_q33]
    rfl
  have e_r_40 : midRun.sl.r_40 (F := Ideal) arg3 harg3 arg4 harg4 arg5 harg5 arg6 harg6 x1 x2 x3 x4 = c265 (BitVec.ofNat 32 (i 1).val) L := by
    delta midRun.sl.r_40 midRun.sl.cst_94 midRun.sl.v31
    try simp only [e_r_26, e_r_35, e_v30, e_v6]
    rfl
  have e_v386 : midRun.sl.v386 (F := Ideal) arg2 harg2 arg3 harg3 arg4 harg4 arg5 harg5 arg6 harg6 x0 x1 x2 x3 x4 = c386 (BitVec.ofNat 32 (i 1).val) L := by
    delta midRun.sl.v386 midRun.sl.v383 midRun.sl.v385 midRun.sl.v384 midRun.sl.v378 midRun.sl.v377 midRun.sl.v376 midRun.sl.v382 midRun.sl.v381 midRun.sl.v380 midRun.sl.v379
    try simp only [e_r_39, e_r_40]
    rfl
  have e_r_41 : midRun.sl.r_41 (F := Ideal) arg7 harg7 arg8 harg8 arg9 harg9 x5 x6 x7 = c270 (BitVec.ofNat 32 (i 1).val) L := by
    delta midRun.sl.r_41 midRun.sl.cst_94
    try simp only [e_v13]
    rfl
  have e_v387 : midRun.sl.v387 (F := Ideal) arg2 harg2 arg3 harg3 arg4 harg4 arg5 harg5 arg6 harg6 x0 x1 x2 x3 x4 = c387 (BitVec.ofNat 32 (i 1).val) L := by
    delta midRun.sl.v387 midRun.sl.v381 midRun.sl.v380 midRun.sl.v379 midRun.sl.v378 midRun.sl.v377 midRun.sl.v376
    try simp only [e_r_40, e_r_39]
    rfl
  have e_r_36 : midRun.sl.r_36 (F := Ideal) arg2 harg2 x0 = c226 (BitVec.ofNat 32 (i 1).val) L := by
    delta midRun.sl.r_36 midRun.sl.r_11 midRun.sl.r_12
    try simp only [e_r_2, l_s0, l_s1, l_s2, l_s3, l_s4, l_s5, l_s6, l_s7]
    rfl
  have e_r_37 : midRun.sl.r_37 (F := Ideal) arg3 harg3 arg4 harg4 arg5 harg5 arg6 harg6 x1 x2 x3 x4 = c240 (BitVec.ofNat 32 (i 1).val) L := by
    delta midRun.sl.r_37 midRun.sl.v31
    try simp only [e_r_26, e_v30, e_v6, l_q00, l_q01, l_q02, l_q03, l_q10, l_q11, l_q12, l_q13, l_q20, l_q21, l_q22, l_q23, l_q30, l_q31, l_q32, l_q33]
    rfl
  have e_v374 : midRun.sl.v374 (F := Ideal) arg2 harg2 arg3 harg3 arg4 harg4 arg5 harg5 arg6 harg6 x0 x1 x2 x3 x4 = c374 (BitVec.ofNat 32 (i 1).val) L := by
    delta midRun.sl.v374 midRun.sl.v371 midRun.sl.v373 midRun.sl.v372 midRun.sl.v366 midRun.sl.v365 midRun.sl.v364 midRun.sl.v370 midRun.sl.v369 midRun.sl.v368 midRun.sl.v367
    try simp only [e_r_36, e_r_37]
    rfl
  have e_r_38 : midRun.sl.r_38 (F := Ideal) arg7 harg7 arg8 harg8 arg9 harg9 x5 x6 x7 = c245 (BitVec.ofNat 32 (i 1).val) L := by
    delta midRun.sl.r_38
    try simp only [e_v13]
    rfl
  have e_v375 : midRun.sl.v375 (F := Ideal) arg2 harg2 arg3 harg3 arg4 harg4 arg5 harg5 arg6 harg6 x0 x1 x2 x3 x4 = c375 (BitVec.ofNat 32 (i 1).val) L := by
    delta midRun.sl.v375 midRun.sl.v369 midRun.sl.v368 midRun.sl.v367 midRun.sl.v366 midRun.sl.v365 midRun.sl.v364
    try simp only [e_r_37, e_r_36]
    rfl
  have e_r_30 : midRun.sl.r_30 (F := Ideal) arg2 harg2 x0 = c197 (BitVec.ofNat 32 (i 1).val) L := by
    delta midRun.sl.r_30 midRun.sl.r_10 midRun.sl.r_9
    try simp only [e_r_2, l_s0, l_s1, l_s2, l_s3, l_s4, l_s5, l_s6, l_s7]
    rfl
  have e_r_31 : midRun.sl.r_31 (F := Ideal) arg3 harg3 x1 = c201 (BitVec.ofNat 32 (i 1).val) L := by
    delta midRun.sl.r_31
    try simp only [l_q00, l_q01, l_q02, l_q03, l_q10, l_q11, l_q12, l_q13, l_q20, l_q21, l_q22, l_q23, l_q30, l_q31, l_q32, l_q33]
    rfl
  have e_r_32 : midRun.sl.r_32 (F := Ideal) arg4 harg4 arg5 harg5 arg6 harg6 x2 x3 x4 = c202 (BitVec.ofNat 32 (i 1).val) L := by
    delta midRun.sl.r_32
    try simp only [e_v6]
    rfl
  have e_r_33 : midRun.sl.r_33 (F := Ideal) arg3 harg3 arg4 harg4 arg5 harg5 arg6 harg6 x1 x2 x3 x4 = c211 (BitVec.ofNat 32 (i 1).val) L := by
    delta midRun.sl.r_33 midRun.sl.cst_77 midRun.sl.v31
    try simp only [e_r_26, e_r_31, e_r_32, e_v30]
    rfl
  have e_v362 : midRun.sl.v362 (F := Ideal) arg2 harg2 arg3 harg3 arg4 harg4 arg5 harg5 arg6 harg6 x0 x1 x2 x3 x4 = c362 (BitVec.ofNat 32 (i 1).val) L := by
    delta midRun.sl.v362 midRun.sl.v359 midRun.sl.v361 midRun.sl.v360 midRun.sl.v354 midRun.sl.v353 midRun.sl.v352 midRun.sl.v358 midRun.sl.v357 midRun.sl.v356 midRun.sl.v355
    try simp only [e_r_30, e_r_33]
    rfl
  have e_r_34 : midRun.sl.r_34 (F := Ideal) arg7 harg7 arg8 harg8 arg9 harg9 x5 x6 x7 = c216 (BitVec.ofNat 32 (i 1).val) L := by
    delta midRun.sl.r_34
    try simp only [e_v13]
    rfl
  have e_v363 : midRun.sl.v363 (F := Ideal) arg2 harg2 arg3 harg3 arg4 harg4 arg5 harg5 arg6 harg6 x0 x1 x2 x3 x4 = c363 (BitVec.ofNat 32 (i 1).val) L := by
    delta midRun.sl.v363 midRun.sl.v357 midRun.sl.v356 midRun.sl.v355 midRun.sl.v354 midRun.sl.v353 midRun.sl.v352
    try simp only [e_r_33, e_r_30]
    rfl
  have e_r_27 : midRun.sl.r_27 (F := Ideal) arg2 harg2 x0 = c172 (BitVec.ofNat 32 (i 1).val) L := by
    delta midRun.sl.r_27 midRun.sl.r midRun.sl.r_1
    try simp only [e_r_2, l_s0, l_s1, l_s2, l_s3, l_s4, l_s5, l_s6, l_s7]
    rfl
  have e_r_28 : midRun.sl.r_28 (F := Ideal) arg3 harg3 arg4 harg4 arg5 harg5 arg6 harg6 x1 x2 x3 x4 = c186 (BitVec.ofNat 32 (i 1).val) L := by
    delta midRun.sl.r_28 midRun.sl.v31
    try simp only [e_v30, e_v6, l_q00, l_q01, l_q02, l_q03, l_q10, l_q11, l_q12, l_q13, l_q20, l_q21, l_q22, l_q23, l_q30, l_q31, l_q32, l_q33]
    rfl
  have e_v350 : midRun.sl.v350 (F := Ideal) arg2 harg2 arg3 harg3 arg4 harg4 arg5 harg5 arg6 harg6 x0 x1 x2 x3 x4 = c350 (BitVec.ofNat 32 (i 1).val) L := by
    delta midRun.sl.v350 midRun.sl.v347 midRun.sl.v349 midRun.sl.v348 midRun.sl.v342 midRun.sl.v341 midRun.sl.v340 midRun.sl.v346 midRun.sl.v345 midRun.sl.v344 midRun.sl.v343
    try simp only [e_r_27, e_r_28]
    rfl
  have e_r_29 : midRun.sl.r_29 (F := Ideal) arg7 harg7 arg8 harg8 arg9 harg9 x5 x6 x7 = c191 (BitVec.ofNat 32 (i 1).val) L := by
    delta midRun.sl.r_29
    try simp only [e_v13]
    rfl
  have e_v351 : midRun.sl.v351 (F := Ideal) arg2 harg2 arg3 harg3 arg4 harg4 arg5 harg5 arg6 harg6 x0 x1 x2 x3 x4 = c351 (BitVec.ofNat 32 (i 1).val) L := by
    delta midRun.sl.v351 midRun.sl.v345 midRun.sl.v344 midRun.sl.v343 midRun.sl.v342 midRun.sl.v341 midRun.sl.v340
    try simp only [e_r_28, e_r_27]
    rfl
  have e_v559 : midRun.sl.v559 (F := Ideal) arg2 harg2 arg3 harg3 arg4 harg4 arg5 harg5 arg6 harg6 arg7 harg7 arg8 harg8 arg9 harg9 x0 x1 x2 x3 x4 x5 x6 x7 = c559 (BitVec.ofNat 32 (i 1).val) L := by
    delta midRun.sl.v559 midRun.sl.v558 midRun.sl.v545 midRun.sl.v546 midRun.sl.v556 midRun.sl.v557 midRun.sl.v555 midRun.sl.v551 midRun.sl.v554 midRun.sl.v552 midRun.sl.v553 midRun.sl.cst_128 midRun.sl.v391 midRun.sl.v549 midRun.sl.v547 midRun.sl.v548 midRun.sl.cst_129 midRun.sl.v544 midRun.sl.v540 midRun.sl.v543 midRun.sl.v541 midRun.sl.v542 midRun.sl.v538 midRun.sl.v536 midRun.sl.v537
    try simp only [e_v386, e_r_41, e_v387, e_v374, e_r_38, e_v375, e_v362, e_r_34, e_v363, e_v350, e_r_29, e_v351]
    try rw [e_v386]
    try rw [e_r_41]
    try rw [e_v387]
    try rw [e_v374]
    try rw [e_r_38]
    try rw [e_v375]
    try rw [e_v362]
    try rw [e_r_34]
    try rw [e_v363]
    try rw [e_v350]
    try rw [e_r_29]
    try rw [e_v351]
    rfl
  have e_r_49 : midRun.sl.r_49 (F := Ideal) arg2 harg2 x0 = c452 (BitVec.ofNat 32 (i 1).val) L := by
    delta midRun.sl.r_49 midRun.sl.r_10 midRun.sl.r_9
    try simp only [e_r_2, l_s0, l_s1, l_s2, l_s3, l_s4, l_s5, l_s6, l_s7]
    rfl
  have e_v414 : midRun.sl.v414 = c414 (BitVec.ofNat 32 (i 1).val) L := by
    delta midRun.sl.v414 midRun.sl.v31 midRun.sl.v413
    try simp only [e_v30]
    rfl
  have e_v417 : midRun.sl.v417 = c417 (BitVec.ofNat 32 (i 1).val) L := by
    delta midRun.sl.v417 midRun.sl.v31 midRun.sl.v413
    try simp only [e_v30]
    rfl
  have e_v422 : midRun.sl.v422 (F := Ideal) arg3 harg3 x1 = c422 (BitVec.ofNat 32 (i 1).val) L := by
    delta midRun.sl.v422 midRun.sl.v419 midRun.sl.v421
    try simp only [l_q00, l_q01, l_q02, l_q03, l_q10, l_q11, l_q12, l_q13, l_q20, l_q21, l_q22, l_q23, l_q30, l_q31, l_q32, l_q33]
    try rw [l_q00]
    try rw [l_q01]
    try rw [l_q02]
    try rw [l_q03]
    try rw [l_q10]
    try rw [l_q11]
    try rw [l_q12]
    try rw [l_q13]
    try rw [l_q20]
    try rw [l_q21]
    try rw [l_q22]
    try rw [l_q23]
    try rw [l_q30]
    try rw [l_q31]
    try rw [l_q32]
    try rw [l_q33]
    rfl
  have e_r_50 : midRun.sl.r_50 (F := Ideal) arg3 harg3 arg4 harg4 arg5 harg5 arg6 harg6 x1 x2 x3 x4 = c466 (BitVec.ofNat 32 (i 1).val) L := by
    delta midRun.sl.r_50
    try simp only [e_v414, e_v417, e_v422, e_v6]
    rfl
  have e_r_76 : midRun.sl.r_76 (F := Ideal) arg2 harg2 arg3 harg3 arg4 harg4 arg5 harg5 arg6 harg6 x0 x1 x2 x3 x4 = c697 (BitVec.ofNat 32 (i 1).val) L := by
    delta midRun.sl.r_76
    try simp only [e_r_49, e_r_50]
    rfl
  have e_r_51 : midRun.sl.r_51 (F := Ideal) arg7 harg7 arg8 harg8 arg9 harg9 x5 x6 x7 = c471 (BitVec.ofNat 32 (i 1).val) L := by
    delta midRun.sl.r_51
    try simp only [e_v13]
    rfl
  have e_r_77 : midRun.sl.r_77 (F := Ideal) arg2 harg2 arg3 harg3 arg4 harg4 arg5 harg5 arg6 harg6 x0 x1 x2 x3 x4 = c698 (BitVec.ofNat 32 (i 1).val) L := by
    delta midRun.sl.r_77
    try simp only [e_r_49, e_r_50]
    rfl
  have e_v433 : midRun.sl.v433 (F := Ideal) arg3 harg3 arg4 harg4 arg5 harg5 arg6 harg6 x1 x2 x3 x4 = c433 (BitVec.ofNat 32 (i 1).val) L := by
    delta midRun.sl.v433 midRun.sl.cst_77 midRun.sl.v431 midRun.sl.v432 midRun.sl.v429 midRun.sl.v430 midRun.sl.cst_47
    try simp only [e_v6, e_v422]
    rfl
  have e_r_47 : midRun.sl.r_47 (F := Ideal) arg3 harg3 arg4 harg4 arg5 harg5 arg6 harg6 x1 x2 x3 x4 = c441 (BitVec.ofNat 32 (i 1).val) L := by
    delta midRun.sl.r_47
    try simp only [e_v414, e_v417, e_v433]
    rfl
  have e_v427 : midRun.sl.v427 (F := Ideal) arg2 harg2 x0 = c427 (BitVec.ofNat 32 (i 1).val) L := by
    delta midRun.sl.v427 midRun.sl.v425 midRun.sl.v426 midRun.sl.r_46 midRun.sl.r_45
    try simp only [e_r_2, l_s0, l_s1, l_s2, l_s3, l_s4, l_s5, l_s6, l_s7]
    rfl
  have e_r_74 : midRun.sl.r_74 (F := Ideal) arg2 harg2 arg3 harg3 arg4 harg4 arg5 harg5 arg6 harg6 x0 x1 x2 x3 x4 = c685 (BitVec.ofNat 32 (i 1).val) L := by
    delta midRun.sl.r_74
    try simp only [e_r_47, e_v427]
    rfl
  have e_r_48 : midRun.sl.r_48 (F := Ideal) arg7 harg7 arg8 harg8 arg9 harg9 x5 x6 x7 = c446 (BitVec.ofNat 32 (i 1).val) L := by
    delta midRun.sl.r_48
    try simp only [e_v13]
    rfl
  have e_r_75 : midRun.sl.r_75 (F := Ideal) arg2 harg2 arg3 harg3 arg4 harg4 arg5 harg5 arg6 harg6 x0 x1 x2 x3 x4 = c686 (BitVec.ofNat 32 (i 1).val) L := by
    delta midRun.sl.r_75
    try simp only [e_r_47, e_v427]
    rfl
  have e_v790 : midRun.sl.v790 (F := Ideal) arg2 harg2 arg3 harg3 arg4 harg4 arg5 harg5 arg6 harg6 arg7 harg7 arg8 harg8 arg9 harg9 x0 x1 x2 x3 x4 x5 x6 x7 = c790 (BitVec.ofNat 32 (i 1).val) L := by
    delta midRun.sl.v790 midRun.sl.v789 midRun.sl.v785 midRun.sl.v788 midRun.sl.v786 midRun.sl.v787 midRun.sl.cst_128 midRun.sl.v391 midRun.sl.v783 midRun.sl.v781 midRun.sl.v782 midRun.sl.cst_129
    try simp only [e_r_76, e_r_51, e_r_77, e_r_74, e_r_48, e_r_75]
    rfl
  have e_v791 : midRun.sl.v791 (F := Ideal) arg2 harg2 arg3 harg3 arg4 harg4 arg5 harg5 arg6 harg6 arg7 harg7 arg8 harg8 arg9 harg9 x0 x1 x2 x3 x4 x5 x6 x7 = c791 (BitVec.ofNat 32 (i 1).val) L := by
    delta midRun.sl.v791 midRun.sl.v789 midRun.sl.v785 midRun.sl.v788 midRun.sl.v786 midRun.sl.v787 midRun.sl.cst_128 midRun.sl.v391 midRun.sl.v783 midRun.sl.v781 midRun.sl.v782 midRun.sl.cst_129
    try simp only [e_r_76, e_r_51, e_r_77, e_r_74, e_r_48, e_r_75]
    rfl
  have e_r_53 : midRun.sl.r_53 (F := Ideal) arg2 harg2 x0 = c481 (BitVec.ofNat 32 (i 1).val) L := by
    delta midRun.sl.r_53 midRun.sl.r_11 midRun.sl.r_12
    try simp only [e_r_2, l_s0, l_s1, l_s2, l_s3, l_s4, l_s5, l_s6, l_s7]
    rfl
  have e_r_52 : midRun.sl.r_52 (F := Ideal) arg3 harg3 x1 = c476 (BitVec.ofNat 32 (i 1).val) L := by
    delta midRun.sl.r_52
    try simp only [l_q00, l_q01, l_q02, l_q03, l_q10, l_q11, l_q12, l_q13, l_q20, l_q21, l_q22, l_q23, l_q30, l_q31, l_q32, l_q33]
    rfl
  have e_r_54 : midRun.sl.r_54 (F := Ideal) arg3 harg3 arg4 harg4 arg5 harg5 arg6 harg6 x1 x2 x3 x4 = c495 (BitVec.ofNat 32 (i 1).val) L := by
    delta midRun.sl.r_54
    try simp only [e_r_52, e_v414, e_v417, e_v6]
    rfl
  have e_r_78 : midRun.sl.r_78 (F := Ideal) arg3 harg3 arg4 harg4 arg5 harg5 arg6 harg6 x1 x2 x3 x4 = c700 (BitVec.ofNat 32 (i 1).val) L := by
    delta midRun.sl.r_78
    try simp only [e_r_54]
    rfl
  have e_v709 : midRun.sl.v709 (F := Ideal) arg2 harg2 arg3 harg3 arg4 harg4 arg5 harg5 arg6 harg6 x0 x1 x2 x3 x4 = c709 (BitVec.ofNat 32 (i 1).val) L := by
    delta midRun.sl.v709 midRun.sl.v706 midRun.sl.v708 midRun.sl.v707 midRun.sl.v701 midRun.sl.v705 midRun.sl.v704 midRun.sl.v703 midRun.sl.v702
    try simp only [e_r_53, e_r_78, e_r_54]
    rfl
  have e_r_55 : midRun.sl.r_55 (F := Ideal) arg7 harg7 arg8 harg8 arg9 harg9 x5 x6 x7 = c500 (BitVec.ofNat 32 (i 1).val) L := by
    delta midRun.sl.r_55
    try simp only [e_v13]
    rfl
  have e_v710 : midRun.sl.v710 (F := Ideal) arg2 harg2 arg3 harg3 arg4 harg4 arg5 harg5 arg6 harg6 x0 x1 x2 x3 x4 = c710 (BitVec.ofNat 32 (i 1).val) L := by
    delta midRun.sl.v710 midRun.sl.v704 midRun.sl.v703 midRun.sl.v702 midRun.sl.v701
    try simp only [e_r_54, e_r_53, e_r_78]
    rfl
  have e_v796 : midRun.sl.v796 (F := Ideal) arg2 harg2 arg3 harg3 arg4 harg4 arg5 harg5 arg6 harg6 arg7 harg7 arg8 harg8 arg9 harg9 x0 x1 x2 x3 x4 x5 x6 x7 = c796 (BitVec.ofNat 32 (i 1).val) L := by
    delta midRun.sl.v796 midRun.sl.v391 midRun.sl.v794 midRun.sl.v792 midRun.sl.v793 midRun.sl.cst_128 midRun.sl.cst_129
    try simp only [e_v709, e_r_55, e_v710]
    rfl
  have e_r_58 : midRun.sl.r_58 (F := Ideal) arg7 harg7 arg8 harg8 arg9 harg9 x5 x6 x7 = c521 (BitVec.ofNat 32 (i 1).val) L := by
    delta midRun.sl.r_58
    try simp only [e_v13]
    rfl
  have e_v525 : midRun.sl.v525 (F := Ideal) arg7 harg7 arg8 harg8 arg9 harg9 x5 x6 x7 = c525 (BitVec.ofNat 32 (i 1).val) L := by
    delta midRun.sl.v525 midRun.sl.v522 midRun.sl.v524 midRun.sl.cst_47
    try simp only [e_r_58]
    rfl
  have e_r_57 : midRun.sl.r_57 (F := Ideal) arg3 harg3 arg4 harg4 arg5 harg5 arg6 harg6 x1 x2 x3 x4 = c520 (BitVec.ofNat 32 (i 1).val) L := by
    delta midRun.sl.r_57
    try simp only [e_r_52, e_v414, e_v417, e_v6]
    rfl
  have e_r_56 : midRun.sl.r_56 (F := Ideal) arg2 harg2 x0 = c506 (BitVec.ofNat 32 (i 1).val) L := by
    delta midRun.sl.r_56 midRun.sl.r_19 midRun.sl.r_20
    try simp only [e_r_2, l_s0, l_s1, l_s2, l_s3, l_s4, l_s5, l_s6, l_s7]
    rfl
  have e_v722 : midRun.sl.v722 (F := Ideal) arg2 harg2 arg3 harg3 arg4 harg4 arg5 harg5 arg6 harg6 x0 x1 x2 x3 x4 = c722 (BitVec.ofNat 32 (i 1).val) L := by
    delta midRun.sl.v722 midRun.sl.v716 midRun.sl.v715 midRun.sl.v714 midRun.sl.v713 midRun.sl.v712 midRun.sl.v711
    try simp only [e_r_57, e_r_56]
    rfl
  have e_v797 : midRun.sl.v797 (F := Ideal) arg2 harg2 arg3 harg3 arg4 harg4 arg5 harg5 arg6 harg6 arg7 harg7 arg8 harg8 arg9 harg9 x0 x1 x2 x3 x4 x5 x6 x7 = c797 (BitVec.ofNat 32 (i 1).val) L := by
    delta midRun.sl.v797 midRun.sl.cst_128
    try simp only [e_v525, e_v722]
    rfl
  have e_v721 : midRun.sl.v721 (F := Ideal) arg2 harg2 arg3 harg3 arg4 harg4 arg5 harg5 arg6 harg6 x0 x1 x2 x3 x4 = c721 (BitVec.ofNat 32 (i 1).val) L := by
    delta midRun.sl.v721 midRun.sl.v718 midRun.sl.v720 midRun.sl.v719 midRun.sl.v713 midRun.sl.v712 midRun.sl.v711 midRun.sl.v717 midRun.sl.v716 midRun.sl.v715 midRun.sl.v714
    try simp only [e_r_56, e_r_57]
    rfl
  have e_v804 : midRun.sl.v804 (F := Ideal) arg2 harg2 arg3 harg3 arg4 harg4 arg5 harg5 arg6 harg6 arg7 harg7 arg8 harg8 arg9 harg9 x0 x1 x2 x3 x4 x5 x6 x7 = c804 (BitVec.ofNat 32 (i 1).val) L := by
    delta midRun.sl.v804 midRun.sl.v803 midRun.sl.v801 midRun.sl.v802 midRun.sl.v800 midRun.sl.v799 midRun.sl.v798
    try simp only [e_v790, e_v791, e_v796, e_v797, e_v721]
    try rw [e_v790]
    try rw [e_v791]
    try rw [e_v796]
    try rw [e_v797]
    try rw [e_v721]
    rfl
  have e_r_62 : midRun.sl.r_62 (F := Ideal) arg2 harg2 x0 = c601 (BitVec.ofNat 32 (i 1).val) L := by
    delta midRun.sl.r_62 midRun.sl.r_10 midRun.sl.r_9
    try simp only [e_r_2, l_s0, l_s1, l_s2, l_s3, l_s4, l_s5, l_s6, l_s7]
    rfl
  have e_r_63 : midRun.sl.r_63 (F := Ideal) arg3 harg3 arg4 harg4 arg5 harg5 arg6 harg6 x1 x2 x3 x4 = c607 (BitVec.ofNat 32 (i 1).val) L := by
    delta midRun.sl.r_63
    try simp only [e_v6, l_q00, l_q01, l_q02, l_q03, l_q10, l_q11, l_q12, l_q13, l_q20, l_q21, l_q22, l_q23, l_q30, l_q31, l_q32, l_q33]
    rfl
  have e_r_64 : midRun.sl.r_64 (F := Ideal) arg3 harg3 arg4 harg4 arg5 harg5 arg6 harg6 x1 x2 x3 x4 = c608 (BitVec.ofNat 32 (i 1).val) L := by
    delta midRun.sl.r_64
    try simp only [e_v6, l_q00, l_q01, l_q02, l_q03, l_q10, l_q11, l_q12, l_q13, l_q20, l_q21, l_q22, l_q23, l_q30, l_q31, l_q32, l_q33]
    rfl
  have e_v566 : midRun.sl.v566 i = c566 (BitVec.ofNat 32 (i 1).val) L := by
    delta midRun.sl.v566 midRun.sl.v31 midRun.sl.v565 midRun.sl.v564
    try simp only [e_v30]
    rfl
  have e_r_65 : midRun.sl.r_65 (F := Ideal) i arg3 harg3 arg4 harg4 arg5 harg5 arg6 harg6 x1 x2 x3 x4 = c615 (BitVec.ofNat 32 (i 1).val) L := by
    delta midRun.sl.r_65 midRun.sl.cst_208
    try simp only [e_r_63, e_r_64, e_v414, e_v566]
    rfl
  have e_v747 : midRun.sl.v747 (F := Ideal) i arg2 harg2 arg3 harg3 arg4 harg4 arg5 harg5 arg6 harg6 x0 x1 x2 x3 x4 = c747 (BitVec.ofNat 32 (i 1).val) L := by
    delta midRun.sl.v747 midRun.sl.v746 midRun.sl.v745
    try simp only [e_r_62, e_r_65]
    rfl
  have e_v748 : midRun.sl.v748 (F := Ideal) i arg2 harg2 arg3 harg3 arg4 harg4 arg5 harg5 arg6 harg6 x0 x1 x2 x3 x4 = c748 (BitVec.ofNat 32 (i 1).val) L := by
    delta midRun.sl.v748
    try simp only [e_v747]
    rfl
  have e_v755 : midRun.sl.v755 (F := Ideal) i arg2 harg2 arg3 harg3 arg4 harg4 arg5 harg5 arg6 harg6 x0 x1 x2 x3 x4 = c755 (BitVec.ofNat 32 (i 1).val) L := by
    delta midRun.sl.v755 midRun.sl.v752 midRun.sl.v754 midRun.sl.v753 midRun.sl.v751 midRun.sl.v750 midRun.sl.v749
    try simp only [e_r_62, e_v747, e_r_65, e_v748]
    rfl
  have e_r_66 : midRun.sl.r_66 (F := Ideal) arg7 harg7 arg8 harg8 arg9 harg9 x5 x6 x7 = c620 (BitVec.ofNat 32 (i 1).val) L := by
    delta midRun.sl.r_66
    try simp only [e_v13]
    rfl
  have e_v756 : midRun.sl.v756 (F := Ideal) i arg2 harg2 arg3 harg3 arg4 harg4 arg5 harg5 arg6 harg6 x0 x1 x2 x3 x4 = c756 (BitVec.ofNat 32 (i 1).val) L := by
    delta midRun.sl.v756 midRun.sl.v750 midRun.sl.v749
    try simp only [e_r_65, e_v748]
    rfl
  have e_r_59 : midRun.sl.r_59 (F := Ideal) arg2 harg2 x0 = c576 (BitVec.ofNat 32 (i 1).val) L := by
    delta midRun.sl.r_59 midRun.sl.r midRun.sl.r_1
    try simp only [e_r_2, l_s0, l_s1, l_s2, l_s3, l_s4, l_s5, l_s6, l_s7]
    rfl
  have e_r_60 : midRun.sl.r_60 (F := Ideal) i arg3 harg3 arg4 harg4 arg5 harg5 arg6 harg6 x1 x2 x3 x4 = c590 (BitVec.ofNat 32 (i 1).val) L := by
    delta midRun.sl.r_60
    try simp only [e_v414, e_v566, e_v6, l_q00, l_q01, l_q02, l_q03, l_q10, l_q11, l_q12, l_q13, l_q20, l_q21, l_q22, l_q23, l_q30, l_q31, l_q32, l_q33]
    rfl
  have e_v743 : midRun.sl.v743 (F := Ideal) i arg2 harg2 arg3 harg3 arg4 harg4 arg5 harg5 arg6 harg6 x0 x1 x2 x3 x4 = c743 (BitVec.ofNat 32 (i 1).val) L := by
    delta midRun.sl.v743 midRun.sl.v740 midRun.sl.v742 midRun.sl.v741 midRun.sl.v735 midRun.sl.v734 midRun.sl.v733 midRun.sl.v739 midRun.sl.v738 midRun.sl.v737 midRun.sl.v736
    try simp only [e_r_59, e_r_60]
    rfl
  have e_r_61 : midRun.sl.r_61 (F := Ideal) arg7 harg7 arg8 harg8 arg9 harg9 x5 x6 x7 = c595 (BitVec.ofNat 32 (i 1).val) L := by
    delta midRun.sl.r_61
    try simp only [e_v13]
    rfl
  have e_v744 : midRun.sl.v744 (F := Ideal) i arg2 harg2 arg3 harg3 arg4 harg4 arg5 harg5 arg6 harg6 x0 x1 x2 x3 x4 = c744 (BitVec.ofNat 32 (i 1).val) L := by
    delta midRun.sl.v744 midRun.sl.v738 midRun.sl.v737 midRun.sl.v736 midRun.sl.v735 midRun.sl.v734 midRun.sl.v733
    try simp only [e_r_60, e_r_59]
    rfl
  have e_v878 : midRun.sl.v878 (F := Ideal) i arg2 harg2 arg3 harg3 arg4 harg4 arg5 harg5 arg6 harg6 arg7 harg7 arg8 harg8 arg9 harg9 x0 x1 x2 x3 x4 x5 x6 x7 = c878 (BitVec.ofNat 32 (i 1).val) L := by
    delta midRun.sl.v878 midRun.sl.v877 midRun.sl.v873 midRun.sl.v876 midRun.sl.v874 midRun.sl.v875 midRun.sl.cst_128 midRun.sl.v391 midRun.sl.v871 midRun.sl.v869 midRun.sl.v870 midRun.sl.cst_129
    try simp only [e_v755, e_r_66, e_v756, e_v743, e_r_61, e_v744]
    rfl
  have e_v879 : midRun.sl.v879 (F := Ideal) i arg2 harg2 arg3 harg3 arg4 harg4 arg5 harg5 arg6 harg6 arg7 harg7 arg8 harg8 arg9 harg9 x0 x1 x2 x3 x4 x5 x6 x7 = c879 (BitVec.ofNat 32 (i 1).val) L := by
    delta midRun.sl.v879 midRun.sl.v877 midRun.sl.v873 midRun.sl.v876 midRun.sl.v874 midRun.sl.v875 midRun.sl.cst_128 midRun.sl.v391 midRun.sl.v871 midRun.sl.v869 midRun.sl.v870 midRun.sl.cst_129
    try simp only [e_v755, e_r_66, e_v756, e_v743, e_r_61, e_v744]
    rfl
  have e_r_71 : midRun.sl.r_71 (F := Ideal) arg2 harg2 x0 = c655 (BitVec.ofNat 32 (i 1).val) L := by
    delta midRun.sl.r_71 midRun.sl.r_19 midRun.sl.r_20
    try simp only [e_r_2, l_s0, l_s1, l_s2, l_s3, l_s4, l_s5, l_s6, l_s7]
    rfl
  have e_r_67 : midRun.sl.r_67 (F := Ideal) arg3 harg3 x1 = c625 (BitVec.ofNat 32 (i 1).val) L := by
    delta midRun.sl.r_67
    try simp only [l_q00, l_q01, l_q02, l_q03, l_q10, l_q11, l_q12, l_q13, l_q20, l_q21, l_q22, l_q23, l_q30, l_q31, l_q32, l_q33]
    rfl
  have e_r_72 : midRun.sl.r_72 (F := Ideal) i arg3 harg3 arg4 harg4 arg5 harg5 arg6 harg6 x1 x2 x3 x4 = c669 (BitVec.ofNat 32 (i 1).val) L := by
    delta midRun.sl.r_72
    try simp only [e_r_67, e_v414, e_v566, e_v6]
    rfl
  have e_v779 : midRun.sl.v779 (F := Ideal) i arg2 harg2 arg3 harg3 arg4 harg4 arg5 harg5 arg6 harg6 x0 x1 x2 x3 x4 = c779 (BitVec.ofNat 32 (i 1).val) L := by
    delta midRun.sl.v779 midRun.sl.v776 midRun.sl.v778 midRun.sl.v777 midRun.sl.v771 midRun.sl.v770 midRun.sl.v769 midRun.sl.v775 midRun.sl.v774 midRun.sl.v773 midRun.sl.v772
    try simp only [e_r_71, e_r_72]
    rfl
  have e_r_73 : midRun.sl.r_73 (F := Ideal) arg7 harg7 arg8 harg8 arg9 harg9 x5 x6 x7 = c674 (BitVec.ofNat 32 (i 1).val) L := by
    delta midRun.sl.r_73
    try simp only [e_v13]
    rfl
  have e_v780 : midRun.sl.v780 (F := Ideal) i arg2 harg2 arg3 harg3 arg4 harg4 arg5 harg5 arg6 harg6 x0 x1 x2 x3 x4 = c780 (BitVec.ofNat 32 (i 1).val) L := by
    delta midRun.sl.v780 midRun.sl.v774 midRun.sl.v773 midRun.sl.v772 midRun.sl.v771 midRun.sl.v770 midRun.sl.v769
    try simp only [e_r_72, e_r_71]
    rfl
  have e_r_68 : midRun.sl.r_68 (F := Ideal) arg2 harg2 x0 = c630 (BitVec.ofNat 32 (i 1).val) L := by
    delta midRun.sl.r_68 midRun.sl.r_11 midRun.sl.r_12
    try simp only [e_r_2, l_s0, l_s1, l_s2, l_s3, l_s4, l_s5, l_s6, l_s7]
    rfl
  have e_r_69 : midRun.sl.r_69 (F := Ideal) i arg3 harg3 arg4 harg4 arg5 harg5 arg6 harg6 x1 x2 x3 x4 = c644 (BitVec.ofNat 32 (i 1).val) L := by
    delta midRun.sl.r_69
    try simp only [e_v414, e_v566, e_v6, l_q00, l_q01, l_q02, l_q03, l_q10, l_q11, l_q12, l_q13, l_q20, l_q21, l_q22, l_q23, l_q30, l_q31, l_q32, l_q33]
    rfl
  have e_v767 : midRun.sl.v767 (F := Ideal) i arg2 harg2 arg3 harg3 arg4 harg4 arg5 harg5 arg6 harg6 x0 x1 x2 x3 x4 = c767 (BitVec.ofNat 32 (i 1).val) L := by
    delta midRun.sl.v767 midRun.sl.v764 midRun.sl.v766 midRun.sl.v765 midRun.sl.v759 midRun.sl.v758 midRun.sl.v757 midRun.sl.v763 midRun.sl.v762 midRun.sl.v761 midRun.sl.v760
    try simp only [e_r_68, e_r_69]
    rfl
  have e_r_70 : midRun.sl.r_70 (F := Ideal) arg7 harg7 arg8 harg8 arg9 harg9 x5 x6 x7 = c649 (BitVec.ofNat 32 (i 1).val) L := by
    delta midRun.sl.r_70
    try simp only [e_v13]
    rfl
  have e_v768 : midRun.sl.v768 (F := Ideal) i arg2 harg2 arg3 harg3 arg4 harg4 arg5 harg5 arg6 harg6 x0 x1 x2 x3 x4 = c768 (BitVec.ofNat 32 (i 1).val) L := by
    delta midRun.sl.v768 midRun.sl.v762 midRun.sl.v761 midRun.sl.v760 midRun.sl.v759 midRun.sl.v758 midRun.sl.v757
    try simp only [e_r_69, e_r_68]
    rfl
  have e_v888 : midRun.sl.v888 (F := Ideal) i arg2 harg2 arg3 harg3 arg4 harg4 arg5 harg5 arg6 harg6 arg7 harg7 arg8 harg8 arg9 harg9 x0 x1 x2 x3 x4 x5 x6 x7 = c888 (BitVec.ofNat 32 (i 1).val) L := by
    delta midRun.sl.v888 midRun.sl.v884 midRun.sl.v887 midRun.sl.v885 midRun.sl.v886 midRun.sl.cst_128 midRun.sl.v391 midRun.sl.v882 midRun.sl.v880 midRun.sl.v881 midRun.sl.cst_129
    try simp only [e_v779, e_r_73, e_v780, e_v767, e_r_70, e_v768]
    rfl
  have e_v927 : midRun.sl.v927 (F := Ideal) i arg2 harg2 arg3 harg3 arg4 harg4 arg5 harg5 arg6 harg6 arg7 harg7 arg8 harg8 arg9 harg9 arg10 harg10 arg11 harg11 arg12 harg12 arg20 harg20 x0 x1 x2 x3 x4 x5 x6 x7 x8 x9 x10 x18 = c927 (BitVec.ofNat 32 (i 1).val) L := by
    delta midRun.sl.v927 midRun.sl.v915 midRun.sl.v926 midRun.sl.cst_301 midRun.sl.v912 midRun.sl.v914 midRun.sl.v892 midRun.sl.v891 midRun.sl.v889 midRun.sl.v890
    try simp only [e_v532, e_v732, e_v411, e_v559, e_v804, e_v878, e_v879, e_v888, l_wua]
    try rw [e_v532]
    try rw [e_v732]
    try rw [e_v411]
    try rw [e_v559]
    try rw [e_v804]
    try rw [e_v878]
    try rw [e_v879]
    try rw [e_v888]
    try rw [l_wua]
    rfl
  have e_v809 : midRun.sl.v809 (F := Ideal) arg13 harg13 arg14 harg14 x11 x12 = c809 (BitVec.ofNat 32 (i 1).val) L := by
    delta midRun.sl.v809 midRun.sl.v806 midRun.sl.v808
    try simp only [l_y0, l_y1]
    rfl
  have e_r_3 : midRun.sl.r_3 (F := Ideal) arg19 harg19 x17 = c39 (BitVec.ofNat 32 (i 1).val) L := by
    delta midRun.sl.r_3
    try simp only [l_bd]
    rfl
  have e_v842 : midRun.sl.v842 (F := Ideal) arg13 harg13 arg14 harg14 arg19 harg19 x11 x12 x17 = c842 (BitVec.ofNat 32 (i 1).val) L := by
    delta midRun.sl.v842 midRun.sl.v817 midRun.sl.v825 midRun.sl.v833 midRun.sl.v841 midRun.sl.v839 midRun.sl.v840 midRun.sl.cst_265 midRun.sl.v838 midRun.sl.v837 midRun.sl.v834 midRun.sl.v836 midRun.sl.v835 midRun.sl.v831 midRun.sl.v832 midRun.sl.v830 midRun.sl.v829 midRun.sl.v826 midRun.sl.v828 midRun.sl.v827 midRun.sl.v823 midRun.sl.v824 midRun.sl.v822 midRun.sl.v821 midRun.sl.v818 midRun.sl.v820 midRun.sl.v819 midRun.sl.v815 midRun.sl.v816 midRun.sl.v814 midRun.sl.v813 midRun.sl.v810 midRun.sl.v812 midRun.sl.v811
    try simp only [e_r_3, e_v809]
    try rw [e_r_3]
    try rw [e_v809]
    rfl
  have e_v845 : midRun.sl.v845 (F := Ideal) arg13 harg13 arg14 harg14 arg19 harg19 x11 x12 x17 = c845 (BitVec.ofNat 32 (i 1).val) L := by
    delta midRun.sl.v845 midRun.sl.v844 midRun.sl.v843 midRun.sl.cst_273
    try simp only [e_v809, e_v842]
    rfl
  have e_v861 : midRun.sl.v861 (F := Ideal) arg13 harg13 arg14 harg14 arg19 harg19 x11 x12 x17 = c861 (BitVec.ofNat 32 (i 1).val) L := by
    delta midRun.sl.v861 midRun.sl.v843 midRun.sl.v859 midRun.sl.v849 midRun.sl.v852 midRun.sl.v855 midRun.sl.v858 midRun.sl.cst_265 midRun.sl.v857 midRun.sl.v856 midRun.sl.v846 midRun.sl.v854 midRun.sl.v853 midRun.sl.v851 midRun.sl.v850 midRun.sl.v848 midRun.sl.v847 midRun.sl.cst_273
    try simp only [e_r_3, e_v845]
    try rw [e_r_3]
    try rw [e_v845]
    rfl
  have e_v925 : midRun.sl.v925 (F := Ideal) arg13 harg13 arg14 harg14 arg15 harg15 arg16 harg16 arg17 harg17 arg18 harg18 arg19 harg19 arg21 harg21 x11 x12 x13 x14 x15 x16 x17 x19 = c925 (BitVec.ofNat 32 (i 1).val) L := by
    delta midRun.sl.v925 midRun.sl.cst_301 midRun.sl.v911 midRun.sl.v924 midRun.sl.v910 midRun.sl.v907 midRun.sl.v909 midRun.sl.v904 midRun.sl.v906 midRun.sl.v900 midRun.sl.v903 midRun.sl.v902 midRun.sl.v896 midRun.sl.v899 midRun.sl.v898 midRun.sl.v895 midRun.sl.v894 midRun.sl.v893 midRun.sl.cst_288
    try simp only [e_v845, e_v861, l_bonus, l_g, l_lnb, l_lnw, l_wur]
    rfl
  have e_v535 : midRun.sl.v535 (F := Ideal) arg10 harg10 arg11 harg11 arg12 harg12 x8 x9 x10 = c535 (BitVec.ofNat 32 (i 1).val) L := by
    delta midRun.sl.v535 midRun.sl.cst_119 midRun.sl.v534
    try simp only [e_r_42, l_wg0, l_wg1, l_wg2, l_wg3]
    rfl
  have e_v868 : midRun.sl.v868 (F := Ideal) arg10 harg10 arg11 harg11 arg12 harg12 x8 x9 x10 = c868 (BitVec.ofNat 32 (i 1).val) L := by
    delta midRun.sl.v868 midRun.sl.v526 midRun.sl.v866 midRun.sl.v864 midRun.sl.v863 midRun.sl.cst_178
    try simp only [e_v535]
    rfl
  have e_v725 : midRun.sl.v725 (F := Ideal) arg10 harg10 arg11 harg11 arg12 harg12 x8 x9 x10 = c725 (BitVec.ofNat 32 (i 1).val) L := by
    delta midRun.sl.v725 midRun.sl.cst_119 midRun.sl.v724
    try simp only [e_r_42, l_wg0, l_wg1, l_wg2, l_wg3]
    rfl
  have e_v928 : midRun.sl.v928 (F := Ideal) arg10 harg10 arg11 harg11 arg12 harg12 x8 x9 x10 = c928 (BitVec.ofNat 32 (i 1).val) L := by
    delta midRun.sl.v928 midRun.sl.v922 midRun.sl.v526 midRun.sl.v920 midRun.sl.v918 midRun.sl.v917 midRun.sl.cst_178
    try simp only [e_v868, e_v725]
    try rw [e_v868]
    try rw [e_v725]
    rfl
  have e_v957 : midRun.sl.v957 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 x0 x1 x2 x3 x4 x5 x6 x7 x8 x9 x10 x11 x12 x13 x14 x15 x16 x17 x18 x19 x20 x22 = c957 (BitVec.ofNat 32 (i 1).val) L := by
    delta midRun.sl.v957 midRun.sl.v956 midRun.sl.v954 midRun.sl.v955 midRun.sl.v944 midRun.sl.v942 midRun.sl.v953 midRun.sl.v952 midRun.sl.v951 midRun.sl.v949 midRun.sl.v950 midRun.sl.cst_318 midRun.sl.v947 midRun.sl.v948 midRun.sl.cst_317 midRun.sl.v946 midRun.sl.v945 midRun.sl.v936 midRun.sl.v941 midRun.sl.v937 midRun.sl.v940 midRun.sl.cst_119 midRun.sl.v931 midRun.sl.v939 midRun.sl.v930 midRun.sl.v929 midRun.sl.v932 midRun.sl.v935 midRun.sl.v934
    try simp only [e_v927, e_v925, e_v928, e_r_4, l_gf, l_wo0, l_wo1]
    try rw [e_v927]
    try rw [e_v925]
    try rw [e_v928]
    try rw [e_r_4]
    try rw [l_gf]
    try rw [l_wo0]
    try rw [l_wo1]
    rfl
  have e_v968 : midRun.sl.v968 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 arg26 harg26 x0 x1 x2 x3 x4 x5 x6 x7 x8 x9 x10 x11 x12 x13 x14 x15 x16 x17 x18 x19 x20 x22 x23 x24 = c968 (BitVec.ofNat 32 (i 1).val) L := by
    delta midRun.sl.v968 midRun.sl.v942 midRun.sl.v967 midRun.sl.cst_301 midRun.sl.v964 midRun.sl.v966 midRun.sl.v963 midRun.sl.v962 midRun.sl.v960 midRun.sl.v961 midRun.sl.cst_129 midRun.sl.v959 midRun.sl.v936 midRun.sl.v941 midRun.sl.v937 midRun.sl.v940 midRun.sl.cst_119 midRun.sl.v931 midRun.sl.v939 midRun.sl.v930 midRun.sl.v929 midRun.sl.v932 midRun.sl.v935 midRun.sl.v934
    try simp only [e_v957, e_v927, e_v925, e_v928, e_r_4, l_w10, l_w11, l_w12, l_w13, l_w20, l_w21, l_w22, l_w23, l_wo0, l_wo1]
    try rw [e_v957]
    try rw [e_v927]
    try rw [e_v925]
    try rw [e_v928]
    try rw [e_r_4]
    try rw [l_w10]
    try rw [l_w11]
    try rw [l_w12]
    try rw [l_w13]
    try rw [l_w20]
    try rw [l_w21]
    try rw [l_w22]
    try rw [l_w23]
    try rw [l_wo0]
    try rw [l_wo1]
    rfl
  have e_v1001 : midRun.sl.v1001 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 arg26 harg26 x0 x1 x2 x3 x4 x5 x6 x7 x8 x9 x10 x11 x12 x13 x14 x15 x16 x17 x18 x19 x20 x22 x23 x24 = c1001 (BitVec.ofNat 32 (i 1).val) L := by
    delta midRun.sl.v1001 midRun.sl.v1000 midRun.sl.v990 midRun.sl.v979 midRun.sl.v989 midRun.sl.cst_301 midRun.sl.v986 midRun.sl.v988 midRun.sl.v985 midRun.sl.v984 midRun.sl.v961 midRun.sl.v982 midRun.sl.v981 midRun.sl.cst_129 midRun.sl.v978 midRun.sl.v975 midRun.sl.v977 midRun.sl.v974 midRun.sl.v973 midRun.sl.v971 midRun.sl.v970 midRun.sl.v997 midRun.sl.v999 midRun.sl.v996 midRun.sl.v995 midRun.sl.v993 midRun.sl.v992
    try simp only [e_v957, e_v968, l_w10, l_w11, l_w12, l_w13, l_w20, l_w21, l_w22, l_w23]
    rfl
  have e_r_79 : midRun.sl.r_79 (F := Ideal) arg23 harg23 arg29 harg29 x21 x27 = c1022 (BitVec.ofNat 32 (i 1).val) L := by
    delta midRun.sl.r_79
    try simp only [l_p, l_wple]
    rfl
  have e_v1003 : midRun.sl.v1003 (F := Ideal) arg27 harg27 x25 = c1003 (BitVec.ofNat 32 (i 1).val) L := by
    delta midRun.sl.v1003
    try simp only [l_gp]
    rfl
  have e_v1006 : midRun.sl.v1006 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 arg26 harg26 x0 x1 x2 x3 x4 x5 x6 x7 x8 x9 x10 x11 x12 x13 x14 x15 x16 x17 x18 x19 x20 x22 x23 x24 = c1006 (BitVec.ofNat 32 (i 1).val) L := by
    delta midRun.sl.v1006 midRun.sl.v1005 midRun.sl.v1004
    try simp only [e_v1001]
    rfl
  have e_r_80 : midRun.sl.r_80 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg24 harg24 arg25 harg25 arg26 harg26 arg27 harg27 arg28 harg28 x0 x1 x2 x3 x4 x5 x6 x7 x8 x9 x10 x11 x12 x13 x14 x15 x16 x17 x18 x19 x20 x22 x23 x24 x25 x26 = c1030 (BitVec.ofNat 32 (i 1).val) L := by
    delta midRun.sl.r_80
    try simp only [e_v1001, e_v1003, e_v1006, l_wpg]
    rfl
  show [_] = [_]
  refine congrArg (fun z => [(⟨_, z⟩ : View.Piece (Elt Ideal) S1x512x1024 .f32)]) ?_
  simp only [e_v1001, e_r_79, e_r_80]
  rfl

end Cert.Mid

end
-- ==== Proof.BodyRead.lean ====
/-
  The body's stored block at a row and a column: the layer's row functions of the blocks' rows.
-/
module

public import proofs.«01_k».proof.Proof.BodyUnits

@[expose] public section

set_option maxRecDepth 16384
set_option maxHeartbeats 1000000

noncomputable section

namespace Cert.Mid

open Idealize.ShloMosaic Cert.KernelIdeal Cert.KernelIdeal.Gen
open scoped BigOperators

theorem wgU_apply (w : FVec Ideal S1024x512 .bf16) (k : Fin 1024) (c : Fin 512) : wgU w (ix2 k c) = w (ix2 k c) := by pointwise [wgU]
theorem upU_apply (w : FVec Ideal S512x1024 .bf16) (k : Fin 512) (c : Fin 1024) : upU w (ix2 k c) = w (ix2 k c) := by pointwise [upU]
theorem sqU_apply (w : FVec Ideal S1024x1024 .bf16) (k c : Fin 1024) : sqU w (ix2 k c) = w (ix2 k c) := by pointwise [sqU]
theorem rowU_apply (w : FVec Ideal S1x1024 .f32) (c : Fin 1024) : rowU w (ix2 0 c) = w (ix2 0 c) := by pointwise [rowU]
theorem lnU_apply (w : FVec Ideal S1x512 .f32) (c : Fin 512) : lnU w (ix2 0 c) = w (ix2 0 c) := by pointwise [lnU]
theorem bdU_apply (w : FVec Ideal S128x128 .bf16) (k c : Fin 128) : bdU w (ix2 k c) = w (ix2 k c) := by pointwise [bdU]
theorem rwkvU_apply (w : FVec Ideal S1x512x512 .f32) (r c : Fin 512) : rwkvU w (ix2 r c) = w (ix3 0 r c) := by pointwise [rwkvU]
theorem xU_apply (w : FVec Ideal S1x512x1024 .f32) (r : Fin 512) (c : Fin 1024) :
    shapeCast S512x1024 w shapeCasts_S1x512x1024_S512x1024 (ix2 r c) = w (ix3 0 r c) := by pointwise
theorem outCast_apply (w : FVec Ideal S512x1024 .f32) (r : Fin 512) (c : Fin 1024) :
    shapeCast S1x512x1024 w shapeCasts_S512x1024_S1x512x1024 (ix3 0 r c) = w (ix2 r c) := by pointwise
theorem pU_apply (w : FVec Ideal S1x512x256 .f32) (r : Fin 512) (c : Fin 256) :
    shapeCast S512x256 w shapeCasts_S1x512x256_S512x256 (ix2 r c) = w (ix3 0 r c) := by pointwise
theorem wpleU_apply (w : FVec Ideal S256x1024 .bf16) (r : Fin 256) (c : Fin 1024) :
    shapeCast S256x1024 w shapeCasts_S256x1024_S256x1024 (ix2 r c) = w (ix2 r c) := by pointwise
theorem slx_apply (w : FVec Ideal S512x1024 .f32) (r c : Fin 512) :
    extractStridedSlice S512x512 ![0, 0] w slices_S512x1024_o0_0_S512x512 (ix2 r c) = w (ix2 r ⟨c.val, by omega⟩)
      ∧ extractStridedSlice S512x512 ![0, 512] w slices_S512x1024_o0_512_S512x512 (ix2 r c) = w (ix2 r ⟨512 + c.val, by omega⟩) := by
  constructor <;> pointwise

/-- A sum over 4096 in four parts. -/
theorem sum_four (f : Fin 4096 → EReal) : ∑ k, f k = ((∑ k : Fin 1024, f ⟨k.val, by omega⟩ + ∑ k : Fin 1024, f ⟨1024 + k.val, by omega⟩)
    + ∑ k : Fin 1024, f ⟨2048 + k.val, by omega⟩) + ∑ k : Fin 1024, f ⟨3072 + k.val, by omega⟩ := by
  have e1 : ∑ k, f k = ∑ k : Fin (3072 + 1024), f k := rfl
  rw [e1, Fin.sum_univ_add]
  have e2 : ∑ i : Fin 3072, f (Fin.castAdd 1024 i) = ∑ i : Fin (2048 + 1024), f (Fin.castAdd 1024 i) := rfl
  rw [e2, Fin.sum_univ_add]
  have e3 : ∑ i : Fin 2048, f (Fin.castAdd 1024 (Fin.castAdd 1024 i)) = ∑ i : Fin (1024 + 1024), f (Fin.castAdd 1024 (Fin.castAdd 1024 i)) := rfl
  rw [e3, Fin.sum_univ_add]
  rfl

variable (n : BitVec 32) (L : Ld)

/-- The row function of the whole body, the attention's row given. -/
theorem out_row (r : Fin 512) (c : Fin 1024) (X GAIN GF GP : Fin 1024 → EReal) (WG : Fin 1024 → Fin 2048 → EReal)
    (A RW : Fin 512 → EReal) (WUA WUR : Fin 512 → Fin 1024 → EReal) (WO WPG : Fin 1024 → Fin 1024 → EReal)
    (P : Fin 256 → EReal) (W1 : Fin 1024 → Fin 4096 → EReal) (W2 : Fin 4096 → Fin 1024 → EReal) (WPLE : Fin 256 → Fin 1024 → EReal)
    (hx : ∀ k, L.x (ix3 0 r k) = X k) (hgain : ∀ k, L.gain (ix2 0 k) = GAIN k) (hgf : ∀ k, L.gf (ix2 0 k) = GF k)
    (hgp : ∀ k, L.gp (ix2 0 k) = GP k)
    (hg0 : ∀ k (j : Fin 512), L.wg0 (ix2 k j) = WG k ⟨j.val, by omega⟩) (hg1 : ∀ k (j : Fin 512), L.wg1 (ix2 k j) = WG k ⟨512 + j.val, by omega⟩)
    (hg2 : ∀ k (j : Fin 512), L.wg2 (ix2 k j) = WG k ⟨1024 + j.val, by omega⟩) (hg3 : ∀ k (j : Fin 512), L.wg3 (ix2 k j) = WG k ⟨1536 + j.val, by omega⟩)
    (hA : ∀ k, stackU (attn0 n L) (attn1 n L) (attn2 n L) (attn3 n L) (ix2 r k) = A k)
    (hRW : ∀ k, rwU (ysU L) (bdU L.bd) (lnU L.lnw) (lnU L.lnb) (rwkvU L.bonus) (rwkvU L.g) (ix2 r k) = RW k)
    (hwua : ∀ k j, L.wua (ix2 k j) = WUA k j) (hwur : ∀ k j, L.wur (ix2 k j) = WUR k j)
    (hwo0 : ∀ k (j : Fin 512), L.wo0 (ix2 k j) = WO k ⟨j.val, by omega⟩) (hwo1 : ∀ k (j : Fin 512), L.wo1 (ix2 k j) = WO k ⟨512 + j.val, by omega⟩)
    (hp : ∀ k, L.p (ix3 0 r k) = P k) (hwpg : ∀ k j, L.wpg (ix2 k j) = WPG k j) (hwple : ∀ k j, L.wple (ix2 k j) = WPLE k j)
    (h10 : ∀ k (j : Fin 1024), L.w10 (ix2 k j) = W1 k ⟨j.val, by omega⟩) (h11 : ∀ k (j : Fin 1024), L.w11 (ix2 k j) = W1 k ⟨1024 + j.val, by omega⟩)
    (h12 : ∀ k (j : Fin 1024), L.w12 (ix2 k j) = W1 k ⟨2048 + j.val, by omega⟩) (h13 : ∀ k (j : Fin 1024), L.w13 (ix2 k j) = W1 k ⟨3072 + j.val, by omega⟩)
    (h20 : ∀ (k j : Fin 1024), L.w20 (ix2 k j) = W2 ⟨k.val, by omega⟩ j) (h21 : ∀ (k j : Fin 1024), L.w21 (ix2 k j) = W2 ⟨1024 + k.val, by omega⟩ j)
    (h22 : ∀ (k j : Fin 1024), L.w22 (ix2 k j) = W2 ⟨2048 + k.val, by omega⟩ j) (h23 : ∀ (k j : Fin 1024), L.w23 (ix2 k j) = W2 ⟨3072 + k.val, by omega⟩ j) :
    cOUT n L (ix3 0 r c) = pleRow (ffnRow (mergeRow X GAIN WG A RW WUA WUR WO) GF W1 W2) GP P WPG WPLE c := by
  have hh : ∀ k, hU L (ix2 r k) = rms X GAIN k := fun k => by
    rw [hU, rmsU_apply]
    have e1 : (fun k => shapeCast S512x1024 L.x shapeCasts_S1x512x1024_S512x1024 (ix2 r k)) = X := funext fun k => (xU_apply _ r k).trans (hx k)
    have e2 : (fun k => shapeCast S1x1024 L.gain shapeCasts_S1x1024_S1x1024 (ix2 0 k)) = GAIN := funext fun k => (rowU_apply _ k).trans (hgain k)
    rw [e1, e2]
  have hh' : (fun k => hU L (ix2 r k)) = rms X GAIN := funext hh
  have gate : ∀ (w : FVec Ideal S1024x512 .bf16) (o : Fin 512 → Fin 2048) (hw : ∀ k j, w (ix2 k j) = WG k (o j)) (j : Fin 512),
      sigU (mmA (hU L) (wgU w)) (ix2 r j) = Ideal.logistic (vm (rms X GAIN) WG (o j)) := fun w o hw j => by
    rw [sigU_apply, mmA_apply, hh']
    unfold vm
    refine congrArg Ideal.logistic (Finset.sum_congr rfl fun k _ => ?_)
    show _ * wgU w (ix2 k j) = _
    rw [wgU_apply, hw]
  have g01 : ∀ j : Fin 1024, catU (c532 n L) (c732 n L) (ix2 r j) = Ideal.logistic (vm (rms X GAIN) WG ⟨j.val, by omega⟩) := fun j => by
    rw [catU_apply, g0_eq, g1_eq]
    split
    · exact gate _ (fun j => ⟨j.val, by omega⟩) hg0 _
    · rw [gate _ (fun j => ⟨512 + j.val, by omega⟩) hg1 _]
      refine congrArg (fun z => Ideal.logistic (vm (rms X GAIN) WG z)) (Fin.ext ?_)
      show 512 + (j.val - 512) = j.val; omega
  have g23 : ∀ j : Fin 1024, c928 n L (ix2 r j) = Ideal.logistic (vm (rms X GAIN) WG ⟨1024 + j.val, by omega⟩) := fun j => by
    rw [g23_eq, catU_apply]
    split
    · exact gate _ (fun j => ⟨1024 + j.val, by omega⟩) hg2 _
    · rw [gate _ (fun j => ⟨1536 + j.val, by omega⟩) hg3 _]
      refine congrArg (fun z => Ideal.logistic (vm (rms X GAIN) WG z)) (Fin.ext ?_)
      show 1536 + (j.val - 512) = 1024 + j.val; omega
  have hup : ∀ (a : FVec Ideal S512x512 .bf16) (w : FVec Ideal S512x1024 .bf16) (F : Fin 512 → EReal) (W : Fin 512 → Fin 1024 → EReal)
      (ha : ∀ k, a (ix2 r k) = F k) (hw : ∀ k j, w (ix2 k j) = W k j) (j : Fin 1024), mmB a (upU w) (ix2 r j) = vm F W j := fun a w F W ha hw j => by
    rw [mmB_apply]
    unfold vm
    refine Finset.sum_congr rfl fun k _ => ?_
    show a (ix2 r k) * upU w (ix2 k j) = _
    rw [upU_apply, hw, ha]
  have hmg : ∀ j, mgU n L (ix2 r j) = merged (rms X GAIN) WG A RW WUA WUR j := fun j => by
    have e1 : mgU n L (ix2 r j) = c927 n L (ix2 r j) + c928 n L (ix2 r j) * c925 n L (ix2 r j) := rfl
    have e2 : c927 n L (ix2 r j) = catU (c532 n L) (c732 n L) (ix2 r j) * mmB (stackU (c411 n L) (c559 n L) (c804 n L) (attn3 n L)) (upU L.wua) (ix2 r j) := by
      rw [attnMul_eq]; rfl
    rw [e1, e2, g01, g23, rw_eq, attn0_eq, attn1_eq, attn2_eq, hup _ _ A WUA hA hwua, hup _ _ RW WUR hRW hwur]
    rfl
  have hmg' : (fun k => mgU n L (ix2 r k)) = merged (rms X GAIN) WG A RW WUA WUR := funext hmg
  have hc41 : ∀ k, c41 n L (ix2 r k) = X k := fun k => (xU_apply L.x r k).trans (hx k)
  have hx1 : ∀ j, x1U n L (ix2 r j) = mergeRow X GAIN WG A RW WUA WUR WO j := fun j => by
    have wo : ∀ (w : FVec Ideal S1024x512 .bf16) (o : Fin 512 → Fin 1024) (hw : ∀ k j, w (ix2 k j) = WO k (o j)) (j : Fin 512),
        mmA (mgU n L) (wgU w) (ix2 r j) = vm (merged (rms X GAIN) WG A RW WUA WUR) WO (o j) := fun w o hw j => by
      rw [mmA_apply, hmg']
      unfold vm
      refine Finset.sum_congr rfl fun k _ => ?_
      show _ * wgU w (ix2 k j) = _
      rw [wgU_apply, hw]
    rw [x1U, catU_apply]
    unfold mergeRow
    split
    · rename_i h
      refine (congrArg₂ (· + ·) (((slx_apply (c41 n L) r ⟨j.val, h⟩).1).trans (hc41 _)) (wo _ (fun j => ⟨j.val, by omega⟩) hwo0 _))
    · rename_i h
      have ej : (⟨512 + (j.val - 512), by omega⟩ : Fin 1024) = j := Fin.ext (by show 512 + (j.val - 512) = j.val; omega)
      refine (congrArg₂ (· + ·) (((slx_apply (c41 n L) r ⟨j.val - 512, by omega⟩).2).trans (hc41 _)) (wo _ (fun j => ⟨512 + j.val, by omega⟩) hwo1 _)).trans ?_
      show X ⟨512 + (j.val - 512), _⟩ + vm _ WO ⟨512 + (j.val - 512), _⟩ = _
      rw [ej]
  have hx1' : (fun k => x1U n L (ix2 r k)) = mergeRow X GAIN WG A RW WUA WUR WO := funext hx1
  generalize mergeRow X GAIN WG A RW WUA WUR WO = Y at hx1' hx1
  have hrow : ∀ (a : FVec Ideal S512x1024 .f32) (w : FVec Ideal S1x1024 .f32) (F G : Fin 1024 → EReal) (ha : ∀ k, a (ix2 r k) = F k)
      (hw : ∀ k, w (ix2 0 k) = G k) (k : Fin 1024), rmsU a (rowU w) (ix2 r k) = rms F G k := fun a w F G ha hw k => by
    rw [rmsU_apply, funext ha, funext fun k => (rowU_apply w k).trans (hw k)]
  have hh2 : (fun k => c957 n L (ix2 r k)) = rms Y GF := funext fun k => by rw [h2_eq]; exact hrow _ _ Y GF hx1 hgf k
  have slab : ∀ (w1 w2 : FVec Ideal S1024x1024 .bf16) (o : Fin 1024 → Fin 4096) (hw1 : ∀ k j, w1 (ix2 k j) = W1 k (o j))
      (hw2 : ∀ k j, w2 (ix2 k j) = W2 (o k) j) (j : Fin 1024),
      slabU (c957 n L) (sqU w1) (sqU w2) (ix2 r j) = ∑ k, relu2 (vm (rms Y GF) W1 (o k)) * W2 (o k) j := fun w1 w2 o hw1 hw2 j => by
    rw [slabU_apply, hh2]
    unfold vm
    refine Finset.sum_congr rfl fun k _ => ?_
    show relu2 (∑ i, rms Y GF i * sqU w1 (ix2 i k)) * sqU w2 (ix2 k j) = _
    rw [sqU_apply, hw2]
    refine congrArg (fun z => relu2 z * _) (Finset.sum_congr rfl fun i _ => ?_)
    rw [sqU_apply, hw1]
  have hx2 : ∀ j, c1001 n L (ix2 r j) = ffnRow Y GF W1 W2 j := fun j => by
    have e : c1001 n L (ix2 r j) = (((x1U n L (ix2 r j) + slabU (c957 n L) (sqU L.w10) (sqU L.w20) (ix2 r j)) + slabU (c957 n L) (sqU L.w11) (sqU L.w21) (ix2 r j))
        + slabU (c957 n L) (sqU L.w12) (sqU L.w22) (ix2 r j)) + slabU (c957 n L) (sqU L.w13) (sqU L.w23) (ix2 r j) := by
      rw [x2_eq, f0_eq]; rfl
    rw [e, hx1, slab _ _ (fun j => ⟨j.val, by omega⟩) h10 h20, slab _ _ (fun j => ⟨1024 + j.val, by omega⟩) h11 h21,
      slab _ _ (fun j => ⟨2048 + j.val, by omega⟩) h12 h22, slab _ _ (fun j => ⟨3072 + j.val, by omega⟩) h13 h23]
    unfold ffnRow
    rw [show vm (fun k => relu2 (vm (rms Y GF) W1 k)) W2 j = _ from sum_four _]
    simp only [add_assoc]
  rw [out_eq, outCast_apply]
  have e : ∀ (a b d : FVec Ideal S512x1024 .f32) (i : S512x1024.Idx), addf a (mulf b d) i = a i + b i * d i := fun _ _ _ _ => rfl
  rw [e, hx2, sigU_apply, mmC_apply, mmD_apply]
  unfold pleRow
  have e1 : vm (fun k => shapeCast S512x256 L.p shapeCasts_S1x512x256_S512x256 (ix2 r k)) (fun k j => shapeCast S256x1024 L.wple shapeCasts_S256x1024_S256x1024 (ix2 k j)) c
      = vm P WPLE c := by
    unfold vm
    refine Finset.sum_congr rfl fun k _ => ?_
    show shapeCast S512x256 L.p shapeCasts_S1x512x256_S512x256 (ix2 r k) * shapeCast S256x1024 L.wple shapeCasts_S256x1024_S256x1024 (ix2 k c) = _
    rw [pU_apply, wpleU_apply, hp, hwple]
  have e2 : vm (fun k => rmsU (c1001 n L) (rowU L.gp) (ix2 r k)) (fun k j => sqU L.wpg (ix2 k j)) c = vm (rms (ffnRow Y GF W1 W2) GP) WPG c := by
    unfold vm
    refine Finset.sum_congr rfl fun k _ => ?_
    show rmsU (c1001 n L) (rowU L.gp) (ix2 r k) * sqU L.wpg (ix2 k c) = _
    rw [sqU_apply, hwpg, hrow _ _ (ffnRow Y GF W1 W2) GP hx2 hgp]
  rw [e2]
  exact congrArg (fun z => _ + z * _) e1

end Cert.Mid

end
-- ==== Proof.KBlock.lean ====
/-
  The kernel's windows at a grid point, and the block that the run leaves.
-/
module

public import proofs.«01_k».proof.Proof.KHost
public import proofs.«01_k».proof.Proof.BodyRun
public import proofs.«01_k».proof.Proof.BodyRead
public import proofs.«01_k».proof.Proof.IdealFrame
public import Idealize.ShloMosaic.Lib.VecWindow
public import Idealize.ShloMosaic.Lib.Pipeline.ValueKit.Tiles

@[expose] public section

set_option maxRecDepth 16384
set_option maxHeartbeats 1000000

noncomputable section

namespace Cert.Mid

open Idealize.ShloMosaic Cert.KernelIdeal Cert.KernelIdeal.Gen Cert.KernelIdeal.Mid Idealize.ShloMosaic.TcCoe Idealize.SL.Sem
open scoped BigOperators

/-- A load through a unit rectangle at an index. -/
theorem ld_at {s : Shape} {α : Type} (X : s.Idx → α) (off size : Fin s.rank → Nat) (inb) (x : (Rect.unit off size inb).shape.Idx) (i : s.Idx)
    (hi : ∀ a, (i a).val = off a + (x a).val) : X ((Rect.unit off size inb).toLoadRect.idx x) = X i :=
  congrArg X (funext fun a => Fin.ext ((Rect.idx_unit_val off size inb x a).trans (hi a).symm))

variable (m : (ℓ : Loc nD τ sig) → Buf (Elt Ideal) ℓ) (c : Dev nD) (t : Fin cfg0.N) (b : Fin 4) (n : Fin 8)

theorem ix_0 : ∀ t : Fin grid0.N, win0_0.index t 0 = 0 := by
  decide +kernel
theorem ib_0 (i0 : Fin 8) : (iblk m c 0 t : FVec Ideal S8 .f32) (ix1 i0) = HV24 m c (ix1 i0) := by
  have hi := ix_0 t
  show V m c main_v24 (((cfg0.win 0).blk t).view.emb (ix1 i0)) = V m c main_v24 (ix1 i0)
  refine congrArg (V m c main_v24) (funext fun a => Fin.ext ?_)
  match a with
  | ⟨0, _⟩ => show win0_0.index t 0 * 8 + 1 * (i0 : Fin 8).val = (i0 : Fin 8).val; rw [hi]; omega

theorem ix_1 : ∀ t : Fin grid0.N, win0_1.index t 0 = (grid0.coords t 0).val ∧ win0_1.index t 1 = (grid0.coords t 1).val ∧ win0_1.index t 2 = 0 := by
  decide +kernel
theorem ib_1 (hb : (grid0.coords t 0).val = b.val) (hn : (grid0.coords t 1).val = n.val) (i1 : Fin 512) (i2 : Fin 512) : (iblk m c 1 t : FVec Ideal S1x512x512 .f32) (ix3 0 i1 i2) = HV12 m c (ix3 b ⟨512 * n.val + i1.val, by omega⟩ i2) := by
  have hi := ix_1 t
  show V m c main_v12 (((cfg0.win 1).blk t).view.emb (ix3 0 i1 i2)) = V m c main_v12 (ix3 b ⟨512 * n.val + i1.val, by omega⟩ i2)
  refine congrArg (V m c main_v12) (funext fun a => Fin.ext ?_)
  match a with
  | ⟨0, _⟩ => show win0_1.index t 0 * 1 + 1 * 0 = (b : Fin 4).val; rw [hi.1, hb]; omega
  | ⟨1, _⟩ => show win0_1.index t 1 * 512 + 1 * (i1 : Fin 512).val = 512 * n.val + i1.val; rw [hi.2.1, hn]; omega
  | ⟨2, _⟩ => show win0_1.index t 2 * 512 + 1 * (i2 : Fin 512).val = (i2 : Fin 512).val; rw [hi.2.2]; omega

theorem ix_2 : ∀ t : Fin grid0.N, win0_2.index t 0 = (grid0.coords t 0).val ∧ win0_2.index t 1 = 4 * (grid0.coords t 1).val - 1 ∧ win0_2.index t 2 = 0 := by
  decide +kernel
theorem ib_2 (hb : (grid0.coords t 0).val = b.val) (hn : (grid0.coords t 1).val = n.val) (i1 : Fin 128) (i2 : Fin 256) : (iblk m c 2 t : FVec Ideal S1x128x256 .f32) (ix3 0 i1 i2) = HV18 m c (ix3 b ⟨128 * (4 * n.val - 1) + i1.val, by omega⟩ i2) := by
  have hi := ix_2 t
  show V m c main_v18 (((cfg0.win 2).blk t).view.emb (ix3 0 i1 i2)) = V m c main_v18 (ix3 b ⟨128 * (4 * n.val - 1) + i1.val, by omega⟩ i2)
  refine congrArg (V m c main_v18) (funext fun a => Fin.ext ?_)
  match a with
  | ⟨0, _⟩ => show win0_2.index t 0 * 1 + 1 * 0 = (b : Fin 4).val; rw [hi.1, hb]; omega
  | ⟨1, _⟩ => show win0_2.index t 1 * 128 + 1 * (i1 : Fin 128).val = 128 * (4 * n.val - 1) + i1.val; rw [hi.2.1, hn]; omega
  | ⟨2, _⟩ => show win0_2.index t 2 * 256 + 1 * (i2 : Fin 256).val = (i2 : Fin 256).val; rw [hi.2.2]; omega

theorem ix_3 : ∀ t : Fin grid0.N, win0_3.index t 0 = (grid0.coords t 0).val ∧ win0_3.index t 1 = (grid0.coords t 1).val ∧ win0_3.index t 2 = 0 := by
  decide +kernel
theorem ib_3 (hb : (grid0.coords t 0).val = b.val) (hn : (grid0.coords t 1).val = n.val) (i1 : Fin 512) (i2 : Fin 256) : (iblk m c 3 t : FVec Ideal S1x512x256 .f32) (ix3 0 i1 i2) = HV18 m c (ix3 b ⟨512 * n.val + i1.val, by omega⟩ i2) := by
  have hi := ix_3 t
  show V m c main_v18 (((cfg0.win 3).blk t).view.emb (ix3 0 i1 i2)) = V m c main_v18 (ix3 b ⟨512 * n.val + i1.val, by omega⟩ i2)
  refine congrArg (V m c main_v18) (funext fun a => Fin.ext ?_)
  match a with
  | ⟨0, _⟩ => show win0_3.index t 0 * 1 + 1 * 0 = (b : Fin 4).val; rw [hi.1, hb]; omega
  | ⟨1, _⟩ => show win0_3.index t 1 * 512 + 1 * (i1 : Fin 512).val = 512 * n.val + i1.val; rw [hi.2.1, hn]; omega
  | ⟨2, _⟩ => show win0_3.index t 2 * 256 + 1 * (i2 : Fin 256).val = (i2 : Fin 256).val; rw [hi.2.2]; omega

theorem ix_4 : ∀ t : Fin grid0.N, win0_4.index t 0 = (grid0.coords t 0).val ∧ win0_4.index t 1 = min (4 * (grid0.coords t 1).val + 4) 31 ∧ win0_4.index t 2 = 0 := by
  decide +kernel
theorem ib_4 (hb : (grid0.coords t 0).val = b.val) (hn : (grid0.coords t 1).val = n.val) (i1 : Fin 128) (i2 : Fin 256) : (iblk m c 4 t : FVec Ideal S1x128x256 .f32) (ix3 0 i1 i2) = HV18 m c (ix3 b ⟨128 * min (4 * n.val + 4) 31 + i1.val, by omega⟩ i2) := by
  have hi := ix_4 t
  show V m c main_v18 (((cfg0.win 4).blk t).view.emb (ix3 0 i1 i2)) = V m c main_v18 (ix3 b ⟨128 * min (4 * n.val + 4) 31 + i1.val, by omega⟩ i2)
  refine congrArg (V m c main_v18) (funext fun a => Fin.ext ?_)
  match a with
  | ⟨0, _⟩ => show win0_4.index t 0 * 1 + 1 * 0 = (b : Fin 4).val; rw [hi.1, hb]; omega
  | ⟨1, _⟩ => show win0_4.index t 1 * 128 + 1 * (i1 : Fin 128).val = 128 * min (4 * n.val + 4) 31 + i1.val; rw [hi.2.1, hn]; omega
  | ⟨2, _⟩ => show win0_4.index t 2 * 256 + 1 * (i2 : Fin 256).val = (i2 : Fin 256).val; rw [hi.2.2]; omega

theorem ix_5 : ∀ t : Fin grid0.N, win0_5.index t 0 = (grid0.coords t 0).val ∧ win0_5.index t 1 = 4 * (grid0.coords t 1).val - 1 ∧ win0_5.index t 2 = 0 := by
  decide +kernel
theorem ib_5 (hb : (grid0.coords t 0).val = b.val) (hn : (grid0.coords t 1).val = n.val) (i1 : Fin 128) (i2 : Fin 256) : (iblk m c 5 t : FVec Ideal S1x128x256 .f32) (ix3 0 i1 i2) = HV22 m c (ix3 b ⟨128 * (4 * n.val - 1) + i1.val, by omega⟩ i2) := by
  have hi := ix_5 t
  show V m c main_v22 (((cfg0.win 5).blk t).view.emb (ix3 0 i1 i2)) = V m c main_v22 (ix3 b ⟨128 * (4 * n.val - 1) + i1.val, by omega⟩ i2)
  refine congrArg (V m c main_v22) (funext fun a => Fin.ext ?_)
  match a with
  | ⟨0, _⟩ => show win0_5.index t 0 * 1 + 1 * 0 = (b : Fin 4).val; rw [hi.1, hb]; omega
  | ⟨1, _⟩ => show win0_5.index t 1 * 128 + 1 * (i1 : Fin 128).val = 128 * (4 * n.val - 1) + i1.val; rw [hi.2.1, hn]; omega
  | ⟨2, _⟩ => show win0_5.index t 2 * 256 + 1 * (i2 : Fin 256).val = (i2 : Fin 256).val; rw [hi.2.2]; omega

theorem ix_6 : ∀ t : Fin grid0.N, win0_6.index t 0 = (grid0.coords t 0).val ∧ win0_6.index t 1 = (grid0.coords t 1).val ∧ win0_6.index t 2 = 0 := by
  decide +kernel
theorem ib_6 (hb : (grid0.coords t 0).val = b.val) (hn : (grid0.coords t 1).val = n.val) (i1 : Fin 512) (i2 : Fin 256) : (iblk m c 6 t : FVec Ideal S1x512x256 .f32) (ix3 0 i1 i2) = HV22 m c (ix3 b ⟨512 * n.val + i1.val, by omega⟩ i2) := by
  have hi := ix_6 t
  show V m c main_v22 (((cfg0.win 6).blk t).view.emb (ix3 0 i1 i2)) = V m c main_v22 (ix3 b ⟨512 * n.val + i1.val, by omega⟩ i2)
  refine congrArg (V m c main_v22) (funext fun a => Fin.ext ?_)
  match a with
  | ⟨0, _⟩ => show win0_6.index t 0 * 1 + 1 * 0 = (b : Fin 4).val; rw [hi.1, hb]; omega
  | ⟨1, _⟩ => show win0_6.index t 1 * 512 + 1 * (i1 : Fin 512).val = 512 * n.val + i1.val; rw [hi.2.1, hn]; omega
  | ⟨2, _⟩ => show win0_6.index t 2 * 256 + 1 * (i2 : Fin 256).val = (i2 : Fin 256).val; rw [hi.2.2]; omega

theorem ix_7 : ∀ t : Fin grid0.N, win0_7.index t 0 = (grid0.coords t 0).val ∧ win0_7.index t 1 = min (4 * (grid0.coords t 1).val + 4) 31 ∧ win0_7.index t 2 = 0 := by
  decide +kernel
theorem ib_7 (hb : (grid0.coords t 0).val = b.val) (hn : (grid0.coords t 1).val = n.val) (i1 : Fin 128) (i2 : Fin 256) : (iblk m c 7 t : FVec Ideal S1x128x256 .f32) (ix3 0 i1 i2) = HV22 m c (ix3 b ⟨128 * min (4 * n.val + 4) 31 + i1.val, by omega⟩ i2) := by
  have hi := ix_7 t
  show V m c main_v22 (((cfg0.win 7).blk t).view.emb (ix3 0 i1 i2)) = V m c main_v22 (ix3 b ⟨128 * min (4 * n.val + 4) 31 + i1.val, by omega⟩ i2)
  refine congrArg (V m c main_v22) (funext fun a => Fin.ext ?_)
  match a with
  | ⟨0, _⟩ => show win0_7.index t 0 * 1 + 1 * 0 = (b : Fin 4).val; rw [hi.1, hb]; omega
  | ⟨1, _⟩ => show win0_7.index t 1 * 128 + 1 * (i1 : Fin 128).val = 128 * min (4 * n.val + 4) 31 + i1.val; rw [hi.2.1, hn]; omega
  | ⟨2, _⟩ => show win0_7.index t 2 * 256 + 1 * (i2 : Fin 256).val = (i2 : Fin 256).val; rw [hi.2.2]; omega

theorem ix_8 : ∀ t : Fin grid0.N, win0_8.index t 0 = (grid0.coords t 0).val ∧ win0_8.index t 1 = (grid0.coords t 1).val ∧ win0_8.index t 2 = 0 := by
  decide +kernel
theorem ib_8 (hb : (grid0.coords t 0).val = b.val) (hn : (grid0.coords t 1).val = n.val) (i1 : Fin 512) (i2 : Fin 1024) : (iblk m c 8 t : FVec Ideal S1x512x1024 .f32) (ix3 0 i1 i2) = KA0 m c (ix3 b ⟨512 * n.val + i1.val, by omega⟩ i2) := by
  rw [show KA0 m c = V m c main_arg0 from (V_main_arg0 m c).symm]
  have hi := ix_8 t
  show V m c main_arg0 (((cfg0.win 8).blk t).view.emb (ix3 0 i1 i2)) = V m c main_arg0 (ix3 b ⟨512 * n.val + i1.val, by omega⟩ i2)
  refine congrArg (V m c main_arg0) (funext fun a => Fin.ext ?_)
  match a with
  | ⟨0, _⟩ => show win0_8.index t 0 * 1 + 1 * 0 = (b : Fin 4).val; rw [hi.1, hb]; omega
  | ⟨1, _⟩ => show win0_8.index t 1 * 512 + 1 * (i1 : Fin 512).val = 512 * n.val + i1.val; rw [hi.2.1, hn]; omega
  | ⟨2, _⟩ => show win0_8.index t 2 * 1024 + 1 * (i2 : Fin 1024).val = (i2 : Fin 1024).val; rw [hi.2.2]; omega

theorem ix_9 : ∀ t : Fin grid0.N, win0_9.index t 0 = 0 ∧ win0_9.index t 1 = 0 := by
  decide +kernel
theorem ib_9 (i1 : Fin 1024) : (iblk m c 9 t : FVec Ideal S1x1024 .f32) (ix2 0 i1) = HV26 m c (ix2 0 i1) := by
  have hi := ix_9 t
  show V m c main_v26 (((cfg0.win 9).blk t).view.emb (ix2 0 i1)) = V m c main_v26 (ix2 0 i1)
  refine congrArg (V m c main_v26) (funext fun a => Fin.ext ?_)
  match a with
  | ⟨0, _⟩ => show win0_9.index t 0 * 1 + 1 * 0 = 0; rw [hi.1]
  | ⟨1, _⟩ => show win0_9.index t 1 * 1024 + 1 * (i1 : Fin 1024).val = (i1 : Fin 1024).val; rw [hi.2]; omega

theorem ix_10 : ∀ t : Fin grid0.N, win0_10.index t 0 = 0 ∧ win0_10.index t 1 = 0 := by
  decide +kernel
theorem ib_10 (i0 : Fin 1024) (i1 : Fin 2048) : (iblk m c 10 t : FVec Ideal S1024x2048 .f32) (ix2 i0 i1) = HV28 m c (ix2 i0 i1) := by
  have hi := ix_10 t
  show V m c main_v28 (((cfg0.win 10).blk t).view.emb (ix2 i0 i1)) = V m c main_v28 (ix2 i0 i1)
  refine congrArg (V m c main_v28) (funext fun a => Fin.ext ?_)
  match a with
  | ⟨0, _⟩ => show win0_10.index t 0 * 1024 + 1 * (i0 : Fin 1024).val = (i0 : Fin 1024).val; rw [hi.1]; omega
  | ⟨1, _⟩ => show win0_10.index t 1 * 2048 + 1 * (i1 : Fin 2048).val = (i1 : Fin 2048).val; rw [hi.2]; omega

theorem ix_11 : ∀ t : Fin grid0.N, win0_11.index t 0 = (grid0.coords t 0).val ∧ win0_11.index t 1 = (grid0.coords t 1).val ∧ win0_11.index t 2 = 0 := by
  decide +kernel
theorem ib_11 (hb : (grid0.coords t 0).val = b.val) (hn : (grid0.coords t 1).val = n.val) (i1 : Fin 512) (i2 : Fin 512) : (iblk m c 11 t : FVec Ideal S1x512x512 .f32) (ix3 0 i1 i2) = KA4 m c (ix3 b ⟨512 * n.val + i1.val, by omega⟩ i2) := by
  rw [show KA4 m c = V m c main_arg4 from (V_main_arg4 m c).symm]
  have hi := ix_11 t
  show V m c main_arg4 (((cfg0.win 11).blk t).view.emb (ix3 0 i1 i2)) = V m c main_arg4 (ix3 b ⟨512 * n.val + i1.val, by omega⟩ i2)
  refine congrArg (V m c main_arg4) (funext fun a => Fin.ext ?_)
  match a with
  | ⟨0, _⟩ => show win0_11.index t 0 * 1 + 1 * 0 = (b : Fin 4).val; rw [hi.1, hb]; omega
  | ⟨1, _⟩ => show win0_11.index t 1 * 512 + 1 * (i1 : Fin 512).val = 512 * n.val + i1.val; rw [hi.2.1, hn]; omega
  | ⟨2, _⟩ => show win0_11.index t 2 * 512 + 1 * (i2 : Fin 512).val = (i2 : Fin 512).val; rw [hi.2.2]; omega

theorem ix_12 : ∀ t : Fin grid0.N, win0_12.index t 0 = (grid0.coords t 0).val ∧ win0_12.index t 1 = (grid0.coords t 1).val ∧ win0_12.index t 2 = 0 := by
  decide +kernel
theorem ib_12 (hb : (grid0.coords t 0).val = b.val) (hn : (grid0.coords t 1).val = n.val) (i1 : Fin 512) (i2 : Fin 512) : (iblk m c 12 t : FVec Ideal S1x512x512 .f32) (ix3 0 i1 i2) = KA5 m c (ix3 b ⟨512 * n.val + i1.val, by omega⟩ i2) := by
  rw [show KA5 m c = V m c main_arg5 from (V_main_arg5 m c).symm]
  have hi := ix_12 t
  show V m c main_arg5 (((cfg0.win 12).blk t).view.emb (ix3 0 i1 i2)) = V m c main_arg5 (ix3 b ⟨512 * n.val + i1.val, by omega⟩ i2)
  refine congrArg (V m c main_arg5) (funext fun a => Fin.ext ?_)
  match a with
  | ⟨0, _⟩ => show win0_12.index t 0 * 1 + 1 * 0 = (b : Fin 4).val; rw [hi.1, hb]; omega
  | ⟨1, _⟩ => show win0_12.index t 1 * 512 + 1 * (i1 : Fin 512).val = 512 * n.val + i1.val; rw [hi.2.1, hn]; omega
  | ⟨2, _⟩ => show win0_12.index t 2 * 512 + 1 * (i2 : Fin 512).val = (i2 : Fin 512).val; rw [hi.2.2]; omega

theorem ix_13 : ∀ t : Fin grid0.N, win0_13.index t 0 = (grid0.coords t 0).val ∧ win0_13.index t 1 = (grid0.coords t 1).val ∧ win0_13.index t 2 = 0 := by
  decide +kernel
theorem ib_13 (hb : (grid0.coords t 0).val = b.val) (hn : (grid0.coords t 1).val = n.val) (i1 : Fin 512) (i2 : Fin 512) : (iblk m c 13 t : FVec Ideal S1x512x512 .f32) (ix3 0 i1 i2) = KA6 m c (ix3 b ⟨512 * n.val + i1.val, by omega⟩ i2) := by
  rw [show KA6 m c = V m c main_arg6 from (V_main_arg6 m c).symm]
  have hi := ix_13 t
  show V m c main_arg6 (((cfg0.win 13).blk t).view.emb (ix3 0 i1 i2)) = V m c main_arg6 (ix3 b ⟨512 * n.val + i1.val, by omega⟩ i2)
  refine congrArg (V m c main_arg6) (funext fun a => Fin.ext ?_)
  match a with
  | ⟨0, _⟩ => show win0_13.index t 0 * 1 + 1 * 0 = (b : Fin 4).val; rw [hi.1, hb]; omega
  | ⟨1, _⟩ => show win0_13.index t 1 * 512 + 1 * (i1 : Fin 512).val = 512 * n.val + i1.val; rw [hi.2.1, hn]; omega
  | ⟨2, _⟩ => show win0_13.index t 2 * 512 + 1 * (i2 : Fin 512).val = (i2 : Fin 512).val; rw [hi.2.2]; omega

theorem ix_14 : ∀ t : Fin grid0.N, win0_14.index t 0 = (grid0.coords t 0).val ∧ win0_14.index t 1 = (grid0.coords t 1).val ∧ win0_14.index t 2 = 0 := by
  decide +kernel
theorem ib_14 (hb : (grid0.coords t 0).val = b.val) (hn : (grid0.coords t 1).val = n.val) (i1 : Fin 512) (i2 : Fin 512) : (iblk m c 14 t : FVec Ideal S1x512x512 .f32) (ix3 0 i1 i2) = KA7 m c (ix3 b ⟨512 * n.val + i1.val, by omega⟩ i2) := by
  rw [show KA7 m c = V m c main_arg7 from (V_main_arg7 m c).symm]
  have hi := ix_14 t
  show V m c main_arg7 (((cfg0.win 14).blk t).view.emb (ix3 0 i1 i2)) = V m c main_arg7 (ix3 b ⟨512 * n.val + i1.val, by omega⟩ i2)
  refine congrArg (V m c main_arg7) (funext fun a => Fin.ext ?_)
  match a with
  | ⟨0, _⟩ => show win0_14.index t 0 * 1 + 1 * 0 = (b : Fin 4).val; rw [hi.1, hb]; omega
  | ⟨1, _⟩ => show win0_14.index t 1 * 512 + 1 * (i1 : Fin 512).val = 512 * n.val + i1.val; rw [hi.2.1, hn]; omega
  | ⟨2, _⟩ => show win0_14.index t 2 * 512 + 1 * (i2 : Fin 512).val = (i2 : Fin 512).val; rw [hi.2.2]; omega

theorem ix_15 : ∀ t : Fin grid0.N, win0_15.index t 0 = 0 ∧ win0_15.index t 1 = 0 := by
  decide +kernel
theorem ib_15 (i1 : Fin 512) : (iblk m c 15 t : FVec Ideal S1x512 .f32) (ix2 0 i1) = HV30 m c (ix2 0 i1) := by
  have hi := ix_15 t
  show V m c main_v30 (((cfg0.win 15).blk t).view.emb (ix2 0 i1)) = V m c main_v30 (ix2 0 i1)
  refine congrArg (V m c main_v30) (funext fun a => Fin.ext ?_)
  match a with
  | ⟨0, _⟩ => show win0_15.index t 0 * 1 + 1 * 0 = 0; rw [hi.1]
  | ⟨1, _⟩ => show win0_15.index t 1 * 512 + 1 * (i1 : Fin 512).val = (i1 : Fin 512).val; rw [hi.2]; omega

theorem ix_16 : ∀ t : Fin grid0.N, win0_16.index t 0 = 0 ∧ win0_16.index t 1 = 0 := by
  decide +kernel
theorem ib_16 (i1 : Fin 512) : (iblk m c 16 t : FVec Ideal S1x512 .f32) (ix2 0 i1) = HV32 m c (ix2 0 i1) := by
  have hi := ix_16 t
  show V m c main_v32 (((cfg0.win 16).blk t).view.emb (ix2 0 i1)) = V m c main_v32 (ix2 0 i1)
  refine congrArg (V m c main_v32) (funext fun a => Fin.ext ?_)
  match a with
  | ⟨0, _⟩ => show win0_16.index t 0 * 1 + 1 * 0 = 0; rw [hi.1]
  | ⟨1, _⟩ => show win0_16.index t 1 * 512 + 1 * (i1 : Fin 512).val = (i1 : Fin 512).val; rw [hi.2]; omega

theorem ix_17 : ∀ t : Fin grid0.N, win0_17.index t 0 = 0 ∧ win0_17.index t 1 = 0 := by
  decide +kernel
theorem ib_17 (i0 : Fin 128) (i1 : Fin 128) : (iblk m c 17 t : FVec Ideal S128x128 .f32) (ix2 i0 i1) = HV8 m c (ix2 i0 i1) := by
  have hi := ix_17 t
  show V m c main_v8 (((cfg0.win 17).blk t).view.emb (ix2 i0 i1)) = V m c main_v8 (ix2 i0 i1)
  refine congrArg (V m c main_v8) (funext fun a => Fin.ext ?_)
  match a with
  | ⟨0, _⟩ => show win0_17.index t 0 * 128 + 1 * (i0 : Fin 128).val = (i0 : Fin 128).val; rw [hi.1]; omega
  | ⟨1, _⟩ => show win0_17.index t 1 * 128 + 1 * (i1 : Fin 128).val = (i1 : Fin 128).val; rw [hi.2]; omega

theorem ix_18 : ∀ t : Fin grid0.N, win0_18.index t 0 = 0 ∧ win0_18.index t 1 = 0 := by
  decide +kernel
theorem ib_18 (i0 : Fin 512) (i1 : Fin 1024) : (iblk m c 18 t : FVec Ideal S512x1024 .f32) (ix2 i0 i1) = HV34 m c (ix2 i0 i1) := by
  have hi := ix_18 t
  show V m c main_v34 (((cfg0.win 18).blk t).view.emb (ix2 i0 i1)) = V m c main_v34 (ix2 i0 i1)
  refine congrArg (V m c main_v34) (funext fun a => Fin.ext ?_)
  match a with
  | ⟨0, _⟩ => show win0_18.index t 0 * 512 + 1 * (i0 : Fin 512).val = (i0 : Fin 512).val; rw [hi.1]; omega
  | ⟨1, _⟩ => show win0_18.index t 1 * 1024 + 1 * (i1 : Fin 1024).val = (i1 : Fin 1024).val; rw [hi.2]; omega

theorem ix_19 : ∀ t : Fin grid0.N, win0_19.index t 0 = 0 ∧ win0_19.index t 1 = 0 := by
  decide +kernel
theorem ib_19 (i0 : Fin 512) (i1 : Fin 1024) : (iblk m c 19 t : FVec Ideal S512x1024 .f32) (ix2 i0 i1) = HV36 m c (ix2 i0 i1) := by
  have hi := ix_19 t
  show V m c main_v36 (((cfg0.win 19).blk t).view.emb (ix2 i0 i1)) = V m c main_v36 (ix2 i0 i1)
  refine congrArg (V m c main_v36) (funext fun a => Fin.ext ?_)
  match a with
  | ⟨0, _⟩ => show win0_19.index t 0 * 512 + 1 * (i0 : Fin 512).val = (i0 : Fin 512).val; rw [hi.1]; omega
  | ⟨1, _⟩ => show win0_19.index t 1 * 1024 + 1 * (i1 : Fin 1024).val = (i1 : Fin 1024).val; rw [hi.2]; omega

theorem ix_20 : ∀ t : Fin grid0.N, win0_20.index t 0 = 0 ∧ win0_20.index t 1 = 0 := by
  decide +kernel
theorem ib_20 (i0 : Fin 1024) (i1 : Fin 1024) : (iblk m c 20 t : FVec Ideal S1024x1024 .f32) (ix2 i0 i1) = HV38 m c (ix2 i0 i1) := by
  have hi := ix_20 t
  show V m c main_v38 (((cfg0.win 20).blk t).view.emb (ix2 i0 i1)) = V m c main_v38 (ix2 i0 i1)
  refine congrArg (V m c main_v38) (funext fun a => Fin.ext ?_)
  match a with
  | ⟨0, _⟩ => show win0_20.index t 0 * 1024 + 1 * (i0 : Fin 1024).val = (i0 : Fin 1024).val; rw [hi.1]; omega
  | ⟨1, _⟩ => show win0_20.index t 1 * 1024 + 1 * (i1 : Fin 1024).val = (i1 : Fin 1024).val; rw [hi.2]; omega

theorem ix_21 : ∀ t : Fin grid0.N, win0_21.index t 0 = (grid0.coords t 0).val ∧ win0_21.index t 1 = (grid0.coords t 1).val ∧ win0_21.index t 2 = 0 := by
  decide +kernel
theorem ib_21 (hb : (grid0.coords t 0).val = b.val) (hn : (grid0.coords t 1).val = n.val) (i1 : Fin 512) (i2 : Fin 256) : (iblk m c 21 t : FVec Ideal S1x512x256 .f32) (ix3 0 i1 i2) = HV39 m c (ix3 b ⟨512 * n.val + i1.val, by omega⟩ i2) := by
  have hi := ix_21 t
  show V m c main_v39 (((cfg0.win 21).blk t).view.emb (ix3 0 i1 i2)) = V m c main_v39 (ix3 b ⟨512 * n.val + i1.val, by omega⟩ i2)
  refine congrArg (V m c main_v39) (funext fun a => Fin.ext ?_)
  match a with
  | ⟨0, _⟩ => show win0_21.index t 0 * 1 + 1 * 0 = (b : Fin 4).val; rw [hi.1, hb]; omega
  | ⟨1, _⟩ => show win0_21.index t 1 * 512 + 1 * (i1 : Fin 512).val = 512 * n.val + i1.val; rw [hi.2.1, hn]; omega
  | ⟨2, _⟩ => show win0_21.index t 2 * 256 + 1 * (i2 : Fin 256).val = (i2 : Fin 256).val; rw [hi.2.2]; omega

theorem ix_22 : ∀ t : Fin grid0.N, win0_22.index t 0 = 0 ∧ win0_22.index t 1 = 0 := by
  decide +kernel
theorem ib_22 (i1 : Fin 1024) : (iblk m c 22 t : FVec Ideal S1x1024 .f32) (ix2 0 i1) = HV41 m c (ix2 0 i1) := by
  have hi := ix_22 t
  show V m c main_v41 (((cfg0.win 22).blk t).view.emb (ix2 0 i1)) = V m c main_v41 (ix2 0 i1)
  refine congrArg (V m c main_v41) (funext fun a => Fin.ext ?_)
  match a with
  | ⟨0, _⟩ => show win0_22.index t 0 * 1 + 1 * 0 = 0; rw [hi.1]
  | ⟨1, _⟩ => show win0_22.index t 1 * 1024 + 1 * (i1 : Fin 1024).val = (i1 : Fin 1024).val; rw [hi.2]; omega

theorem ix_23 : ∀ t : Fin grid0.N, win0_23.index t 0 = 0 ∧ win0_23.index t 1 = 0 := by
  decide +kernel
theorem ib_23 (i0 : Fin 1024) (i1 : Fin 4096) : (iblk m c 23 t : FVec Ideal S1024x4096 .f32) (ix2 i0 i1) = HV43 m c (ix2 i0 i1) := by
  have hi := ix_23 t
  show V m c main_v43 (((cfg0.win 23).blk t).view.emb (ix2 i0 i1)) = V m c main_v43 (ix2 i0 i1)
  refine congrArg (V m c main_v43) (funext fun a => Fin.ext ?_)
  match a with
  | ⟨0, _⟩ => show win0_23.index t 0 * 1024 + 1 * (i0 : Fin 1024).val = (i0 : Fin 1024).val; rw [hi.1]; omega
  | ⟨1, _⟩ => show win0_23.index t 1 * 4096 + 1 * (i1 : Fin 4096).val = (i1 : Fin 4096).val; rw [hi.2]; omega

theorem ix_24 : ∀ t : Fin grid0.N, win0_24.index t 0 = 0 ∧ win0_24.index t 1 = 0 := by
  decide +kernel
theorem ib_24 (i0 : Fin 4096) (i1 : Fin 1024) : (iblk m c 24 t : FVec Ideal S4096x1024 .f32) (ix2 i0 i1) = HV45 m c (ix2 i0 i1) := by
  have hi := ix_24 t
  show V m c main_v45 (((cfg0.win 24).blk t).view.emb (ix2 i0 i1)) = V m c main_v45 (ix2 i0 i1)
  refine congrArg (V m c main_v45) (funext fun a => Fin.ext ?_)
  match a with
  | ⟨0, _⟩ => show win0_24.index t 0 * 4096 + 1 * (i0 : Fin 4096).val = (i0 : Fin 4096).val; rw [hi.1]; omega
  | ⟨1, _⟩ => show win0_24.index t 1 * 1024 + 1 * (i1 : Fin 1024).val = (i1 : Fin 1024).val; rw [hi.2]; omega

theorem ix_25 : ∀ t : Fin grid0.N, win0_25.index t 0 = 0 ∧ win0_25.index t 1 = 0 := by
  decide +kernel
theorem ib_25 (i1 : Fin 1024) : (iblk m c 25 t : FVec Ideal S1x1024 .f32) (ix2 0 i1) = HV47 m c (ix2 0 i1) := by
  have hi := ix_25 t
  show V m c main_v47 (((cfg0.win 25).blk t).view.emb (ix2 0 i1)) = V m c main_v47 (ix2 0 i1)
  refine congrArg (V m c main_v47) (funext fun a => Fin.ext ?_)
  match a with
  | ⟨0, _⟩ => show win0_25.index t 0 * 1 + 1 * 0 = 0; rw [hi.1]
  | ⟨1, _⟩ => show win0_25.index t 1 * 1024 + 1 * (i1 : Fin 1024).val = (i1 : Fin 1024).val; rw [hi.2]; omega

theorem ix_26 : ∀ t : Fin grid0.N, win0_26.index t 0 = 0 ∧ win0_26.index t 1 = 0 := by
  decide +kernel
theorem ib_26 (i0 : Fin 1024) (i1 : Fin 1024) : (iblk m c 26 t : FVec Ideal S1024x1024 .f32) (ix2 i0 i1) = HV49 m c (ix2 i0 i1) := by
  have hi := ix_26 t
  show V m c main_v49 (((cfg0.win 26).blk t).view.emb (ix2 i0 i1)) = V m c main_v49 (ix2 i0 i1)
  refine congrArg (V m c main_v49) (funext fun a => Fin.ext ?_)
  match a with
  | ⟨0, _⟩ => show win0_26.index t 0 * 1024 + 1 * (i0 : Fin 1024).val = (i0 : Fin 1024).val; rw [hi.1]; omega
  | ⟨1, _⟩ => show win0_26.index t 1 * 1024 + 1 * (i1 : Fin 1024).val = (i1 : Fin 1024).val; rw [hi.2]; omega

theorem ix_27 : ∀ t : Fin grid0.N, win0_27.index t 0 = 0 ∧ win0_27.index t 1 = 0 := by
  decide +kernel
theorem ib_27 (i0 : Fin 256) (i1 : Fin 1024) : (iblk m c 27 t : FVec Ideal S256x1024 .f32) (ix2 i0 i1) = HV51 m c (ix2 i0 i1) := by
  have hi := ix_27 t
  show V m c main_v51 (((cfg0.win 27).blk t).view.emb (ix2 i0 i1)) = V m c main_v51 (ix2 i0 i1)
  refine congrArg (V m c main_v51) (funext fun a => Fin.ext ?_)
  match a with
  | ⟨0, _⟩ => show win0_27.index t 0 * 256 + 1 * (i0 : Fin 256).val = (i0 : Fin 256).val; rw [hi.1]; omega
  | ⟨1, _⟩ => show win0_27.index t 1 * 1024 + 1 * (i1 : Fin 1024).val = (i1 : Fin 1024).val; rw [hi.2]; omega

/-- The loaded blocks of a grid point. -/
abbrev Lt : Ld := ldOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

end Cert.Mid

end
-- ==== Proof.KFields.lean ====
/-
  The loaded blocks of a grid point as rows and columns of the kernel's arrays.
-/
module

public import proofs.«01_k».proof.Proof.KBlock

@[expose] public section

set_option maxRecDepth 16384
set_option maxHeartbeats 1000000

noncomputable section

namespace Cert.Mid

open Idealize.ShloMosaic Cert.KernelIdeal Cert.KernelIdeal.Gen Cert.KernelIdeal.Mid Idealize.ShloMosaic.TcCoe Idealize.SL.Sem
open scoped BigOperators

variable (m : (ℓ : Loc nD τ sig) → Buf (Elt Ideal) ℓ) (c : Dev nD) (t : Fin cfg0.N) (b : Fin 4) (n : Fin 8)

theorem F_kp (hb : (grid0.coords t 0).val = b.val) (hn : (grid0.coords t 1).val = n.val) (i1 : Fin 128) (i2 : Fin 256) :
    (Lt m c t).kp (ix3 0 i1 i2) = HV18 m c (ix3 b ⟨128 * (4 * n.val - 1) + i1.val, by omega⟩ i2) :=
  Eq.trans (ld_at (s := S1x128x256) (iblk m c 2 t) ![0, 0, 0] S1x128x256.size inb_S1x128x256_S1x128x256_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_2 m c t b n hb hn i1 i2)
theorem F_kc (hb : (grid0.coords t 0).val = b.val) (hn : (grid0.coords t 1).val = n.val) (i1 : Fin 512) (i2 : Fin 256) :
    (Lt m c t).kc (ix3 0 i1 i2) = HV18 m c (ix3 b ⟨512 * n.val + i1.val, by omega⟩ i2) :=
  Eq.trans (ld_at (s := S1x512x256) (iblk m c 3 t) ![0, 0, 0] S1x512x256.size inb_S1x512x256_S1x512x256_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_3 m c t b n hb hn i1 i2)
theorem F_kn (hb : (grid0.coords t 0).val = b.val) (hn : (grid0.coords t 1).val = n.val) (i1 : Fin 128) (i2 : Fin 256) :
    (Lt m c t).kn (ix3 0 i1 i2) = HV18 m c (ix3 b ⟨128 * min (4 * n.val + 4) 31 + i1.val, by omega⟩ i2) :=
  Eq.trans (ld_at (s := S1x128x256) (iblk m c 4 t) ![0, 0, 0] S1x128x256.size inb_S1x128x256_S1x128x256_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_4 m c t b n hb hn i1 i2)
theorem F_vp (hb : (grid0.coords t 0).val = b.val) (hn : (grid0.coords t 1).val = n.val) (i1 : Fin 128) (i2 : Fin 256) :
    (Lt m c t).vp (ix3 0 i1 i2) = HV22 m c (ix3 b ⟨128 * (4 * n.val - 1) + i1.val, by omega⟩ i2) :=
  Eq.trans (ld_at (s := S1x128x256) (iblk m c 5 t) ![0, 0, 0] S1x128x256.size inb_S1x128x256_S1x128x256_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_5 m c t b n hb hn i1 i2)
theorem F_vc (hb : (grid0.coords t 0).val = b.val) (hn : (grid0.coords t 1).val = n.val) (i1 : Fin 512) (i2 : Fin 256) :
    (Lt m c t).vc (ix3 0 i1 i2) = HV22 m c (ix3 b ⟨512 * n.val + i1.val, by omega⟩ i2) :=
  Eq.trans (ld_at (s := S1x512x256) (iblk m c 6 t) ![0, 0, 0] S1x512x256.size inb_S1x512x256_S1x512x256_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_6 m c t b n hb hn i1 i2)
theorem F_vn (hb : (grid0.coords t 0).val = b.val) (hn : (grid0.coords t 1).val = n.val) (i1 : Fin 128) (i2 : Fin 256) :
    (Lt m c t).vn (ix3 0 i1 i2) = HV22 m c (ix3 b ⟨128 * min (4 * n.val + 4) 31 + i1.val, by omega⟩ i2) :=
  Eq.trans (ld_at (s := S1x128x256) (iblk m c 7 t) ![0, 0, 0] S1x128x256.size inb_S1x128x256_S1x128x256_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_7 m c t b n hb hn i1 i2)
theorem F_bd (i0 : Fin 128) (i1 : Fin 128) :
    (Lt m c t).bd (ix2 i0 i1) = HV8 m c (ix2 i0 i1) :=
  Eq.trans (ld_at (s := S128x128) (iblk m c 17 t) ![0, 0] S128x128.size inb_S128x128_S128x128_0_0 (ix2 i0 i1) (ix2 i0 i1) (fun a => by
    match a with
    | ⟨0, _⟩ => show i0.val = 0 + i0.val; omega
    | ⟨1, _⟩ => show i1.val = 0 + i1.val; omega)) (ib_17 m c t i0 i1)
theorem F_x (hb : (grid0.coords t 0).val = b.val) (hn : (grid0.coords t 1).val = n.val) (i1 : Fin 512) (i2 : Fin 1024) :
    (Lt m c t).x (ix3 0 i1 i2) = KA0 m c (ix3 b ⟨512 * n.val + i1.val, by omega⟩ i2) :=
  Eq.trans (ld_at (s := S1x512x1024) (iblk m c 8 t) ![0, 0, 0] S1x512x1024.size inb_S1x512x1024_S1x512x1024_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_8 m c t b n hb hn i1 i2)
theorem F_q00 (hb : (grid0.coords t 0).val = b.val) (hn : (grid0.coords t 1).val = n.val) (i1 : Fin 128) (i2 : Fin 128) :
    (Lt m c t).q00 (ix3 0 i1 i2) = HV12 m c (ix3 b ⟨512 * n.val + i1.val, by omega⟩ ⟨i2.val, by omega⟩) :=
  Eq.trans (ld_at (s := S1x512x512) (iblk m c 1 t) ![0, 0, 0] S1x128x128.size inb_S1x512x512_S1x128x128_0_0_0 (ix3 0 i1 i2) (ix3 0 ⟨i1.val, by omega⟩ ⟨i2.val, by omega⟩) (fun a => by
    match a with
    | ⟨0, _⟩ => show 0 = 0 + 0; rfl
    | ⟨1, _⟩ => show i1.val = 0 + i1.val; omega
    | ⟨2, _⟩ => show i2.val = 0 + i2.val; omega)) (ib_1 m c t b n hb hn ⟨i1.val, by omega⟩ ⟨i2.val, by omega⟩)
theorem F_q01 (hb : (grid0.coords t 0).val = b.val) (hn : (grid0.coords t 1).val = n.val) (i1 : Fin 128) (i2 : Fin 128) :
    (Lt m c t).q01 (ix3 0 i1 i2) = HV12 m c (ix3 b ⟨512 * n.val + i1.val, by omega⟩ ⟨128 + i2.val, by omega⟩) :=
  Eq.trans (ld_at (s := S1x512x512) (iblk m c 1 t) ![0, 0, 128] S1x128x128.size inb_S1x512x512_S1x128x128_0_0_128 (ix3 0 i1 i2) (ix3 0 ⟨i1.val, by omega⟩ ⟨128 + i2.val, by omega⟩) (fun a => by
    match a with
    | ⟨0, _⟩ => show 0 = 0 + 0; rfl
    | ⟨1, _⟩ => show i1.val = 0 + i1.val; omega
    | ⟨2, _⟩ => show 128 + i2.val = 128 + i2.val; rfl)) (ib_1 m c t b n hb hn ⟨i1.val, by omega⟩ ⟨128 + i2.val, by omega⟩)
theorem F_s0 :
    (Lt m c t).s0 = HV24 m c (ix1 0) :=
  Eq.trans (ld_at (s := S8) (iblk m c 0 t) ![0] S1.size inb_S8_S1_0 (Shape.Idx.first (by decide)) (ix1 0) (fun a => by
    match a with
    | ⟨0, _⟩ => show 0 = 0 + 0; rfl)) (ib_0 m c t 0)
theorem F_s2 :
    (Lt m c t).s2 = HV24 m c (ix1 2) :=
  Eq.trans (ld_at (s := S8) (iblk m c 0 t) ![2] S1.size inb_S8_S1_2 (Shape.Idx.first (by decide)) (ix1 2) (fun a => by
    match a with
    | ⟨0, _⟩ => show 2 = 2 + 0; rfl)) (ib_0 m c t 2)
theorem F_s1 :
    (Lt m c t).s1 = HV24 m c (ix1 1) :=
  Eq.trans (ld_at (s := S8) (iblk m c 0 t) ![1] S1.size inb_S8_S1_1 (Shape.Idx.first (by decide)) (ix1 1) (fun a => by
    match a with
    | ⟨0, _⟩ => show 1 = 1 + 0; rfl)) (ib_0 m c t 1)
theorem F_s3 :
    (Lt m c t).s3 = HV24 m c (ix1 3) :=
  Eq.trans (ld_at (s := S8) (iblk m c 0 t) ![3] S1.size inb_S8_S1_3 (Shape.Idx.first (by decide)) (ix1 3) (fun a => by
    match a with
    | ⟨0, _⟩ => show 3 = 3 + 0; rfl)) (ib_0 m c t 3)
theorem F_q02 (hb : (grid0.coords t 0).val = b.val) (hn : (grid0.coords t 1).val = n.val) (i1 : Fin 128) (i2 : Fin 128) :
    (Lt m c t).q02 (ix3 0 i1 i2) = HV12 m c (ix3 b ⟨512 * n.val + i1.val, by omega⟩ ⟨256 + i2.val, by omega⟩) :=
  Eq.trans (ld_at (s := S1x512x512) (iblk m c 1 t) ![0, 0, 256] S1x128x128.size inb_S1x512x512_S1x128x128_0_0_256 (ix3 0 i1 i2) (ix3 0 ⟨i1.val, by omega⟩ ⟨256 + i2.val, by omega⟩) (fun a => by
    match a with
    | ⟨0, _⟩ => show 0 = 0 + 0; rfl
    | ⟨1, _⟩ => show i1.val = 0 + i1.val; omega
    | ⟨2, _⟩ => show 256 + i2.val = 256 + i2.val; rfl)) (ib_1 m c t b n hb hn ⟨i1.val, by omega⟩ ⟨256 + i2.val, by omega⟩)
theorem F_q03 (hb : (grid0.coords t 0).val = b.val) (hn : (grid0.coords t 1).val = n.val) (i1 : Fin 128) (i2 : Fin 128) :
    (Lt m c t).q03 (ix3 0 i1 i2) = HV12 m c (ix3 b ⟨512 * n.val + i1.val, by omega⟩ ⟨384 + i2.val, by omega⟩) :=
  Eq.trans (ld_at (s := S1x512x512) (iblk m c 1 t) ![0, 0, 384] S1x128x128.size inb_S1x512x512_S1x128x128_0_0_384 (ix3 0 i1 i2) (ix3 0 ⟨i1.val, by omega⟩ ⟨384 + i2.val, by omega⟩) (fun a => by
    match a with
    | ⟨0, _⟩ => show 0 = 0 + 0; rfl
    | ⟨1, _⟩ => show i1.val = 0 + i1.val; omega
    | ⟨2, _⟩ => show 384 + i2.val = 384 + i2.val; rfl)) (ib_1 m c t b n hb hn ⟨i1.val, by omega⟩ ⟨384 + i2.val, by omega⟩)
theorem F_s4 :
    (Lt m c t).s4 = HV24 m c (ix1 4) :=
  Eq.trans (ld_at (s := S8) (iblk m c 0 t) ![4] S1.size inb_S8_S1_4 (Shape.Idx.first (by decide)) (ix1 4) (fun a => by
    match a with
    | ⟨0, _⟩ => show 4 = 4 + 0; rfl)) (ib_0 m c t 4)
theorem F_s6 :
    (Lt m c t).s6 = HV24 m c (ix1 6) :=
  Eq.trans (ld_at (s := S8) (iblk m c 0 t) ![6] S1.size inb_S8_S1_6 (Shape.Idx.first (by decide)) (ix1 6) (fun a => by
    match a with
    | ⟨0, _⟩ => show 6 = 6 + 0; rfl)) (ib_0 m c t 6)
theorem F_s5 :
    (Lt m c t).s5 = HV24 m c (ix1 5) :=
  Eq.trans (ld_at (s := S8) (iblk m c 0 t) ![5] S1.size inb_S8_S1_5 (Shape.Idx.first (by decide)) (ix1 5) (fun a => by
    match a with
    | ⟨0, _⟩ => show 5 = 5 + 0; rfl)) (ib_0 m c t 5)
theorem F_s7 :
    (Lt m c t).s7 = HV24 m c (ix1 7) :=
  Eq.trans (ld_at (s := S8) (iblk m c 0 t) ![7] S1.size inb_S8_S1_7 (Shape.Idx.first (by decide)) (ix1 7) (fun a => by
    match a with
    | ⟨0, _⟩ => show 7 = 7 + 0; rfl)) (ib_0 m c t 7)
theorem F_q10 (hb : (grid0.coords t 0).val = b.val) (hn : (grid0.coords t 1).val = n.val) (i1 : Fin 128) (i2 : Fin 128) :
    (Lt m c t).q10 (ix3 0 i1 i2) = HV12 m c (ix3 b ⟨512 * n.val + (128 + i1.val), by omega⟩ ⟨i2.val, by omega⟩) :=
  Eq.trans (ld_at (s := S1x512x512) (iblk m c 1 t) ![0, 128, 0] S1x128x128.size inb_S1x512x512_S1x128x128_0_128_0 (ix3 0 i1 i2) (ix3 0 ⟨128 + i1.val, by omega⟩ ⟨i2.val, by omega⟩) (fun a => by
    match a with
    | ⟨0, _⟩ => show 0 = 0 + 0; rfl
    | ⟨1, _⟩ => show 128 + i1.val = 128 + i1.val; rfl
    | ⟨2, _⟩ => show i2.val = 0 + i2.val; omega)) (ib_1 m c t b n hb hn ⟨128 + i1.val, by omega⟩ ⟨i2.val, by omega⟩)
theorem F_q11 (hb : (grid0.coords t 0).val = b.val) (hn : (grid0.coords t 1).val = n.val) (i1 : Fin 128) (i2 : Fin 128) :
    (Lt m c t).q11 (ix3 0 i1 i2) = HV12 m c (ix3 b ⟨512 * n.val + (128 + i1.val), by omega⟩ ⟨128 + i2.val, by omega⟩) :=
  Eq.trans (ld_at (s := S1x512x512) (iblk m c 1 t) ![0, 128, 128] S1x128x128.size inb_S1x512x512_S1x128x128_0_128_128 (ix3 0 i1 i2) (ix3 0 ⟨128 + i1.val, by omega⟩ ⟨128 + i2.val, by omega⟩) (fun a => by
    match a with
    | ⟨0, _⟩ => show 0 = 0 + 0; rfl
    | ⟨1, _⟩ => show 128 + i1.val = 128 + i1.val; rfl
    | ⟨2, _⟩ => show 128 + i2.val = 128 + i2.val; rfl)) (ib_1 m c t b n hb hn ⟨128 + i1.val, by omega⟩ ⟨128 + i2.val, by omega⟩)
theorem F_q12 (hb : (grid0.coords t 0).val = b.val) (hn : (grid0.coords t 1).val = n.val) (i1 : Fin 128) (i2 : Fin 128) :
    (Lt m c t).q12 (ix3 0 i1 i2) = HV12 m c (ix3 b ⟨512 * n.val + (128 + i1.val), by omega⟩ ⟨256 + i2.val, by omega⟩) :=
  Eq.trans (ld_at (s := S1x512x512) (iblk m c 1 t) ![0, 128, 256] S1x128x128.size inb_S1x512x512_S1x128x128_0_128_256 (ix3 0 i1 i2) (ix3 0 ⟨128 + i1.val, by omega⟩ ⟨256 + i2.val, by omega⟩) (fun a => by
    match a with
    | ⟨0, _⟩ => show 0 = 0 + 0; rfl
    | ⟨1, _⟩ => show 128 + i1.val = 128 + i1.val; rfl
    | ⟨2, _⟩ => show 256 + i2.val = 256 + i2.val; rfl)) (ib_1 m c t b n hb hn ⟨128 + i1.val, by omega⟩ ⟨256 + i2.val, by omega⟩)
theorem F_q13 (hb : (grid0.coords t 0).val = b.val) (hn : (grid0.coords t 1).val = n.val) (i1 : Fin 128) (i2 : Fin 128) :
    (Lt m c t).q13 (ix3 0 i1 i2) = HV12 m c (ix3 b ⟨512 * n.val + (128 + i1.val), by omega⟩ ⟨384 + i2.val, by omega⟩) :=
  Eq.trans (ld_at (s := S1x512x512) (iblk m c 1 t) ![0, 128, 384] S1x128x128.size inb_S1x512x512_S1x128x128_0_128_384 (ix3 0 i1 i2) (ix3 0 ⟨128 + i1.val, by omega⟩ ⟨384 + i2.val, by omega⟩) (fun a => by
    match a with
    | ⟨0, _⟩ => show 0 = 0 + 0; rfl
    | ⟨1, _⟩ => show 128 + i1.val = 128 + i1.val; rfl
    | ⟨2, _⟩ => show 384 + i2.val = 384 + i2.val; rfl)) (ib_1 m c t b n hb hn ⟨128 + i1.val, by omega⟩ ⟨384 + i2.val, by omega⟩)
theorem F_gain (i1 : Fin 1024) :
    (Lt m c t).gain (ix2 0 i1) = HV26 m c (ix2 0 i1) :=
  Eq.trans (ld_at (s := S1x1024) (iblk m c 9 t) ![0, 0] S1x1024.size inb_S1x1024_S1x1024_0_0 (ix2 0 i1) (ix2 0 i1) (fun a => by
    match a with
    | ⟨0, _⟩ => show 0 = 0 + 0; rfl
    | ⟨1, _⟩ => show i1.val = 0 + i1.val; omega)) (ib_9 m c t i1)
theorem F_wg0 (i0 : Fin 1024) (i1 : Fin 512) :
    (Lt m c t).wg0 (ix2 i0 i1) = HV28 m c (ix2 i0 ⟨i1.val, by omega⟩) :=
  Eq.trans (ld_at (s := S1024x2048) (iblk m c 10 t) ![0, 0] S1024x512.size inb_S1024x2048_S1024x512_0_0 (ix2 i0 i1) (ix2 i0 ⟨i1.val, by omega⟩) (fun a => by
    match a with
    | ⟨0, _⟩ => show i0.val = 0 + i0.val; omega
    | ⟨1, _⟩ => show i1.val = 0 + i1.val; omega)) (ib_10 m c t i0 ⟨i1.val, by omega⟩)
theorem F_wg1 (i0 : Fin 1024) (i1 : Fin 512) :
    (Lt m c t).wg1 (ix2 i0 i1) = HV28 m c (ix2 i0 ⟨512 + i1.val, by omega⟩) :=
  Eq.trans (ld_at (s := S1024x2048) (iblk m c 10 t) ![0, 512] S1024x512.size inb_S1024x2048_S1024x512_0_512 (ix2 i0 i1) (ix2 i0 ⟨512 + i1.val, by omega⟩) (fun a => by
    match a with
    | ⟨0, _⟩ => show i0.val = 0 + i0.val; omega
    | ⟨1, _⟩ => show 512 + i1.val = 512 + i1.val; rfl)) (ib_10 m c t i0 ⟨512 + i1.val, by omega⟩)
theorem F_q20 (hb : (grid0.coords t 0).val = b.val) (hn : (grid0.coords t 1).val = n.val) (i1 : Fin 128) (i2 : Fin 128) :
    (Lt m c t).q20 (ix3 0 i1 i2) = HV12 m c (ix3 b ⟨512 * n.val + (256 + i1.val), by omega⟩ ⟨i2.val, by omega⟩) :=
  Eq.trans (ld_at (s := S1x512x512) (iblk m c 1 t) ![0, 256, 0] S1x128x128.size inb_S1x512x512_S1x128x128_0_256_0 (ix3 0 i1 i2) (ix3 0 ⟨256 + i1.val, by omega⟩ ⟨i2.val, by omega⟩) (fun a => by
    match a with
    | ⟨0, _⟩ => show 0 = 0 + 0; rfl
    | ⟨1, _⟩ => show 256 + i1.val = 256 + i1.val; rfl
    | ⟨2, _⟩ => show i2.val = 0 + i2.val; omega)) (ib_1 m c t b n hb hn ⟨256 + i1.val, by omega⟩ ⟨i2.val, by omega⟩)
theorem F_q21 (hb : (grid0.coords t 0).val = b.val) (hn : (grid0.coords t 1).val = n.val) (i1 : Fin 128) (i2 : Fin 128) :
    (Lt m c t).q21 (ix3 0 i1 i2) = HV12 m c (ix3 b ⟨512 * n.val + (256 + i1.val), by omega⟩ ⟨128 + i2.val, by omega⟩) :=
  Eq.trans (ld_at (s := S1x512x512) (iblk m c 1 t) ![0, 256, 128] S1x128x128.size inb_S1x512x512_S1x128x128_0_256_128 (ix3 0 i1 i2) (ix3 0 ⟨256 + i1.val, by omega⟩ ⟨128 + i2.val, by omega⟩) (fun a => by
    match a with
    | ⟨0, _⟩ => show 0 = 0 + 0; rfl
    | ⟨1, _⟩ => show 256 + i1.val = 256 + i1.val; rfl
    | ⟨2, _⟩ => show 128 + i2.val = 128 + i2.val; rfl)) (ib_1 m c t b n hb hn ⟨256 + i1.val, by omega⟩ ⟨128 + i2.val, by omega⟩)
theorem F_q22 (hb : (grid0.coords t 0).val = b.val) (hn : (grid0.coords t 1).val = n.val) (i1 : Fin 128) (i2 : Fin 128) :
    (Lt m c t).q22 (ix3 0 i1 i2) = HV12 m c (ix3 b ⟨512 * n.val + (256 + i1.val), by omega⟩ ⟨256 + i2.val, by omega⟩) :=
  Eq.trans (ld_at (s := S1x512x512) (iblk m c 1 t) ![0, 256, 256] S1x128x128.size inb_S1x512x512_S1x128x128_0_256_256 (ix3 0 i1 i2) (ix3 0 ⟨256 + i1.val, by omega⟩ ⟨256 + i2.val, by omega⟩) (fun a => by
    match a with
    | ⟨0, _⟩ => show 0 = 0 + 0; rfl
    | ⟨1, _⟩ => show 256 + i1.val = 256 + i1.val; rfl
    | ⟨2, _⟩ => show 256 + i2.val = 256 + i2.val; rfl)) (ib_1 m c t b n hb hn ⟨256 + i1.val, by omega⟩ ⟨256 + i2.val, by omega⟩)
theorem F_q23 (hb : (grid0.coords t 0).val = b.val) (hn : (grid0.coords t 1).val = n.val) (i1 : Fin 128) (i2 : Fin 128) :
    (Lt m c t).q23 (ix3 0 i1 i2) = HV12 m c (ix3 b ⟨512 * n.val + (256 + i1.val), by omega⟩ ⟨384 + i2.val, by omega⟩) :=
  Eq.trans (ld_at (s := S1x512x512) (iblk m c 1 t) ![0, 256, 384] S1x128x128.size inb_S1x512x512_S1x128x128_0_256_384 (ix3 0 i1 i2) (ix3 0 ⟨256 + i1.val, by omega⟩ ⟨384 + i2.val, by omega⟩) (fun a => by
    match a with
    | ⟨0, _⟩ => show 0 = 0 + 0; rfl
    | ⟨1, _⟩ => show 256 + i1.val = 256 + i1.val; rfl
    | ⟨2, _⟩ => show 384 + i2.val = 384 + i2.val; rfl)) (ib_1 m c t b n hb hn ⟨256 + i1.val, by omega⟩ ⟨384 + i2.val, by omega⟩)
theorem F_wg2 (i0 : Fin 1024) (i1 : Fin 512) :
    (Lt m c t).wg2 (ix2 i0 i1) = HV28 m c (ix2 i0 ⟨1024 + i1.val, by omega⟩) :=
  Eq.trans (ld_at (s := S1024x2048) (iblk m c 10 t) ![0, 1024] S1024x512.size inb_S1024x2048_S1024x512_0_1024 (ix2 i0 i1) (ix2 i0 ⟨1024 + i1.val, by omega⟩) (fun a => by
    match a with
    | ⟨0, _⟩ => show i0.val = 0 + i0.val; omega
    | ⟨1, _⟩ => show 1024 + i1.val = 1024 + i1.val; rfl)) (ib_10 m c t i0 ⟨1024 + i1.val, by omega⟩)
theorem F_q30 (hb : (grid0.coords t 0).val = b.val) (hn : (grid0.coords t 1).val = n.val) (i1 : Fin 128) (i2 : Fin 128) :
    (Lt m c t).q30 (ix3 0 i1 i2) = HV12 m c (ix3 b ⟨512 * n.val + (384 + i1.val), by omega⟩ ⟨i2.val, by omega⟩) :=
  Eq.trans (ld_at (s := S1x512x512) (iblk m c 1 t) ![0, 384, 0] S1x128x128.size inb_S1x512x512_S1x128x128_0_384_0 (ix3 0 i1 i2) (ix3 0 ⟨384 + i1.val, by omega⟩ ⟨i2.val, by omega⟩) (fun a => by
    match a with
    | ⟨0, _⟩ => show 0 = 0 + 0; rfl
    | ⟨1, _⟩ => show 384 + i1.val = 384 + i1.val; rfl
    | ⟨2, _⟩ => show i2.val = 0 + i2.val; omega)) (ib_1 m c t b n hb hn ⟨384 + i1.val, by omega⟩ ⟨i2.val, by omega⟩)
theorem F_q31 (hb : (grid0.coords t 0).val = b.val) (hn : (grid0.coords t 1).val = n.val) (i1 : Fin 128) (i2 : Fin 128) :
    (Lt m c t).q31 (ix3 0 i1 i2) = HV12 m c (ix3 b ⟨512 * n.val + (384 + i1.val), by omega⟩ ⟨128 + i2.val, by omega⟩) :=
  Eq.trans (ld_at (s := S1x512x512) (iblk m c 1 t) ![0, 384, 128] S1x128x128.size inb_S1x512x512_S1x128x128_0_384_128 (ix3 0 i1 i2) (ix3 0 ⟨384 + i1.val, by omega⟩ ⟨128 + i2.val, by omega⟩) (fun a => by
    match a with
    | ⟨0, _⟩ => show 0 = 0 + 0; rfl
    | ⟨1, _⟩ => show 384 + i1.val = 384 + i1.val; rfl
    | ⟨2, _⟩ => show 128 + i2.val = 128 + i2.val; rfl)) (ib_1 m c t b n hb hn ⟨384 + i1.val, by omega⟩ ⟨128 + i2.val, by omega⟩)
theorem F_q32 (hb : (grid0.coords t 0).val = b.val) (hn : (grid0.coords t 1).val = n.val) (i1 : Fin 128) (i2 : Fin 128) :
    (Lt m c t).q32 (ix3 0 i1 i2) = HV12 m c (ix3 b ⟨512 * n.val + (384 + i1.val), by omega⟩ ⟨256 + i2.val, by omega⟩) :=
  Eq.trans (ld_at (s := S1x512x512) (iblk m c 1 t) ![0, 384, 256] S1x128x128.size inb_S1x512x512_S1x128x128_0_384_256 (ix3 0 i1 i2) (ix3 0 ⟨384 + i1.val, by omega⟩ ⟨256 + i2.val, by omega⟩) (fun a => by
    match a with
    | ⟨0, _⟩ => show 0 = 0 + 0; rfl
    | ⟨1, _⟩ => show 384 + i1.val = 384 + i1.val; rfl
    | ⟨2, _⟩ => show 256 + i2.val = 256 + i2.val; rfl)) (ib_1 m c t b n hb hn ⟨384 + i1.val, by omega⟩ ⟨256 + i2.val, by omega⟩)
theorem F_q33 (hb : (grid0.coords t 0).val = b.val) (hn : (grid0.coords t 1).val = n.val) (i1 : Fin 128) (i2 : Fin 128) :
    (Lt m c t).q33 (ix3 0 i1 i2) = HV12 m c (ix3 b ⟨512 * n.val + (384 + i1.val), by omega⟩ ⟨384 + i2.val, by omega⟩) :=
  Eq.trans (ld_at (s := S1x512x512) (iblk m c 1 t) ![0, 384, 384] S1x128x128.size inb_S1x512x512_S1x128x128_0_384_384 (ix3 0 i1 i2) (ix3 0 ⟨384 + i1.val, by omega⟩ ⟨384 + i2.val, by omega⟩) (fun a => by
    match a with
    | ⟨0, _⟩ => show 0 = 0 + 0; rfl
    | ⟨1, _⟩ => show 384 + i1.val = 384 + i1.val; rfl
    | ⟨2, _⟩ => show 384 + i2.val = 384 + i2.val; rfl)) (ib_1 m c t b n hb hn ⟨384 + i1.val, by omega⟩ ⟨384 + i2.val, by omega⟩)
theorem F_wg3 (i0 : Fin 1024) (i1 : Fin 512) :
    (Lt m c t).wg3 (ix2 i0 i1) = HV28 m c (ix2 i0 ⟨1536 + i1.val, by omega⟩) :=
  Eq.trans (ld_at (s := S1024x2048) (iblk m c 10 t) ![0, 1536] S1024x512.size inb_S1024x2048_S1024x512_0_1536 (ix2 i0 i1) (ix2 i0 ⟨1536 + i1.val, by omega⟩) (fun a => by
    match a with
    | ⟨0, _⟩ => show i0.val = 0 + i0.val; omega
    | ⟨1, _⟩ => show 1536 + i1.val = 1536 + i1.val; rfl)) (ib_10 m c t i0 ⟨1536 + i1.val, by omega⟩)
theorem F_y0 (hb : (grid0.coords t 0).val = b.val) (hn : (grid0.coords t 1).val = n.val) (i1 : Fin 512) (i2 : Fin 512) :
    (Lt m c t).y0 (ix3 0 i1 i2) = KA4 m c (ix3 b ⟨512 * n.val + i1.val, by omega⟩ i2) :=
  Eq.trans (ld_at (s := S1x512x512) (iblk m c 11 t) ![0, 0, 0] S1x512x512.size inb_S1x512x512_S1x512x512_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_11 m c t b n hb hn i1 i2)
theorem F_y1 (hb : (grid0.coords t 0).val = b.val) (hn : (grid0.coords t 1).val = n.val) (i1 : Fin 512) (i2 : Fin 512) :
    (Lt m c t).y1 (ix3 0 i1 i2) = KA5 m c (ix3 b ⟨512 * n.val + i1.val, by omega⟩ i2) :=
  Eq.trans (ld_at (s := S1x512x512) (iblk m c 12 t) ![0, 0, 0] S1x512x512.size inb_S1x512x512_S1x512x512_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_12 m c t b n hb hn i1 i2)
theorem F_lnw (i1 : Fin 512) :
    (Lt m c t).lnw (ix2 0 i1) = HV30 m c (ix2 0 i1) :=
  Eq.trans (ld_at (s := S1x512) (iblk m c 15 t) ![0, 0] S1x512.size inb_S1x512_S1x512_0_0 (ix2 0 i1) (ix2 0 i1) (fun a => by
    match a with
    | ⟨0, _⟩ => show 0 = 0 + 0; rfl
    | ⟨1, _⟩ => show i1.val = 0 + i1.val; omega)) (ib_15 m c t i1)
theorem F_lnb (i1 : Fin 512) :
    (Lt m c t).lnb (ix2 0 i1) = HV32 m c (ix2 0 i1) :=
  Eq.trans (ld_at (s := S1x512) (iblk m c 16 t) ![0, 0] S1x512.size inb_S1x512_S1x512_0_0 (ix2 0 i1) (ix2 0 i1) (fun a => by
    match a with
    | ⟨0, _⟩ => show 0 = 0 + 0; rfl
    | ⟨1, _⟩ => show i1.val = 0 + i1.val; omega)) (ib_16 m c t i1)
theorem F_bonus (hb : (grid0.coords t 0).val = b.val) (hn : (grid0.coords t 1).val = n.val) (i1 : Fin 512) (i2 : Fin 512) :
    (Lt m c t).bonus (ix3 0 i1 i2) = KA6 m c (ix3 b ⟨512 * n.val + i1.val, by omega⟩ i2) :=
  Eq.trans (ld_at (s := S1x512x512) (iblk m c 13 t) ![0, 0, 0] S1x512x512.size inb_S1x512x512_S1x512x512_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_13 m c t b n hb hn i1 i2)
theorem F_g (hb : (grid0.coords t 0).val = b.val) (hn : (grid0.coords t 1).val = n.val) (i1 : Fin 512) (i2 : Fin 512) :
    (Lt m c t).g (ix3 0 i1 i2) = KA7 m c (ix3 b ⟨512 * n.val + i1.val, by omega⟩ i2) :=
  Eq.trans (ld_at (s := S1x512x512) (iblk m c 14 t) ![0, 0, 0] S1x512x512.size inb_S1x512x512_S1x512x512_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_14 m c t b n hb hn i1 i2)
theorem F_wua (i0 : Fin 512) (i1 : Fin 1024) :
    (Lt m c t).wua (ix2 i0 i1) = HV34 m c (ix2 i0 i1) :=
  Eq.trans (ld_at (s := S512x1024) (iblk m c 18 t) ![0, 0] S512x1024.size inb_S512x1024_S512x1024_0_0 (ix2 i0 i1) (ix2 i0 i1) (fun a => by
    match a with
    | ⟨0, _⟩ => show i0.val = 0 + i0.val; omega
    | ⟨1, _⟩ => show i1.val = 0 + i1.val; omega)) (ib_18 m c t i0 i1)
theorem F_wur (i0 : Fin 512) (i1 : Fin 1024) :
    (Lt m c t).wur (ix2 i0 i1) = HV36 m c (ix2 i0 i1) :=
  Eq.trans (ld_at (s := S512x1024) (iblk m c 19 t) ![0, 0] S512x1024.size inb_S512x1024_S512x1024_0_0 (ix2 i0 i1) (ix2 i0 i1) (fun a => by
    match a with
    | ⟨0, _⟩ => show i0.val = 0 + i0.val; omega
    | ⟨1, _⟩ => show i1.val = 0 + i1.val; omega)) (ib_19 m c t i0 i1)
theorem F_wo0 (i0 : Fin 1024) (i1 : Fin 512) :
    (Lt m c t).wo0 (ix2 i0 i1) = HV38 m c (ix2 i0 ⟨i1.val, by omega⟩) :=
  Eq.trans (ld_at (s := S1024x1024) (iblk m c 20 t) ![0, 0] S1024x512.size inb_S1024x1024_S1024x512_0_0 (ix2 i0 i1) (ix2 i0 ⟨i1.val, by omega⟩) (fun a => by
    match a with
    | ⟨0, _⟩ => show i0.val = 0 + i0.val; omega
    | ⟨1, _⟩ => show i1.val = 0 + i1.val; omega)) (ib_20 m c t i0 ⟨i1.val, by omega⟩)
theorem F_wo1 (i0 : Fin 1024) (i1 : Fin 512) :
    (Lt m c t).wo1 (ix2 i0 i1) = HV38 m c (ix2 i0 ⟨512 + i1.val, by omega⟩) :=
  Eq.trans (ld_at (s := S1024x1024) (iblk m c 20 t) ![0, 512] S1024x512.size inb_S1024x1024_S1024x512_0_512 (ix2 i0 i1) (ix2 i0 ⟨512 + i1.val, by omega⟩) (fun a => by
    match a with
    | ⟨0, _⟩ => show i0.val = 0 + i0.val; omega
    | ⟨1, _⟩ => show 512 + i1.val = 512 + i1.val; rfl)) (ib_20 m c t i0 ⟨512 + i1.val, by omega⟩)
theorem F_gf (i1 : Fin 1024) :
    (Lt m c t).gf (ix2 0 i1) = HV41 m c (ix2 0 i1) :=
  Eq.trans (ld_at (s := S1x1024) (iblk m c 22 t) ![0, 0] S1x1024.size inb_S1x1024_S1x1024_0_0 (ix2 0 i1) (ix2 0 i1) (fun a => by
    match a with
    | ⟨0, _⟩ => show 0 = 0 + 0; rfl
    | ⟨1, _⟩ => show i1.val = 0 + i1.val; omega)) (ib_22 m c t i1)
theorem F_w10 (i0 : Fin 1024) (i1 : Fin 1024) :
    (Lt m c t).w10 (ix2 i0 i1) = HV43 m c (ix2 i0 ⟨i1.val, by omega⟩) :=
  Eq.trans (ld_at (s := S1024x4096) (iblk m c 23 t) ![0, 0] S1024x1024.size inb_S1024x4096_S1024x1024_0_0 (ix2 i0 i1) (ix2 i0 ⟨i1.val, by omega⟩) (fun a => by
    match a with
    | ⟨0, _⟩ => show i0.val = 0 + i0.val; omega
    | ⟨1, _⟩ => show i1.val = 0 + i1.val; omega)) (ib_23 m c t i0 ⟨i1.val, by omega⟩)
theorem F_w20 (i0 : Fin 1024) (i1 : Fin 1024) :
    (Lt m c t).w20 (ix2 i0 i1) = HV45 m c (ix2 ⟨i0.val, by omega⟩ i1) :=
  Eq.trans (ld_at (s := S4096x1024) (iblk m c 24 t) ![0, 0] S1024x1024.size inb_S4096x1024_S1024x1024_0_0 (ix2 i0 i1) (ix2 ⟨i0.val, by omega⟩ i1) (fun a => by
    match a with
    | ⟨0, _⟩ => show i0.val = 0 + i0.val; omega
    | ⟨1, _⟩ => show i1.val = 0 + i1.val; omega)) (ib_24 m c t ⟨i0.val, by omega⟩ i1)
theorem F_w11 (i0 : Fin 1024) (i1 : Fin 1024) :
    (Lt m c t).w11 (ix2 i0 i1) = HV43 m c (ix2 i0 ⟨1024 + i1.val, by omega⟩) :=
  Eq.trans (ld_at (s := S1024x4096) (iblk m c 23 t) ![0, 1024] S1024x1024.size inb_S1024x4096_S1024x1024_0_1024 (ix2 i0 i1) (ix2 i0 ⟨1024 + i1.val, by omega⟩) (fun a => by
    match a with
    | ⟨0, _⟩ => show i0.val = 0 + i0.val; omega
    | ⟨1, _⟩ => show 1024 + i1.val = 1024 + i1.val; rfl)) (ib_23 m c t i0 ⟨1024 + i1.val, by omega⟩)
theorem F_w21 (i0 : Fin 1024) (i1 : Fin 1024) :
    (Lt m c t).w21 (ix2 i0 i1) = HV45 m c (ix2 ⟨1024 + i0.val, by omega⟩ i1) :=
  Eq.trans (ld_at (s := S4096x1024) (iblk m c 24 t) ![1024, 0] S1024x1024.size inb_S4096x1024_S1024x1024_1024_0 (ix2 i0 i1) (ix2 ⟨1024 + i0.val, by omega⟩ i1) (fun a => by
    match a with
    | ⟨0, _⟩ => show 1024 + i0.val = 1024 + i0.val; rfl
    | ⟨1, _⟩ => show i1.val = 0 + i1.val; omega)) (ib_24 m c t ⟨1024 + i0.val, by omega⟩ i1)
theorem F_w12 (i0 : Fin 1024) (i1 : Fin 1024) :
    (Lt m c t).w12 (ix2 i0 i1) = HV43 m c (ix2 i0 ⟨2048 + i1.val, by omega⟩) :=
  Eq.trans (ld_at (s := S1024x4096) (iblk m c 23 t) ![0, 2048] S1024x1024.size inb_S1024x4096_S1024x1024_0_2048 (ix2 i0 i1) (ix2 i0 ⟨2048 + i1.val, by omega⟩) (fun a => by
    match a with
    | ⟨0, _⟩ => show i0.val = 0 + i0.val; omega
    | ⟨1, _⟩ => show 2048 + i1.val = 2048 + i1.val; rfl)) (ib_23 m c t i0 ⟨2048 + i1.val, by omega⟩)
theorem F_w22 (i0 : Fin 1024) (i1 : Fin 1024) :
    (Lt m c t).w22 (ix2 i0 i1) = HV45 m c (ix2 ⟨2048 + i0.val, by omega⟩ i1) :=
  Eq.trans (ld_at (s := S4096x1024) (iblk m c 24 t) ![2048, 0] S1024x1024.size inb_S4096x1024_S1024x1024_2048_0 (ix2 i0 i1) (ix2 ⟨2048 + i0.val, by omega⟩ i1) (fun a => by
    match a with
    | ⟨0, _⟩ => show 2048 + i0.val = 2048 + i0.val; rfl
    | ⟨1, _⟩ => show i1.val = 0 + i1.val; omega)) (ib_24 m c t ⟨2048 + i0.val, by omega⟩ i1)
theorem F_w13 (i0 : Fin 1024) (i1 : Fin 1024) :
    (Lt m c t).w13 (ix2 i0 i1) = HV43 m c (ix2 i0 ⟨3072 + i1.val, by omega⟩) :=
  Eq.trans (ld_at (s := S1024x4096) (iblk m c 23 t) ![0, 3072] S1024x1024.size inb_S1024x4096_S1024x1024_0_3072 (ix2 i0 i1) (ix2 i0 ⟨3072 + i1.val, by omega⟩) (fun a => by
    match a with
    | ⟨0, _⟩ => show i0.val = 0 + i0.val; omega
    | ⟨1, _⟩ => show 3072 + i1.val = 3072 + i1.val; rfl)) (ib_23 m c t i0 ⟨3072 + i1.val, by omega⟩)
theorem F_w23 (i0 : Fin 1024) (i1 : Fin 1024) :
    (Lt m c t).w23 (ix2 i0 i1) = HV45 m c (ix2 ⟨3072 + i0.val, by omega⟩ i1) :=
  Eq.trans (ld_at (s := S4096x1024) (iblk m c 24 t) ![3072, 0] S1024x1024.size inb_S4096x1024_S1024x1024_3072_0 (ix2 i0 i1) (ix2 ⟨3072 + i0.val, by omega⟩ i1) (fun a => by
    match a with
    | ⟨0, _⟩ => show 3072 + i0.val = 3072 + i0.val; rfl
    | ⟨1, _⟩ => show i1.val = 0 + i1.val; omega)) (ib_24 m c t ⟨3072 + i0.val, by omega⟩ i1)
theorem F_gp (i1 : Fin 1024) :
    (Lt m c t).gp (ix2 0 i1) = HV47 m c (ix2 0 i1) :=
  Eq.trans (ld_at (s := S1x1024) (iblk m c 25 t) ![0, 0] S1x1024.size inb_S1x1024_S1x1024_0_0 (ix2 0 i1) (ix2 0 i1) (fun a => by
    match a with
    | ⟨0, _⟩ => show 0 = 0 + 0; rfl
    | ⟨1, _⟩ => show i1.val = 0 + i1.val; omega)) (ib_25 m c t i1)
theorem F_p (hb : (grid0.coords t 0).val = b.val) (hn : (grid0.coords t 1).val = n.val) (i1 : Fin 512) (i2 : Fin 256) :
    (Lt m c t).p (ix3 0 i1 i2) = HV39 m c (ix3 b ⟨512 * n.val + i1.val, by omega⟩ i2) :=
  Eq.trans (ld_at (s := S1x512x256) (iblk m c 21 t) ![0, 0, 0] S1x512x256.size inb_S1x512x256_S1x512x256_0_0_0 (ix3 0 i1 i2) (ix3 0 i1 i2) (fun a => by
    match a with
    | ⟨0, _⟩ => show 0 = 0 + 0; rfl
    | ⟨1, _⟩ => show i1.val = 0 + i1.val; omega
    | ⟨2, _⟩ => show i2.val = 0 + i2.val; omega)) (ib_21 m c t b n hb hn i1 i2)
theorem F_wple (i0 : Fin 256) (i1 : Fin 1024) :
    (Lt m c t).wple (ix2 i0 i1) = HV51 m c (ix2 i0 i1) :=
  Eq.trans (ld_at (s := S256x1024) (iblk m c 27 t) ![0, 0] S256x1024.size inb_S256x1024_S256x1024_0_0 (ix2 i0 i1) (ix2 i0 i1) (fun a => by
    match a with
    | ⟨0, _⟩ => show i0.val = 0 + i0.val; omega
    | ⟨1, _⟩ => show i1.val = 0 + i1.val; omega)) (ib_27 m c t i0 i1)
theorem F_wpg (i0 : Fin 1024) (i1 : Fin 1024) :
    (Lt m c t).wpg (ix2 i0 i1) = HV49 m c (ix2 i0 i1) :=
  Eq.trans (ld_at (s := S1024x1024) (iblk m c 26 t) ![0, 0] S1024x1024.size inb_S1024x1024_S1024x1024_0_0 (ix2 i0 i1) (ix2 i0 i1) (fun a => by
    match a with
    | ⟨0, _⟩ => show i0.val = 0 + i0.val; omega
    | ⟨1, _⟩ => show i1.val = 0 + i1.val; omega)) (ib_26 m c t i0 i1)

end Cert.Mid

end
-- ==== Proof.Words.lean ====
/-
  The reference's window mask as words, the largest of a row with one more entry, and equality of indices by their coordinates.
-/
module

public import proofs.«01_k».proof.Proof.Row
public import Idealize.ShloMosaic.Lib.Pointwise.Index

@[expose] public section

set_option maxHeartbeats 1000000

noncomputable section

namespace Cert.Mid

open Idealize.ShloMosaic
open scoped BigOperators

theorem toInt_small {a : Nat} (ha : a < 2 ^ 31) : (BitVec.ofNat 32 a).toInt = (a : Int) := by
  rw [BitVec.toInt_eq_toNat_of_lt (by simp [BitVec.toNat_ofNat]; omega), BitVec.toNat_ofNat, Nat.mod_eq_of_lt (by omega)]

theorem toInt_sub_small {x y : BitVec 32} {a b : Int} (hx : x.toInt = a) (hy : y.toInt = b) (h1 : -2147483648 ≤ a - b) (h2 : a - b < 2147483648) :
    (x - y).toInt = a - b := by
  rw [BitVec.toInt_sub, hx, hy]
  exact Int.bmod_eq_of_le (by simpa using h1) (by simpa using h2)

/-- The position of a window's key, as the reference computes it. -/
theorem kpos_word (n j : Nat) : IntOp.addi (IntOp.muli (IntOp.subi (BitVec.ofNat 32 n) 1#32) 128#32) (BitVec.ofNat 32 j) = BitVec.ofNat 32 (128 * n + j) - 128#32 := by
  show (BitVec.ofNat 32 n - 1#32) * 128#32 + BitVec.ofNat 32 j = _
  apply BitVec.eq_of_toNat_eq
  simp only [BitVec.toNat_add, BitVec.toNat_mul, BitVec.toNat_sub, BitVec.toNat_ofNat]
  omega

theorem qpos_word (n r : Nat) : IntOp.addi (IntOp.muli (BitVec.ofNat 32 n) 128#32) (BitVec.ofNat 32 r) = BitVec.ofNat 32 (128 * n + r) := by
  show BitVec.ofNat 32 n * 128#32 + BitVec.ofNat 32 r = _
  apply BitVec.eq_of_toNat_eq
  simp only [BitVec.toNat_add, BitVec.toNat_mul, BitVec.toNat_ofNat]
  omega

/-- The reference's mask at a query's and a key's position, the key's counted from 128 before the sequence. -/
theorem in_window (a p : Nat) (ha : a < 4096) (hp : p < 4352) :
    IntOp.andi (IntOp.andi (IntOp.cmpi .sle (IntOp.absi (IntOp.subi (BitVec.ofNat 32 a) (BitVec.ofNat 32 p - 128#32))) 128#32)
      (IntOp.cmpi .sge (BitVec.ofNat 32 p - 128#32) 0#32)) (IntOp.cmpi .slt (BitVec.ofNat 32 p - 128#32) 4096#32)
      = BitVec.ofBool (decide (128 ≤ p ∧ p < 4224 ∧ a ≤ p ∧ p ≤ a + 256)) := by
  have hk : (BitVec.ofNat 32 p - 128#32).toInt = (p : Int) - 128 :=
    toInt_sub_small (toInt_small (by omega)) (show (128#32).toInt = 128 from rfl) (by omega) (by omega)
  have hd : (BitVec.ofNat 32 a - (BitVec.ofNat 32 p - 128#32)).toInt = (a : Int) - ((p : Int) - 128) :=
    toInt_sub_small (toInt_small (by omega)) hk (by omega) (by omega)
  have hn : (-(BitVec.ofNat 32 a - (BitVec.ofNat 32 p - 128#32))).toInt = -((a : Int) - ((p : Int) - 128)) := by
    rw [← BitVec.zero_sub]
    rw [toInt_sub_small (show (0#32).toInt = 0 from rfl) hd (by omega) (by omega)]; omega
  have e1 : IntOp.cmpi .sle (IntOp.absi (IntOp.subi (BitVec.ofNat 32 a) (BitVec.ofNat 32 p - 128#32))) 128#32
      = BitVec.ofBool (decide (a ≤ p ∧ p ≤ a + 256)) := by
    show BitVec.ofBool ((if (BitVec.ofNat 32 a - (BitVec.ofNat 32 p - 128#32)).msb then -(BitVec.ofNat 32 a - (BitVec.ofNat 32 p - 128#32))
      else (BitVec.ofNat 32 a - (BitVec.ofNat 32 p - 128#32))).sle 128#32) = _
    rw [BitVec.msb_eq_toInt, hd]
    refine congrArg BitVec.ofBool ?_
    split
    · rename_i h
      rw [BitVec.sle_eq_decide, hn]
      have h' := of_decide_eq_true h
      rw [show (128#32).toInt = 128 from rfl]
      exact decide_eq_decide.2 (by omega)
    · rename_i h
      rw [BitVec.sle_eq_decide, hd]
      have h' : ¬ ((a : Int) - ((p : Int) - 128) < 0) := fun q => h (decide_eq_true q)
      rw [show (128#32).toInt = 128 from rfl]
      exact decide_eq_decide.2 (by omega)
  have e2 : IntOp.cmpi .sge (BitVec.ofNat 32 p - 128#32) 0#32 = BitVec.ofBool (decide (128 ≤ p)) := by
    show BitVec.ofBool ((0#32).sle (BitVec.ofNat 32 p - 128#32)) = _
    rw [BitVec.sle_eq_decide, hk, show (0#32).toInt = 0 from rfl]
    exact congrArg BitVec.ofBool (decide_eq_decide.2 (by omega))
  have e3 : IntOp.cmpi .slt (BitVec.ofNat 32 p - 128#32) 4096#32 = BitVec.ofBool (decide (p < 4224)) := by
    show BitVec.ofBool ((BitVec.ofNat 32 p - 128#32).slt 4096#32) = _
    rw [BitVec.slt_eq_decide, hk, show (4096#32).toInt = 4096 from rfl]
    exact congrArg BitVec.ofBool (decide_eq_decide.2 (by omega))
  rw [e1, e2, e3]
  by_cases q1 : a ≤ p ∧ p ≤ a + 256 <;> by_cases q2 : 128 ≤ p <;> by_cases q3 : p < 4224 <;>
    simp only [q1, q2, q3, decide_true, decide_false, and_true, true_and, and_false, false_and] <;> rfl

/-- The keys open to the mask of a query, the key's position counted from 128 before the sequence. -/
abbrev okAt (t : Nat) (j : Fin 384) : Prop :=
  128 ≤ 128 * (t / 128) + j.val ∧ 128 * (t / 128) + j.val < 4224 ∧ t ≤ 128 * (t / 128) + j.val ∧ 128 * (t / 128) + j.val ≤ t + 256

/-- The largest of a row's scores and one more entry. -/
theorem fold_last (n : Nat) (f : Fin (n + 1) → EReal) :
    Finset.univ.fold max ⊥ f = max (Finset.univ.fold max ⊥ (fun j : Fin n => f j.castSucc)) (f (Fin.last n)) := by
  classical
  rw [Fin.univ_castSuccEmb, Finset.fold_cons, Finset.fold_map, max_comm]
  rfl

theorem ext3 {d : Fin 3 → Nat} (i j : (⟨3, d⟩ : Shape).Idx) (h0 : (i 0).val = (j 0).val) (h1 : (i 1).val = (j 1).val) (h2 : (i 2).val = (j 2).val) : i = j :=
  funext fun a => Fin.ext (by match a with | ⟨0, _⟩ => exact h0 | ⟨1, _⟩ => exact h1 | ⟨2, _⟩ => exact h2)
theorem ext1 {d : Fin 1 → Nat} (i j : (⟨1, d⟩ : Shape).Idx) (h0 : (i 0).val = (j 0).val) : i = j :=
  funext fun a => Fin.ext (by match a with | ⟨0, _⟩ => exact h0)
theorem ext2 {d : Fin 2 → Nat} (i j : (⟨2, d⟩ : Shape).Idx) (h0 : (i 0).val = (j 0).val) (h1 : (i 1).val = (j 1).val) : i = j :=
  funext fun a => Fin.ext (by match a with | ⟨0, _⟩ => exact h0 | ⟨1, _⟩ => exact h1)
theorem ext4 {d : Fin 4 → Nat} (i j : (⟨4, d⟩ : Shape).Idx) (h0 : (i 0).val = (j 0).val) (h1 : (i 1).val = (j 1).val) (h2 : (i 2).val = (j 2).val)
    (h3 : (i 3).val = (j 3).val) : i = j :=
  funext fun a => Fin.ext (by match a with | ⟨0, _⟩ => exact h0 | ⟨1, _⟩ => exact h1 | ⟨2, _⟩ => exact h2 | ⟨3, _⟩ => exact h3)
theorem ext5 {d : Fin 5 → Nat} (i j : (⟨5, d⟩ : Shape).Idx) (h0 : (i 0).val = (j 0).val) (h1 : (i 1).val = (j 1).val) (h2 : (i 2).val = (j 2).val)
    (h3 : (i 3).val = (j 3).val) (h4 : (i 4).val = (j 4).val) : i = j :=
  funext fun a => Fin.ext (by match a with | ⟨0, _⟩ => exact h0 | ⟨1, _⟩ => exact h1 | ⟨2, _⟩ => exact h2 | ⟨3, _⟩ => exact h3 | ⟨4, _⟩ => exact h4)
theorem ext6 {d : Fin 6 → Nat} (i j : (⟨6, d⟩ : Shape).Idx) (h0 : (i 0).val = (j 0).val) (h1 : (i 1).val = (j 1).val) (h2 : (i 2).val = (j 2).val)
    (h3 : (i 3).val = (j 3).val) (h4 : (i 4).val = (j 4).val) (h5 : (i 5).val = (j 5).val) : i = j :=
  funext fun a => Fin.ext (by
    match a with | ⟨0, _⟩ => exact h0 | ⟨1, _⟩ => exact h1 | ⟨2, _⟩ => exact h2 | ⟨3, _⟩ => exact h3 | ⟨4, _⟩ => exact h4 | ⟨5, _⟩ => exact h5)

end Cert.Mid

end
-- ==== Proof.KAttn.lean ====
/-
  The kernel's attention of a block of rows, at an index, from its loaded blocks.
-/
module

public import proofs.«01_k».proof.Proof.BodyMask
public import proofs.«01_k».proof.Proof.BodyAttn
public import proofs.«01_k».proof.Proof.Words

@[expose] public section

set_option maxRecDepth 16384
set_option maxHeartbeats 1000000

noncomputable section

namespace Cert.Mid

open Idealize.ShloMosaic Cert.KernelIdeal Cert.KernelIdeal.Gen

theorem sq_apply (q : FVec Ideal S1x128x128 .bf16) (i l : Fin 128) : sq q (ix2 i l) = q (ix3 0 i l) := by pointwise [sq]

/-- The blocks of keys or values around a block of rows, from their rows in order. -/
theorem kvU_apply (p : FVec Ideal S1x128x256 .bf16) (c : FVec Ideal S1x512x256 .bf16) (x : FVec Ideal S1x128x256 .bf16) (G : Fin 768 → Fin 256 → EReal)
    (hp : ∀ (i : Fin 128) l, p (ix3 0 i l) = G ⟨i.val, by omega⟩ l) (hc : ∀ (i : Fin 512) l, c (ix3 0 i l) = G ⟨128 + i.val, by omega⟩ l)
    (hx : ∀ (i : Fin 128) l, x (ix3 0 i l) = G ⟨640 + i.val, by omega⟩ l) (w : Fin 768) (l : Fin 256) : kvU p c x (ix2 w l) = G w l := by
  pointwise [kvU]
  have hw := w.isLt
  by_cases q1 : w.val < 128
  · refine (dif_pos q1).trans ((hp _ _).trans ?_); rfl
  refine (dif_neg q1).trans ?_
  by_cases q2 : w.val - 128 < 512
  · refine (dif_pos q2).trans ((hc _ _).trans (congrArg (fun z => G z l) (Fin.ext ?_))); show 128 + (w.val - 128) = w.val; omega
  refine (dif_neg q2).trans ((hx _ _).trans (congrArg (fun z => G z l) (Fin.ext ?_))); show 640 + (w.val - 128 - 512) = w.val; omega

theorem stackU_apply (a b c d : FVec Ideal S128x512 .f32) (r j : Fin 512) (G : Fin 512 → EReal)
    (h0 : ∀ i : Fin 128, a (ix2 i j) = G ⟨i.val, by omega⟩) (h1 : ∀ i : Fin 128, b (ix2 i j) = G ⟨128 + i.val, by omega⟩)
    (h2 : ∀ i : Fin 128, c (ix2 i j) = G ⟨256 + i.val, by omega⟩) (h3 : ∀ i : Fin 128, d (ix2 i j) = G ⟨384 + i.val, by omega⟩) :
    stackU a b c d (ix2 r j) = G r := by
  pointwise [stackU]
  have hr := r.isLt
  by_cases q1 : r.val < 128
  · refine (dif_pos q1).trans ((h0 _).trans ?_); rfl
  refine (dif_neg q1).trans ?_
  by_cases q2 : r.val - 128 < 128
  · refine (dif_pos q2).trans ((h1 _).trans (congrArg G (Fin.ext ?_))); show 128 + (r.val - 128) = r.val; omega
  refine (dif_neg q2).trans ?_
  by_cases q3 : r.val - 128 - 128 < 128
  · refine (dif_pos q3).trans ((h2 _).trans (congrArg G (Fin.ext ?_))); show 256 + (r.val - 128 - 128) = r.val; omega
  refine (dif_neg q3).trans ((h3 _).trans (congrArg G (Fin.ext ?_))); show 384 + (r.val - 128 - 128 - 128) = r.val; omega

theorem win00_apply (v : FVec Ideal S768x256 .bf16) (j : Fin 384) (l : Fin 128) :
    win00 v (ix2 j l) = v (ix2 ⟨0 + j.val, by omega⟩ ⟨0 + l.val, by omega⟩) :=
  congrArg v (ext2 _ _ rfl rfl)
theorem win01_apply (v : FVec Ideal S768x256 .bf16) (j : Fin 384) (l : Fin 128) :
    win01 v (ix2 j l) = v (ix2 ⟨0 + j.val, by omega⟩ ⟨128 + l.val, by omega⟩) :=
  congrArg v (ext2 _ _ rfl rfl)
theorem win10_apply (v : FVec Ideal S768x256 .bf16) (j : Fin 384) (l : Fin 128) :
    win10 v (ix2 j l) = v (ix2 ⟨128 + j.val, by omega⟩ ⟨0 + l.val, by omega⟩) :=
  congrArg v (ext2 _ _ rfl rfl)
theorem win11_apply (v : FVec Ideal S768x256 .bf16) (j : Fin 384) (l : Fin 128) :
    win11 v (ix2 j l) = v (ix2 ⟨128 + j.val, by omega⟩ ⟨128 + l.val, by omega⟩) :=
  congrArg v (ext2 _ _ rfl rfl)
theorem win20_apply (v : FVec Ideal S768x256 .bf16) (j : Fin 384) (l : Fin 128) :
    win20 v (ix2 j l) = v (ix2 ⟨256 + j.val, by omega⟩ ⟨0 + l.val, by omega⟩) :=
  congrArg v (ext2 _ _ rfl rfl)
theorem win21_apply (v : FVec Ideal S768x256 .bf16) (j : Fin 384) (l : Fin 128) :
    win21 v (ix2 j l) = v (ix2 ⟨256 + j.val, by omega⟩ ⟨128 + l.val, by omega⟩) :=
  congrArg v (ext2 _ _ rfl rfl)
theorem win30_apply (v : FVec Ideal S768x256 .bf16) (j : Fin 384) (l : Fin 128) :
    win30 v (ix2 j l) = v (ix2 ⟨384 + j.val, by omega⟩ ⟨0 + l.val, by omega⟩) :=
  congrArg v (ext2 _ _ rfl rfl)
theorem win31_apply (v : FVec Ideal S768x256 .bf16) (j : Fin 384) (l : Fin 128) :
    win31 v (ix2 j l) = v (ix2 ⟨384 + j.val, by omega⟩ ⟨128 + l.val, by omega⟩) :=
  congrArg v (ext2 _ _ rfl rfl)

theorem attn0_apply (n : Fin 8) (L : Ld) (i : Fin 128) (c : Fin 512) (T : Nat) (hT : T = 512 * n.val + 0 + i.val)
    (Q : Fin 512 → EReal) (KK VV : Fin 768 → Fin 256 → EReal) (K V : Fin 384 → Fin 2 → Fin 64 → EReal) (SK : Fin 8 → EReal)
    (hq0 : ∀ l : Fin 128, L.q00 (ix3 0 i l) = Q ⟨l.val, by omega⟩) (hq1 : ∀ l : Fin 128, L.q01 (ix3 0 i l) = Q ⟨128 + l.val, by omega⟩)
    (hq2 : ∀ l : Fin 128, L.q02 (ix3 0 i l) = Q ⟨256 + l.val, by omega⟩) (hq3 : ∀ l : Fin 128, L.q03 (ix3 0 i l) = Q ⟨384 + l.val, by omega⟩)
    (hk : ∀ w l, kvU L.kp L.kc L.kn (ix2 w l) = KK w l) (hv : ∀ w l, kvU L.vp L.vc L.vn (ix2 w l) = VV w l)
    (hk0 : ∀ (j : Fin 384) (l : Fin 128), KK ⟨0 + j.val, by omega⟩ ⟨l.val, by omega⟩ = K j ⟨l.val / 64, by omega⟩ ⟨l.val % 64, by omega⟩)
    (hk1 : ∀ (j : Fin 384) (l : Fin 128), KK ⟨0 + j.val, by omega⟩ ⟨128 + l.val, by omega⟩ = K j ⟨1 - l.val / 64, by omega⟩ ⟨l.val % 64, by omega⟩)
    (hv0 : ∀ (j : Fin 384) (l : Fin 128), VV ⟨0 + j.val, by omega⟩ ⟨l.val, by omega⟩ = V j ⟨l.val / 64, by omega⟩ ⟨l.val % 64, by omega⟩)
    (hv1 : ∀ (j : Fin 384) (l : Fin 128), VV ⟨0 + j.val, by omega⟩ ⟨128 + l.val, by omega⟩ = V j ⟨1 - l.val / 64, by omega⟩ ⟨l.val % 64, by omega⟩)
    (hs0 : L.s0 = SK 0) (hs1 : L.s1 = SK 1) (hs2 : L.s2 = SK 2) (hs3 : L.s3 = SK 3) (hs4 : L.s4 = SK 4) (hs5 : L.s5 = SK 5) (hs6 : L.s6 = SK 6) (hs7 : L.s7 = SK 7)
    (rq : ∀ c, ∃ x : ℝ, Q c = (x : EReal)) (rk : ∀ j g d, ∃ x : ℝ, K j g d = (x : EReal)) (rs : ∀ h, ∃ x : ℝ, SK h = (x : EReal)) :
    attn0 (BitVec.ofNat 32 n.val) L (ix2 i c) = attRow Q K V SK (okAt T) c := by
  have e : attn0 (BitVec.ofNat 32 n.val) L = blockU (sq L.q00) (sq L.q01) (sq L.q02) (sq L.q03) (win00 (kvU L.kp L.kc L.kn)) (win01 (kvU L.kp L.kc L.kn))
      (win00 (kvU L.vp L.vc L.vn)) (win01 (kvU L.vp L.vc L.vn)) (c45 (BitVec.ofNat 32 n.val) L) (c48 (BitVec.ofNat 32 n.val) L) (c34 (BitVec.ofNat 32 n.val) L)
      (SK 0) (SK 1) (SK 2) (SK 3) (SK 4) (SK 5) (SK 6) (SK 7) := by
    rw [← hs0, ← hs1, ← hs2, ← hs3, ← hs4, ← hs5, ← hs6, ← hs7]
    rfl
  rw [e]
  have hn := n.isLt
  have hi := i.isLt
  have hT2 : T / 128 = 4 * n.val + 0 := by omega
  refine blockU_apply _ _ _ _ _ _ _ _ _ _ _ L i c Q K V SK (okAt T) (fun r j hr => ?_) (fun j h1 h2 => ?_) (fun r j hr => ?_)
    (fun l => (sq_apply _ _ _).trans (hq0 l)) (fun l => (sq_apply _ _ _).trans (hq1 l)) (fun l => (sq_apply _ _ _).trans (hq2 l)) (fun l => (sq_apply _ _ _).trans (hq3 l))
    (fun j l => ?_) (fun j l => ?_) (fun j l => ?_) (fun j l => ?_) rq rk rs
  · have hj := j.isLt
    refine (c45_apply L r j n).trans (congrArg BitVec.ofBool (decide_eq_decide.2 ?_))
    show _ ↔ (128 ≤ 128 * (T / 128) + j.val ∧ 128 * (T / 128) + j.val < 4224 ∧ T ≤ 128 * (T / 128) + j.val ∧ 128 * (T / 128) + j.val ≤ T + 256)
    omega
  · show 128 ≤ 128 * (T / 128) + j.val ∧ 128 * (T / 128) + j.val < 4224 ∧ T ≤ 128 * (T / 128) + j.val ∧ 128 * (T / 128) + j.val ≤ T + 256
    omega
  · have hj := j.isLt
    refine (c48_apply _ L r j).trans (congrArg BitVec.ofBool (decide_eq_decide.2 ?_))
    show _ ↔ (128 ≤ 128 * (T / 128) + (256 + j.val) ∧ 128 * (T / 128) + (256 + j.val) < 4224 ∧ T ≤ 128 * (T / 128) + (256 + j.val) ∧ 128 * (T / 128) + (256 + j.val) ≤ T + 256)
    omega
  · rw [win00_apply, hk, ← hk0]; exact congrArg (KK _) (Fin.ext (Nat.zero_add _))
  · rw [win01_apply, hk, ← hk1]
  · rw [win00_apply, hv, ← hv0]; exact congrArg (VV _) (Fin.ext (Nat.zero_add _))
  · rw [win01_apply, hv, ← hv1]

theorem attn1_apply (n : Fin 8) (L : Ld) (i : Fin 128) (c : Fin 512) (T : Nat) (hT : T = 512 * n.val + 128 + i.val)
    (Q : Fin 512 → EReal) (KK VV : Fin 768 → Fin 256 → EReal) (K V : Fin 384 → Fin 2 → Fin 64 → EReal) (SK : Fin 8 → EReal)
    (hq0 : ∀ l : Fin 128, L.q10 (ix3 0 i l) = Q ⟨l.val, by omega⟩) (hq1 : ∀ l : Fin 128, L.q11 (ix3 0 i l) = Q ⟨128 + l.val, by omega⟩)
    (hq2 : ∀ l : Fin 128, L.q12 (ix3 0 i l) = Q ⟨256 + l.val, by omega⟩) (hq3 : ∀ l : Fin 128, L.q13 (ix3 0 i l) = Q ⟨384 + l.val, by omega⟩)
    (hk : ∀ w l, kvU L.kp L.kc L.kn (ix2 w l) = KK w l) (hv : ∀ w l, kvU L.vp L.vc L.vn (ix2 w l) = VV w l)
    (hk0 : ∀ (j : Fin 384) (l : Fin 128), KK ⟨128 + j.val, by omega⟩ ⟨l.val, by omega⟩ = K j ⟨l.val / 64, by omega⟩ ⟨l.val % 64, by omega⟩)
    (hk1 : ∀ (j : Fin 384) (l : Fin 128), KK ⟨128 + j.val, by omega⟩ ⟨128 + l.val, by omega⟩ = K j ⟨1 - l.val / 64, by omega⟩ ⟨l.val % 64, by omega⟩)
    (hv0 : ∀ (j : Fin 384) (l : Fin 128), VV ⟨128 + j.val, by omega⟩ ⟨l.val, by omega⟩ = V j ⟨l.val / 64, by omega⟩ ⟨l.val % 64, by omega⟩)
    (hv1 : ∀ (j : Fin 384) (l : Fin 128), VV ⟨128 + j.val, by omega⟩ ⟨128 + l.val, by omega⟩ = V j ⟨1 - l.val / 64, by omega⟩ ⟨l.val % 64, by omega⟩)
    (hs0 : L.s0 = SK 0) (hs1 : L.s1 = SK 1) (hs2 : L.s2 = SK 2) (hs3 : L.s3 = SK 3) (hs4 : L.s4 = SK 4) (hs5 : L.s5 = SK 5) (hs6 : L.s6 = SK 6) (hs7 : L.s7 = SK 7)
    (rq : ∀ c, ∃ x : ℝ, Q c = (x : EReal)) (rk : ∀ j g d, ∃ x : ℝ, K j g d = (x : EReal)) (rs : ∀ h, ∃ x : ℝ, SK h = (x : EReal)) :
    attn1 (BitVec.ofNat 32 n.val) L (ix2 i c) = attRow Q K V SK (okAt T) c := by
  have e : attn1 (BitVec.ofNat 32 n.val) L = blockU (sq L.q10) (sq L.q11) (sq L.q12) (sq L.q13) (win10 (kvU L.kp L.kc L.kn)) (win11 (kvU L.kp L.kc L.kn))
      (win10 (kvU L.vp L.vc L.vn)) (win11 (kvU L.vp L.vc L.vn)) (c159 (BitVec.ofNat 32 n.val) L) (c162 (BitVec.ofNat 32 n.val) L) (c34 (BitVec.ofNat 32 n.val) L)
      (SK 0) (SK 1) (SK 2) (SK 3) (SK 4) (SK 5) (SK 6) (SK 7) := by
    rw [← hs0, ← hs1, ← hs2, ← hs3, ← hs4, ← hs5, ← hs6, ← hs7]
    rfl
  rw [e]
  have hn := n.isLt
  have hi := i.isLt
  have hT2 : T / 128 = 4 * n.val + 1 := by omega
  refine blockU_apply _ _ _ _ _ _ _ _ _ _ _ L i c Q K V SK (okAt T) (fun r j hr => ?_) (fun j h1 h2 => ?_) (fun r j hr => ?_)
    (fun l => (sq_apply _ _ _).trans (hq0 l)) (fun l => (sq_apply _ _ _).trans (hq1 l)) (fun l => (sq_apply _ _ _).trans (hq2 l)) (fun l => (sq_apply _ _ _).trans (hq3 l))
    (fun j l => ?_) (fun j l => ?_) (fun j l => ?_) (fun j l => ?_) rq rk rs
  · have hj := j.isLt
    refine (c159_apply _ L r j).trans (congrArg BitVec.ofBool (decide_eq_decide.2 ?_))
    show _ ↔ (128 ≤ 128 * (T / 128) + j.val ∧ 128 * (T / 128) + j.val < 4224 ∧ T ≤ 128 * (T / 128) + j.val ∧ 128 * (T / 128) + j.val ≤ T + 256)
    omega
  · show 128 ≤ 128 * (T / 128) + j.val ∧ 128 * (T / 128) + j.val < 4224 ∧ T ≤ 128 * (T / 128) + j.val ∧ 128 * (T / 128) + j.val ≤ T + 256
    omega
  · have hj := j.isLt
    refine (c162_apply _ L r j).trans (congrArg BitVec.ofBool (decide_eq_decide.2 ?_))
    show _ ↔ (128 ≤ 128 * (T / 128) + (256 + j.val) ∧ 128 * (T / 128) + (256 + j.val) < 4224 ∧ T ≤ 128 * (T / 128) + (256 + j.val) ∧ 128 * (T / 128) + (256 + j.val) ≤ T + 256)
    omega
  · rw [win10_apply, hk, ← hk0]; exact congrArg (KK _) (Fin.ext (Nat.zero_add _))
  · rw [win11_apply, hk, ← hk1]
  · rw [win10_apply, hv, ← hv0]; exact congrArg (VV _) (Fin.ext (Nat.zero_add _))
  · rw [win11_apply, hv, ← hv1]

theorem attn2_apply (n : Fin 8) (L : Ld) (i : Fin 128) (c : Fin 512) (T : Nat) (hT : T = 512 * n.val + 256 + i.val)
    (Q : Fin 512 → EReal) (KK VV : Fin 768 → Fin 256 → EReal) (K V : Fin 384 → Fin 2 → Fin 64 → EReal) (SK : Fin 8 → EReal)
    (hq0 : ∀ l : Fin 128, L.q20 (ix3 0 i l) = Q ⟨l.val, by omega⟩) (hq1 : ∀ l : Fin 128, L.q21 (ix3 0 i l) = Q ⟨128 + l.val, by omega⟩)
    (hq2 : ∀ l : Fin 128, L.q22 (ix3 0 i l) = Q ⟨256 + l.val, by omega⟩) (hq3 : ∀ l : Fin 128, L.q23 (ix3 0 i l) = Q ⟨384 + l.val, by omega⟩)
    (hk : ∀ w l, kvU L.kp L.kc L.kn (ix2 w l) = KK w l) (hv : ∀ w l, kvU L.vp L.vc L.vn (ix2 w l) = VV w l)
    (hk0 : ∀ (j : Fin 384) (l : Fin 128), KK ⟨256 + j.val, by omega⟩ ⟨l.val, by omega⟩ = K j ⟨l.val / 64, by omega⟩ ⟨l.val % 64, by omega⟩)
    (hk1 : ∀ (j : Fin 384) (l : Fin 128), KK ⟨256 + j.val, by omega⟩ ⟨128 + l.val, by omega⟩ = K j ⟨1 - l.val / 64, by omega⟩ ⟨l.val % 64, by omega⟩)
    (hv0 : ∀ (j : Fin 384) (l : Fin 128), VV ⟨256 + j.val, by omega⟩ ⟨l.val, by omega⟩ = V j ⟨l.val / 64, by omega⟩ ⟨l.val % 64, by omega⟩)
    (hv1 : ∀ (j : Fin 384) (l : Fin 128), VV ⟨256 + j.val, by omega⟩ ⟨128 + l.val, by omega⟩ = V j ⟨1 - l.val / 64, by omega⟩ ⟨l.val % 64, by omega⟩)
    (hs0 : L.s0 = SK 0) (hs1 : L.s1 = SK 1) (hs2 : L.s2 = SK 2) (hs3 : L.s3 = SK 3) (hs4 : L.s4 = SK 4) (hs5 : L.s5 = SK 5) (hs6 : L.s6 = SK 6) (hs7 : L.s7 = SK 7)
    (rq : ∀ c, ∃ x : ℝ, Q c = (x : EReal)) (rk : ∀ j g d, ∃ x : ℝ, K j g d = (x : EReal)) (rs : ∀ h, ∃ x : ℝ, SK h = (x : EReal)) :
    attn2 (BitVec.ofNat 32 n.val) L (ix2 i c) = attRow Q K V SK (okAt T) c := by
  have e : attn2 (BitVec.ofNat 32 n.val) L = blockU (sq L.q20) (sq L.q21) (sq L.q22) (sq L.q23) (win20 (kvU L.kp L.kc L.kn)) (win21 (kvU L.kp L.kc L.kn))
      (win20 (kvU L.vp L.vc L.vn)) (win21 (kvU L.vp L.vc L.vn)) (c414 (BitVec.ofNat 32 n.val) L) (c417 (BitVec.ofNat 32 n.val) L) (c34 (BitVec.ofNat 32 n.val) L)
      (SK 0) (SK 1) (SK 2) (SK 3) (SK 4) (SK 5) (SK 6) (SK 7) := by
    rw [← hs0, ← hs1, ← hs2, ← hs3, ← hs4, ← hs5, ← hs6, ← hs7]
    rfl
  rw [e]
  have hn := n.isLt
  have hi := i.isLt
  have hT2 : T / 128 = 4 * n.val + 2 := by omega
  refine blockU_apply _ _ _ _ _ _ _ _ _ _ _ L i c Q K V SK (okAt T) (fun r j hr => ?_) (fun j h1 h2 => ?_) (fun r j hr => ?_)
    (fun l => (sq_apply _ _ _).trans (hq0 l)) (fun l => (sq_apply _ _ _).trans (hq1 l)) (fun l => (sq_apply _ _ _).trans (hq2 l)) (fun l => (sq_apply _ _ _).trans (hq3 l))
    (fun j l => ?_) (fun j l => ?_) (fun j l => ?_) (fun j l => ?_) rq rk rs
  · have hj := j.isLt
    refine (c414_apply _ L r j).trans (congrArg BitVec.ofBool (decide_eq_decide.2 ?_))
    show _ ↔ (128 ≤ 128 * (T / 128) + j.val ∧ 128 * (T / 128) + j.val < 4224 ∧ T ≤ 128 * (T / 128) + j.val ∧ 128 * (T / 128) + j.val ≤ T + 256)
    omega
  · show 128 ≤ 128 * (T / 128) + j.val ∧ 128 * (T / 128) + j.val < 4224 ∧ T ≤ 128 * (T / 128) + j.val ∧ 128 * (T / 128) + j.val ≤ T + 256
    omega
  · have hj := j.isLt
    refine (c417_apply _ L r j).trans (congrArg BitVec.ofBool (decide_eq_decide.2 ?_))
    show _ ↔ (128 ≤ 128 * (T / 128) + (256 + j.val) ∧ 128 * (T / 128) + (256 + j.val) < 4224 ∧ T ≤ 128 * (T / 128) + (256 + j.val) ∧ 128 * (T / 128) + (256 + j.val) ≤ T + 256)
    omega
  · rw [win20_apply, hk, ← hk0]; exact congrArg (KK _) (Fin.ext (Nat.zero_add _))
  · rw [win21_apply, hk, ← hk1]
  · rw [win20_apply, hv, ← hv0]; exact congrArg (VV _) (Fin.ext (Nat.zero_add _))
  · rw [win21_apply, hv, ← hv1]

theorem attn3_apply (n : Fin 8) (L : Ld) (i : Fin 128) (c : Fin 512) (T : Nat) (hT : T = 512 * n.val + 384 + i.val)
    (Q : Fin 512 → EReal) (KK VV : Fin 768 → Fin 256 → EReal) (K V : Fin 384 → Fin 2 → Fin 64 → EReal) (SK : Fin 8 → EReal)
    (hq0 : ∀ l : Fin 128, L.q30 (ix3 0 i l) = Q ⟨l.val, by omega⟩) (hq1 : ∀ l : Fin 128, L.q31 (ix3 0 i l) = Q ⟨128 + l.val, by omega⟩)
    (hq2 : ∀ l : Fin 128, L.q32 (ix3 0 i l) = Q ⟨256 + l.val, by omega⟩) (hq3 : ∀ l : Fin 128, L.q33 (ix3 0 i l) = Q ⟨384 + l.val, by omega⟩)
    (hk : ∀ w l, kvU L.kp L.kc L.kn (ix2 w l) = KK w l) (hv : ∀ w l, kvU L.vp L.vc L.vn (ix2 w l) = VV w l)
    (hk0 : ∀ (j : Fin 384) (l : Fin 128), KK ⟨384 + j.val, by omega⟩ ⟨l.val, by omega⟩ = K j ⟨l.val / 64, by omega⟩ ⟨l.val % 64, by omega⟩)
    (hk1 : ∀ (j : Fin 384) (l : Fin 128), KK ⟨384 + j.val, by omega⟩ ⟨128 + l.val, by omega⟩ = K j ⟨1 - l.val / 64, by omega⟩ ⟨l.val % 64, by omega⟩)
    (hv0 : ∀ (j : Fin 384) (l : Fin 128), VV ⟨384 + j.val, by omega⟩ ⟨l.val, by omega⟩ = V j ⟨l.val / 64, by omega⟩ ⟨l.val % 64, by omega⟩)
    (hv1 : ∀ (j : Fin 384) (l : Fin 128), VV ⟨384 + j.val, by omega⟩ ⟨128 + l.val, by omega⟩ = V j ⟨1 - l.val / 64, by omega⟩ ⟨l.val % 64, by omega⟩)
    (hs0 : L.s0 = SK 0) (hs1 : L.s1 = SK 1) (hs2 : L.s2 = SK 2) (hs3 : L.s3 = SK 3) (hs4 : L.s4 = SK 4) (hs5 : L.s5 = SK 5) (hs6 : L.s6 = SK 6) (hs7 : L.s7 = SK 7)
    (rq : ∀ c, ∃ x : ℝ, Q c = (x : EReal)) (rk : ∀ j g d, ∃ x : ℝ, K j g d = (x : EReal)) (rs : ∀ h, ∃ x : ℝ, SK h = (x : EReal)) :
    attn3 (BitVec.ofNat 32 n.val) L (ix2 i c) = attRow Q K V SK (okAt T) c := by
  have e : attn3 (BitVec.ofNat 32 n.val) L = blockU (sq L.q30) (sq L.q31) (sq L.q32) (sq L.q33) (win30 (kvU L.kp L.kc L.kn)) (win31 (kvU L.kp L.kc L.kn))
      (win30 (kvU L.vp L.vc L.vn)) (win31 (kvU L.vp L.vc L.vn)) (c562 (BitVec.ofNat 32 n.val) L) (c566 (BitVec.ofNat 32 n.val) L) (c34 (BitVec.ofNat 32 n.val) L)
      (SK 0) (SK 1) (SK 2) (SK 3) (SK 4) (SK 5) (SK 6) (SK 7) := by
    rw [← hs0, ← hs1, ← hs2, ← hs3, ← hs4, ← hs5, ← hs6, ← hs7]
    rfl
  rw [e]
  have hn := n.isLt
  have hi := i.isLt
  have hT2 : T / 128 = 4 * n.val + 3 := by omega
  refine blockU_apply _ _ _ _ _ _ _ _ _ _ _ L i c Q K V SK (okAt T) (fun r j hr => ?_) (fun j h1 h2 => ?_) (fun r j hr => ?_)
    (fun l => (sq_apply _ _ _).trans (hq0 l)) (fun l => (sq_apply _ _ _).trans (hq1 l)) (fun l => (sq_apply _ _ _).trans (hq2 l)) (fun l => (sq_apply _ _ _).trans (hq3 l))
    (fun j l => ?_) (fun j l => ?_) (fun j l => ?_) (fun j l => ?_) rq rk rs
  · have hj := j.isLt
    refine (c562_apply _ L r j).trans (congrArg BitVec.ofBool (decide_eq_decide.2 ?_))
    show _ ↔ (128 ≤ 128 * (T / 128) + j.val ∧ 128 * (T / 128) + j.val < 4224 ∧ T ≤ 128 * (T / 128) + j.val ∧ 128 * (T / 128) + j.val ≤ T + 256)
    omega
  · show 128 ≤ 128 * (T / 128) + j.val ∧ 128 * (T / 128) + j.val < 4224 ∧ T ≤ 128 * (T / 128) + j.val ∧ 128 * (T / 128) + j.val ≤ T + 256
    omega
  · have hj := j.isLt
    refine (c566_apply L r j n).trans (congrArg BitVec.ofBool (decide_eq_decide.2 ?_))
    show _ ↔ (128 ≤ 128 * (T / 128) + (256 + j.val) ∧ 128 * (T / 128) + (256 + j.val) < 4224 ∧ T ≤ 128 * (T / 128) + (256 + j.val) ∧ 128 * (T / 128) + (256 + j.val) ≤ T + 256)
    omega
  · rw [win30_apply, hk, ← hk0]; exact congrArg (KK _) (Fin.ext (Nat.zero_add _))
  · rw [win31_apply, hk, ← hk1]
  · rw [win30_apply, hv, ← hv0]; exact congrArg (VV _) (Fin.ext (Nat.zero_add _))
  · rw [win31_apply, hv, ← hv1]

end Cert.Mid

end
-- ==== Proof.KOuts.lean ====
/-
  The block that the run leaves at a grid point.
-/
module

public import proofs.«01_k».proof.Proof.KBlock
public import proofs.«01_k».proof.Proof.BodyRun
public import proofs.«01_k».proof.Proof.IdealFrame
public import Idealize.ShloMosaic.Lib.VecWindow
public import Idealize.ShloMosaic.Lib.WholeRead

@[expose] public section

set_option maxRecDepth 16384
set_option maxHeartbeats 2000000

noncomputable section

namespace Cert.Mid

open Idealize.ShloMosaic Cert.KernelIdeal Cert.KernelIdeal.Gen Cert.KernelIdeal.Mid Idealize.ShloMosaic.TcCoe Idealize.SL.Sem
open scoped BigOperators

/-- The one piece that the run writes, over the loaded blocks. -/
theorem run_loaded  (c : Dev nD) (i : grid0.Coords) (arg2 : Memref sig .tc .smem S8 .f32) (harg2 : arg2.IsWhole) (arg3 : Memref sig .tc .vmem S1x512x512 .bf16) (harg3 : arg3.IsWhole) (arg4 : Memref sig .tc .vmem S1x128x256 .bf16) (harg4 : arg4.IsWhole) (arg5 : Memref sig .tc .vmem S1x512x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x512x256 .bf16) (harg8 : arg8.IsWhole) (arg9 : Memref sig .tc .vmem S1x128x256 .bf16) (harg9 : arg9.IsWhole) (arg10 : Memref sig .tc .vmem S1x512x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x128 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x512x256 .f32) (harg23 : arg23.IsWhole) (arg24 : Memref sig .tc .vmem S1x1024 .f32) (harg24 : arg24.IsWhole) (arg25 : Memref sig .tc .vmem S1024x4096 .bf16) (harg25 : arg25.IsWhole) (arg26 : Memref sig .tc .vmem S4096x1024 .bf16) (harg26 : arg26.IsWhole) (arg27 : Memref sig .tc .vmem S1x1024 .f32) (harg27 : arg27.IsWhole) (arg28 : Memref sig .tc .vmem S1024x1024 .bf16) (harg28 : arg28.IsWhole) (arg29 : Memref sig .tc .vmem S256x1024 .bf16) (harg29 : arg29.IsWhole) (arg30 : Memref sig .tc .vmem S1x512x1024 .f32) (harg30 : arg30.IsWhole)
    (x0 : Vec Ideal S8 .f32) (x1 : Vec Ideal S1x512x512 .bf16) (x2 : Vec Ideal S1x128x256 .bf16) (x3 : Vec Ideal S1x512x256 .bf16) (x4 : Vec Ideal S1x128x256 .bf16) (x5 : Vec Ideal S1x128x256 .bf16) (x6 : Vec Ideal S1x512x256 .bf16) (x7 : Vec Ideal S1x128x256 .bf16) (x8 : Vec Ideal S1x512x1024 .f32) (x9 : Vec Ideal S1x1024 .f32) (x10 : Vec Ideal S1024x2048 .bf16) (x11 : Vec Ideal S1x512x512 .f32) (x12 : Vec Ideal S1x512x512 .f32) (x13 : Vec Ideal S1x512x512 .f32) (x14 : Vec Ideal S1x512x512 .f32) (x15 : Vec Ideal S1x512 .f32) (x16 : Vec Ideal S1x512 .f32) (x17 : Vec Ideal S128x128 .bf16) (x18 : Vec Ideal S512x1024 .bf16) (x19 : Vec Ideal S512x1024 .bf16) (x20 : Vec Ideal S1024x1024 .bf16) (x21 : Vec Ideal S1x512x256 .f32) (x22 : Vec Ideal S1x1024 .f32) (x23 : Vec Ideal S1024x4096 .bf16) (x24 : Vec Ideal S4096x1024 .bf16) (x25 : Vec Ideal S1x1024 .f32) (x26 : Vec Ideal S1024x1024 .bf16) (x27 : Vec Ideal S256x1024 .bf16)
    : (midRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27).1 = [⟨Rect.unit (s := S1x512x1024) ![0, 0, 0] S1x512x1024.size inb_S1x512x1024_S1x512x1024_0_0_0, cOUT (BitVec.ofNat 32 (i 1).val) (ldOf x0 x1 x2 x3 x4 x5 x6 x7 x8 x9 x10 x11 x12 x13 x14 x15 x16 x17 x18 x19 x20 x21 x22 x23 x24 x25 x26 x27)⟩] :=
  run_piece c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27 (ldOf x0 x1 x2 x3 x4 x5 x6 x7 x8 x9 x10 x11 x12 x13 x14 x15 x16 x17 x18 x19 x20 x21 x22 x23 x24 x25 x26 x27) (BitVec.ofNat 32 (i 1).val) rfl
    (funext fun j => Memref.IsWhole.readAt_unread harg4 _ _ _)
    (funext fun j => Memref.IsWhole.readAt_unread harg5 _ _ _)
    (funext fun j => Memref.IsWhole.readAt_unread harg6 _ _ _)
    (funext fun j => Memref.IsWhole.readAt_unread harg7 _ _ _)
    (funext fun j => Memref.IsWhole.readAt_unread harg8 _ _ _)
    (funext fun j => Memref.IsWhole.readAt_unread harg9 _ _ _)
    (funext fun j => Memref.IsWhole.readAt_unread harg19 _ _ _)
    (funext fun j => Memref.IsWhole.readAt_unread harg10 _ _ _)
    (funext fun j => Memref.IsWhole.readAt_unread harg3 _ _ _)
    (funext fun j => Memref.IsWhole.readAt_unread harg3 _ _ _)
    (Memref.IsWhole.readAt_unread harg2 _ _ _)
    (Memref.IsWhole.readAt_unread harg2 _ _ _)
    (Memref.IsWhole.readAt_unread harg2 _ _ _)
    (Memref.IsWhole.readAt_unread harg2 _ _ _)
    (funext fun j => Memref.IsWhole.readAt_unread harg3 _ _ _)
    (funext fun j => Memref.IsWhole.readAt_unread harg3 _ _ _)
    (Memref.IsWhole.readAt_unread harg2 _ _ _)
    (Memref.IsWhole.readAt_unread harg2 _ _ _)
    (Memref.IsWhole.readAt_unread harg2 _ _ _)
    (Memref.IsWhole.readAt_unread harg2 _ _ _)
    (funext fun j => Memref.IsWhole.readAt_unread harg3 _ _ _)
    (funext fun j => Memref.IsWhole.readAt_unread harg3 _ _ _)
    (funext fun j => Memref.IsWhole.readAt_unread harg3 _ _ _)
    (funext fun j => Memref.IsWhole.readAt_unread harg3 _ _ _)
    (funext fun j => Memref.IsWhole.readAt_unread harg11 _ _ _)
    (funext fun j => Memref.IsWhole.readAt_unread harg12 _ _ _)
    (funext fun j => Memref.IsWhole.readAt_unread harg12 _ _ _)
    (funext fun j => Memref.IsWhole.readAt_unread harg3 _ _ _)
    (funext fun j => Memref.IsWhole.readAt_unread harg3 _ _ _)
    (funext fun j => Memref.IsWhole.readAt_unread harg3 _ _ _)
    (funext fun j => Memref.IsWhole.readAt_unread harg3 _ _ _)
    (funext fun j => Memref.IsWhole.readAt_unread harg12 _ _ _)
    (funext fun j => Memref.IsWhole.readAt_unread harg3 _ _ _)
    (funext fun j => Memref.IsWhole.readAt_unread harg3 _ _ _)
    (funext fun j => Memref.IsWhole.readAt_unread harg3 _ _ _)
    (funext fun j => Memref.IsWhole.readAt_unread harg3 _ _ _)
    (funext fun j => Memref.IsWhole.readAt_unread harg12 _ _ _)
    (funext fun j => Memref.IsWhole.readAt_unread harg13 _ _ _)
    (funext fun j => Memref.IsWhole.readAt_unread harg14 _ _ _)
    (funext fun j => Memref.IsWhole.readAt_unread harg17 _ _ _)
    (funext fun j => Memref.IsWhole.readAt_unread harg18 _ _ _)
    (funext fun j => Memref.IsWhole.readAt_unread harg15 _ _ _)
    (funext fun j => Memref.IsWhole.readAt_unread harg16 _ _ _)
    (funext fun j => Memref.IsWhole.readAt_unread harg20 _ _ _)
    (funext fun j => Memref.IsWhole.readAt_unread harg21 _ _ _)
    (funext fun j => Memref.IsWhole.readAt_unread harg22 _ _ _)
    (funext fun j => Memref.IsWhole.readAt_unread harg22 _ _ _)
    (funext fun j => Memref.IsWhole.readAt_unread harg24 _ _ _)
    (funext fun j => Memref.IsWhole.readAt_unread harg25 _ _ _)
    (funext fun j => Memref.IsWhole.readAt_unread harg26 _ _ _)
    (funext fun j => Memref.IsWhole.readAt_unread harg25 _ _ _)
    (funext fun j => Memref.IsWhole.readAt_unread harg26 _ _ _)
    (funext fun j => Memref.IsWhole.readAt_unread harg25 _ _ _)
    (funext fun j => Memref.IsWhole.readAt_unread harg26 _ _ _)
    (funext fun j => Memref.IsWhole.readAt_unread harg25 _ _ _)
    (funext fun j => Memref.IsWhole.readAt_unread harg26 _ _ _)
    (funext fun j => Memref.IsWhole.readAt_unread harg27 _ _ _)
    (funext fun j => Memref.IsWhole.readAt_unread harg23 _ _ _)
    (funext fun j => Memref.IsWhole.readAt_unread harg29 _ _ _)
    (funext fun j => Memref.IsWhole.readAt_unread harg28 _ _ _)

/-- What the run leaves in the output's buffer. -/
theorem out_loaded  (c : Dev nD) (i : grid0.Coords) (arg2 : Memref sig .tc .smem S8 .f32) (harg2 : arg2.IsWhole) (arg3 : Memref sig .tc .vmem S1x512x512 .bf16) (harg3 : arg3.IsWhole) (arg4 : Memref sig .tc .vmem S1x128x256 .bf16) (harg4 : arg4.IsWhole) (arg5 : Memref sig .tc .vmem S1x512x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x512x256 .bf16) (harg8 : arg8.IsWhole) (arg9 : Memref sig .tc .vmem S1x128x256 .bf16) (harg9 : arg9.IsWhole) (arg10 : Memref sig .tc .vmem S1x512x1024 .f32) (harg10 : arg10.IsWhole) (arg11 : Memref sig .tc .vmem S1x1024 .f32) (harg11 : arg11.IsWhole) (arg12 : Memref sig .tc .vmem S1024x2048 .bf16) (harg12 : arg12.IsWhole) (arg13 : Memref sig .tc .vmem S1x512x512 .f32) (harg13 : arg13.IsWhole) (arg14 : Memref sig .tc .vmem S1x512x512 .f32) (harg14 : arg14.IsWhole) (arg15 : Memref sig .tc .vmem S1x512x512 .f32) (harg15 : arg15.IsWhole) (arg16 : Memref sig .tc .vmem S1x512x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S128x128 .bf16) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x1024 .bf16) (harg22 : arg22.IsWhole) (arg23 : Memref sig .tc .vmem S1x512x256 .f32) (harg23 : arg23.IsWhole) (arg24 : Memref sig .tc .vmem S1x1024 .f32) (harg24 : arg24.IsWhole) (arg25 : Memref sig .tc .vmem S1024x4096 .bf16) (harg25 : arg25.IsWhole) (arg26 : Memref sig .tc .vmem S4096x1024 .bf16) (harg26 : arg26.IsWhole) (arg27 : Memref sig .tc .vmem S1x1024 .f32) (harg27 : arg27.IsWhole) (arg28 : Memref sig .tc .vmem S1024x1024 .bf16) (harg28 : arg28.IsWhole) (arg29 : Memref sig .tc .vmem S256x1024 .bf16) (harg29 : arg29.IsWhole) (arg30 : Memref sig .tc .vmem S1x512x1024 .f32) (harg30 : arg30.IsWhole)
    (x0 : Vec Ideal S8 .f32) (x1 : Vec Ideal S1x512x512 .bf16) (x2 : Vec Ideal S1x128x256 .bf16) (x3 : Vec Ideal S1x512x256 .bf16) (x4 : Vec Ideal S1x128x256 .bf16) (x5 : Vec Ideal S1x128x256 .bf16) (x6 : Vec Ideal S1x512x256 .bf16) (x7 : Vec Ideal S1x128x256 .bf16) (x8 : Vec Ideal S1x512x1024 .f32) (x9 : Vec Ideal S1x1024 .f32) (x10 : Vec Ideal S1024x2048 .bf16) (x11 : Vec Ideal S1x512x512 .f32) (x12 : Vec Ideal S1x512x512 .f32) (x13 : Vec Ideal S1x512x512 .f32) (x14 : Vec Ideal S1x512x512 .f32) (x15 : Vec Ideal S1x512 .f32) (x16 : Vec Ideal S1x512 .f32) (x17 : Vec Ideal S128x128 .bf16) (x18 : Vec Ideal S512x1024 .bf16) (x19 : Vec Ideal S512x1024 .bf16) (x20 : Vec Ideal S1024x1024 .bf16) (x21 : Vec Ideal S1x512x256 .f32) (x22 : Vec Ideal S1x1024 .f32) (x23 : Vec Ideal S1024x4096 .bf16) (x24 : Vec Ideal S4096x1024 .bf16) (x25 : Vec Ideal S1x1024 .f32) (x26 : Vec Ideal S1024x1024 .bf16) (x27 : Vec Ideal S256x1024 .bf16)
    : out0_28 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27 = cOUT (BitVec.ofNat 32 (i 1).val) (ldOf x0 x1 x2 x3 x4 x5 x6 x7 x8 x9 x10 x11 x12 x13 x14 x15 x16 x17 x18 x19 x20 x21 x22 x23 x24 x25 x26 x27) := by
  unfold out0_28
  rw [run_loaded c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26 x27]
  exact View.read_writes_full _ _ _ _ []

variable (m : (ℓ : Loc nD τ sig) → Buf (Elt Ideal) ℓ) (c : Dev nD) (t : Fin cfg0.N) (b : Fin 4) (n : Fin 8)

theorem outs_eq (hn : (grid0.coords t 1).val = n.val) : outsAt0 m c t = cOUT (BitVec.ofNat 32 n.val) (Lt m c t) := by
  rw [← hn]
  exact out_loaded c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

end Cert.Mid

end
-- ==== Proof.Layer.lean ====
/-
  The layer's result at a token and a column, from its arguments and the token's attention row.
-/
module

public import proofs.«01_k».proof.Proof.Units

@[expose] public section

noncomputable section

namespace Cert.Mid

open Idealize.ShloMosaic

theorem lt_gate (j : Fin 2048) : 2560 + j.val < 4608 := by omega

/-- A token's recurrence row. -/
def recRow (x4 x5 x6 x7 : FVec Ideal ⟨3, ![4, 4096, 512]⟩ .f32) (x12 x13 : FVec Ideal ⟨2, ![1, 512]⟩ .f32) (b : Fin 4) (t : Fin 4096) : Fin 512 → EReal :=
  rwRow (fun k => x4 (ix3 b t k) + x5 (ix3 b t k)) (fun k => x12 (ix2 0 k)) (fun k => x13 (ix2 0 k)) (fun k => x6 (ix3 b t k)) (fun k => x7 (ix3 b t k))

/-- A token's row after the merge. -/
def row1 (x0 : FVec Ideal ⟨3, ![4, 4096, 1024]⟩ .f32) (x9 : FVec Ideal ⟨2, ![1, 1024]⟩ .f32) (x10 : FVec Ideal ⟨3, ![1, 1024, 4608]⟩ .f32)
    (x14 x15 : FVec Ideal ⟨3, ![1, 512, 1024]⟩ .f32) (x16 : FVec Ideal ⟨3, ![1, 1024, 1024]⟩ .f32) (A R : Fin 512 → EReal) (b : Fin 4) (t : Fin 4096) :
    Fin 1024 → EReal :=
  mergeRow (fun k => x0 (ix3 b t k)) (fun k => x9 (ix2 0 k)) (fun k j => x10 (ix3 0 k ⟨2560 + j.val, lt_gate j⟩)) A R
    (fun k j => x14 (ix3 0 k j)) (fun k j => x15 (ix3 0 k j)) (fun k j => x16 (ix3 0 k j))

/-- A token's row after the feed-forward network. -/
def row2 (x : Fin 1024 → EReal) (x17 : FVec Ideal ⟨2, ![1, 1024]⟩ .f32) (x18 : FVec Ideal ⟨3, ![1, 1024, 4096]⟩ .f32)
    (x19 : FVec Ideal ⟨3, ![1, 4096, 1024]⟩ .f32) : Fin 1024 → EReal :=
  ffnRow x (fun k => x17 (ix2 0 k)) (fun k j => x18 (ix3 0 k j)) (fun k j => x19 (ix3 0 k j))

/-- A token's row after the per-layer embedding. -/
def row3 (x : Fin 1024 → EReal) (x8 : FVec Ideal ⟨4, ![1, 4, 4096, 256]⟩ .f32) (x20 : FVec Ideal ⟨2, ![1, 1024]⟩ .f32)
    (x21 : FVec Ideal ⟨3, ![1, 1024, 1024]⟩ .f32) (x22 : FVec Ideal ⟨3, ![1, 256, 1024]⟩ .f32) (b : Fin 4) (t : Fin 4096) : Fin 1024 → EReal :=
  pleRow x (fun k => x20 (ix2 0 k)) (fun k => x8 (ix4 0 b t k)) (fun k j => x21 (ix3 0 k j)) (fun k j => x22 (ix3 0 k j))

end Cert.Mid

end
-- ==== Proof.KRow.lean ====
/-
  The kernel's block at a token and a column.
-/
module

public import proofs.«01_k».proof.Proof.KFields
public import proofs.«01_k».proof.Proof.KAttn
public import proofs.«01_k».proof.Proof.KOuts
public import proofs.«01_k».proof.Proof.Layer

@[expose] public section

set_option maxRecDepth 16384
set_option maxHeartbeats 1000000

noncomputable section

namespace Cert.Mid

open Idealize.ShloMosaic Cert.KernelIdeal Cert.KernelIdeal.Gen Cert.KernelIdeal.Mid Idealize.ShloMosaic.TcCoe Idealize.SL.Sem
open scoped BigOperators

/-- The row of the sequence that a row of the window around a block reads. -/
def krowN (n w : Nat) : Nat :=
  if w < 128 then 128 * (4 * n - 1) + w else if w < 640 then 512 * n + (w - 128) else 128 * min (4 * n + 4) 31 + (w - 640)

theorem krowN_lt (n : Fin 8) (w : Fin 768) : krowN n.val w.val < 4096 := by
  have hn := n.isLt; have hw := w.isLt
  unfold krowN
  split_ifs <;> omega

def krow (n : Fin 8) (w : Fin 768) : Fin 4096 := ⟨krowN n.val w.val, krowN_lt n w⟩

theorem lt_kj (r : Fin 512) (j : Fin 384) : 128 * (r.val / 128) + j.val < 768 := by omega
theorem lt_tok (n : Fin 8) (r : Fin 512) : 512 * n.val + r.val < 4096 := by omega

variable (m : (ℓ : Loc nD τ sig) → Buf (Elt Ideal) ℓ) (c : Dev nD) (t : Fin cfg0.N) (b : Fin 4) (n : Fin 8)

/-- The keys around a row's block. -/
abbrev keysOf (x : FVec Ideal S4x4096x2x64 .f32) (r : Fin 512) (j : Fin 384) (g : Fin 2) (e : Fin 64) : EReal :=
  x (ix4 b (krow n ⟨128 * (r.val / 128) + j.val, lt_kj r j⟩) g e)

/-- A row's queries, scaled. -/
abbrev qOf (x : FVec Ideal S4x4096x8x64 .f32) (r : Fin 512) (l : Fin 512) : EReal :=
  x (ix4 b ⟨512 * n.val + r.val, lt_tok n r⟩ ⟨l.val / 64, lt_h8 l⟩ ⟨l.val % 64, lt_m8 l⟩) * Ideal.ofBits .f32 0x3E000000#32

theorem kv_K (hb : (grid0.coords t 0).val = b.val) (hn : (grid0.coords t 1).val = n.val) (w : Fin 768) (l : Fin 256) :
    kvU (Lt m c t).kp (Lt m c t).kc (Lt m c t).kn (ix2 w l) = HV18 m c (ix3 b (krow n w) l) := by
  refine kvU_apply _ _ _ (fun w l => HV18 m c (ix3 b (krow n w) l)) (fun i l => ?_) (fun i l => ?_) (fun i l => ?_) w l
  · refine (F_kp m c t b n hb hn i l).trans (congrArg (fun z => HV18 m c (ix3 b z l)) (Fin.ext ?_))
    show 128 * (4 * n.val - 1) + i.val = krowN n.val i.val
    unfold krowN
    rw [if_pos (by omega)]
  · refine (F_kc m c t b n hb hn i l).trans (congrArg (fun z => HV18 m c (ix3 b z l)) (Fin.ext ?_))
    show 512 * n.val + i.val = krowN n.val (128 + i.val)
    unfold krowN
    rw [if_neg (by omega), if_pos (by omega)]
    omega
  · refine (F_kn m c t b n hb hn i l).trans (congrArg (fun z => HV18 m c (ix3 b z l)) (Fin.ext ?_))
    show 128 * min (4 * n.val + 4) 31 + i.val = krowN n.val (640 + i.val)
    unfold krowN
    rw [if_neg (by omega), if_neg (by omega)]
    omega

theorem kv_V (hb : (grid0.coords t 0).val = b.val) (hn : (grid0.coords t 1).val = n.val) (w : Fin 768) (l : Fin 256) :
    kvU (Lt m c t).vp (Lt m c t).vc (Lt m c t).vn (ix2 w l) = HV22 m c (ix3 b (krow n w) l) := by
  refine kvU_apply _ _ _ (fun w l => HV22 m c (ix3 b (krow n w) l)) (fun i l => ?_) (fun i l => ?_) (fun i l => ?_) w l
  · refine (F_vp m c t b n hb hn i l).trans (congrArg (fun z => HV22 m c (ix3 b z l)) (Fin.ext ?_))
    show 128 * (4 * n.val - 1) + i.val = krowN n.val i.val
    unfold krowN
    rw [if_pos (by omega)]
  · refine (F_vc m c t b n hb hn i l).trans (congrArg (fun z => HV22 m c (ix3 b z l)) (Fin.ext ?_))
    show 512 * n.val + i.val = krowN n.val (128 + i.val)
    unfold krowN
    rw [if_neg (by omega), if_pos (by omega)]
    omega
  · refine (F_vn m c t b n hb hn i l).trans (congrArg (fun z => HV22 m c (ix3 b z l)) (Fin.ext ?_))
    show 128 * min (4 * n.val + 4) 31 + i.val = krowN n.val (640 + i.val)
    unfold krowN
    rw [if_neg (by omega), if_neg (by omega)]
    omega

theorem kattn0 (hb : (grid0.coords t 0).val = b.val) (hn : (grid0.coords t 1).val = n.val)
    (rq : ∀ i, ∃ x : ℝ, KA1 m c i = (x : EReal)) (rk : ∀ i, ∃ x : ℝ, KA2 m c i = (x : EReal)) (rs : ∀ i, ∃ x : ℝ, KA11 m c i = (x : EReal))
    (i : Fin 128) (r c' : Fin 512) (hr : r.val = 0 + i.val) :
    attn0 (BitVec.ofNat 32 n.val) (Lt m c t) (ix2 i c') = attRow (qOf b n (KA1 m c) r) (keysOf b n (KA2 m c) r) (keysOf b n (KA3 m c) r)
      (fun h => KA11 m c (ix2 0 h)) (okAt (512 * n.val + r.val)) c' := by
  have hi := i.isLt
  have hq : ∀ (l : Fin 128) (w : Nat) (hw : 128 * w + l.val < 512), HV12 m c (ix3 b ⟨512 * n.val + (i.val), by omega⟩ ⟨128 * w + l.val, hw⟩) = qOf b n (KA1 m c) r ⟨128 * w + l.val, hw⟩ := fun l w hw =>
    (V12 m c b _ _).trans (congrArg (fun z => KA1 m c (ix4 b z _ _) * Ideal.ofBits .f32 0x3E000000#32) (Fin.ext (by show 512 * n.val + (i.val) = 512 * n.val + r.val; omega)))
  have hz : ∀ j : Fin 384, krow n ⟨0 + j.val, by omega⟩ = krow n ⟨128 * (r.val / 128) + j.val, lt_kj r j⟩ := fun j =>
    congrArg (krow n) (Fin.ext (by show 0 + j.val = 128 * (r.val / 128) + j.val; omega))
  refine attn0_apply n (Lt m c t) i c' (512 * n.val + r.val) (by omega) (qOf b n (KA1 m c) r) (fun w l => HV18 m c (ix3 b (krow n w) l))
    (fun w l => HV22 m c (ix3 b (krow n w) l)) (keysOf b n (KA2 m c) r) (keysOf b n (KA3 m c) r) (fun h => KA11 m c (ix2 0 h))
    (fun l => ?_) (fun l => (F_q01 m c t b n hb hn i l).trans (hq l 1 (by omega)))
    (fun l => (F_q02 m c t b n hb hn i l).trans (hq l 2 (by omega))) (fun l => (F_q03 m c t b n hb hn i l).trans (hq l 3 (by omega)))
    (kv_K m c t b n hb hn) (kv_V m c t b n hb hn)
    (fun j l => (V18a m c b _ l).trans (congrArg (fun z => KA2 m c (ix4 b z _ _)) (hz j))) (fun j l => (V18b m c b _ l).trans (congrArg (fun z => KA2 m c (ix4 b z _ _)) (hz j)))
    (fun j l => (V22a m c b _ l).trans (congrArg (fun z => KA3 m c (ix4 b z _ _)) (hz j))) (fun j l => (V22b m c b _ l).trans (congrArg (fun z => KA3 m c (ix4 b z _ _)) (hz j)))
    ((F_s0 m c t).trans (V24 m c 0)) ((F_s1 m c t).trans (V24 m c 1)) ((F_s2 m c t).trans (V24 m c 2)) ((F_s3 m c t).trans (V24 m c 3))
    ((F_s4 m c t).trans (V24 m c 4)) ((F_s5 m c t).trans (V24 m c 5)) ((F_s6 m c t).trans (V24 m c 6)) ((F_s7 m c t).trans (V24 m c 7))
    (fun l => ?_) (fun j g d => rk _) (fun h => rs _)
  · refine (F_q00 m c t b n hb hn i l).trans (Eq.trans ?_ ((hq l 0 (by omega)).trans ?_))
    · exact congrArg (fun z => HV12 m c (ix3 b _ z)) (Fin.ext (by show l.val = 128 * 0 + l.val; omega))
    · exact congrArg (qOf b n (KA1 m c) r) (Fin.ext (by show 128 * 0 + l.val = l.val; omega))
  · obtain ⟨x, hx⟩ := rq (ix4 b ⟨512 * n.val + r.val, lt_tok n r⟩ ⟨l.val / 64, lt_h8 l⟩ ⟨l.val % 64, lt_m8 l⟩)
    exact ⟨x * (1 / 8), by show KA1 m c _ * _ = _; rw [hx, bits_eighth, EReal.coe_mul]⟩

theorem kattn1 (hb : (grid0.coords t 0).val = b.val) (hn : (grid0.coords t 1).val = n.val)
    (rq : ∀ i, ∃ x : ℝ, KA1 m c i = (x : EReal)) (rk : ∀ i, ∃ x : ℝ, KA2 m c i = (x : EReal)) (rs : ∀ i, ∃ x : ℝ, KA11 m c i = (x : EReal))
    (i : Fin 128) (r c' : Fin 512) (hr : r.val = 128 + i.val) :
    attn1 (BitVec.ofNat 32 n.val) (Lt m c t) (ix2 i c') = attRow (qOf b n (KA1 m c) r) (keysOf b n (KA2 m c) r) (keysOf b n (KA3 m c) r)
      (fun h => KA11 m c (ix2 0 h)) (okAt (512 * n.val + r.val)) c' := by
  have hi := i.isLt
  have hq : ∀ (l : Fin 128) (w : Nat) (hw : 128 * w + l.val < 512), HV12 m c (ix3 b ⟨512 * n.val + (128 + i.val), by omega⟩ ⟨128 * w + l.val, hw⟩) = qOf b n (KA1 m c) r ⟨128 * w + l.val, hw⟩ := fun l w hw =>
    (V12 m c b _ _).trans (congrArg (fun z => KA1 m c (ix4 b z _ _) * Ideal.ofBits .f32 0x3E000000#32) (Fin.ext (by show 512 * n.val + (128 + i.val) = 512 * n.val + r.val; omega)))
  have hz : ∀ j : Fin 384, krow n ⟨128 + j.val, by omega⟩ = krow n ⟨128 * (r.val / 128) + j.val, lt_kj r j⟩ := fun j =>
    congrArg (krow n) (Fin.ext (by show 128 + j.val = 128 * (r.val / 128) + j.val; omega))
  refine attn1_apply n (Lt m c t) i c' (512 * n.val + r.val) (by omega) (qOf b n (KA1 m c) r) (fun w l => HV18 m c (ix3 b (krow n w) l))
    (fun w l => HV22 m c (ix3 b (krow n w) l)) (keysOf b n (KA2 m c) r) (keysOf b n (KA3 m c) r) (fun h => KA11 m c (ix2 0 h))
    (fun l => ?_) (fun l => (F_q11 m c t b n hb hn i l).trans (hq l 1 (by omega)))
    (fun l => (F_q12 m c t b n hb hn i l).trans (hq l 2 (by omega))) (fun l => (F_q13 m c t b n hb hn i l).trans (hq l 3 (by omega)))
    (kv_K m c t b n hb hn) (kv_V m c t b n hb hn)
    (fun j l => (V18a m c b _ l).trans (congrArg (fun z => KA2 m c (ix4 b z _ _)) (hz j))) (fun j l => (V18b m c b _ l).trans (congrArg (fun z => KA2 m c (ix4 b z _ _)) (hz j)))
    (fun j l => (V22a m c b _ l).trans (congrArg (fun z => KA3 m c (ix4 b z _ _)) (hz j))) (fun j l => (V22b m c b _ l).trans (congrArg (fun z => KA3 m c (ix4 b z _ _)) (hz j)))
    ((F_s0 m c t).trans (V24 m c 0)) ((F_s1 m c t).trans (V24 m c 1)) ((F_s2 m c t).trans (V24 m c 2)) ((F_s3 m c t).trans (V24 m c 3))
    ((F_s4 m c t).trans (V24 m c 4)) ((F_s5 m c t).trans (V24 m c 5)) ((F_s6 m c t).trans (V24 m c 6)) ((F_s7 m c t).trans (V24 m c 7))
    (fun l => ?_) (fun j g d => rk _) (fun h => rs _)
  · refine (F_q10 m c t b n hb hn i l).trans (Eq.trans ?_ ((hq l 0 (by omega)).trans ?_))
    · exact congrArg (fun z => HV12 m c (ix3 b _ z)) (Fin.ext (by show l.val = 128 * 0 + l.val; omega))
    · exact congrArg (qOf b n (KA1 m c) r) (Fin.ext (by show 128 * 0 + l.val = l.val; omega))
  · obtain ⟨x, hx⟩ := rq (ix4 b ⟨512 * n.val + r.val, lt_tok n r⟩ ⟨l.val / 64, lt_h8 l⟩ ⟨l.val % 64, lt_m8 l⟩)
    exact ⟨x * (1 / 8), by show KA1 m c _ * _ = _; rw [hx, bits_eighth, EReal.coe_mul]⟩

theorem kattn2 (hb : (grid0.coords t 0).val = b.val) (hn : (grid0.coords t 1).val = n.val)
    (rq : ∀ i, ∃ x : ℝ, KA1 m c i = (x : EReal)) (rk : ∀ i, ∃ x : ℝ, KA2 m c i = (x : EReal)) (rs : ∀ i, ∃ x : ℝ, KA11 m c i = (x : EReal))
    (i : Fin 128) (r c' : Fin 512) (hr : r.val = 256 + i.val) :
    attn2 (BitVec.ofNat 32 n.val) (Lt m c t) (ix2 i c') = attRow (qOf b n (KA1 m c) r) (keysOf b n (KA2 m c) r) (keysOf b n (KA3 m c) r)
      (fun h => KA11 m c (ix2 0 h)) (okAt (512 * n.val + r.val)) c' := by
  have hi := i.isLt
  have hq : ∀ (l : Fin 128) (w : Nat) (hw : 128 * w + l.val < 512), HV12 m c (ix3 b ⟨512 * n.val + (256 + i.val), by omega⟩ ⟨128 * w + l.val, hw⟩) = qOf b n (KA1 m c) r ⟨128 * w + l.val, hw⟩ := fun l w hw =>
    (V12 m c b _ _).trans (congrArg (fun z => KA1 m c (ix4 b z _ _) * Ideal.ofBits .f32 0x3E000000#32) (Fin.ext (by show 512 * n.val + (256 + i.val) = 512 * n.val + r.val; omega)))
  have hz : ∀ j : Fin 384, krow n ⟨256 + j.val, by omega⟩ = krow n ⟨128 * (r.val / 128) + j.val, lt_kj r j⟩ := fun j =>
    congrArg (krow n) (Fin.ext (by show 256 + j.val = 128 * (r.val / 128) + j.val; omega))
  refine attn2_apply n (Lt m c t) i c' (512 * n.val + r.val) (by omega) (qOf b n (KA1 m c) r) (fun w l => HV18 m c (ix3 b (krow n w) l))
    (fun w l => HV22 m c (ix3 b (krow n w) l)) (keysOf b n (KA2 m c) r) (keysOf b n (KA3 m c) r) (fun h => KA11 m c (ix2 0 h))
    (fun l => ?_) (fun l => (F_q21 m c t b n hb hn i l).trans (hq l 1 (by omega)))
    (fun l => (F_q22 m c t b n hb hn i l).trans (hq l 2 (by omega))) (fun l => (F_q23 m c t b n hb hn i l).trans (hq l 3 (by omega)))
    (kv_K m c t b n hb hn) (kv_V m c t b n hb hn)
    (fun j l => (V18a m c b _ l).trans (congrArg (fun z => KA2 m c (ix4 b z _ _)) (hz j))) (fun j l => (V18b m c b _ l).trans (congrArg (fun z => KA2 m c (ix4 b z _ _)) (hz j)))
    (fun j l => (V22a m c b _ l).trans (congrArg (fun z => KA3 m c (ix4 b z _ _)) (hz j))) (fun j l => (V22b m c b _ l).trans (congrArg (fun z => KA3 m c (ix4 b z _ _)) (hz j)))
    ((F_s0 m c t).trans (V24 m c 0)) ((F_s1 m c t).trans (V24 m c 1)) ((F_s2 m c t).trans (V24 m c 2)) ((F_s3 m c t).trans (V24 m c 3))
    ((F_s4 m c t).trans (V24 m c 4)) ((F_s5 m c t).trans (V24 m c 5)) ((F_s6 m c t).trans (V24 m c 6)) ((F_s7 m c t).trans (V24 m c 7))
    (fun l => ?_) (fun j g d => rk _) (fun h => rs _)
  · refine (F_q20 m c t b n hb hn i l).trans (Eq.trans ?_ ((hq l 0 (by omega)).trans ?_))
    · exact congrArg (fun z => HV12 m c (ix3 b _ z)) (Fin.ext (by show l.val = 128 * 0 + l.val; omega))
    · exact congrArg (qOf b n (KA1 m c) r) (Fin.ext (by show 128 * 0 + l.val = l.val; omega))
  · obtain ⟨x, hx⟩ := rq (ix4 b ⟨512 * n.val + r.val, lt_tok n r⟩ ⟨l.val / 64, lt_h8 l⟩ ⟨l.val % 64, lt_m8 l⟩)
    exact ⟨x * (1 / 8), by show KA1 m c _ * _ = _; rw [hx, bits_eighth, EReal.coe_mul]⟩

theorem kattn3 (hb : (grid0.coords t 0).val = b.val) (hn : (grid0.coords t 1).val = n.val)
    (rq : ∀ i, ∃ x : ℝ, KA1 m c i = (x : EReal)) (rk : ∀ i, ∃ x : ℝ, KA2 m c i = (x : EReal)) (rs : ∀ i, ∃ x : ℝ, KA11 m c i = (x : EReal))
    (i : Fin 128) (r c' : Fin 512) (hr : r.val = 384 + i.val) :
    attn3 (BitVec.ofNat 32 n.val) (Lt m c t) (ix2 i c') = attRow (qOf b n (KA1 m c) r) (keysOf b n (KA2 m c) r) (keysOf b n (KA3 m c) r)
      (fun h => KA11 m c (ix2 0 h)) (okAt (512 * n.val + r.val)) c' := by
  have hi := i.isLt
  have hq : ∀ (l : Fin 128) (w : Nat) (hw : 128 * w + l.val < 512), HV12 m c (ix3 b ⟨512 * n.val + (384 + i.val), by omega⟩ ⟨128 * w + l.val, hw⟩) = qOf b n (KA1 m c) r ⟨128 * w + l.val, hw⟩ := fun l w hw =>
    (V12 m c b _ _).trans (congrArg (fun z => KA1 m c (ix4 b z _ _) * Ideal.ofBits .f32 0x3E000000#32) (Fin.ext (by show 512 * n.val + (384 + i.val) = 512 * n.val + r.val; omega)))
  have hz : ∀ j : Fin 384, krow n ⟨384 + j.val, by omega⟩ = krow n ⟨128 * (r.val / 128) + j.val, lt_kj r j⟩ := fun j =>
    congrArg (krow n) (Fin.ext (by show 384 + j.val = 128 * (r.val / 128) + j.val; omega))
  refine attn3_apply n (Lt m c t) i c' (512 * n.val + r.val) (by omega) (qOf b n (KA1 m c) r) (fun w l => HV18 m c (ix3 b (krow n w) l))
    (fun w l => HV22 m c (ix3 b (krow n w) l)) (keysOf b n (KA2 m c) r) (keysOf b n (KA3 m c) r) (fun h => KA11 m c (ix2 0 h))
    (fun l => ?_) (fun l => (F_q31 m c t b n hb hn i l).trans (hq l 1 (by omega)))
    (fun l => (F_q32 m c t b n hb hn i l).trans (hq l 2 (by omega))) (fun l => (F_q33 m c t b n hb hn i l).trans (hq l 3 (by omega)))
    (kv_K m c t b n hb hn) (kv_V m c t b n hb hn)
    (fun j l => (V18a m c b _ l).trans (congrArg (fun z => KA2 m c (ix4 b z _ _)) (hz j))) (fun j l => (V18b m c b _ l).trans (congrArg (fun z => KA2 m c (ix4 b z _ _)) (hz j)))
    (fun j l => (V22a m c b _ l).trans (congrArg (fun z => KA3 m c (ix4 b z _ _)) (hz j))) (fun j l => (V22b m c b _ l).trans (congrArg (fun z => KA3 m c (ix4 b z _ _)) (hz j)))
    ((F_s0 m c t).trans (V24 m c 0)) ((F_s1 m c t).trans (V24 m c 1)) ((F_s2 m c t).trans (V24 m c 2)) ((F_s3 m c t).trans (V24 m c 3))
    ((F_s4 m c t).trans (V24 m c 4)) ((F_s5 m c t).trans (V24 m c 5)) ((F_s6 m c t).trans (V24 m c 6)) ((F_s7 m c t).trans (V24 m c 7))
    (fun l => ?_) (fun j g d => rk _) (fun h => rs _)
  · refine (F_q30 m c t b n hb hn i l).trans (Eq.trans ?_ ((hq l 0 (by omega)).trans ?_))
    · exact congrArg (fun z => HV12 m c (ix3 b _ z)) (Fin.ext (by show l.val = 128 * 0 + l.val; omega))
    · exact congrArg (qOf b n (KA1 m c) r) (Fin.ext (by show 128 * 0 + l.val = l.val; omega))
  · obtain ⟨x, hx⟩ := rq (ix4 b ⟨512 * n.val + r.val, lt_tok n r⟩ ⟨l.val / 64, lt_h8 l⟩ ⟨l.val % 64, lt_m8 l⟩)
    exact ⟨x * (1 / 8), by show KA1 m c _ * _ = _; rw [hx, bits_eighth, EReal.coe_mul]⟩

/-- The block's row at a column. -/
theorem block_row (hb : (grid0.coords t 0).val = b.val) (hn : (grid0.coords t 1).val = n.val)
    (rq : ∀ i, ∃ x : ℝ, KA1 m c i = (x : EReal)) (rk : ∀ i, ∃ x : ℝ, KA2 m c i = (x : EReal)) (rs : ∀ i, ∃ x : ℝ, KA11 m c i = (x : EReal))
    (r : Fin 512) (c' : Fin 1024) :
    outsAt0 m c t (ix3 0 r c') = row3 (row2 (row1 (KA0 m c) (KA9 m c) (KA10 m c) (KA14 m c) (KA15 m c) (KA16 m c)
      (attRow (qOf b n (KA1 m c) r) (keysOf b n (KA2 m c) r) (keysOf b n (KA3 m c) r) (fun h => KA11 m c (ix2 0 h)) (okAt (512 * n.val + r.val)))
      (recRow (KA4 m c) (KA5 m c) (KA6 m c) (KA7 m c) (KA12 m c) (KA13 m c) b ⟨512 * n.val + r.val, lt_tok n r⟩) b ⟨512 * n.val + r.val, lt_tok n r⟩)
      (KA17 m c) (KA18 m c) (KA19 m c)) (KA8 m c) (KA20 m c) (KA21 m c) (KA22 m c) b ⟨512 * n.val + r.val, lt_tok n r⟩ c' := by
  rw [outs_eq m c t n hn]
  unfold row3 row2 row1
  have z0 : ∀ (N : Nat) (k : Fin N) (f : Fin N → EReal) (h : k.val < N), f ⟨k.val, h⟩ = f k := fun _ _ _ _ => rfl
  refine out_row _ _ r c' _ _ _ _ _ _ _ _ _ _ _ _ _ _ _ (fun k => F_x m c t b n hb hn r k) (fun k => (F_gain m c t k).trans (V26 m c k))
    (fun k => (F_gf m c t k).trans (V41 m c k)) (fun k => (F_gp m c t k).trans (V47 m c k))
    (fun k j => (F_wg0 m c t k j).trans (V28 m c k _)) (fun k j => (F_wg1 m c t k j).trans (V28 m c k _))
    (fun k j => (F_wg2 m c t k j).trans (V28 m c k _)) (fun k j => (F_wg3 m c t k j).trans (V28 m c k _))
    (fun k => ?_) (fun k => ?_)
    (fun k j => (F_wua m c t k j).trans (V34 m c k j)) (fun k j => (F_wur m c t k j).trans (V36 m c k j))
    (fun k j => (F_wo0 m c t k j).trans (V38 m c k _)) (fun k j => (F_wo1 m c t k j).trans (V38 m c k _))
    (fun k => (F_p m c t b n hb hn r k).trans (V39 m c b _ k)) (fun k j => (F_wpg m c t k j).trans (V49 m c k j)) (fun k j => (F_wple m c t k j).trans (V51 m c k j))
    (fun k j => (F_w10 m c t k j).trans (V43 m c k _)) (fun k j => (F_w11 m c t k j).trans (V43 m c k _))
    (fun k j => (F_w12 m c t k j).trans (V43 m c k _)) (fun k j => (F_w13 m c t k j).trans (V43 m c k _))
    (fun k j => (F_w20 m c t k j).trans (V45 m c _ j)) (fun k j => (F_w21 m c t k j).trans (V45 m c _ j))
    (fun k j => (F_w22 m c t k j).trans (V45 m c _ j)) (fun k j => (F_w23 m c t k j).trans (V45 m c _ j))
  · exact stackU_apply _ _ _ _ r k (fun r => attRow (qOf b n (KA1 m c) r) (keysOf b n (KA2 m c) r) (keysOf b n (KA3 m c) r) (fun h => KA11 m c (ix2 0 h)) (okAt (512 * n.val + r.val)) k)
      (fun i => kattn0 m c t b n hb hn rq rk rs i _ k (Nat.zero_add _).symm) (fun i => kattn1 m c t b n hb hn rq rk rs i _ k rfl)
      (fun i => kattn2 m c t b n hb hn rq rk rs i _ k rfl) (fun i => kattn3 m c t b n hb hn rq rk rs i _ k rfl)
  · have hbd : IsBd (bdU (Lt m c t).bd) := fun i j => by
      rw [bdU_apply]
      exact (F_bd m c t i j).trans (V8_isBd m c i j)
    rw [rwU_apply _ _ hbd]
    unfold recRow
    have e1 : (fun k => ysU (Lt m c t) (ix2 r k)) = fun k => KA4 m c (ix3 b ⟨512 * n.val + r.val, lt_tok n r⟩ k) + KA5 m c (ix3 b ⟨512 * n.val + r.val, lt_tok n r⟩ k) := funext fun k => by
      show rwkvU (Lt m c t).y0 (ix2 r k) + rwkvU (Lt m c t).y1 (ix2 r k) = _
      rw [rwkvU_apply, rwkvU_apply]
      exact congrArg₂ (fun a b : EReal => a + b) (F_y0 m c t b n hb hn r k) (F_y1 m c t b n hb hn r k)
    have e2 : (fun k => lnU (Lt m c t).lnw (ix2 0 k)) = fun k => KA12 m c (ix2 0 k) := funext fun k => by
      rw [lnU_apply]; exact (F_lnw m c t k).trans (V30 m c k)
    have e3 : (fun k => lnU (Lt m c t).lnb (ix2 0 k)) = fun k => KA13 m c (ix2 0 k) := funext fun k => by
      rw [lnU_apply]; exact (F_lnb m c t k).trans (V32 m c k)
    have e4 : (fun k => rwkvU (Lt m c t).bonus (ix2 r k)) = fun k => KA6 m c (ix3 b ⟨512 * n.val + r.val, lt_tok n r⟩ k) := funext fun k => by
      rw [rwkvU_apply]; exact F_bonus m c t b n hb hn r k
    have e5 : (fun k => rwkvU (Lt m c t).g (ix2 r k)) = fun k => KA7 m c (ix3 b ⟨512 * n.val + r.val, lt_tok n r⟩ k) := funext fun k => by
      rw [rwkvU_apply]; exact F_g m c t b n hb hn r k
    rw [e1, e2, e3, e4, e5]

end Cert.Mid

end
-- ==== Proof.KArr.lean ====
/-
  The kernel's result: the array at a token and a column.
-/
module

public import proofs.«01_k».proof.Proof.KRow
public import Idealize.ShloMosaic.Lib.Pipeline.ValueKit.Tiles

@[expose] public section

set_option maxRecDepth 16384
set_option maxHeartbeats 1000000

noncomputable section

namespace Cert.Mid

open Idealize.ShloMosaic Cert.KernelIdeal Cert.KernelIdeal.Gen Cert.KernelIdeal.Mid Idealize.ShloMosaic.TcCoe Idealize.SL.Sem
open scoped BigOperators

theorem ix_28 : ∀ t : Fin grid0.N, win0_28.index t 0 = (grid0.coords t 0).val ∧ win0_28.index t 1 = (grid0.coords t 1).val ∧ win0_28.index t 2 = 0 := by
  decide +kernel

theorem inj_28 : ∀ t t' : Fin grid0.N, win0_28.index t = win0_28.index t' → t = t' := by
  decide +kernel

theorem flush_28 : ∀ t : Fin grid0.N, (cfg0.win 28).flush t = true := by
  decide +kernel

/-- Every pair of a batch and a block is a grid point. -/
theorem point_of : ∀ (b : Fin 4) (n : Fin 8), ∃ t : Fin grid0.N, (grid0.coords t 0).val = b.val ∧ (grid0.coords t 1).val = n.val := by
  decide +kernel

variable (m : (ℓ : Loc nD τ sig) → Buf (Elt Ideal) ℓ) (c : Dev nD) (t : Fin cfg0.N) (b : Fin 4) (n : Fin 8)

/-- The result at a block's row is what the block's point left there. -/
theorem arr_at (hb : (grid0.coords t 0).val = b.val) (hn : (grid0.coords t 1).val = n.val) (r : Fin 512) (c' : Fin 1024) :
    (dats m 0 c).arrAt 28 cfg0.N (ix3 b ⟨512 * n.val + r.val, lt_tok n r⟩ c' : S4x4096x1024.Idx) = outsAt0 m c t (ix3 0 r c') := by
  have hi := ix_28 t
  have e : (((cfg0.win 28).blk t).view.emb (ix3 0 r c') : S4x4096x1024.Idx) = ix3 b ⟨512 * n.val + r.val, lt_tok n r⟩ c' := by
    refine funext fun a => Fin.ext ?_
    match a with
    | ⟨0, _⟩ => show win0_28.index t 0 * 1 + 1 * 0 = b.val; rw [hi.1, hb]; omega
    | ⟨1, _⟩ => show win0_28.index t 1 * 512 + 1 * r.val = 512 * n.val + r.val; rw [hi.2.1, hn]; omega
    | ⟨2, _⟩ => show win0_28.index t 2 * 1024 + 1 * c'.val = c'.val; rw [hi.2.2]; omega
  have w := (dats m 0 c).read_blk_arrAt_eq_flushed 28
    (fun t t' _ _ hne => (cfg0.win 28).disjoint_blk fun h => hne (inj_28 t t' h)) cfg0.N t t.isLt (flush_28 t)
  have f : (dats m 0 c).flushed 28 t = (cfg0.win 28).cut (grid0.coords t) (outsAt0 m c t) := by
    show (cfg0.win 28).cut (grid0.coords t) ((dats m 0 c).after 28 t) = _
    rw [after0_28]
  rw [← e]
  exact congrFun (w.trans f) (ix3 0 r c')

end Cert.Mid

end
-- ==== Proof.RefAttn.lean ====
/-
  The reference's windowed attention at a token and a column.
-/
module

public import proofs.«01_k».proof.Proof.Words
public import proofs.«01_k».proof.Proof.BodyAttn
public import proofs.«01_k».proof.Proof.Gen.ReferenceIdeal.Read
public import Idealize.ShloMosaic.Lib.KernelVsHost
public import Idealize.ShloMosaic.Lib.ValueIdxRank6

@[expose] public section

set_option maxRecDepth 16384
set_option maxHeartbeats 1000000

noncomputable section

namespace Cert.Mid

open Idealize.ShloMosaic Cert.ReferenceIdeal Cert.ReferenceIdeal.Gen Cert.ReferenceIdeal.Read Idealize.ShloMosaic.TcCoe Idealize.SL.Sem Idealize.ShloMosaic.StableHlo
open scoped BigOperators

variable (x1 : FVec Ideal S4x4096x8x64 .f32) (x2 x3 : FVec Ideal S4x4096x2x64 .f32) (x11 : FVec Ideal S1x8 .f32)

/-- The padded keys, in blocks, at a row of the sequence. -/
theorem r19 (b : Fin 4) (N : Fin 34) (r : Fin 128) (g : Fin 2) (e : Fin 64) (row : Fin 4096) (h : 128 * N.val + r.val = row.val + 128) :
    val_main_v19 (F := Ideal) x2 (ix5 b N r g e) = x2 (ix4 b row g e) := by
  have hb := b.isLt; have hN := N.isLt; have hr := r.isLt; have hg := g.isLt; have he := e.isLt; have hw := row.isLt
  rw [val_main_v19_apply, show idx_main_v19 (ix5 b N r g e) = ix4 b ⟨128 * N.val + r.val, by omega⟩ g e from
    ext4 _ _ (by show ((((b.val * 34 + N.val) * 128 + r.val) * 2 + g.val) * 64 + e.val) / 557056 = b.val; omega)
      (by show ((((b.val * 34 + N.val) * 128 + r.val) * 2 + g.val) * 64 + e.val) / 128 % 4352 = 128 * N.val + r.val; omega)
      (by show ((((b.val * 34 + N.val) * 128 + r.val) * 2 + g.val) * 64 + e.val) / 64 % 2 = g.val; omega)
      (by show ((((b.val * 34 + N.val) * 128 + r.val) * 2 + g.val) * 64 + e.val) % 64 = e.val; omega)]
  unfold val_main_v18
  refine pad_apply_of_inside _ _ _ _ _ _ _ _ (ix4 b row g e) fun a => ?_
  match a with
  | ⟨0, _⟩ => show b.val = 0 + b.val * (0 + 1); omega
  | ⟨1, _⟩ => show 128 * N.val + r.val = 128 + row.val * (0 + 1); omega
  | ⟨2, _⟩ => show g.val = 0 + g.val * (0 + 1); omega
  | ⟨3, _⟩ => show e.val = 0 + e.val * (0 + 1); omega

/-- A window's keys at a row of the sequence. -/
theorem r23 (b : Fin 4) (n : Fin 32) (j : Fin 384) (g : Fin 2) (e : Fin 64) (row : Fin 4096) (h : 128 * n.val + j.val = row.val + 128) :
    val_main_v23 (F := Ideal) x2 (ix5 b n j g e) = x2 (ix4 b row g e) := by
  have hj := j.isLt; have hn := n.isLt
  unfold val_main_v23
  by_cases q1 : j.val < 128
  · refine (concatenate_apply_piece 2 _ _ (ix5 b n j g e) 0 (by simp) S4x32x128x2x64 (val_main_v20 (F := Ideal) x2) rfl rfl 0 rfl
      (ix5 b n ⟨j.val, q1⟩ g e) (fun a ha => ?_) (by show 0 + j.val = j.val; omega)).trans ?_
    · match a with
      | ⟨0, _⟩ => rfl
      | ⟨1, _⟩ => rfl
      | ⟨2, _⟩ => exact absurd rfl ha
      | ⟨3, _⟩ => rfl
      | ⟨4, _⟩ => rfl
    · rw [val_main_v20_apply, show idx_main_v20 (ix5 b n ⟨j.val, q1⟩ g e) = ix5 b ⟨n.val, by omega⟩ ⟨j.val, q1⟩ g e from ext5 _ _ rfl rfl rfl rfl rfl]
      exact r19 x2 _ _ _ _ _ row (by show 128 * n.val + j.val = _; omega)
  by_cases q2 : j.val < 256
  · refine (concatenate_apply_piece 2 _ _ (ix5 b n j g e) 1 (by simp) S4x32x128x2x64 (val_main_v21 (F := Ideal) x2) rfl rfl 128 rfl
      (ix5 b n ⟨j.val - 128, by omega⟩ g e) (fun a ha => ?_) (by show 128 + (j.val - 128) = j.val; omega)).trans ?_
    · match a with
      | ⟨0, _⟩ => rfl
      | ⟨1, _⟩ => rfl
      | ⟨2, _⟩ => exact absurd rfl ha
      | ⟨3, _⟩ => rfl
      | ⟨4, _⟩ => rfl
    · rw [val_main_v21_apply, show idx_main_v21 (ix5 b n ⟨j.val - 128, by omega⟩ g e) = ix5 b ⟨1 + n.val, by omega⟩ ⟨j.val - 128, by omega⟩ g e from
        ext5 _ _ rfl rfl rfl rfl rfl]
      exact r19 x2 _ _ _ _ _ row (by show 128 * (1 + n.val) + (j.val - 128) = _; omega)
  · refine (concatenate_apply_piece 2 _ _ (ix5 b n j g e) 2 (by simp) S4x32x128x2x64 (val_main_v22 (F := Ideal) x2) rfl rfl 256 rfl
      (ix5 b n ⟨j.val - 256, by omega⟩ g e) (fun a ha => ?_) (by show 256 + (j.val - 256) = j.val; omega)).trans ?_
    · match a with
      | ⟨0, _⟩ => rfl
      | ⟨1, _⟩ => rfl
      | ⟨2, _⟩ => exact absurd rfl ha
      | ⟨3, _⟩ => rfl
      | ⟨4, _⟩ => rfl
    · rw [val_main_v22_apply, show idx_main_v22 (ix5 b n ⟨j.val - 256, by omega⟩ g e) = ix5 b ⟨2 + n.val, by omega⟩ ⟨j.val - 256, by omega⟩ g e from
        ext5 _ _ rfl rfl rfl rfl rfl]
      exact r19 x2 _ _ _ _ _ row (by show 128 * (2 + n.val) + (j.val - 256) = _; omega)

/-- A window's values at a row of the sequence. -/
theorem r29 (b : Fin 4) (n : Fin 32) (j : Fin 384) (g : Fin 2) (e : Fin 64) (row : Fin 4096) (h : 128 * n.val + j.val = row.val + 128) :
    val_main_v29 (F := Ideal) x3 (ix5 b n j g e) = x3 (ix4 b row g e) := r23 x3 b n j g e row h

/-- A block's queries. -/
theorem r17 (b : Fin 4) (n : Fin 32) (r : Fin 128) (g : Fin 2) (h : Fin 4) (e : Fin 64) :
    val_main_v17 (F := Ideal) x1 (ix6 b n r g h e) = x1 (ix4 b ⟨128 * n.val + r.val, by omega⟩ ⟨4 * g.val + h.val, by omega⟩ e) := by
  unfold val_main_v17
  refine shapeCast_apply _ _ _ _ ?_
  rw [Shape.rowMajor_val_four, Shape.rowMajor_val_six]
  show ((b.val * 4096 + (128 * n.val + r.val)) * 8 + (4 * g.val + h.val)) * 64 + e.val
    = ((((b.val * 32 + n.val) * 128 + r.val) * 2 + g.val) * 4 + h.val) * 64 + e.val
  omega

theorem r53 (n : Fin 32) (j : Fin 384) : val_main_v53 (F := Ideal) (ix2 n j) = BitVec.ofNat 32 (128 * n.val + j.val) - 128#32 :=
  (by
    rw [val_main_v53_apply, val_main_v51_apply, val_main_v52_apply, val_main_v48_apply, val_main_v46_apply, val_main_v44_apply, val_main_v45_apply,
      val_main_v47_apply, val_main_v50_apply]
    exact kpos_word n.val j.val)

theorem r42 (n : Fin 32) (r : Fin 128) : val_main_v42 (F := Ideal) (ix2 n r) = BitVec.ofNat 32 (128 * n.val + r.val) :=
  (by
    rw [val_main_v42_apply, val_main_v40_apply, val_main_v41_apply, val_main_v37_apply, val_main_v35_apply, val_main_v36_apply, val_main_v39_apply]
    exact qpos_word n.val r.val)

/-- The window's mask. -/
theorem r71 (n : Fin 32) (r : Fin 128) (j : Fin 384) :
    val_main_v71 (F := Ideal) (ix3 n r j) = BitVec.ofBool (decide (okAt (128 * n.val + r.val) j)) := by
  have k1 : val_main_v57 (F := Ideal) (ix3 n r j) = BitVec.ofNat 32 (128 * n.val + j.val) - 128#32 := by
    rw [val_main_v57_apply, val_main_v55_apply]
    exact (congrArg _ (ext2 _ _ rfl rfl)).trans (r53 n j)
  have k2 : val_main_v56 (F := Ideal) (ix3 n r j) = BitVec.ofNat 32 (128 * n.val + r.val) := by
    rw [val_main_v56_apply, val_main_v54_apply]
    exact (congrArg _ (ext2 _ _ rfl rfl)).trans (r42 n r)
  have k3 : val_main_v65 (F := Ideal) (ix3 n r j) = IntOp.cmpi .sge (BitVec.ofNat 32 (128 * n.val + j.val) - 128#32) 0#32 := by
    rw [val_main_v65_apply, val_main_v64_apply, val_main_v62_apply]
    exact congrArg (fun z => IntOp.cmpi .sge z 0#32) ((congrArg _ (ext2 _ _ rfl rfl)).trans (r53 n j))
  have k4 : val_main_v70 (F := Ideal) (ix3 n r j) = IntOp.cmpi .slt (BitVec.ofNat 32 (128 * n.val + j.val) - 128#32) 4096#32 := by
    rw [val_main_v70_apply, val_main_v69_apply, val_main_v67_apply]
    exact congrArg (fun z => IntOp.cmpi .slt z 4096#32) ((congrArg _ (ext2 _ _ rfl rfl)).trans (r53 n j))
  rw [val_main_v71_apply, val_main_v66_apply, val_main_v61_apply, val_main_v59_apply, val_main_v58_apply, k1, k2, k3, k4]
  have hn := n.isLt; have hr := r.isLt; have hj := j.isLt
  refine (in_window (128 * n.val + r.val) (128 * n.val + j.val) (by omega) (by omega)).trans ?_
  refine congrArg BitVec.ofBool (decide_eq_decide.2 ?_)
  have : (128 * n.val + r.val) / 128 = n.val := by omega
  unfold okAt
  rw [this]

end Cert.Mid

end
-- ==== Proof.RefSoft.lean ====
/-
  The reference's masked scores and their normalisation at a token and a column.
-/
module

public import proofs.«01_k».proof.Proof.Words
public import proofs.«01_k».proof.Proof.BodyAttn
public import proofs.«01_k».proof.Proof.RefAttn
public import proofs.«01_k».proof.Proof.Gen.ReferenceIdeal.Read
public import Idealize.ShloMosaic.Lib.KernelVsHost
public import Idealize.ShloMosaic.Lib.ValueIdxRank6

@[expose] public section

set_option maxRecDepth 16384
set_option maxHeartbeats 1000000

noncomputable section

namespace Cert.Mid

open Idealize.ShloMosaic Cert.ReferenceIdeal Cert.ReferenceIdeal.Gen Cert.ReferenceIdeal.Read Idealize.ShloMosaic.TcCoe Idealize.SL.Sem Idealize.ShloMosaic.StableHlo
open scoped BigOperators

variable (x1 : FVec Ideal S4x4096x8x64 .f32) (x2 x3 : FVec Ideal S4x4096x2x64 .f32) (x11 : FVec Ideal S1x8 .f32)

theorem lt_tk (n : Fin 32) (r : Fin 128) : 128 * n.val + r.val < 4096 := by omega
theorem lt_hd (g : Fin 2) (h : Fin 4) : 4 * g.val + h.val < 8 := by omega

/-- A query's masked scores. -/
theorem r73 (b : Fin 4) (n : Fin 32) (g : Fin 2) (h : Fin 4) (r : Fin 128) (j : Fin 384) :
    val_main_v73 (F := Ideal) x1 x2 (ix6 b n g h r j) = if okAt (128 * n.val + r.val) j then
      (∑ e : Fin 64, val_main_v23 (F := Ideal) x2 (ix5 b n j g e) * x1 (ix4 b ⟨128 * n.val + r.val, lt_tk n r⟩ ⟨4 * g.val + h.val, lt_hd g h⟩ e))
        * Ideal.ofBits .f32 0x3E000000#32 else ⊥ := by
  have k1 : val_main_call2_v1 (F := Ideal) (ix6 b n g h r j) = BitVec.ofBool (decide (okAt (128 * n.val + r.val) j)) := by
    rw [val_main_call2_v1_apply, val_main_v72_apply]
    exact (congrArg _ (ext3 _ _ rfl rfl rfl)).trans (r71 n r j)
  have k2 : val_main_call2_v2 (F := Ideal) (ix6 b n g h r j) = (⊥ : EReal) := by
    rw [val_main_call2_v2_apply]
    exact bits_neg_inf
  rw [val_main_v73_apply, k1, k2, select_ofBool]
  refine if_congr Iff.rfl ?_ rfl
  rw [val_main_v33_apply, val_main_v31_apply, val_main_v30_apply]
  refine congrArg (fun z : EReal => z * Ideal.ofBits .f32 0x3E000000#32) (Finset.sum_congr rfl fun e _ => ?_)
  rw [← r17 x1 b n r g h e]
  refine congrArg₂ (fun a b : EReal => a * b) (congrArg _ (ext5 _ _ rfl rfl rfl rfl rfl)) (congrArg _ (ext6 _ _ rfl rfl rfl rfl rfl rfl))

/-- The scores' largest along the window. -/
theorem redmax (y : FVec Ideal S4x32x2x4x128x385 .f32) (b : Fin 4) (n : Fin 32) (g : Fin 2) (h : Fin 4) (r : Fin 128) :
    Host.reduce FloatOps.maximumf y (constant S_ .f32 0xFF800000#32) reducesTo_S4x32x2x4x128x385_S4x32x2x4x128_d5 h_S_ (ix5 b n g h r)
      = Finset.univ.fold max ⊥ (fun k : Fin 385 => y (ix6 b n g h r k)) := by
  rw [hostReduce_maximumf_eq_multiReduction y 0xFF800000#32 reducesTo_S4x32x2x4x128x385_S4x32x2x4x128_d5 h_S_
    (show S4x32x2x4x128x385.Reduces [5] S4x32x2x4x128 by decide) (.inl rfl) rfl]
  refine (Ideal.multiReduction_maximumf_single y _ _ _ _ _).trans ?_
  refine congrArg₂ (fun (z : EReal) (f : Fin 385 → EReal) => Finset.fold max z f Finset.univ) bits_neg_inf (funext fun k => ?_)
  exact congrArg y (ext6 _ _ rfl rfl rfl rfl rfl rfl)

theorem cat_left (y : FVec Ideal S4x32x2x4x128x384 .f32) (z : FVec Ideal S4x32x2x4x128x1 .f32) (b : Fin 4) (n : Fin 32) (g : Fin 2) (h : Fin 4) (r : Fin 128) (j : Fin 384) :
    concatenate S4x32x2x4x128x385 5 [⟨S4x32x2x4x128x384, y⟩, ⟨S4x32x2x4x128x1, z⟩] concatenates_S4x32x2x4x128x384_S4x32x2x4x128x1_S4x32x2x4x128x385_d5
      (ix6 b n g h r j.castSucc) = y (ix6 b n g h r j) := by
  refine concatenate_pair_apply_left (t := S4x32x2x4x128x385) (s₁ := S4x32x2x4x128x384) (s₂ := S4x32x2x4x128x1) 5 y z
    concatenates_S4x32x2x4x128x384_S4x32x2x4x128x1_S4x32x2x4x128x385_d5 (ix6 b n g h r j.castSucc) rfl (ix6 b n g h r j) fun a => ?_
  match a with
  | ⟨0, _⟩ => rfl
  | ⟨1, _⟩ => rfl
  | ⟨2, _⟩ => rfl
  | ⟨3, _⟩ => rfl
  | ⟨4, _⟩ => rfl
  | ⟨5, _⟩ => rfl

theorem cat_right (y : FVec Ideal S4x32x2x4x128x384 .f32) (z : FVec Ideal S4x32x2x4x128x1 .f32) (b : Fin 4) (n : Fin 32) (g : Fin 2) (h : Fin 4) (r : Fin 128) :
    concatenate S4x32x2x4x128x385 5 [⟨S4x32x2x4x128x384, y⟩, ⟨S4x32x2x4x128x1, z⟩] concatenates_S4x32x2x4x128x384_S4x32x2x4x128x1_S4x32x2x4x128x385_d5
      (ix6 b n g h r (Fin.last 384)) = z (ix6 b n g h r 0) := by
  refine concatenate_pair_apply_right (t := S4x32x2x4x128x385) (s₁ := S4x32x2x4x128x384) (s₂ := S4x32x2x4x128x1) 5 y z
    concatenates_S4x32x2x4x128x384_S4x32x2x4x128x1_S4x32x2x4x128x385_d5 (ix6 b n g h r (Fin.last 384)) rfl rfl (ix6 b n g h r 0) (fun a ha => ?_) ?_
  · match a with
    | ⟨0, _⟩ => rfl
    | ⟨1, _⟩ => rfl
    | ⟨2, _⟩ => rfl
    | ⟨3, _⟩ => rfl
    | ⟨4, _⟩ => rfl
    | ⟨5, _⟩ => exact absurd rfl ha
  · show 0 + 384 = 384
    omega

theorem r77_left (b : Fin 4) (n : Fin 32) (g : Fin 2) (h : Fin 4) (r : Fin 128) (j : Fin 384) :
    val_main_v77 (F := Ideal) x1 x2 x11 (ix6 b n g h r (j.castSucc : Fin 385)) = val_main_v73 (F := Ideal) x1 x2 (ix6 b n g h r j) :=
  cat_left _ _ b n g h r j

theorem r77_right (b : Fin 4) (n : Fin 32) (g : Fin 2) (h : Fin 4) (r : Fin 128) :
    val_main_v77 (F := Ideal) x1 x2 x11 (ix6 b n g h r (Fin.last 384)) = x11 (ix2 0 ⟨4 * g.val + h.val, lt_hd g h⟩) := by
  refine (cat_right _ _ b n g h r).trans ?_
  rw [val_main_v76_apply, val_main_v75_apply, val_main_v74_apply, val_main_v16_apply]
  have hg := g.isLt; have hh := h.isLt
  exact congrArg x11 (ext2 _ _ rfl (by show (g.val * 4 + h.val) % 8 = 4 * g.val + h.val; omega))

/-- The largest of a query's scores and its sink. -/
theorem r80 (b : Fin 4) (n : Fin 32) (g : Fin 2) (h : Fin 4) (r : Fin 128) :
    val_main_v80 (F := Ideal) x1 x2 x11 (ix5 b n g h r) = max (Finset.univ.fold max ⊥ (fun j : Fin 384 => val_main_v73 (F := Ideal) x1 x2 (ix6 b n g h r j)))
      (x11 (ix2 0 ⟨4 * g.val + h.val, lt_hd g h⟩)) := by
  rw [val_main_v80_apply, val_main_v79_apply, val_main_cst_12_apply]
  refine (congrArg₂ (fun a b : EReal => max a b) bits_neg_inf ((redmax (val_main_v77 (F := Ideal) x1 x2 x11) b n g h r).trans ?_)).trans (max_eq_right bot_le)
  rw [fold_last 384, r77_right]
  exact congrArg (fun f => max (Finset.fold max ⊥ f Finset.univ) (x11 (ix2 0 ⟨4 * g.val + h.val, lt_hd g h⟩))) (funext fun j => r77_left x1 x2 x11 b n g h r j)

/-- A window entry's weight, and the sink's. -/
theorem r84 (b : Fin 4) (n : Fin 32) (g : Fin 2) (h : Fin 4) (r : Fin 128) (k : Fin 385) :
    val_main_v84 (F := Ideal) x1 x2 x11 (ix6 b n g h r k) = Ideal.exp (val_main_v77 (F := Ideal) x1 x2 x11 (ix6 b n g h r k)
      - max (Finset.univ.fold max ⊥ (fun j : Fin 384 => val_main_v73 (F := Ideal) x1 x2 (ix6 b n g h r j))) (x11 (ix2 0 ⟨4 * g.val + h.val, lt_hd g h⟩))) := by
  rw [val_main_v84_apply, val_main_v83_apply, val_main_v82_apply, val_main_v81_apply, ← r80]
  exact congrArg (fun i => Ideal.exp (val_main_v77 (F := Ideal) x1 x2 x11 (ix6 b n g h r k) - val_main_v80 (F := Ideal) x1 x2 x11 i)) (ext5 _ _ rfl rfl rfl rfl rfl)

/-- The weights' sum. -/
theorem r85 (b : Fin 4) (n : Fin 32) (g : Fin 2) (h : Fin 4) (r : Fin 128) (S : Fin 384 → EReal) (sk : EReal)
    (hS : ∀ j, val_main_v73 (F := Ideal) x1 x2 (ix6 b n g h r j) = S j) (hk : x11 (ix2 0 ⟨4 * g.val + h.val, lt_hd g h⟩) = sk) :
    val_main_v85 (F := Ideal) x1 x2 x11 (ix5 b n g h r) = (∑ j, Ideal.exp (S j - max (Finset.univ.fold max ⊥ S) sk)) + Ideal.exp (sk - max (Finset.univ.fold max ⊥ S) sk) := by
  have hf : (fun j : Fin 384 => val_main_v73 (F := Ideal) x1 x2 (ix6 b n g h r j)) = S := funext hS
  rw [val_main_v85_apply, val_main_cst_13_apply]
  refine (congrArg₂ (fun a b : EReal => a + b) (show Ideal.ofBits .f32 0x00000000#32 = 0 by simp [Ideal.ofBits, Ideal.ieee]) rfl).trans ((zero_add _).trans ?_)
  rw [Fin.sum_univ_castSucc]
  refine congrArg₂ (fun a b : EReal => a + b) (Finset.sum_congr rfl fun j _ => ?_) ?_
  · rw [show idx_main_v85 (ix5 b n g h r) j.castSucc = ix6 b n g h r j.castSucc from ext6 _ _ rfl rfl rfl rfl rfl rfl, r84, hf, hk, r77_left, hS]
  · rw [show idx_main_v85 (ix5 b n g h r) (Fin.last 384) = ix6 b n g h r (Fin.last 384) from ext6 _ _ rfl rfl rfl rfl rfl rfl, r84, hf, r77_right, hk]

/-- A window entry's share. -/
theorem r89 (b : Fin 4) (n : Fin 32) (g : Fin 2) (h : Fin 4) (r : Fin 128) (S : Fin 384 → EReal) (sk : EReal)
    (hS : ∀ j, val_main_v73 (F := Ideal) x1 x2 (ix6 b n g h r j) = S j) (hk : x11 (ix2 0 ⟨4 * g.val + h.val, lt_hd g h⟩) = sk) (j : Fin 384) :
    val_main_v89 (F := Ideal) x1 x2 x11 (ix6 b n g h r j) = Ideal.div (Ideal.exp (S j - max (Finset.univ.fold max ⊥ S) sk))
      ((∑ j, Ideal.exp (S j - max (Finset.univ.fold max ⊥ S) sk)) + Ideal.exp (sk - max (Finset.univ.fold max ⊥ S) sk)) := by
  have hf : (fun j : Fin 384 => val_main_v73 (F := Ideal) x1 x2 (ix6 b n g h r j)) = S := funext hS
  rw [val_main_v89_apply, show idx_main_v89 (ix6 b n g h r j) = ix6 b n g h r j.castSucc from ext6 _ _ rfl rfl rfl rfl rfl rfl, val_main_v88_apply, r84, hf, hk, r77_left, hS,
    val_main_v87_apply, val_main_v86_apply, show idx_main_v86 (idx_main_v87 (ix6 b n g h r j.castSucc)) = ix5 b n g h r from ext5 _ _ rfl rfl rfl rfl rfl,
    r85 x1 x2 x11 b n g h r S sk hS hk]
  rfl

theorem mask_mul (p : Prop) [Decidable p] (a : EReal) (y : EReal) (e : a = y) : (if p then a else ⊥ : EReal) = if p then y else ⊥ := by rw [e]

/-- The reference's attention at a token and a column. -/
theorem r92 (K V : Fin 4 → Fin 4096 → Fin 384 → Fin 2 → Fin 64 → EReal) (b : Fin 4) (t : Fin 4096) (c : Fin 512)
    (hq : ∀ i, ∃ x : ℝ, x1 i = (x : EReal)) (hKr : ∀ j g e, ∃ x : ℝ, K b t j g e = (x : EReal)) (hs : ∀ i, ∃ x : ℝ, x11 i = (x : EReal))
    (hK : ∀ (j : Fin 384) (row : Fin 4096), okAt t.val j → 128 * (t.val / 128) + j.val = row.val + 128 → ∀ g e, K b t j g e = x2 (ix4 b row g e))
    (hV : ∀ (j : Fin 384) (row : Fin 4096), okAt t.val j → 128 * (t.val / 128) + j.val = row.val + 128 → ∀ g e, V b t j g e = x3 (ix4 b row g e)) :
    val_main_v92 (F := Ideal) x1 x2 x3 x11 (ix3 b t c)
      = attRow (fun l => x1 (ix4 b t ⟨l.val / 64, lt_h8 l⟩ ⟨l.val % 64, lt_m8 l⟩) * Ideal.ofBits .f32 0x3E000000#32) (K b t) (V b t) (fun h => x11 (ix2 0 h)) (okAt t.val) c := by
  have hb := b.isLt; have ht := t.isLt; have hc := c.isLt
  have ht32 : t.val / 128 < 32 := by omega
  have hr128 : t.val % 128 < 128 := by omega
  have hg2 : c.val / 256 < 2 := by omega
  have hh4 : c.val / 64 % 4 < 4 := by omega
  have hd64 : c.val % 64 < 64 := by omega
  have e1 : val_main_v92 (F := Ideal) x1 x2 x3 x11 (ix3 b t c)
      = val_main_v91 (F := Ideal) x1 x2 x3 x11 (ix6 b ⟨t.val / 128, ht32⟩ ⟨t.val % 128, hr128⟩ ⟨c.val / 256, hg2⟩ ⟨c.val / 64 % 4, hh4⟩ ⟨c.val % 64, hd64⟩) := by
    unfold val_main_v92
    refine shapeCast_apply _ _ _ _ ?_
    rw [Shape.rowMajor_val_three, Shape.rowMajor_val_six]
    show ((((b.val * 32 + t.val / 128) * 128 + t.val % 128) * 2 + c.val / 256) * 4 + c.val / 64 % 4) * 64 + c.val % 64
      = (b.val * 4096 + t.val) * 512 + c.val
    omega
  have htt : (⟨128 * (t.val / 128) + t.val % 128, lt_tk ⟨t.val / 128, ht32⟩ ⟨t.val % 128, hr128⟩⟩ : Fin 4096) = t := Fin.ext (by show 128 * (t.val / 128) + t.val % 128 = t.val; omega)
  have hhd : (⟨4 * (c.val / 256) + c.val / 64 % 4, lt_hd ⟨c.val / 256, hg2⟩ ⟨c.val / 64 % 4, hh4⟩⟩ : Fin 8) = ⟨c.val / 64, lt_h8 c⟩ :=
    Fin.ext (by show 4 * (c.val / 256) + c.val / 64 % 4 = c.val / 64; omega)
  have hgg : (⟨c.val / 64 / 4, lt_g ⟨c.val / 64, lt_h8 c⟩⟩ : Fin 2) = ⟨c.val / 256, hg2⟩ := Fin.ext (by show c.val / 64 / 4 = c.val / 256; omega)
  obtain ⟨sk, hsk⟩ := hs (ix2 0 ⟨c.val / 64, lt_h8 c⟩)
  have hx : (Ideal.ofBits .f32 0x3E000000#32) = ((1 / 8 : ℝ) : EReal) := bits_eighth
  have hS : ∀ j, val_main_v73 (F := Ideal) x1 x2 (ix6 b ⟨t.val / 128, ht32⟩ ⟨c.val / 256, hg2⟩ ⟨c.val / 64 % 4, hh4⟩ ⟨t.val % 128, hr128⟩ j)
      = score (fun e => (fun l : Fin 512 => x1 (ix4 b t ⟨l.val / 64, lt_h8 l⟩ ⟨l.val % 64, lt_m8 l⟩) * Ideal.ofBits .f32 0x3E000000#32) ⟨64 * (c.val / 64) + e.val, lt_q ⟨c.val / 64, lt_h8 c⟩ e⟩)
        (fun j e => K b t j ⟨c.val / 64 / 4, lt_g ⟨c.val / 64, lt_h8 c⟩⟩ e) (okAt t.val) j := fun j => by
    rw [r73]
    show (if okAt (128 * (t.val / 128) + t.val % 128) j then _ else _) = _
    rw [htt, hhd, hgg]
    rw [show 128 * (t.val / 128) + t.val % 128 = t.val by omega]
    unfold score
    by_cases ok : okAt t.val j
    · rw [if_pos ok, if_pos ok]
      have hrow : 128 * (t.val / 128) + j.val - 128 < 4096 := by have := ok.2.1; omega
      have hrw : 128 * (t.val / 128) + j.val = (⟨128 * (t.val / 128) + j.val - 128, hrow⟩ : Fin 4096).val + 128 := by
        have := ok.1; show _ = 128 * (t.val / 128) + j.val - 128 + 128; omega
      choose qr hqr using hq
      choose kr hkr using fun e => hKr j ⟨c.val / 256, hg2⟩ e
      have l : ∀ e : Fin 64, val_main_v23 (F := Ideal) x2 (ix5 b ⟨t.val / 128, ht32⟩ j ⟨c.val / 256, hg2⟩ e) * x1 (ix4 b t ⟨c.val / 64, lt_h8 c⟩ e)
          = ((kr e * qr (ix4 b t ⟨c.val / 64, lt_h8 c⟩ e) : ℝ) : EReal) := fun e => by
        rw [r23 x2 b ⟨t.val / 128, ht32⟩ j ⟨c.val / 256, hg2⟩ e ⟨128 * (t.val / 128) + j.val - 128, hrow⟩ hrw, ← hK j _ ok hrw, hkr, hqr, EReal.coe_mul]
      have l' : ∀ e : Fin 64, (x1 (ix4 b t ⟨(64 * (c.val / 64) + e.val) / 64, lt_h8 ⟨64 * (c.val / 64) + e.val, lt_q ⟨c.val / 64, lt_h8 c⟩ e⟩⟩
            ⟨(64 * (c.val / 64) + e.val) % 64, lt_m8 ⟨64 * (c.val / 64) + e.val, lt_q ⟨c.val / 64, lt_h8 c⟩ e⟩⟩)
            * Ideal.ofBits .f32 0x3E000000#32) * K b t j ⟨c.val / 256, hg2⟩ e
          = ((qr (ix4 b t ⟨c.val / 64, lt_h8 c⟩ e) * (1 / 8) * kr e : ℝ) : EReal) := fun e => by
        rw [show ix4 b t ⟨(64 * (c.val / 64) + e.val) / 64, lt_h8 ⟨64 * (c.val / 64) + e.val, lt_q ⟨c.val / 64, lt_h8 c⟩ e⟩⟩
            ⟨(64 * (c.val / 64) + e.val) % 64, lt_m8 ⟨64 * (c.val / 64) + e.val, lt_q ⟨c.val / 64, lt_h8 c⟩ e⟩⟩ = ix4 b t ⟨c.val / 64, lt_h8 c⟩ e from
          ext4 _ _ rfl rfl (by show (64 * (c.val / 64) + e.val) / 64 = c.val / 64; omega) (by show (64 * (c.val / 64) + e.val) % 64 = e.val; omega),
          hqr, hkr, hx, EReal.coe_mul, EReal.coe_mul]
      refine (congrArg₂ (fun a b : EReal => a * b) (Finset.sum_congr rfl fun e _ => l e) hx).trans (Eq.trans ?_ (Finset.sum_congr rfl fun e _ => (l' e).symm))
      rw [sum_coe, sum_coe, ← EReal.coe_mul]
      refine congrArg _ ?_
      rw [Finset.sum_mul]
      exact Finset.sum_congr rfl fun e _ => by ring
    · rw [if_neg ok, if_neg ok]
  rw [e1, val_main_v91_apply, show idx_main_v91 (ix6 b ⟨t.val / 128, ht32⟩ ⟨t.val % 128, hr128⟩ ⟨c.val / 256, hg2⟩ ⟨c.val / 64 % 4, hh4⟩ ⟨c.val % 64, hd64⟩)
      = ix6 b ⟨t.val / 128, ht32⟩ ⟨c.val / 256, hg2⟩ ⟨c.val % 64, hd64⟩ ⟨c.val / 64 % 4, hh4⟩ ⟨t.val % 128, hr128⟩ from ext6 _ _ rfl rfl rfl rfl rfl rfl, val_main_v90_apply]
  unfold attRow attHead
  show _ = att _ _ (x11 (ix2 0 ⟨c.val / 64, lt_h8 c⟩))
  rw [hsk, att_eq _ _ (fun j => val_main_v29 (F := Ideal) x3 (ix5 b ⟨t.val / 128, ht32⟩ j ⟨c.val / 256, hg2⟩ ⟨c.val % 64, hd64⟩)) sk ?_ ?_]
  · refine Finset.sum_congr rfl fun j _ => ?_
    rw [show lidx_main_v90 (ix6 b ⟨t.val / 128, ht32⟩ ⟨c.val / 256, hg2⟩ ⟨c.val % 64, hd64⟩ ⟨c.val / 64 % 4, hh4⟩ ⟨t.val % 128, hr128⟩) j
        = ix5 b ⟨t.val / 128, ht32⟩ j ⟨c.val / 256, hg2⟩ ⟨c.val % 64, hd64⟩ from ext5 _ _ rfl rfl rfl rfl rfl,
      show ridx_main_v90 (ix6 b ⟨t.val / 128, ht32⟩ ⟨c.val / 256, hg2⟩ ⟨c.val % 64, hd64⟩ ⟨c.val / 64 % 4, hh4⟩ ⟨t.val % 128, hr128⟩) j
        = ix6 b ⟨t.val / 128, ht32⟩ ⟨c.val / 256, hg2⟩ ⟨c.val / 64 % 4, hh4⟩ ⟨t.val % 128, hr128⟩ j from ext6 _ _ rfl rfl rfl rfl rfl rfl, mul_comm]
    refine congrArg (fun z : EReal => z * _) ?_
    exact r89 x1 x2 x11 b _ _ _ _ _ (sk : EReal) hS ((congrArg (fun i => x11 (ix2 0 i)) hhd).trans hsk) j
  · exact score_score _ _ _ (fun e => by
      obtain ⟨x, hx1⟩ := hq (ix4 b t ⟨(64 * (c.val / 64) + e.val) / 64, lt_h8 ⟨64 * (c.val / 64) + e.val, lt_q ⟨c.val / 64, lt_h8 c⟩ e⟩⟩
            ⟨(64 * (c.val / 64) + e.val) % 64, lt_m8 ⟨64 * (c.val / 64) + e.val, lt_q ⟨c.val / 64, lt_h8 c⟩ e⟩⟩)
      exact ⟨x * (1 / 8), by show x1 _ * _ = _; rw [hx1, hx, EReal.coe_mul]⟩) (fun j e => hKr j _ e)
  · intro j hj
    have ok : okAt t.val j := by
      by_contra h
      exact hj (if_neg h)
    have hrow : 128 * (t.val / 128) + j.val - 128 < 4096 := by have := ok.2.1; omega
    have hrw : 128 * (t.val / 128) + j.val = (⟨128 * (t.val / 128) + j.val - 128, hrow⟩ : Fin 4096).val + 128 := by
      have := ok.1; show _ = 128 * (t.val / 128) + j.val - 128 + 128; omega
    rw [r29 x3 b ⟨t.val / 128, ht32⟩ j ⟨c.val / 256, hg2⟩ ⟨c.val % 64, hd64⟩ ⟨128 * (t.val / 128) + j.val - 128, hrow⟩ hrw]
    show V b t j ⟨c.val / 64 / 4, _⟩ _ = _
    rw [hgg]
    exact hV j _ ok hrw _ _

end Cert.Mid

end
-- ==== Proof.RefRow.lean ====
/-
  The reference's row at a token: the norms, the recurrence's branch, the gates and products, the feed-forward network
  and the per-layer embedding.
-/
module

public import proofs.«01_k».proof.Proof.Words
public import proofs.«01_k».proof.Proof.Layer
public import proofs.«01_k».proof.Proof.Gen.ReferenceIdeal.Read

@[expose] public section

set_option maxRecDepth 16384
set_option maxHeartbeats 1000000

noncomputable section

namespace Cert.Mid

open Idealize.ShloMosaic Cert.ReferenceIdeal Cert.ReferenceIdeal.Gen Cert.ReferenceIdeal.Read Idealize.ShloMosaic.TcCoe Idealize.SL.Sem Idealize.ShloMosaic.StableHlo
open scoped BigOperators

variable (x0 : FVec Ideal S4x4096x1024 .f32) (x1 : FVec Ideal S4x4096x8x64 .f32) (x2 x3 : FVec Ideal S4x4096x2x64 .f32)
  (x4 x5 x6 x7 : FVec Ideal S4x4096x512 .f32) (x8 : FVec Ideal S1x4x4096x256 .f32) (x9 : FVec Ideal S1x1024 .f32)
  (x10 : FVec Ideal S1x1024x4608 .f32) (x11 : FVec Ideal S1x8 .f32) (x12 x13 : FVec Ideal S1x512 .f32) (x14 x15 : FVec Ideal S1x512x1024 .f32)
  (x16 : FVec Ideal S1x1024x1024 .f32) (x17 : FVec Ideal S1x1024 .f32) (x18 : FVec Ideal S1x1024x4096 .f32) (x19 : FVec Ideal S1x4096x1024 .f32)
  (x20 : FVec Ideal S1x1024 .f32) (x21 : FVec Ideal S1x1024x1024 .f32) (x22 : FVec Ideal S1x256x1024 .f32) (b : Fin 4) (t : Fin 4096)

theorem bits_zero32 : Ideal.ofBits .f32 0x00000000#32 = 0 := by simp [Ideal.ofBits, Ideal.ieee]
theorem bits_one32 : Ideal.ofBits .f32 0x3F800000#32 = 1 := by
  simp [Ideal.ofBits, Ideal.ieee]; rw [← EReal.coe_mul]; norm_num

/-- The reference's sigmoid. -/
theorem sigmoid_eq (z : EReal) : Ideal.div (Ideal.ofBits .f32 0x3F800000#32) (Ideal.ofBits .f32 0x3F800000#32 + Ideal.exp (-z)) = Ideal.logistic z := by
  rw [bits_one32]
  rfl

theorem w_v14 (k : Fin 1024) (j : Fin 4608) : (val_main_v14 (F := Ideal) x10) (ix2 k j) = x10 (ix3 0 k j) := by
  have hk := k.isLt; have hj := j.isLt
  rw [val_main_v14_apply]
  exact congrArg x10 (ext3 _ _ rfl (by show (k.val * 4608 + j.val) / 4608 % 1024 = k.val; omega) (by show (k.val * 4608 + j.val) % 4608 = j.val; omega))
theorem w_v135 (k : Fin 512) (j : Fin 1024) : (val_main_v135 (F := Ideal) x14) (ix2 k j) = x14 (ix3 0 k j) := by
  have hk := k.isLt; have hj := j.isLt
  rw [val_main_v135_apply]
  exact congrArg x14 (ext3 _ _ rfl (by show (k.val * 1024 + j.val) / 1024 % 512 = k.val; omega) (by show (k.val * 1024 + j.val) % 1024 = j.val; omega))
theorem w_v140 (k : Fin 512) (j : Fin 1024) : (val_main_v140 (F := Ideal) x15) (ix2 k j) = x15 (ix3 0 k j) := by
  have hk := k.isLt; have hj := j.isLt
  rw [val_main_v140_apply]
  exact congrArg x15 (ext3 _ _ rfl (by show (k.val * 1024 + j.val) / 1024 % 512 = k.val; omega) (by show (k.val * 1024 + j.val) % 1024 = j.val; omega))
theorem w_v144 (k : Fin 1024) (j : Fin 1024) : (val_main_v144 (F := Ideal) x16) (ix2 k j) = x16 (ix3 0 k j) := by
  have hk := k.isLt; have hj := j.isLt
  rw [val_main_v144_apply]
  exact congrArg x16 (ext3 _ _ rfl (by show (k.val * 1024 + j.val) / 1024 % 1024 = k.val; omega) (by show (k.val * 1024 + j.val) % 1024 = j.val; omega))
theorem w_v161 (k : Fin 1024) (j : Fin 4096) : (val_main_v161 (F := Ideal) x18) (ix2 k j) = x18 (ix3 0 k j) := by
  have hk := k.isLt; have hj := j.isLt
  rw [val_main_v161_apply]
  exact congrArg x18 (ext3 _ _ rfl (by show (k.val * 4096 + j.val) / 4096 % 1024 = k.val; omega) (by show (k.val * 4096 + j.val) % 4096 = j.val; omega))
theorem w_v165 (k : Fin 4096) (j : Fin 1024) : (val_main_v165 (F := Ideal) x19) (ix2 k j) = x19 (ix3 0 k j) := by
  have hk := k.isLt; have hj := j.isLt
  rw [val_main_v165_apply]
  exact congrArg x19 (ext3 _ _ rfl (by show (k.val * 1024 + j.val) / 1024 % 4096 = k.val; omega) (by show (k.val * 1024 + j.val) % 1024 = j.val; omega))
theorem w_v185 (k : Fin 1024) (j : Fin 1024) : (val_main_v185 (F := Ideal) x21) (ix2 k j) = x21 (ix3 0 k j) := by
  have hk := k.isLt; have hj := j.isLt
  rw [val_main_v185_apply]
  exact congrArg x21 (ext3 _ _ rfl (by show (k.val * 1024 + j.val) / 1024 % 1024 = k.val; omega) (by show (k.val * 1024 + j.val) % 1024 = j.val; omega))
theorem w_v183 (k : Fin 256) (j : Fin 1024) : (val_main_v183 (F := Ideal) x22) (ix2 k j) = x22 (ix3 0 k j) := by
  have hk := k.isLt; have hj := j.isLt
  rw [val_main_v183_apply]
  exact congrArg x22 (ext3 _ _ rfl (by show (k.val * 1024 + j.val) / 1024 % 256 = k.val; omega) (by show (k.val * 1024 + j.val) % 1024 = j.val; omega))
theorem g_v12 (j : Fin 1024) : (val_main_v12 (F := Ideal) x9) (ix3 b t j) = x9 (ix2 0 j) := by
  have hj := j.isLt
  rw [val_main_v12_apply, val_main_v11_apply, val_main_v0_apply]
  exact congrArg x9 (ext2 _ _ rfl (by show j.val % 1024 = j.val; omega))
theorem g_v117 (j : Fin 512) : (val_main_v117 (F := Ideal) x12) (ix3 b t j) = x12 (ix2 0 j) := by
  have hj := j.isLt
  rw [val_main_v117_apply, val_main_v116_apply, val_main_v115_apply]
  exact congrArg x12 (ext2 _ _ rfl (by show j.val % 512 = j.val; omega))
theorem g_v121 (j : Fin 512) : (val_main_v121 (F := Ideal) x13) (ix3 b t j) = x13 (ix2 0 j) := by
  have hj := j.isLt
  rw [val_main_v121_apply, val_main_v120_apply, val_main_v119_apply]
  exact congrArg x13 (ext2 _ _ rfl (by show j.val % 512 = j.val; omega))
theorem g_v159 (j : Fin 1024) : (val_main_v159 (F := Ideal) x17) (ix3 b t j) = x17 (ix2 0 j) := by
  have hj := j.isLt
  rw [val_main_v159_apply, val_main_v158_apply, val_main_v147_apply]
  exact congrArg x17 (ext2 _ _ rfl (by show j.val % 1024 = j.val; omega))
theorem g_v180 (j : Fin 1024) : (val_main_v180 (F := Ideal) x20) (ix3 b t j) = x20 (ix2 0 j) := by
  have hj := j.isLt
  rw [val_main_v180_apply, val_main_v179_apply, val_main_v168_apply]
  exact congrArg x20 (ext2 _ _ rfl (by show j.val % 1024 = j.val; omega))

/-- The norm of a row. -/
theorem n_v13 (X : Fin 1024 → EReal) (hX : ∀ k, x0 (ix3 b t k) = X k) (j : Fin 1024) :
    (val_main_v13 (F := Ideal) x0 x9) (ix3 b t j) = rms X (fun k => x9 (ix2 0 k)) j := by
  have hs : (val_main_v2 (F := Ideal) x0) (ix2 b t) = ∑ k, X k * X k := by
    rw [val_main_v2_apply, val_main_cst_apply]
    refine (congrArg₂ (fun a b : EReal => a + b) bits_zero32 (Finset.sum_congr rfl fun k _ => ?_)).trans (zero_add _)
    rw [val_main_v1_apply, ← hX k]
    exact congrArg (fun i => x0 i * x0 i) (ext3 _ _ rfl rfl rfl)
  rw [val_main_v13_apply, g_v12, val_main_v10_apply, hX, val_main_v9_apply, val_main_v8_apply, val_main_v7_apply, val_main_v5_apply, val_main_v3_apply, val_main_v4_apply, val_main_v6_apply, val_main_cst_0_apply, val_main_cst_1_apply,
    show idx_main_v3 (idx_main_v9 (ix3 b t j)) = ix2 b t from ext2 _ _ rfl rfl, hs]
  rfl

/-- The projection. -/
theorem p_v15 (j : Fin 4608) : (val_main_v15 (F := Ideal) x0 x9 x10) (ix3 b t j) = ∑ k, rms (fun k => x0 (ix3 b t k)) (fun k => x9 (ix2 0 k)) k * x10 (ix3 0 k j) := by
  rw [val_main_v15_apply]
  refine Finset.sum_congr rfl fun k _ => ?_
  rw [show lidx_main_v15 (ix3 b t j) k = ix3 b t k from ext3 _ _ rfl rfl rfl, show ridx_main_v15 (ix3 b t j) k = ix2 k j from ext2 _ _ rfl rfl,
    n_v13 x0 x9 b t (fun k => x0 (ix3 b t k)) (fun k => rfl), w_v14]

/-- A branch's gate. -/
theorem gate (w : Fin 2) (j : Fin 1024) : (val_main_v132 (F := Ideal) x0 x9 x10) (ix4 b t w j) =
    Ideal.logistic (vm (rms (fun k => x0 (ix3 b t k)) (fun k => x9 (ix2 0 k))) (fun k j => x10 (ix3 0 k ⟨2560 + j.val, lt_gate j⟩)) ⟨1024 * w.val + j.val, by omega⟩) := by
  have hb := b.isLt; have ht := t.isLt; have hw := w.isLt; have hj := j.isLt
  have e : (val_main_v126 (F := Ideal) x0 x9 x10) (ix4 b t w j) = vm (rms (fun k => x0 (ix3 b t k)) (fun k => x9 (ix2 0 k))) (fun k j => x10 (ix3 0 k ⟨2560 + j.val, lt_gate j⟩)) ⟨1024 * w.val + j.val, by omega⟩ := by
    rw [val_main_v126_apply, val_main_v125_apply, show idx_main_v125 (idx_main_v126 (ix4 b t w j)) = ix3 b t ⟨2560 + (1024 * w.val + j.val), by omega⟩ from
      ext3 _ _ (by show (((b.val * 4096 + t.val) * 2 + w.val) * 1024 + j.val) / 8388608 = b.val; omega)
        (by show (((b.val * 4096 + t.val) * 2 + w.val) * 1024 + j.val) / 2048 % 4096 = t.val; omega)
        (by show 2560 + (((b.val * 4096 + t.val) * 2 + w.val) * 1024 + j.val) % 2048 = 2560 + (1024 * w.val + j.val); omega), p_v15]
    rfl
  rw [val_main_v132_apply, val_main_v131_apply, val_main_v130_apply, val_main_v129_apply, val_main_v128_apply, val_main_v127_apply, e, val_main_cst_19_apply, val_main_cst_20_apply]
  exact sigmoid_eq _

theorem gate0 (j : Fin 1024) : (val_main_v134 (F := Ideal) x0 x9 x10) (ix3 b t j) =
    Ideal.logistic (vm (rms (fun k => x0 (ix3 b t k)) (fun k => x9 (ix2 0 k))) (fun k j => x10 (ix3 0 k ⟨2560 + j.val, lt_gate j⟩)) ⟨j.val, by omega⟩) := by
  have hb := b.isLt; have ht := t.isLt; have hj := j.isLt
  rw [val_main_v134_apply, val_main_v133_apply, show idx_main_v133 (idx_main_v134 (ix3 b t j)) = ix4 b t 0 j from
    ext4 _ _ (by show ((b.val * 4096 + t.val) * 1024 + j.val) / 4194304 = b.val; omega) (by show ((b.val * 4096 + t.val) * 1024 + j.val) / 1024 % 4096 = t.val; omega) rfl
      (by show ((b.val * 4096 + t.val) * 1024 + j.val) % 1024 = j.val; omega), gate]
  exact congrArg (fun z => Ideal.logistic (vm _ _ z)) (Fin.ext (by show 1024 * 0 + j.val = j.val; omega))

theorem gate1 (j : Fin 1024) : (val_main_v139 (F := Ideal) x0 x9 x10) (ix3 b t j) =
    Ideal.logistic (vm (rms (fun k => x0 (ix3 b t k)) (fun k => x9 (ix2 0 k))) (fun k j => x10 (ix3 0 k ⟨2560 + j.val, lt_gate j⟩)) ⟨1024 + j.val, by omega⟩) := by
  have hb := b.isLt; have ht := t.isLt; have hj := j.isLt
  rw [val_main_v139_apply, val_main_v138_apply, show idx_main_v138 (idx_main_v139 (ix3 b t j)) = ix4 b t 1 j from
    ext4 _ _ (by show ((b.val * 4096 + t.val) * 1024 + j.val) / 4194304 = b.val; omega) (by show ((b.val * 4096 + t.val) * 1024 + j.val) / 1024 % 4096 = t.val; omega) rfl
      (by show ((b.val * 4096 + t.val) * 1024 + j.val) % 1024 = j.val; omega), gate]
  exact congrArg (fun z => Ideal.logistic (vm _ _ z)) (Fin.ext (by show 1024 * 1 + j.val = 1024 + j.val; omega))

/-! ## The recurrence's branch -/

theorem y_v95 (h : Fin 8) (d : Fin 64) (j : Fin 512) (hj : j.val = 64 * h.val + d.val) : (val_main_v95 (F := Ideal) x4 x5) (ix4 b t h d) = x4 (ix3 b t j) + x5 (ix3 b t j) := by
  have hb := b.isLt; have ht := t.isLt; have hh := h.isLt; have hd := d.isLt
  have e : ∀ i : S4x4096x512.Idx, (i 0).val = (((b.val * 4096 + t.val) * 8 + h.val) * 64 + d.val) / 2097152 → (i 1).val = (((b.val * 4096 + t.val) * 8 + h.val) * 64 + d.val) / 512 % 4096 →
      (i 2).val = (((b.val * 4096 + t.val) * 8 + h.val) * 64 + d.val) % 512 → i = ix3 b t j := fun i h0 h1 h2 =>
    ext3 _ _ (h0.trans (by show _ = b.val; omega)) (h1.trans (by show _ = t.val; omega)) (h2.trans (by show _ = j.val; omega))
  rw [val_main_v95_apply, val_main_v93_apply, val_main_v94_apply]
  exact congrArg₂ (fun a b : EReal => a + b) (congrArg x4 (e _ rfl rfl rfl)) (congrArg x5 (e _ rfl rfl rfl))

theorem div64 (z : EReal) : Ideal.div z (Ideal.ofBits .f32 0x42800000#32) = z * ((1 / 64 : ℝ) : EReal) := by
  rw [bits_64, Ideal.div, if_neg (by norm_num), ← EReal.coe_inv, one_div]

/-- A head's mean. -/
theorem mean_v99 (h : Fin 8) (c : Fin 512) (hc : c.val / 64 = h.val) (z : Fin 1) : (val_main_v99 (F := Ideal) x4 x5) (ix4 b t h z) =
    (∑ d, (x4 (ix3 b t (lane c d)) + x5 (ix3 b t (lane c d)))) * ((1 / 64 : ℝ) : EReal) := by
  rw [val_main_v99_apply, val_main_v97_apply, val_main_v98_apply, val_main_v96_apply, val_main_cst_14_apply, val_main_cst_15_apply]
  refine (div64 _).trans (congrArg (fun z : EReal => z * ((1 / 64 : ℝ) : EReal)) ?_)
  refine (congrArg₂ (fun a b : EReal => a + b) bits_zero32 (Finset.sum_congr rfl fun d _ => ?_)).trans (zero_add _)
  rw [← y_v95 x4 x5 b t h d (lane c d) (by show c.val / 64 * 64 + d.val = 64 * h.val + d.val; omega)]
  exact congrArg (val_main_v95 (F := Ideal) x4 x5) (ext4 _ _ rfl rfl rfl rfl)

/-- The normed head. -/
theorem norm_v113 (h : Fin 8) (d : Fin 64) (c : Fin 512) (hc : c.val = 64 * h.val + d.val) : (val_main_v113 (F := Ideal) x4 x5) (ix4 b t h d) =
    normed ((1 / 64 : ℝ) : EReal) (Ideal.ofBits .f32 0x3A27C5AC#32) (fun d => x4 (ix3 b t (lane c d)) + x5 (ix3 b t (lane c d)))
      ((∑ d, (x4 (ix3 b t (lane c d)) + x5 (ix3 b t (lane c d)))) * ((1 / 64 : ℝ) : EReal)) d := by
  have hch : c.val / 64 = h.val := by omega
  have dev : ∀ d : Fin 64, (val_main_v95 (F := Ideal) x4 x5) (ix4 b t h d) = x4 (ix3 b t (lane c d)) + x5 (ix3 b t (lane c d)) := fun d =>
    y_v95 x4 x5 b t h d (lane c d) (by show c.val / 64 * 64 + d.val = 64 * h.val + d.val; omega)
  have m1 : ∀ d : Fin 64, (val_main_v100 (F := Ideal) x4 x5) (ix4 b t h d) = (∑ d, (x4 (ix3 b t (lane c d)) + x5 (ix3 b t (lane c d)))) * ((1 / 64 : ℝ) : EReal) := fun d => by
    rw [val_main_v100_apply, ← mean_v99 x4 x5 b t h c hch 0]
    exact congrArg (val_main_v99 (F := Ideal) x4 x5) (ext4 _ _ rfl rfl rfl rfl)
  have m2 : (val_main_v107 (F := Ideal) x4 x5) (ix4 b t h d) = (∑ d, (x4 (ix3 b t (lane c d)) + x5 (ix3 b t (lane c d)))) * ((1 / 64 : ℝ) : EReal) := m1 d
  have s : (val_main_v103 (F := Ideal) x4 x5) (ix3 b t h) = ∑ d : Fin 64, ((x4 (ix3 b t (lane c d)) + x5 (ix3 b t (lane c d))) - (∑ d, (x4 (ix3 b t (lane c d)) + x5 (ix3 b t (lane c d)))) * ((1 / 64 : ℝ) : EReal))
      * ((x4 (ix3 b t (lane c d)) + x5 (ix3 b t (lane c d))) - (∑ d, (x4 (ix3 b t (lane c d)) + x5 (ix3 b t (lane c d)))) * ((1 / 64 : ℝ) : EReal)) := by
    rw [val_main_v103_apply, val_main_cst_16_apply]
    refine (congrArg₂ (fun a b : EReal => a + b) bits_zero32 (Finset.sum_congr rfl fun d _ => ?_)).trans (zero_add _)
    have e : (val_main_v101 (F := Ideal) x4 x5) (ix4 b t h d) = (x4 (ix3 b t (lane c d)) + x5 (ix3 b t (lane c d))) - (∑ d, (x4 (ix3 b t (lane c d)) + x5 (ix3 b t (lane c d)))) * ((1 / 64 : ℝ) : EReal) := by
      rw [val_main_v101_apply, dev, m1]
      rfl
    rw [← e, val_main_v102_apply]
    exact congrArg (fun i => (val_main_v101 (F := Ideal) x4 x5) i * (val_main_v101 (F := Ideal) x4 x5) i) (ext4 _ _ rfl rfl rfl rfl)
  rw [val_main_v113_apply, val_main_v108_apply, dev, m2, val_main_v112_apply, val_main_v111_apply, val_main_v110_apply, val_main_v106_apply, val_main_v104_apply, val_main_v105_apply,
    val_main_v109_apply, val_main_cst_17_apply, val_main_cst_18_apply, show idx_main_v104 (idx_main_v112 (ix4 b t h d)) = ix3 b t h from ext3 _ _ rfl rfl rfl, s]
  unfold normed
  refine congrArg₂ (fun a b : EReal => a * b) rfl (congrArg (fun z : EReal => Ideal.rsqrt (z + Ideal.ofBits .f32 0x3A27C5AC#32)) ?_)
  exact div64 _

/-- The recurrence's branch. -/
theorem rec_v124 (c : Fin 512) : (val_main_v124 (F := Ideal) x4 x5 x6 x7 x12 x13) (ix3 b t c) = recRow x4 x5 x6 x7 x12 x13 b t c := by
  have hb := b.isLt; have ht := t.isLt; have hc := c.isLt
  rw [val_main_v124_apply, val_main_v123_apply, val_main_v122_apply, val_main_v118_apply, g_v117, g_v121, val_main_v114_apply,
    show idx_main_v114 (ix3 b t c) = ix4 b t ⟨c.val / 64, by omega⟩ ⟨c.val % 64, by omega⟩ from
      ext4 _ _ (by show ((b.val * 4096 + t.val) * 512 + c.val) / 2097152 = b.val; omega) (by show ((b.val * 4096 + t.val) * 512 + c.val) / 512 % 4096 = t.val; omega)
        (by show ((b.val * 4096 + t.val) * 512 + c.val) / 64 % 8 = c.val / 64; omega) (by show ((b.val * 4096 + t.val) * 512 + c.val) % 64 = c.val % 64; omega),
    norm_v113 x4 x5 b t _ _ c (by show c.val = 64 * (c.val / 64) + c.val % 64; omega)]
  rfl

/-! ## The merge -/

theorem row_v146 (A R : Fin 512 → EReal) (hA : ∀ k, (val_main_v92 (F := Ideal) x1 x2 x3 x11) (ix3 b t k) = A k) (hR : ∀ k, (val_main_v124 (F := Ideal) x4 x5 x6 x7 x12 x13) (ix3 b t k) = R k) (c : Fin 1024) :
    (val_main_v146 (F := Ideal) x0 x1 x2 x3 x4 x5 x6 x7 x9 x10 x11 x12 x13 x14 x15 x16) (ix3 b t c) = row1 x0 x9 x10 x14 x15 x16 A R b t c := by
  have a : ∀ j, (val_main_v136 (F := Ideal) x1 x2 x3 x11 x14) (ix3 b t j) = vm A (fun k j => x14 (ix3 0 k j)) j := fun j => by
    rw [val_main_v136_apply]
    refine Finset.sum_congr rfl fun k _ => ?_
    rw [show lidx_main_v136 (ix3 b t j) k = ix3 b t k from ext3 _ _ rfl rfl rfl, show ridx_main_v136 (ix3 b t j) k = ix2 k j from ext2 _ _ rfl rfl, hA, w_v135]
  have r : ∀ j, (val_main_v141 (F := Ideal) x4 x5 x6 x7 x12 x13 x15) (ix3 b t j) = vm R (fun k j => x15 (ix3 0 k j)) j := fun j => by
    rw [val_main_v141_apply]
    refine Finset.sum_congr rfl fun k _ => ?_
    rw [show lidx_main_v141 (ix3 b t j) k = ix3 b t k from ext3 _ _ rfl rfl rfl, show ridx_main_v141 (ix3 b t j) k = ix2 k j from ext2 _ _ rfl rfl, hR, w_v140]
  have g : ∀ j, (val_main_v143 (F := Ideal) x0 x1 x2 x3 x4 x5 x6 x7 x9 x10 x11 x12 x13 x14 x15) (ix3 b t j) = merged (rms (fun k => x0 (ix3 b t k)) (fun k => x9 (ix2 0 k))) (fun k j => x10 (ix3 0 k ⟨2560 + j.val, lt_gate j⟩)) A R
      (fun k j => x14 (ix3 0 k j)) (fun k j => x15 (ix3 0 k j)) j := fun j => by
    rw [val_main_v143_apply, val_main_v137_apply, val_main_v142_apply, a, r, gate0, gate1]
    rfl
  have w : (val_main_v145 (F := Ideal) x0 x1 x2 x3 x4 x5 x6 x7 x9 x10 x11 x12 x13 x14 x15 x16) (ix3 b t c) = vm (merged (rms (fun k => x0 (ix3 b t k)) (fun k => x9 (ix2 0 k))) (fun k j => x10 (ix3 0 k ⟨2560 + j.val, lt_gate j⟩)) A R
      (fun k j => x14 (ix3 0 k j)) (fun k j => x15 (ix3 0 k j))) (fun k j => x16 (ix3 0 k j)) c := by
    rw [val_main_v145_apply]
    refine Finset.sum_congr rfl fun k _ => ?_
    rw [show lidx_main_v145 (ix3 b t c) k = ix3 b t k from ext3 _ _ rfl rfl rfl, show ridx_main_v145 (ix3 b t c) k = ix2 k c from ext2 _ _ rfl rfl, g, w_v144]
  rw [val_main_v146_apply, w]
  rfl

/-- The norm of a row. -/
theorem n_v160 (X : Fin 1024 → EReal) (hX : ∀ k, (val_main_v146 (F := Ideal) x0 x1 x2 x3 x4 x5 x6 x7 x9 x10 x11 x12 x13 x14 x15 x16) (ix3 b t k) = X k) (j : Fin 1024) :
    (val_main_v160 (F := Ideal) x0 x1 x2 x3 x4 x5 x6 x7 x9 x10 x11 x12 x13 x14 x15 x16 x17) (ix3 b t j) = rms X (fun k => x17 (ix2 0 k)) j := by
  have hs : (val_main_v149 (F := Ideal) x0 x1 x2 x3 x4 x5 x6 x7 x9 x10 x11 x12 x13 x14 x15 x16) (ix2 b t) = ∑ k, X k * X k := by
    rw [val_main_v149_apply, val_main_cst_21_apply]
    refine (congrArg₂ (fun a b : EReal => a + b) bits_zero32 (Finset.sum_congr rfl fun k _ => ?_)).trans (zero_add _)
    rw [val_main_v148_apply, ← hX k]
    exact congrArg (fun i => (val_main_v146 (F := Ideal) x0 x1 x2 x3 x4 x5 x6 x7 x9 x10 x11 x12 x13 x14 x15 x16) i * (val_main_v146 (F := Ideal) x0 x1 x2 x3 x4 x5 x6 x7 x9 x10 x11 x12 x13 x14 x15 x16) i) (ext3 _ _ rfl rfl rfl)
  rw [val_main_v160_apply, g_v159, val_main_v157_apply, hX, val_main_v156_apply, val_main_v155_apply, val_main_v154_apply, val_main_v152_apply, val_main_v150_apply, val_main_v151_apply, val_main_v153_apply, val_main_cst_22_apply, val_main_cst_23_apply,
    show idx_main_v150 (idx_main_v156 (ix3 b t j)) = ix2 b t from ext2 _ _ rfl rfl, hs]
  rfl

/-! ## The feed-forward network -/

theorem row_v167 (X : Fin 1024 → EReal) (hX : ∀ k, (val_main_v146 (F := Ideal) x0 x1 x2 x3 x4 x5 x6 x7 x9 x10 x11 x12 x13 x14 x15 x16) (ix3 b t k) = X k) (c : Fin 1024) : (val_main_v167 (F := Ideal) x0 x1 x2 x3 x4 x5 x6 x7 x9 x10 x11 x12 x13 x14 x15 x16 x17 x18 x19) (ix3 b t c) = row2 X x17 x18 x19 c := by
  have h : ∀ j, (val_main_v164 (F := Ideal) x0 x1 x2 x3 x4 x5 x6 x7 x9 x10 x11 x12 x13 x14 x15 x16 x17 x18) (ix3 b t j) = relu2 (vm (rms X (fun k => x17 (ix2 0 k))) (fun k j => x18 (ix3 0 k j)) j) := fun j => by
    have e : (val_main_v162 (F := Ideal) x0 x1 x2 x3 x4 x5 x6 x7 x9 x10 x11 x12 x13 x14 x15 x16 x17 x18) (ix3 b t j) = vm (rms X (fun k => x17 (ix2 0 k))) (fun k j => x18 (ix3 0 k j)) j := by
      rw [val_main_v162_apply]
      refine Finset.sum_congr rfl fun k _ => ?_
      rw [show lidx_main_v162 (ix3 b t j) k = ix3 b t k from ext3 _ _ rfl rfl rfl, show ridx_main_v162 (ix3 b t j) k = ix2 k j from ext2 _ _ rfl rfl,
        n_v160 x0 x1 x2 x3 x4 x5 x6 x7 x9 x10 x11 x12 x13 x14 x15 x16 x17 b t X hX, w_v161]
    rw [val_main_v164_apply, val_main_v163_apply, e, val_main_call3_v0_apply, val_main_call3_cst_apply]
    unfold relu2
    rw [← bits_zero32]
    rfl
  have w : (val_main_v166 (F := Ideal) x0 x1 x2 x3 x4 x5 x6 x7 x9 x10 x11 x12 x13 x14 x15 x16 x17 x18 x19) (ix3 b t c) = vm (fun j => relu2 (vm (rms X (fun k => x17 (ix2 0 k))) (fun k j => x18 (ix3 0 k j)) j)) (fun k j => x19 (ix3 0 k j)) c := by
    rw [val_main_v166_apply]
    refine Finset.sum_congr rfl fun k _ => ?_
    rw [show lidx_main_v166 (ix3 b t c) k = ix3 b t k from ext3 _ _ rfl rfl rfl, show ridx_main_v166 (ix3 b t c) k = ix2 k c from ext2 _ _ rfl rfl, h, w_v165]
  rw [val_main_v167_apply, hX, w]
  rfl

/-- The norm of a row. -/
theorem n_v181 (X : Fin 1024 → EReal) (hX : ∀ k, (val_main_v167 (F := Ideal) x0 x1 x2 x3 x4 x5 x6 x7 x9 x10 x11 x12 x13 x14 x15 x16 x17 x18 x19) (ix3 b t k) = X k) (j : Fin 1024) :
    (val_main_v181 (F := Ideal) x0 x1 x2 x3 x4 x5 x6 x7 x9 x10 x11 x12 x13 x14 x15 x16 x17 x18 x19 x20) (ix3 b t j) = rms X (fun k => x20 (ix2 0 k)) j := by
  have hs : (val_main_v170 (F := Ideal) x0 x1 x2 x3 x4 x5 x6 x7 x9 x10 x11 x12 x13 x14 x15 x16 x17 x18 x19) (ix2 b t) = ∑ k, X k * X k := by
    rw [val_main_v170_apply, val_main_cst_24_apply]
    refine (congrArg₂ (fun a b : EReal => a + b) bits_zero32 (Finset.sum_congr rfl fun k _ => ?_)).trans (zero_add _)
    rw [val_main_v169_apply, ← hX k]
    exact congrArg (fun i => (val_main_v167 (F := Ideal) x0 x1 x2 x3 x4 x5 x6 x7 x9 x10 x11 x12 x13 x14 x15 x16 x17 x18 x19) i * (val_main_v167 (F := Ideal) x0 x1 x2 x3 x4 x5 x6 x7 x9 x10 x11 x12 x13 x14 x15 x16 x17 x18 x19) i) (ext3 _ _ rfl rfl rfl)
  rw [val_main_v181_apply, g_v180, val_main_v178_apply, hX, val_main_v177_apply, val_main_v176_apply, val_main_v175_apply, val_main_v173_apply, val_main_v171_apply, val_main_v172_apply, val_main_v174_apply, val_main_cst_25_apply, val_main_cst_26_apply,
    show idx_main_v171 (idx_main_v177 (ix3 b t j)) = ix2 b t from ext2 _ _ rfl rfl, hs]
  rfl

/-! ## The per-layer embedding -/

theorem row_v194 (X : Fin 1024 → EReal) (hX : ∀ k, (val_main_v167 (F := Ideal) x0 x1 x2 x3 x4 x5 x6 x7 x9 x10 x11 x12 x13 x14 x15 x16 x17 x18 x19) (ix3 b t k) = X k) (c : Fin 1024) : (val_main_v194 (F := Ideal) x0 x1 x2 x3 x4 x5 x6 x7 x8 x9 x10 x11 x12 x13 x14 x15 x16 x17 x18 x19 x20 x21 x22) (ix3 b t c) = row3 X x8 x20 x21 x22 b t c := by
  have p : ∀ k : Fin 256, (val_main_v182 (F := Ideal) x8) (ix3 b t k) = x8 (ix4 0 b t k) := fun k => by
    have hb := b.isLt; have ht := t.isLt; have hk := k.isLt
    rw [val_main_v182_apply]
    exact congrArg x8 (ext4 _ _ rfl (by show ((b.val * 4096 + t.val) * 256 + k.val) / 1048576 % 4 = b.val; omega)
      (by show ((b.val * 4096 + t.val) * 256 + k.val) / 256 % 4096 = t.val; omega) (by show ((b.val * 4096 + t.val) * 256 + k.val) % 256 = k.val; omega))
  have q : (val_main_v184 (F := Ideal) x8 x22) (ix3 b t c) = vm (fun k => x8 (ix4 0 b t k)) (fun k j => x22 (ix3 0 k j)) c := by
    rw [val_main_v184_apply]
    refine Finset.sum_congr rfl fun k _ => ?_
    rw [show lidx_main_v184 (ix3 b t c) k = ix3 b t k from ext3 _ _ rfl rfl rfl, show ridx_main_v184 (ix3 b t c) k = ix2 k c from ext2 _ _ rfl rfl, p, w_v183]
  have g : (val_main_v186 (F := Ideal) x0 x1 x2 x3 x4 x5 x6 x7 x9 x10 x11 x12 x13 x14 x15 x16 x17 x18 x19 x20 x21) (ix3 b t c) = vm (rms X (fun k => x20 (ix2 0 k))) (fun k j => x21 (ix3 0 k j)) c := by
    rw [val_main_v186_apply]
    refine Finset.sum_congr rfl fun k _ => ?_
    rw [show lidx_main_v186 (ix3 b t c) k = ix3 b t k from ext3 _ _ rfl rfl rfl, show ridx_main_v186 (ix3 b t c) k = ix2 k c from ext2 _ _ rfl rfl,
      n_v181 x0 x1 x2 x3 x4 x5 x6 x7 x9 x10 x11 x12 x13 x14 x15 x16 x17 x18 x19 x20 b t X hX, w_v185]
  rw [val_main_v194_apply, hX, val_main_v193_apply, q, val_main_v192_apply, val_main_v191_apply, val_main_v190_apply, val_main_v189_apply, val_main_v188_apply, val_main_v187_apply, g,
    val_main_cst_27_apply, val_main_cst_28_apply]
  exact congrArg (fun z : EReal => X c + vm (fun k => x8 (ix4 0 b t k)) (fun k j => x22 (ix3 0 k j)) c * z) (sigmoid_eq _)

end Cert.Mid

end
-- ==== Proof.Alg.lean ====
/-
  The kernel's result is the reference's.
-/
module

public import proofs.«01_k».proof.Proof.KArr
public import proofs.«01_k».proof.Proof.RefSoft
public import proofs.«01_k».proof.Proof.RefRow
public import proofs.«01_k».proof.Pre_finite_attention

@[expose] public section

set_option maxRecDepth 16384
set_option maxHeartbeats 1000000

noncomputable section

namespace Cert.Mid

open Idealize.ShloMosaic Cert.KernelIdeal Cert.KernelIdeal.Gen Cert.KernelIdeal.Mid Idealize.ShloMosaic.TcCoe Idealize.SL.Sem
open scoped BigOperators

/-- The shape relations of the precondition. -/
theorem pre_facts : Cert.Pre_finite_attention.Facts where
  bcast_S_S4x4096x8x64 := by decide
  bcast_S_S4x4096x2x64 := by decide
  bcast_S_S1x8 := by decide

/-- A word of one bit that says that a magnitude is under +∞ says that the number is real. -/
theorem real_of_lt (x : EReal) (h : Ideal.cmp .olt (max x (-x)) (Ideal.ofBits .f32 0x7F800000#32) = 1#1) : ∃ r : ℝ, x = (r : EReal) := by
  rw [bits_pos_inf] at h
  have hl : max x (-x) < ⊤ := by
    by_contra hc
    have hf : Ideal.cmp .olt (max x (-x)) ⊤ = 0#1 := by
      show BitVec.ofBool (decide (max x (-x) < ⊤)) = 0#1
      rw [decide_eq_false hc]
      rfl
    rw [hf] at h
    exact absurd h (by decide)
  induction x using EReal.rec with
  | bot => simp at hl
  | top => simp at hl
  | coe r => exact ⟨r, rfl⟩

/-- The row that a window's entry reads, where the mask lets it through. -/
theorem krow_eq (n : Fin 8) (r : Fin 512) (j : Fin 384) (row : Fin 4096) (ok : okAt (512 * n.val + r.val) j)
    (h : 128 * ((512 * n.val + r.val) / 128) + j.val = row.val + 128) : krow n ⟨128 * (r.val / 128) + j.val, lt_kj r j⟩ = row := by
  have hn := n.isLt; have hr := r.isLt; have hj := j.isLt; have hw := row.isLt
  obtain ⟨h1, h2, h3, h4⟩ := ok
  refine Fin.ext ?_
  show krowN n.val (128 * (r.val / 128) + j.val) = row.val
  unfold krowN
  split_ifs <;> omega

variable (m : (ℓ : Loc nD τ sig) → Buf (Elt Ideal) ℓ) (c : Dev nD)

/-- The kernel's array is the reference's. -/
theorem arr_ref (rq : ∀ i, ∃ x : ℝ, KA1 m c i = (x : EReal)) (rk : ∀ i, ∃ x : ℝ, KA2 m c i = (x : EReal)) (rs : ∀ i, ∃ x : ℝ, KA11 m c i = (x : EReal)) :
    ((dats m 0 c).arrAt 28 cfg0.N : FVec Ideal S4x4096x1024 .f32) = Cert.ReferenceIdeal.Read.val_main_v194 (F := Ideal) (KA0 m c) (KA1 m c) (KA2 m c) (KA3 m c) (KA4 m c) (KA5 m c) (KA6 m c) (KA7 m c) (KA8 m c) (KA9 m c) (KA10 m c) (KA11 m c) (KA12 m c) (KA13 m c) (KA14 m c) (KA15 m c) (KA16 m c) (KA17 m c) (KA18 m c) (KA19 m c) (KA20 m c) (KA21 m c) (KA22 m c) := by
  funext i
  obtain ⟨b, T, c', rfl⟩ : ∃ (b : Fin 4) (T : Fin 4096) (c' : Fin 1024), i = ix3 b T c' := ⟨i 0, i 1, i 2, ext3 _ _ rfl rfl rfl⟩
  obtain ⟨n, r, rfl⟩ : ∃ (n : Fin 8) (r : Fin 512), T = ⟨512 * n.val + r.val, lt_tok n r⟩ :=
    ⟨⟨T.val / 512, by omega⟩, ⟨T.val % 512, by omega⟩, Fin.ext (by show T.val = 512 * (T.val / 512) + T.val % 512; omega)⟩
  obtain ⟨t, hb, hn⟩ := point_of b n
  refine (arr_at m c t b n hb hn r c').trans ((block_row m c t b n hb hn rq rk rs r c').trans (Eq.symm ?_))
  refine row_v194 (KA0 m c) (KA1 m c) (KA2 m c) (KA3 m c) (KA4 m c) (KA5 m c) (KA6 m c) (KA7 m c) (KA8 m c) (KA9 m c) (KA10 m c) (KA11 m c) (KA12 m c) (KA13 m c) (KA14 m c) (KA15 m c) (KA16 m c) (KA17 m c) (KA18 m c) (KA19 m c) (KA20 m c) (KA21 m c) (KA22 m c) b ⟨512 * n.val + r.val, lt_tok n r⟩ _ (fun k => ?_) c'
  refine row_v167 (KA0 m c) (KA1 m c) (KA2 m c) (KA3 m c) (KA4 m c) (KA5 m c) (KA6 m c) (KA7 m c) (KA9 m c) (KA10 m c) (KA11 m c) (KA12 m c) (KA13 m c) (KA14 m c) (KA15 m c) (KA16 m c) (KA17 m c) (KA18 m c) (KA19 m c) b ⟨512 * n.val + r.val, lt_tok n r⟩ _ (fun k => ?_) k
  refine row_v146 (KA0 m c) (KA1 m c) (KA2 m c) (KA3 m c) (KA4 m c) (KA5 m c) (KA6 m c) (KA7 m c) (KA9 m c) (KA10 m c) (KA11 m c) (KA12 m c) (KA13 m c) (KA14 m c) (KA15 m c) (KA16 m c) b ⟨512 * n.val + r.val, lt_tok n r⟩ _ _ (fun k => ?_) (fun k => rec_v124 (KA4 m c) (KA5 m c) (KA6 m c) (KA7 m c) (KA12 m c) (KA13 m c) b _ k) k
  exact r92 (KA1 m c) (KA2 m c) (KA3 m c) (KA11 m c) (fun _ _ => keysOf b n (KA2 m c) r) (fun _ _ => keysOf b n (KA3 m c) r) b ⟨512 * n.val + r.val, lt_tok n r⟩ k rq
    (fun j g e => rk _) rs
    (fun j row ok h g e => congrArg (fun z => KA2 m c (ix4 b z g e)) (krow_eq n r j row ok h))
    (fun j row ok h g e => congrArg (fun z => KA3 m c (ix4 b z g e)) (krow_eq n r j row ok h))

/-- The kernel's run: its result, its arguments unchanged. -/
theorem kernel_run (ρ : Dev nD → PrngReg) : θ_run defs (onTc (τ := τ) (main (F := Ideal))) ⟨m, fun _ => 0, ρ⟩ (fun r =>
    (∀ c : Dev nD, r.2.mem ((c.tc : Thread nD τ).loc main_v52) = (dats m 0 c).arrAt 28 cfg0.N) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  θ_run_and ((θ_run defs _ _).mono (fun r h c => (h c).1 28) (run_main m ρ)) (unchanged m ρ)

end Cert.Mid

end
-- ==== Proof.lean ====
/-
  The proof of the claims about the kernel and the reference.
-/
module

public import proofs.«01_k».proof.Defs
public import proofs.«01_k».proof.Proof.IdealFrame
public import proofs.«01_k».proof.Proof.BitsFrame
public import proofs.«01_k».proof.Proof.Gen.ReferenceIdeal
public import proofs.«01_k».proof.Proof.Gen.ReferenceIdeal.Run
public import proofs.«01_k».proof.Proof.Gen.ReferenceIdeal.Read
public import proofs.«01_k».proof.Proof.Alg
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends without fault, its arguments unchanged and every counter at zero. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The kernel's result is the reference's, of finite queries, keys and sinks. -/
theorem algebraic : Cert.algebraic_KernelIdeal_ReferenceIdeal_pre_finite_attention (hPre_finite_attention := Cert.Mid.pre_facts) := by
  intro m g m' g' hp ha
  have rq : ∀ c i, ∃ x : ℝ, Cert.Mid.KA1 m c i = (x : EReal) := fun c i => Cert.Mid.real_of_lt _ (congrFun (hp c).1 i)
  have rk : ∀ c i, ∃ x : ℝ, Cert.Mid.KA2 m c i = (x : EReal) := fun c i => Cert.Mid.real_of_lt _ (congrFun (hp c).2.1 i)
  have rs : ∀ c i, ∃ x : ℝ, Cert.Mid.KA11 m c i = (x : EReal) := fun c i => Cert.Mid.real_of_lt _ (congrFun (hp c).2.2 i)
  refine ⟨fun c => (Cert.KernelIdeal.Mid.dats m 0 c).arrAt 28 Cert.KernelIdeal.cfg0.N, ?_, ?_⟩
  · exact (θ_run Cert.KernelIdeal.defs _ _).mono (fun r h c => ⟨h.1 c, h.2 c⟩) (Cert.Mid.kernel_run m g)
  · refine (θ_run Cert.ReferenceIdeal.defs _ _).mono (fun r h c => ⟨?_, (h c).2⟩) (Cert.ReferenceIdeal.Value.run m' g')
    refine (h c).1.trans ((Cert.ReferenceIdeal.Read.val_main_v194_eq (F := Ideal) (Idealize.ShloMosaic.StableHlo.launchContents m' c)).trans ?_)
    refine Eq.trans ?_ (Cert.Mid.arr_ref m c (rq c) (rk c) (rs c)).symm
    obtain ⟨h0, h1, h2, h3, h4, h5, h6, h7, h8, h9, h10, h11, h12, h13, h14, h15, h16, h17, h18, h19, h20, h21, h22⟩ := ha c
    rw [← show m' ((c.tc : Thread Cert.ReferenceIdeal.nD Cert.ReferenceIdeal.τ).loc Cert.ReferenceIdeal.main_arg0) = Cert.Mid.KA0 m c from h0, ← show m' ((c.tc : Thread Cert.ReferenceIdeal.nD Cert.ReferenceIdeal.τ).loc Cert.ReferenceIdeal.main_arg1) = Cert.Mid.KA1 m c from h1, ← show m' ((c.tc : Thread Cert.ReferenceIdeal.nD Cert.ReferenceIdeal.τ).loc Cert.ReferenceIdeal.main_arg2) = Cert.Mid.KA2 m c from h2, ← show m' ((c.tc : Thread Cert.ReferenceIdeal.nD Cert.ReferenceIdeal.τ).loc Cert.ReferenceIdeal.main_arg3) = Cert.Mid.KA3 m c from h3, ← show m' ((c.tc : Thread Cert.ReferenceIdeal.nD Cert.ReferenceIdeal.τ).loc Cert.ReferenceIdeal.main_arg4) = Cert.Mid.KA4 m c from h4, ← show m' ((c.tc : Thread Cert.ReferenceIdeal.nD Cert.ReferenceIdeal.τ).loc Cert.ReferenceIdeal.main_arg5) = Cert.Mid.KA5 m c from h5, ← show m' ((c.tc : Thread Cert.ReferenceIdeal.nD Cert.ReferenceIdeal.τ).loc Cert.ReferenceIdeal.main_arg6) = Cert.Mid.KA6 m c from h6, ← show m' ((c.tc : Thread Cert.ReferenceIdeal.nD Cert.ReferenceIdeal.τ).loc Cert.ReferenceIdeal.main_arg7) = Cert.Mid.KA7 m c from h7, ← show m' ((c.tc : Thread Cert.ReferenceIdeal.nD Cert.ReferenceIdeal.τ).loc Cert.ReferenceIdeal.main_arg8) = Cert.Mid.KA8 m c from h8, ← show m' ((c.tc : Thread Cert.ReferenceIdeal.nD Cert.ReferenceIdeal.τ).loc Cert.ReferenceIdeal.main_arg9) = Cert.Mid.KA9 m c from h9, ← show m' ((c.tc : Thread Cert.ReferenceIdeal.nD Cert.ReferenceIdeal.τ).loc Cert.ReferenceIdeal.main_arg10) = Cert.Mid.KA10 m c from h10, ← show m' ((c.tc : Thread Cert.ReferenceIdeal.nD Cert.ReferenceIdeal.τ).loc Cert.ReferenceIdeal.main_arg11) = Cert.Mid.KA11 m c from h11, ← show m' ((c.tc : Thread Cert.ReferenceIdeal.nD Cert.ReferenceIdeal.τ).loc Cert.ReferenceIdeal.main_arg12) = Cert.Mid.KA12 m c from h12, ← show m' ((c.tc : Thread Cert.ReferenceIdeal.nD Cert.ReferenceIdeal.τ).loc Cert.ReferenceIdeal.main_arg13) = Cert.Mid.KA13 m c from h13, ← show m' ((c.tc : Thread Cert.ReferenceIdeal.nD Cert.ReferenceIdeal.τ).loc Cert.ReferenceIdeal.main_arg14) = Cert.Mid.KA14 m c from h14, ← show m' ((c.tc : Thread Cert.ReferenceIdeal.nD Cert.ReferenceIdeal.τ).loc Cert.ReferenceIdeal.main_arg15) = Cert.Mid.KA15 m c from h15, ← show m' ((c.tc : Thread Cert.ReferenceIdeal.nD Cert.ReferenceIdeal.τ).loc Cert.ReferenceIdeal.main_arg16) = Cert.Mid.KA16 m c from h16, ← show m' ((c.tc : Thread Cert.ReferenceIdeal.nD Cert.ReferenceIdeal.τ).loc Cert.ReferenceIdeal.main_arg17) = Cert.Mid.KA17 m c from h17, ← show m' ((c.tc : Thread Cert.ReferenceIdeal.nD Cert.ReferenceIdeal.τ).loc Cert.ReferenceIdeal.main_arg18) = Cert.Mid.KA18 m c from h18, ← show m' ((c.tc : Thread Cert.ReferenceIdeal.nD Cert.ReferenceIdeal.τ).loc Cert.ReferenceIdeal.main_arg19) = Cert.Mid.KA19 m c from h19, ← show m' ((c.tc : Thread Cert.ReferenceIdeal.nD Cert.ReferenceIdeal.τ).loc Cert.ReferenceIdeal.main_arg20) = Cert.Mid.KA20 m c from h20, ← show m' ((c.tc : Thread Cert.ReferenceIdeal.nD Cert.ReferenceIdeal.τ).loc Cert.ReferenceIdeal.main_arg21) = Cert.Mid.KA21 m c from h21, ← show m' ((c.tc : Thread Cert.ReferenceIdeal.nD Cert.ReferenceIdeal.τ).loc Cert.ReferenceIdeal.main_arg22) = Cert.Mid.KA22 m c from h22] <;> rfl

/-- All the claims. -/
theorem claim : Cert.Claim :=
  ⟨Cert.Kernel.Gen.facts, Cert.KernelIdeal.Gen.facts, Cert.ReferenceIdeal.Gen.facts, Cert.Mid.pre_facts,
   fun m ρ _ => Cert.Kernel.Mid.frame m ρ, fun m ρ _ => Cert.KernelIdeal.Mid.frame m ρ, fun m ρ _ => Cert.KernelIdeal.Mid.frame m ρ,
   frame_reference, fun m ρ _ => frame_reference m ρ trivial,
   IdealRules.named_const.statement Cert.KernelIdeal.κ "mask" .f32 0xF149F2CA#32 ⊥ rfl, algebraic⟩

end Cert.Proof

end
